-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ascending [hPre_ascending : Cert.Pre_ascending.Facts] (m : (ℓ : Loc Cert.KernelIdeal.nD Cert.KernelIdeal.τ Cert.KernelIdeal.sig) → Buf (Elt Ideal) ℓ) : Prop :=
  ∀ c : Dev Cert.KernelIdeal.nD,
    (Cert.Pre_ascending.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ascending [hPre_ascending : Cert.Pre_ascending.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ascending.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_ascending [hKernelIdeal : Cert.KernelIdeal.Facts] [hPre_ascending : Cert.Pre_ascending.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ascending m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_ascending [hReferenceIdeal : Cert.ReferenceIdeal.Facts] [hPre_ascending : Cert.Pre_ascending.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ascending m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "log2_e" .f32 0x3FB8AA3B#32 (((Real.log 2)⁻¹ : ℝ) : EReal)
  ∧ IdealRules.named_const.Statement Cert.KernelIdeal.κ "neg_log2_e" .f32 0xBFB8AA3B#32 ((-((Real.log 2)⁻¹) : ℝ) : EReal)

def algebraic_KernelIdeal_ReferenceIdeal_on_quantised_pre_ascending [hKernelIdeal : Cert.KernelIdeal.Facts] [hReferenceIdeal : Cert.ReferenceIdeal.Facts] [hPre_ascending : Cert.Pre_ascending.Facts] [hOn_quantised : Cert.On_quantised.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ascending m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1280, 65536]⟩ : Shape).Idx, (Cert.On_quantised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v0_0) i = v0 c i)
          ∧ (∀ i : (⟨2, ![1280, 512]⟩ : Shape).Idx, (Cert.On_quantised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.KernelIdeal.nD Cert.KernelIdeal.τ).loc Cert.KernelIdeal.main_v0_1) i = v1 c i)
          ∧ (∀ i : (⟨2, ![1280, 65536]⟩ : Shape).Idx, (Cert.On_quantised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.KernelIdeal.nD Cert.KernelIdeal.τ).loc Cert.KernelIdeal.main_v0_2) i = v2 c i)
          ∧ (∀ i : (⟨2, ![8, 65536]⟩ : Shape).Idx, (Cert.On_quantised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 i = 1#1 → r.2.mem ((c.tc : Thread Cert.KernelIdeal.nD Cert.KernelIdeal.τ).loc Cert.KernelIdeal.main_v0_3) i = v3 c i)
          ∧ (∀ i : (⟨2, ![8, 65536]⟩ : Shape).Idx, (Cert.On_quantised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 i = 1#1 → r.2.mem ((c.tc : Thread Cert.KernelIdeal.nD Cert.KernelIdeal.τ).loc Cert.KernelIdeal.main_v0_4) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![1280, 65536]⟩ : Shape).Idx, (Cert.On_quantised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v0_0) i = v0 c i)
          ∧ (∀ i : (⟨2, ![1280, 512]⟩ : Shape).Idx, (Cert.On_quantised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.ReferenceIdeal.nD Cert.ReferenceIdeal.τ).loc Cert.ReferenceIdeal.main_v0_1) i = v1 c i)
          ∧ (∀ i : (⟨2, ![1280, 65536]⟩ : Shape).Idx, (Cert.On_quantised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.ReferenceIdeal.nD Cert.ReferenceIdeal.τ).loc Cert.ReferenceIdeal.main_v0_2) i = v2 c i)
          ∧ (∀ i : (⟨2, ![8, 65536]⟩ : Shape).Idx, (Cert.On_quantised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 i = 1#1 → r.2.mem ((c.tc : Thread Cert.ReferenceIdeal.nD Cert.ReferenceIdeal.τ).loc Cert.ReferenceIdeal.main_v0_3) i = v3 c i)
          ∧ (∀ i : (⟨2, ![8, 65536]⟩ : Shape).Idx, (Cert.On_quantised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 i = 1#1 → r.2.mem ((c.tc : Thread Cert.ReferenceIdeal.nD Cert.ReferenceIdeal.τ).loc Cert.ReferenceIdeal.main_v0_4) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_ascending : Cert.Pre_ascending.Facts) (hOn_quantised : Cert.On_quantised.Facts),
    quiescent_Kernel (hKernel := hKernel)
    ∧ quiescent_KernelIdeal (hKernelIdeal := hKernelIdeal)
    ∧ quiescent_KernelIdeal_pre_ascending (hKernelIdeal := hKernelIdeal) (hPre_ascending := hPre_ascending)
    ∧ quiescent_ReferenceIdeal (hReferenceIdeal := hReferenceIdeal)
    ∧ quiescent_ReferenceIdeal_pre_ascending (hReferenceIdeal := hReferenceIdeal) (hPre_ascending := hPre_ascending)
    ∧ preserves_Kernel_KernelIdeal
    ∧ algebraic_KernelIdeal_ReferenceIdeal_on_quantised_pre_ascending (hKernelIdeal := hKernelIdeal) (hReferenceIdeal := hReferenceIdeal) (hPre_ascending := hPre_ascending) (hOn_quantised := hOn_quantised)
-- ==== On_quantised.lean ====
abbrev S1280x65536 : Shape := ⟨2, ![1280, 65536]⟩
abbrev S1280x512 : Shape := ⟨2, ![1280, 512]⟩
abbrev S1280x32768 : Shape := ⟨2, ![1280, 32768]⟩
abbrev S9 : Shape := ⟨1, ![9]⟩
abbrev S8x65536 : Shape := ⟨2, ![8, 65536]⟩
abbrev S_ : Shape := ⟨0, ![]⟩

class Facts : Prop where
  bcast_S_S1280x65536 : S_.BroadcastsInDim S1280x65536 (![] : Fin 0 → Fin S1280x65536.rank)
  bcast_S_S1280x512 : S_.BroadcastsInDim S1280x512 (![] : Fin 0 → Fin S1280x512.rank)
  bcast_S_S8x65536 : S_.BroadcastsInDim S8x65536 (![] : Fin 0 → Fin S8x65536.rank)

variable [Facts]

def fn {F : FTy → Type} [FloatOps F] (main_arg0 : FVec F S1280x65536 .fp8e4m3) (main_arg1 : FVec F S1280x512 .f32) (main_arg2 : FVec F S1280x32768 .bf16) (main_arg3 : IVec S9 32) (main_arg4 : FVec F S8x65536 .f32) : IVec S1280x65536 1 × IVec S1280x512 1 × IVec S1280x65536 1 × IVec S8x65536 1 × IVec S8x65536 1 :=
  let main_c : IVec S_ 1 := constantI S_ 1 1#1
  let main_v0 : IVec S1280x65536 1 := broadcastInDim S1280x65536 ![] bcast_S_S1280x65536 main_c
  let main_c_0 : IVec S_ 1 := constantI S_ 1 1#1
  let main_v1 : IVec S1280x512 1 := broadcastInDim S1280x512 ![] bcast_S_S1280x512 main_c_0
  let main_c_1 : IVec S_ 1 := constantI S_ 1 1#1
  let main_v2 : IVec S1280x65536 1 := broadcastInDim S1280x65536 ![] bcast_S_S1280x65536 main_c_1
  let main_c_2 : IVec S_ 1 := constantI S_ 1 1#1
  let main_v3 : IVec S8x65536 1 := broadcastInDim S8x65536 ![] bcast_S_S8x65536 main_c_2
  let main_c_3 : IVec S_ 1 := constantI S_ 1 0#1
  let main_v4 : IVec S8x65536 1 := broadcastInDim S8x65536 ![] bcast_S_S8x65536 main_c_3
  (main_v0, main_v1, main_v2, main_v3, main_v4)
-- ==== Pre_ascending.lean ====
abbrev S1280x65536 : Shape := ⟨2, ![1280, 65536]⟩
abbrev S1280x512 : Shape := ⟨2, ![1280, 512]⟩
abbrev S1280x32768 : Shape := ⟨2, ![1280, 32768]⟩
abbrev S9 : Shape := ⟨1, ![9]⟩
abbrev S8x65536 : Shape := ⟨2, ![8, 65536]⟩
abbrev S8 : Shape := ⟨1, ![8]⟩
abbrev S_ : Shape := ⟨0, ![]⟩
abbrev S1 : Shape := ⟨1, ![1]⟩

class Facts : Prop where
  slices_S9_S8_0 : S9.Slices ![0] S8
  slices_S9_S8_1 : S9.Slices ![1] S8
  reducesTo_S8_S_d0 : S8.ReducesTo [0] S_
  h_S_ : 0 < S_.numel
  slices_S9_S1_8 : S9.Slices ![8] S1
  shapeCasts_S1_S_ : S1.ShapeCasts S_

variable [Facts]

def fn {F : FTy → Type} [FloatOps F] (main_arg0 : FVec F S1280x65536 .fp8e4m3) (main_arg1 : FVec F S1280x512 .f32) (main_arg2 : FVec F S1280x32768 .bf16) (main_arg3 : IVec S9 32) (main_arg4 : FVec F S8x65536 .f32) : IVec S_ 1 :=
  let main_v0 : IVec S8 32 := (extractStridedSlice S8 ![0] · slices_S9_S8_0) main_arg3
  let main_v1 : IVec S8 32 := (extractStridedSlice S8 ![1] · slices_S9_S8_1) main_arg3
  let main_v2 : IVec S8 1 := cmpi .sle main_v0 main_v1
  let main_c : IVec S_ 1 := constantI S_ 1 1#1
  let main_v3 : IVec S_ 1 := (fun x v => Host.reduce IntOp.andi x v reducesTo_S8_S_d0 h_S_) main_v2 main_c
  let main_v4 : IVec S1 32 := (extractStridedSlice S1 ![8] · slices_S9_S1_8) main_arg3
  let main_v5 : IVec S_ 32 := shapeCast S_ main_v4 shapeCasts_S1_S_
  let main_c_0 : IVec S_ 32 := constantI S_ 32 1280#32
  let main_v6 : IVec S_ 1 := cmpi .sge main_v5 main_c_0
  let main_v7 : IVec S_ 1 := andi main_v3 main_v6
  main_v7
-- ==== Kernel.lean ====
abbrev S1280x65536 : Shape := ⟨2, ![1280, 65536]⟩
abbrev S1280x512 : Shape := ⟨2, ![1280, 512]⟩
abbrev S1280x32768 : Shape := ⟨2, ![1280, 32768]⟩
abbrev S9 : Shape := ⟨1, ![9]⟩
abbrev S8x65536 : Shape := ⟨2, ![8, 65536]⟩
abbrev S32x65536 : Shape := ⟨2, ![32, 65536]⟩
abbrev S32x512 : Shape := ⟨2, ![32, 512]⟩
abbrev S32x32768 : Shape := ⟨2, ![32, 32768]⟩
abbrev S512x8x128 : Shape := ⟨3, ![512, 8, 128]⟩
abbrev S256x128 : Shape := ⟨2, ![256, 128]⟩
abbrev S32x128 : Shape := ⟨2, ![32, 128]⟩
abbrev S8x128 : Shape := ⟨2, ![8, 128]⟩
abbrev S1x8x128 : Shape := ⟨3, ![1, 8, 128]⟩
abbrev S32x256 : Shape := ⟨2, ![32, 256]⟩
abbrev S64x256 : Shape := ⟨2, ![64, 256]⟩
abbrev S256x64 : Shape := ⟨2, ![256, 64]⟩
abbrev S1 : Shape := ⟨1, ![1]⟩
abbrev S1x128 : Shape := ⟨2, ![1, 128]⟩
abbrev S32x64 : Shape := ⟨2, ![32, 64]⟩
abbrev S32 : Shape := ⟨1, ![32]⟩
abbrev S32x1 : Shape := ⟨2, ![32, 1]⟩
abbrev S1x1x128 : Shape := ⟨3, ![1, 1, 128]⟩
abbrev S4x8x128 : Shape := ⟨3, ![4, 8, 128]⟩
abbrev S128 : Shape := ⟨1, ![128]⟩

abbrev nBuf : Space → Nat
  | .hbm => 9
  | .vmem => 21
  | .smem => 1
  | _ => 0

abbrev bufTy : (tb : Table) → Fin (tcTables nBuf tb) → BufTy
  | .hbm, ⟨0, _⟩ => ⟨S1280x65536, .fp8e4m3⟩
  | .hbm, ⟨1, _⟩ => ⟨S1280x512, .f32⟩
  | .hbm, ⟨2, _⟩ => ⟨S1280x32768, .bf16⟩
  | .hbm, ⟨3, _⟩ => ⟨S8x65536, .f32⟩
  | .hbm, ⟨4, _⟩ => ⟨S1280x65536, .fp8e5m2⟩
  | .hbm, ⟨5, _⟩ => ⟨S1280x512, .f32⟩
  | .hbm, ⟨6, _⟩ => ⟨S1280x65536, .fp8e5m2⟩
  | .hbm, ⟨7, _⟩ => ⟨S8x65536, .f32⟩
  | .hbm, ⟨8, _⟩ => ⟨S8x65536, .f32⟩
  | .local _ .vmem, ⟨0, _⟩ => ⟨S32x65536, .fp8e4m3⟩
  | .local _ .vmem, ⟨1, _⟩ => ⟨S32x65536, .fp8e4m3⟩
  | .local _ .vmem, ⟨2, _⟩ => ⟨S32x512, .f32⟩
  | .local _ .vmem, ⟨3, _⟩ => ⟨S32x512, .f32⟩
  | .local _ .vmem, ⟨4, _⟩ => ⟨S32x32768, .bf16⟩
  | .local _ .vmem, ⟨5, _⟩ => ⟨S32x32768, .bf16⟩
  | .local _ .vmem, ⟨6, _⟩ => ⟨S8x65536, .f32⟩
  | .local _ .vmem, ⟨7, _⟩ => ⟨S32x65536, .fp8e5m2⟩
  | .local _ .vmem, ⟨8, _⟩ => ⟨S32x65536, .fp8e5m2⟩
  | .local _ .vmem, ⟨9, _⟩ => ⟨S32x512, .f32⟩
  | .local _ .vmem, ⟨10, _⟩ => ⟨S32x512, .f32⟩
  | .local _ .vmem, ⟨11, _⟩ => ⟨S32x65536, .fp8e5m2⟩
  | .local _ .vmem, ⟨12, _⟩ => ⟨S32x65536, .fp8e5m2⟩
  | .local _ .vmem, ⟨13, _⟩ => ⟨S8x65536, .f32⟩
  | .local _ .vmem, ⟨14, _⟩ => ⟨S8x65536, .f32⟩
  | .local _ .vmem, ⟨15, _⟩ => ⟨S512x8x128, .f32⟩
  | .local _ .vmem, ⟨16, _⟩ => ⟨S512x8x128, .f32⟩
  | .local _ .vmem, ⟨17, _⟩ => ⟨S512x8x128, .f32⟩
  | .local _ .vmem, ⟨18, _⟩ => ⟨S256x128, .f32⟩
  | .local _ .vmem, ⟨19, _⟩ => ⟨S32x128, .i32⟩
  | .local _ .vmem, ⟨20, _⟩ => ⟨S32x512, .f32⟩
  | .local _ .smem, ⟨0, _⟩ => ⟨S9, .i32⟩
  | _, _ => ⟨S1280x65536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨1, ![40], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

@[reducible] def k0_t1_loop : Scf.Loop 32 :=
  let c0_i32_42 : BitVec 32 := 0#32
  let c128_i32 : BitVec 32 := 128#32
  let v156 : BitVec 32 := Scalar.addi c0_i32_42 c128_i32
  let c1_i32_43 : BitVec 32 := 1#32
  ⟨c0_i32_42, v156, c1_i32_43⟩
def k0_mult1 (k0_t1 : Fin k0_t1_loop.trips) : BitVec 32 :=
  let c0_i32_42 : BitVec 32 := 0#32
  let c1_i32_43 : BitVec 32 := 1#32
  let arg17 : BitVec 32 := Scf.iv c0_i32_42 c1_i32_43 k0_t1
  let c4_i32 : BitVec 32 := 4#32
  let v182 : BitVec 32 := Scalar.muli arg17 c4_i32
  let c0_i32_55 : BitVec 32 := 0#32
  let v183 : BitVec 32 := Scalar.addi v182 c0_i32_55
  let c128_i32_56 : BitVec 32 := 128#32
  let v184 : BitVec 32 := Scalar.muli v183 c128_i32_56
  v184
def k0_off1 (k0_t1 : Fin k0_t1_loop.trips) (c0_i32_55 : BitVec 32) : Fin 2 → Nat :=
  let c0_57 : Index := 0#32
  let c0_i32_42 : BitVec 32 := 0#32
  let c1_i32_43 : BitVec 32 := 1#32
  let arg17 : BitVec 32 := Scf.iv c0_i32_42 c1_i32_43 k0_t1
  let c4_i32 : BitVec 32 := 4#32
  let v182 : BitVec 32 := Scalar.muli arg17 c4_i32
  let v183 : BitVec 32 := Scalar.addi v182 c0_i32_55
  let c128_i32_56 : BitVec 32 := 128#32
  let v184 : BitVec 32 := Scalar.muli v183 c128_i32_56
  let v185 : BitVec 32 := v184
  let v186 : Index := Scalar.indexCast v185
  ![0, v186.toNat]
def k0_mult2 (k0_t1 : Fin k0_t1_loop.trips) : BitVec 32 :=
  let c0_i32_42 : BitVec 32 := 0#32
  let c1_i32_43 : BitVec 32 := 1#32
  let arg17 : BitVec 32 := Scf.iv c0_i32_42 c1_i32_43 k0_t1
  let c4_i32 : BitVec 32 := 4#32
  let v182 : BitVec 32 := Scalar.muli arg17 c4_i32
  let c0_i32_55 : BitVec 32 := 0#32
  let v183 : BitVec 32 := Scalar.addi v182 c0_i32_55
  let c128_i32_73 : BitVec 32 := 128#32
  let v230 : BitVec 32 := Scalar.muli v183 c128_i32_73
  v230
def k0_off2 (k0_t1 : Fin k0_t1_loop.trips) (c0_i32_55 : BitVec 32) : Fin 3 → Nat :=
  let c0_i32_42 : BitVec 32 := 0#32
  let c1_i32_43 : BitVec 32 := 1#32
  let arg17 : BitVec 32 := Scf.iv c0_i32_42 c1_i32_43 k0_t1
  let c4_i32 : BitVec 32 := 4#32
  let v182 : BitVec 32 := Scalar.muli arg17 c4_i32
  let v183 : BitVec 32 := Scalar.addi v182 c0_i32_55
  let v234 : Index := Scalar.indexCast v183
  let c0_75 : Index := 0#32
  let c0_76 : Index := 0#32
  ![v234.toNat, 0, 0]
def k0_mult3 (k0_t1 : Fin k0_t1_loop.trips) : BitVec 32 :=
  let c0_i32_42 : BitVec 32 := 0#32
  let c1_i32_43 : BitVec 32 := 1#32
  let arg17 : BitVec 32 := Scf.iv c0_i32_42 c1_i32_43 k0_t1
  let c4_i32_83 : BitVec 32 := 4#32
  let v248 : BitVec 32 := Scalar.muli arg17 c4_i32_83
  let c1_i32_84 : BitVec 32 := 1#32
  let v249 : BitVec 32 := Scalar.addi v248 c1_i32_84
  let c128_i32_85 : BitVec 32 := 128#32
  let v250 : BitVec 32 := Scalar.muli v249 c128_i32_85
  v250
def k0_mult4 (k0_t1 : Fin k0_t1_loop.trips) : BitVec 32 :=
  let c0_i32_42 : BitVec 32 := 0#32
  let c1_i32_43 : BitVec 32 := 1#32
  let arg17 : BitVec 32 := Scf.iv c0_i32_42 c1_i32_43 k0_t1
  let c4_i32_83 : BitVec 32 := 4#32
  let v248 : BitVec 32 := Scalar.muli arg17 c4_i32_83
  let c1_i32_84 : BitVec 32 := 1#32
  let v249 : BitVec 32 := Scalar.addi v248 c1_i32_84
  let c128_i32_103 : BitVec 32 := 128#32
  let v296 : BitVec 32 := Scalar.muli v249 c128_i32_103
  v296
def k0_mult5 (k0_t1 : Fin k0_t1_loop.trips) : BitVec 32 :=
  let c0_i32_42 : BitVec 32 := 0#32
  let c1_i32_43 : BitVec 32 := 1#32
  let arg17 : BitVec 32 := Scf.iv c0_i32_42 c1_i32_43 k0_t1
  let c4_i32_113 : BitVec 32 := 4#32
  let v314 : BitVec 32 := Scalar.muli arg17 c4_i32_113
  let c2_i32 : BitVec 32 := 2#32
  let v315 : BitVec 32 := Scalar.addi v314 c2_i32
  let c128_i32_114 : BitVec 32 := 128#32
  let v316 : BitVec 32 := Scalar.muli v315 c128_i32_114
  v316
def k0_mult6 (k0_t1 : Fin k0_t1_loop.trips) : BitVec 32 :=
  let c0_i32_42 : BitVec 32 := 0#32
  let c1_i32_43 : BitVec 32 := 1#32
  let arg17 : BitVec 32 := Scf.iv c0_i32_42 c1_i32_43 k0_t1
  let c4_i32_113 : BitVec 32 := 4#32
  let v314 : BitVec 32 := Scalar.muli arg17 c4_i32_113
  let c2_i32 : BitVec 32 := 2#32
  let v315 : BitVec 32 := Scalar.addi v314 c2_i32
  let c128_i32_132 : BitVec 32 := 128#32
  let v362 : BitVec 32 := Scalar.muli v315 c128_i32_132
  v362
def k0_mult7 (k0_t1 : Fin k0_t1_loop.trips) : BitVec 32 :=
  let c0_i32_42 : BitVec 32 := 0#32
  let c1_i32_43 : BitVec 32 := 1#32
  let arg17 : BitVec 32 := Scf.iv c0_i32_42 c1_i32_43 k0_t1
  let c4_i32_142 : BitVec 32 := 4#32
  let v380 : BitVec 32 := Scalar.muli arg17 c4_i32_142
  let c3_i32 : BitVec 32 := 3#32
  let v381 : BitVec 32 := Scalar.addi v380 c3_i32
  let c128_i32_143 : BitVec 32 := 128#32
  let v382 : BitVec 32 := Scalar.muli v381 c128_i32_143
  v382
def k0_mult8 (k0_t1 : Fin k0_t1_loop.trips) : BitVec 32 :=
  let c0_i32_42 : BitVec 32 := 0#32
  let c1_i32_43 : BitVec 32 := 1#32
  let arg17 : BitVec 32 := Scf.iv c0_i32_42 c1_i32_43 k0_t1
  let c4_i32_142 : BitVec 32 := 4#32
  let v380 : BitVec 32 := Scalar.muli arg17 c4_i32_142
  let c3_i32 : BitVec 32 := 3#32
  let v381 : BitVec 32 := Scalar.addi v380 c3_i32
  let c128_i32_161 : BitVec 32 := 128#32
  let v428 : BitVec 32 := Scalar.muli v381 c128_i32_161
  v428
@[reducible] def k0_t2_loop : Scf.Loop 32 :=
  let c0_i32_42 : BitVec 32 := 0#32
  let c16_i32 : BitVec 32 := 16#32
  let v156 : BitVec 32 := Scalar.addi c0_i32_42 c16_i32
  let c1_i32_43 : BitVec 32 := 1#32
  ⟨c0_i32_42, v156, c1_i32_43⟩
def k0_mult9 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_45 : BitVec 32 := 16#32
  let v157 : BitVec 32 := Scalar.muli arg17 c16_i32_45
  let c0_i32_46 : BitVec 32 := 0#32
  let v158 : BitVec 32 := Scalar.addi v157 c0_i32_46
  let c128_i32 : BitVec 32 := 128#32
  let v159 : BitVec 32 := Scalar.muli v158 c128_i32
  v159
def k0_off3 (k0_t2 : Fin k0_t2_loop.trips) (c0_i32_46 : BitVec 32) : Fin 2 → Nat :=
  let c0_47 : Index := 0#32
  let c0_i32_42 : BitVec 32 := 0#32
  let c1_i32_43 : BitVec 32 := 1#32
  let arg17 : BitVec 32 := Scf.iv c0_i32_42 c1_i32_43 k0_t2
  let c16_i32_45 : BitVec 32 := 16#32
  let v157 : BitVec 32 := Scalar.muli arg17 c16_i32_45
  let v158 : BitVec 32 := Scalar.addi v157 c0_i32_46
  let c128_i32 : BitVec 32 := 128#32
  let v159 : BitVec 32 := Scalar.muli v158 c128_i32
  let v160 : BitVec 32 := v159
  let v161 : Index := Scalar.indexCast v160
  ![0, v161.toNat]
def k0_mult10 (k0_t2 : Fin k0_t2_loop.trips) : BitVec 32 :=
  let c256_i32 : BitVec 32 := 256#32
  let c0_i32_42 : BitVec 32 := 0#32
  let c1_i32_43 : BitVec 32 := 1#32
  let arg17 : BitVec 32 := Scf.iv c0_i32_42 c1_i32_43 k0_t2
  let c16_i32_45 : BitVec 32 := 16#32
  let v157 : BitVec 32 := Scalar.muli arg17 c16_i32_45
  let c0_i32_46 : BitVec 32 := 0#32
  let v158 : BitVec 32 := Scalar.addi v157 c0_i32_46
  let v163 : BitVec 32 := Scalar.addi c256_i32 v158
  let c128_i32_48 : BitVec 32 := 128#32
  let v164 : BitVec 32 := Scalar.muli v163 c128_i32_48
  v164
def k0_off4 (k0_t2 : Fin k0_t2_loop.trips) (c0_i32_46 : BitVec 32) : Fin 2 → Nat :=
  let c0_49 : Index := 0#32
  let c256_i32 : BitVec 32 := 256#32
  let c0_i32_42 : BitVec 32 := 0#32
  let c1_i32_43 : BitVec 32 := 1#32
  let arg17 : BitVec 32 := Scf.iv c0_i32_42 c1_i32_43 k0_t2
  let c16_i32_45 : BitVec 32 := 16#32
  let v157 : BitVec 32 := Scalar.muli arg17 c16_i32_45
  let v158 : BitVec 32 := Scalar.addi v157 c0_i32_46
  let v163 : BitVec 32 := Scalar.addi c256_i32 v158
  let c128_i32_48 : BitVec 32 := 128#32
  let v164 : BitVec 32 := Scalar.muli v163 c128_i32_48
  let v165 : BitVec 32 := v164
  let v166 : Index := Scalar.indexCast v165
  ![0, v166.toNat]
def k0_off5 (k0_t2 : Fin k0_t2_loop.trips) (c0_i32_46 : BitVec 32) : Fin 2 → Nat :=
  let c0_i32_42 : BitVec 32 := 0#32
  let c1_i32_43 : BitVec 32 := 1#32
  let arg17 : BitVec 32 := Scf.iv c0_i32_42 c1_i32_43 k0_t2
  let c16_i32_45 : BitVec 32 := 16#32
  let v157 : BitVec 32 := Scalar.muli arg17 c16_i32_45
  let v158 : BitVec 32 := Scalar.addi v157 c0_i32_46
  let v172 : Index := Scalar.indexCast v158
  let c0_51 : Index := 0#32
  ![v172.toNat, 0]
def k0_mult11 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_45 : BitVec 32 := 16#32
  let v157 : BitVec 32 := Scalar.muli arg17 c16_i32_45
  let c0_i32_46 : BitVec 32 := 0#32
  let v158 : BitVec 32 := Scalar.addi v157 c0_i32_46
  let c128_i32_57 : BitVec 32 := 128#32
  let v186 : BitVec 32 := Scalar.muli v158 c128_i32_57
  v186
def k0_off6 (k0_t2 : Fin k0_t2_loop.trips) (c0_i32_46 : BitVec 32) : Fin 2 → Nat :=
  let c0_58 : Index := 0#32
  let c0_i32_42 : BitVec 32 := 0#32
  let c1_i32_43 : BitVec 32 := 1#32
  let arg17 : BitVec 32 := Scf.iv c0_i32_42 c1_i32_43 k0_t2
  let c16_i32_45 : BitVec 32 := 16#32
  let v157 : BitVec 32 := Scalar.muli arg17 c16_i32_45
  let v158 : BitVec 32 := Scalar.addi v157 c0_i32_46
  let c128_i32_57 : BitVec 32 := 128#32
  let v186 : BitVec 32 := Scalar.muli v158 c128_i32_57
  let v187 : BitVec 32 := v186
  let v188 : Index := Scalar.indexCast v187
  ![0, v188.toNat]
def k0_mult12 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_45 : BitVec 32 := 16#32
  let v157 : BitVec 32 := Scalar.muli arg17 c16_i32_45
  let c0_i32_46 : BitVec 32 := 0#32
  let v158 : BitVec 32 := Scalar.addi v157 c0_i32_46
  let c128_i32_80 : BitVec 32 := 128#32
  let v254 : BitVec 32 := Scalar.muli v158 c128_i32_80
  v254
def k0_mult13 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_45 : BitVec 32 := 16#32
  let v157 : BitVec 32 := Scalar.muli arg17 c16_i32_45
  let c0_i32_46 : BitVec 32 := 0#32
  let v158 : BitVec 32 := Scalar.addi v157 c0_i32_46
  let c0_i32_83 : BitVec 32 := 0#32
  let v259 : BitVec 1 := Scalar.cmpi .sgt v158 c0_i32_83
  let v260 : BitVec 32 := Scalar.extui v259
  let c0_i32_84 : BitVec 32 := 0#32
  let v261 : BitVec 1 := Scalar.cmpi .slt v158 c0_i32_84
  let v262 : BitVec 32 := Scalar.extui v261
  let v263 : BitVec 32 := Scalar.subi v260 v262
  let c128_i32_82 : BitVec 32 := 128#32
  let c0_i32_85 : BitVec 32 := 0#32
  let v264 : BitVec 1 := Scalar.cmpi .sgt c128_i32_82 c0_i32_85
  let v265 : BitVec 32 := Scalar.extui v264
  let c0_i32_86 : BitVec 32 := 0#32
  let v266 : BitVec 1 := Scalar.cmpi .slt c128_i32_82 c0_i32_86
  let v267 : BitVec 32 := Scalar.extui v266
  let v268 : BitVec 32 := Scalar.subi v265 v267
  let v269 : BitVec 1 := Scalar.cmpi .ne v263 v268
  let v270 : BitVec 32 := Scalar.remsi v158 c128_i32_82
  let c0_i32_87 : BitVec 32 := 0#32
  let v271 : BitVec 1 := Scalar.cmpi .ne v270 c0_i32_87
  let v272 : BitVec 1 := Scalar.andi v269 v271
  let v258 : BitVec 32 := Scalar.divsi v158 c128_i32_82
  let c1_i32_88 : BitVec 32 := 1#32
  let v273 : BitVec 32 := Scalar.subi v258 c1_i32_88
  let v274 : BitVec 32 := Scalar.select v272 v273 v258
  let c128_i32_89 : BitVec 32 := 128#32
  let v275 : BitVec 32 := Scalar.muli v274 c128_i32_89
  v275
def k0_off7 (k0_t2 : Fin k0_t2_loop.trips) (c0_i32_46 : BitVec 32) : Fin 2 → Nat :=
  let c0_96 : Index := 0#32
  let c0_i32_42 : BitVec 32 := 0#32
  let c1_i32_43 : BitVec 32 := 1#32
  let arg17 : BitVec 32 := Scf.iv c0_i32_42 c1_i32_43 k0_t2
  let c16_i32_45 : BitVec 32 := 16#32
  let v157 : BitVec 32 := Scalar.muli arg17 c16_i32_45
  let v158 : BitVec 32 := Scalar.addi v157 c0_i32_46
  let c0_i32_83 : BitVec 32 := 0#32
  let v259 : BitVec 1 := Scalar.cmpi .sgt v158 c0_i32_83
  let v260 : BitVec 32 := Scalar.extui v259
  let c0_i32_84 : BitVec 32 := 0#32
  let v261 : BitVec 1 := Scalar.cmpi .slt v158 c0_i32_84
  let v262 : BitVec 32 := Scalar.extui v261
  let v263 : BitVec 32 := Scalar.subi v260 v262
  let c128_i32_82 : BitVec 32 := 128#32
  let c0_i32_85 : BitVec 32 := 0#32
  let v264 : BitVec 1 := Scalar.cmpi .sgt c128_i32_82 c0_i32_85
  let v265 : BitVec 32 := Scalar.extui v264
  let c0_i32_86 : BitVec 32 := 0#32
  let v266 : BitVec 1 := Scalar.cmpi .slt c128_i32_82 c0_i32_86
  let v267 : BitVec 32 := Scalar.extui v266
  let v268 : BitVec 32 := Scalar.subi v265 v267
  let v269 : BitVec 1 := Scalar.cmpi .ne v263 v268
  let v270 : BitVec 32 := Scalar.remsi v158 c128_i32_82
  let c0_i32_87 : BitVec 32 := 0#32
  let v271 : BitVec 1 := Scalar.cmpi .ne v270 c0_i32_87
  let v272 : BitVec 1 := Scalar.andi v269 v271
  let v258 : BitVec 32 := Scalar.divsi v158 c128_i32_82
  let c1_i32_88 : BitVec 32 := 1#32
  let v273 : BitVec 32 := Scalar.subi v258 c1_i32_88
  let v274 : BitVec 32 := Scalar.select v272 v273 v258
  let c128_i32_89 : BitVec 32 := 128#32
  let v275 : BitVec 32 := Scalar.muli v274 c128_i32_89
  let v276 : BitVec 32 := v275
  let v291 : Index := Scalar.indexCast v276
  ![0, v291.toNat]
def k0_off8 (i : grid0.Coords) (v13 : BitVec 32) (v17 : BitVec 32) (v21 : BitVec 32) (v25 : BitVec 32) (v29 : BitVec 32) (v33 : BitVec 32) (v37 : BitVec 32) (k0_t2 : Fin k0_t2_loop.trips) (c0_i32_46 : BitVec 32) : Fin 3 → Nat :=
  let c0_i32_42 : BitVec 32 := 0#32
  let c1_i32_43 : BitVec 32 := 1#32
  let arg17 : BitVec 32 := Scf.iv c0_i32_42 c1_i32_43 k0_t2
  let c16_i32_45 : BitVec 32 := 16#32
  let v157 : BitVec 32 := Scalar.muli arg17 c16_i32_45
  let v158 : BitVec 32 := Scalar.addi v157 c0_i32_46
  let v296 : Index := Scalar.indexCast v158
  let c0_i32_4 : BitVec 32 := 0#32
  let arg0 : BitVec 32 := BitVec.ofNat 32 (i 0).val
  let c32_i32 : BitVec 32 := 32#32
  let v0 : BitVec 32 := Scalar.muli arg0 c32_i32
  let v14 : BitVec 1 := Scalar.cmpi .sle v13 v0
  let v15 : BitVec 32 := Scalar.extui v14
  let v16 : BitVec 32 := Scalar.addi c0_i32_4 v15
  let v18 : BitVec 1 := Scalar.cmpi .sle v17 v0
  let v19 : BitVec 32 := Scalar.extui v18
  let v20 : BitVec 32 := Scalar.addi v16 v19
  let v22 : BitVec 1 := Scalar.cmpi .sle v21 v0
  let v23 : BitVec 32 := Scalar.extui v22
  let v24 : BitVec 32 := Scalar.addi v20 v23
  let v26 : BitVec 1 := Scalar.cmpi .sle v25 v0
  let v27 : BitVec 32 := Scalar.extui v26
  let v28 : BitVec 32 := Scalar.addi v24 v27
  let v30 : BitVec 1 := Scalar.cmpi .sle v29 v0
  let v31 : BitVec 32 := Scalar.extui v30
  let v32 : BitVec 32 := Scalar.addi v28 v31
  let v34 : BitVec 1 := Scalar.cmpi .sle v33 v0
  let v35 : BitVec 32 := Scalar.extui v34
  let v36 : BitVec 32 := Scalar.addi v32 v35
  let v38 : BitVec 1 := Scalar.cmpi .sle v37 v0
  let v39 : BitVec 32 := Scalar.extui v38
  let v40 : BitVec 32 := Scalar.addi v36 v39
  let v297 : Index := Scalar.indexCast v40
  let c0_97 : Index := 0#32
  ![v296.toNat, v297.toNat, 0]
def k0_cond2 (i : grid0.Coords) (v13 : BitVec 32) (v17 : BitVec 32) (v21 : BitVec 32) (v25 : BitVec 32) (v29 : BitVec 32) (v33 : BitVec 32) (v37 : BitVec 32) (v43 : BitVec 32) (v47 : BitVec 32) (v51 : BitVec 32) (v55 : BitVec 32) (v59 : BitVec 32) (v63 : BitVec 32) (v67 : BitVec 32) : BitVec 1 :=
  let c0_i32_4 : BitVec 32 := 0#32
  let arg0 : BitVec 32 := BitVec.ofNat 32 (i 0).val
  let c32_i32 : BitVec 32 := 32#32
  let v0 : BitVec 32 := Scalar.muli arg0 c32_i32
  let v14 : BitVec 1 := Scalar.cmpi .sle v13 v0
  let v15 : BitVec 32 := Scalar.extui v14
  let v16 : BitVec 32 := Scalar.addi c0_i32_4 v15
  let v18 : BitVec 1 := Scalar.cmpi .sle v17 v0
  let v19 : BitVec 32 := Scalar.extui v18
  let v20 : BitVec 32 := Scalar.addi v16 v19
  let v22 : BitVec 1 := Scalar.cmpi .sle v21 v0
  let v23 : BitVec 32 := Scalar.extui v22
  let v24 : BitVec 32 := Scalar.addi v20 v23
  let v26 : BitVec 1 := Scalar.cmpi .sle v25 v0
  let v27 : BitVec 32 := Scalar.extui v26
  let v28 : BitVec 32 := Scalar.addi v24 v27
  let v30 : BitVec 1 := Scalar.cmpi .sle v29 v0
  let v31 : BitVec 32 := Scalar.extui v30
  let v32 : BitVec 32 := Scalar.addi v28 v31
  let v34 : BitVec 1 := Scalar.cmpi .sle v33 v0
  let v35 : BitVec 32 := Scalar.extui v34
  let v36 : BitVec 32 := Scalar.addi v32 v35
  let v38 : BitVec 1 := Scalar.cmpi .sle v37 v0
  let v39 : BitVec 32 := Scalar.extui v38
  let v40 : BitVec 32 := Scalar.addi v36 v39
  let c0_i32_7 : BitVec 32 := 0#32
  let c32_i32_5 : BitVec 32 := 32#32
  let v41 : BitVec 32 := Scalar.addi v0 c32_i32_5
  let c1_i32 : BitVec 32 := 1#32
  let v42 : BitVec 32 := Scalar.subi v41 c1_i32
  let v44 : BitVec 1 := Scalar.cmpi .sle v43 v42
  let v45 : BitVec 32 := Scalar.extui v44
  let v46 : BitVec 32 := Scalar.addi c0_i32_7 v45
  let v48 : BitVec 1 := Scalar.cmpi .sle v47 v42
  let v49 : BitVec 32 := Scalar.extui v48
  let v50 : BitVec 32 := Scalar.addi v46 v49
  let v52 : BitVec 1 := Scalar.cmpi .sle v51 v42
  let v53 : BitVec 32 := Scalar.extui v52
  let v54 : BitVec 32 := Scalar.addi v50 v53
  let v56 : BitVec 1 := Scalar.cmpi .sle v55 v42
  let v57 : BitVec 32 := Scalar.extui v56
  let v58 : BitVec 32 := Scalar.addi v54 v57
  let v60 : BitVec 1 := Scalar.cmpi .sle v59 v42
  let v61 : BitVec 32 := Scalar.extui v60
  let v62 : BitVec 32 := Scalar.addi v58 v61
  let v64 : BitVec 1 := Scalar.cmpi .sle v63 v42
  let v65 : BitVec 32 := Scalar.extui v64
  let v66 : BitVec 32 := Scalar.addi v62 v65
  let v68 : BitVec 1 := Scalar.cmpi .sle v67 v42
  let v69 : BitVec 32 := Scalar.extui v68
  let v70 : BitVec 32 := Scalar.addi v66 v69
  let v71 : BitVec 1 := Scalar.cmpi .eq v40 v70
  let v72 : BitVec 32 := Scalar.extui v71
  let c0_i32_14 : BitVec 32 := 0#32
  let v73 : BitVec 1 := Scalar.cmpi .ne v72 c0_i32_14
  v73

def k0_mult14 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_45 : BitVec 32 := 16#32
  let v157 : BitVec 32 := Scalar.muli arg17 c16_i32_45
  let c0_i32_46 : BitVec 32 := 0#32
  let v158 : BitVec 32 := Scalar.addi v157 c0_i32_46
  let c128_i32_100 : BitVec 32 := 128#32
  let v307 : BitVec 32 := Scalar.muli v158 c128_i32_100
  v307
def k0_off9 (k0_t2 : Fin k0_t2_loop.trips) (c0_i32_46 : BitVec 32) : Fin 3 → Nat :=
  let c0_i32_42 : BitVec 32 := 0#32
  let c1_i32_43 : BitVec 32 := 1#32
  let arg17 : BitVec 32 := Scf.iv c0_i32_42 c1_i32_43 k0_t2
  let c16_i32_45 : BitVec 32 := 16#32
  let v157 : BitVec 32 := Scalar.muli arg17 c16_i32_45
  let v158 : BitVec 32 := Scalar.addi v157 c0_i32_46
  let v313 : Index := Scalar.indexCast v158
  let c0_103 : Index := 0#32
  let c0_104 : Index := 0#32
  ![v313.toNat, 0, 0]
def k0_mult15 (k0_t2 : Fin k0_t2_loop.trips) : BitVec 32 :=
  let c256_i32_63 : BitVec 32 := 256#32
  let c0_i32_42 : BitVec 32 := 0#32
  let c1_i32_43 : BitVec 32 := 1#32
  let arg17 : BitVec 32 := Scf.iv c0_i32_42 c1_i32_43 k0_t2
  let c16_i32_45 : BitVec 32 := 16#32
  let v157 : BitVec 32 := Scalar.muli arg17 c16_i32_45
  let c0_i32_46 : BitVec 32 := 0#32
  let v158 : BitVec 32 := Scalar.addi v157 c0_i32_46
  let v206 : BitVec 32 := Scalar.addi c256_i32_63 v158
  let c128_i32_124 : BitVec 32 := 128#32
  let v368 : BitVec 32 := Scalar.muli v206 c128_i32_124
  v368
def k0_mult16 (k0_t2 : Fin k0_t2_loop.trips) : BitVec 32 :=
  let c256_i32_63 : BitVec 32 := 256#32
  let c0_i32_42 : BitVec 32 := 0#32
  let c1_i32_43 : BitVec 32 := 1#32
  let arg17 : BitVec 32 := Scf.iv c0_i32_42 c1_i32_43 k0_t2
  let c16_i32_45 : BitVec 32 := 16#32
  let v157 : BitVec 32 := Scalar.muli arg17 c16_i32_45
  let c0_i32_46 : BitVec 32 := 0#32
  let v158 : BitVec 32 := Scalar.addi v157 c0_i32_46
  let v206 : BitVec 32 := Scalar.addi c256_i32_63 v158
  let c0_i32_127 : BitVec 32 := 0#32
  let v373 : BitVec 1 := Scalar.cmpi .sgt v206 c0_i32_127
  let v374 : BitVec 32 := Scalar.extui v373
  let c0_i32_128 : BitVec 32 := 0#32
  let v375 : BitVec 1 := Scalar.cmpi .slt v206 c0_i32_128
  let v376 : BitVec 32 := Scalar.extui v375
  let v377 : BitVec 32 := Scalar.subi v374 v376
  let c128_i32_126 : BitVec 32 := 128#32
  let c0_i32_129 : BitVec 32 := 0#32
  let v378 : BitVec 1 := Scalar.cmpi .sgt c128_i32_126 c0_i32_129
  let v379 : BitVec 32 := Scalar.extui v378
  let c0_i32_130 : BitVec 32 := 0#32
  let v380 : BitVec 1 := Scalar.cmpi .slt c128_i32_126 c0_i32_130
  let v381 : BitVec 32 := Scalar.extui v380
  let v382 : BitVec 32 := Scalar.subi v379 v381
  let v383 : BitVec 1 := Scalar.cmpi .ne v377 v382
  let v384 : BitVec 32 := Scalar.remsi v206 c128_i32_126
  let c0_i32_131 : BitVec 32 := 0#32
  let v385 : BitVec 1 := Scalar.cmpi .ne v384 c0_i32_131
  let v386 : BitVec 1 := Scalar.andi v383 v385
  let v372 : BitVec 32 := Scalar.divsi v206 c128_i32_126
  let c1_i32_132 : BitVec 32 := 1#32
  let v387 : BitVec 32 := Scalar.subi v372 c1_i32_132
  let v388 : BitVec 32 := Scalar.select v386 v387 v372
  let c128_i32_133 : BitVec 32 := 128#32
  let v389 : BitVec 32 := Scalar.muli v388 c128_i32_133
  v389
def k0_off10 (k0_t2 : Fin k0_t2_loop.trips) (c0_i32_46 : BitVec 32) : Fin 2 → Nat :=
  let c0_140 : Index := 0#32
  let c256_i32_63 : BitVec 32 := 256#32
  let c0_i32_42 : BitVec 32 := 0#32
  let c1_i32_43 : BitVec 32 := 1#32
  let arg17 : BitVec 32 := Scf.iv c0_i32_42 c1_i32_43 k0_t2
  let c16_i32_45 : BitVec 32 := 16#32
  let v157 : BitVec 32 := Scalar.muli arg17 c16_i32_45
  let v158 : BitVec 32 := Scalar.addi v157 c0_i32_46
  let v206 : BitVec 32 := Scalar.addi c256_i32_63 v158
  let c0_i32_127 : BitVec 32 := 0#32
  let v373 : BitVec 1 := Scalar.cmpi .sgt v206 c0_i32_127
  let v374 : BitVec 32 := Scalar.extui v373
  let c0_i32_128 : BitVec 32 := 0#32
  let v375 : BitVec 1 := Scalar.cmpi .slt v206 c0_i32_128
  let v376 : BitVec 32 := Scalar.extui v375
  let v377 : BitVec 32 := Scalar.subi v374 v376
  let c128_i32_126 : BitVec 32 := 128#32
  let c0_i32_129 : BitVec 32 := 0#32
  let v378 : BitVec 1 := Scalar.cmpi .sgt c128_i32_126 c0_i32_129
  let v379 : BitVec 32 := Scalar.extui v378
  let c0_i32_130 : BitVec 32 := 0#32
  let v380 : BitVec 1 := Scalar.cmpi .slt c128_i32_126 c0_i32_130
  let v381 : BitVec 32 := Scalar.extui v380
  let v382 : BitVec 32 := Scalar.subi v379 v381
  let v383 : BitVec 1 := Scalar.cmpi .ne v377 v382
  let v384 : BitVec 32 := Scalar.remsi v206 c128_i32_126
  let c0_i32_131 : BitVec 32 := 0#32
  let v385 : BitVec 1 := Scalar.cmpi .ne v384 c0_i32_131
  let v386 : BitVec 1 := Scalar.andi v383 v385
  let v372 : BitVec 32 := Scalar.divsi v206 c128_i32_126
  let c1_i32_132 : BitVec 32 := 1#32
  let v387 : BitVec 32 := Scalar.subi v372 c1_i32_132
  let v388 : BitVec 32 := Scalar.select v386 v387 v372
  let c128_i32_133 : BitVec 32 := 128#32
  let v389 : BitVec 32 := Scalar.muli v388 c128_i32_133
  let v390 : BitVec 32 := v389
  let v405 : Index := Scalar.indexCast v390
  ![0, v405.toNat]
def k0_off11 (i : grid0.Coords) (v13 : BitVec 32) (v17 : BitVec 32) (v21 : BitVec 32) (v25 : BitVec 32) (v29 : BitVec 32) (v33 : BitVec 32) (v37 : BitVec 32) (k0_t2 : Fin k0_t2_loop.trips) (c0_i32_46 : BitVec 32) : Fin 3 → Nat :=
  let c256_i32_63 : BitVec 32 := 256#32
  let c0_i32_42 : BitVec 32 := 0#32
  let c1_i32_43 : BitVec 32 := 1#32
  let arg17 : BitVec 32 := Scf.iv c0_i32_42 c1_i32_43 k0_t2
  let c16_i32_45 : BitVec 32 := 16#32
  let v157 : BitVec 32 := Scalar.muli arg17 c16_i32_45
  let v158 : BitVec 32 := Scalar.addi v157 c0_i32_46
  let v206 : BitVec 32 := Scalar.addi c256_i32_63 v158
  let v410 : Index := Scalar.indexCast v206
  let c0_i32_4 : BitVec 32 := 0#32
  let arg0 : BitVec 32 := BitVec.ofNat 32 (i 0).val
  let c32_i32 : BitVec 32 := 32#32
  let v0 : BitVec 32 := Scalar.muli arg0 c32_i32
  let v14 : BitVec 1 := Scalar.cmpi .sle v13 v0
  let v15 : BitVec 32 := Scalar.extui v14
  let v16 : BitVec 32 := Scalar.addi c0_i32_4 v15
  let v18 : BitVec 1 := Scalar.cmpi .sle v17 v0
  let v19 : BitVec 32 := Scalar.extui v18
  let v20 : BitVec 32 := Scalar.addi v16 v19
  let v22 : BitVec 1 := Scalar.cmpi .sle v21 v0
  let v23 : BitVec 32 := Scalar.extui v22
  let v24 : BitVec 32 := Scalar.addi v20 v23
  let v26 : BitVec 1 := Scalar.cmpi .sle v25 v0
  let v27 : BitVec 32 := Scalar.extui v26
  let v28 : BitVec 32 := Scalar.addi v24 v27
  let v30 : BitVec 1 := Scalar.cmpi .sle v29 v0
  let v31 : BitVec 32 := Scalar.extui v30
  let v32 : BitVec 32 := Scalar.addi v28 v31
  let v34 : BitVec 1 := Scalar.cmpi .sle v33 v0
  let v35 : BitVec 32 := Scalar.extui v34
  let v36 : BitVec 32 := Scalar.addi v32 v35
  let v38 : BitVec 1 := Scalar.cmpi .sle v37 v0
  let v39 : BitVec 32 := Scalar.extui v38
  let v40 : BitVec 32 := Scalar.addi v36 v39
  let v411 : Index := Scalar.indexCast v40
  let c0_141 : Index := 0#32
  ![v410.toNat, v411.toNat, 0]

def k0_chk1 (i : grid0.Coords) (v13 : BitVec 32) (v17 : BitVec 32) (v21 : BitVec 32) (v25 : BitVec 32) (v29 : BitVec 32) (v33 : BitVec 32) (v37 : BitVec 32) (v43 : BitVec 32) (v47 : BitVec 32) (v51 : BitVec 32) (v55 : BitVec 32) (v59 : BitVec 32) (v63 : BitVec 32) (v67 : BitVec 32) : Prop :=
  (∀ k0_t2 : Fin k0_t2_loop.trips, ∀ (k0_h2 : k0_cond2 i v13 v17 v21 v25 v29 v33 v37 v43 v47 v51 v55 v59 v63 v67 = 1#1), ∀ (r : Fin 16), ∀ a, (k0_off8 i v13 v17 v21 v25 v29 v33 v37 k0_t2 (BitVec.ofNat 32 r.val)) a + S1x1x128.size a ≤ S512x8x128.size a) ∧
  (∀ k0_t2 : Fin k0_t2_loop.trips, ∀ (k0_h2 : k0_cond2 i v13 v17 v21 v25 v29 v33 v37 v43 v47 v51 v55 v59 v63 v67 = 1#1), ∀ (r : Fin 16), ∀ a, (k0_off11 i v13 v17 v21 v25 v29 v33 v37 k0_t2 (BitVec.ofNat 32 r.val)) a + S1x1x128.size a ≤ S512x8x128.size a)
theorem k0_off8_inb : ∀ (i : grid0.Coords) (v13 : BitVec 32) (v17 : BitVec 32) (v21 : BitVec 32) (v25 : BitVec 32) (v29 : BitVec 32) (v33 : BitVec 32) (v37 : BitVec 32) (v43 : BitVec 32) (v47 : BitVec 32) (v51 : BitVec 32) (v55 : BitVec 32) (v59 : BitVec 32) (v63 : BitVec 32) (v67 : BitVec 32) (k0_hw1 : k0_chk1 i v13 v17 v21 v25 v29 v33 v37 v43 v47 v51 v55 v59 v63 v67) (k0_t2 : Fin k0_t2_loop.trips), ∀ (k0_h2 : k0_cond2 i v13 v17 v21 v25 v29 v33 v37 v43 v47 v51 v55 v59 v63 v67 = 1#1), ∀ (r : Fin 16), ∀ a, (k0_off8 i v13 v17 v21 v25 v29 v33 v37 k0_t2 (BitVec.ofNat 32 r.val)) a + S1x1x128.size a ≤ S512x8x128.size a := fun i v13 v17 v21 v25 v29 v33 v37 v43 v47 v51 v55 v59 v63 v67 k0_hw1 k0_t2 k0_h2 r => k0_hw1.1 k0_t2 k0_h2 r
theorem k0_off11_inb : ∀ (i : grid0.Coords) (v13 : BitVec 32) (v17 : BitVec 32) (v21 : BitVec 32) (v25 : BitVec 32) (v29 : BitVec 32) (v33 : BitVec 32) (v37 : BitVec 32) (v43 : BitVec 32) (v47 : BitVec 32) (v51 : BitVec 32) (v55 : BitVec 32) (v59 : BitVec 32) (v63 : BitVec 32) (v67 : BitVec 32) (k0_hw1 : k0_chk1 i v13 v17 v21 v25 v29 v33 v37 v43 v47 v51 v55 v59 v63 v67) (k0_t2 : Fin k0_t2_loop.trips), ∀ (k0_h2 : k0_cond2 i v13 v17 v21 v25 v29 v33 v37 v43 v47 v51 v55 v59 v63 v67 = 1#1), ∀ (r : Fin 16), ∀ a, (k0_off11 i v13 v17 v21 v25 v29 v33 v37 k0_t2 (BitVec.ofNat 32 r.val)) a + S1x1x128.size a ≤ S512x8x128.size a := fun i v13 v17 v21 v25 v29 v33 v37 v43 v47 v51 v55 v59 v63 v67 k0_hw1 k0_t2 k0_h2 r => k0_hw1.2 k0_t2 k0_h2 r

def k0_mult17 (k0_t2 : Fin k0_t2_loop.trips) : BitVec 32 :=
  let c256_i32_63 : BitVec 32 := 256#32
  let c0_i32_42 : BitVec 32 := 0#32
  let c1_i32_43 : BitVec 32 := 1#32
  let arg17 : BitVec 32 := Scf.iv c0_i32_42 c1_i32_43 k0_t2
  let c16_i32_45 : BitVec 32 := 16#32
  let v157 : BitVec 32 := Scalar.muli arg17 c16_i32_45
  let c0_i32_46 : BitVec 32 := 0#32
  let v158 : BitVec 32 := Scalar.addi v157 c0_i32_46
  let v206 : BitVec 32 := Scalar.addi c256_i32_63 v158
  let c128_i32_144 : BitVec 32 := 128#32
  let v421 : BitVec 32 := Scalar.muli v206 c128_i32_144
  v421
def k0_off12 (k0_t2 : Fin k0_t2_loop.trips) (c0_i32_46 : BitVec 32) : Fin 3 → Nat :=
  let c256_i32_63 : BitVec 32 := 256#32
  let c0_i32_42 : BitVec 32 := 0#32
  let c1_i32_43 : BitVec 32 := 1#32
  let arg17 : BitVec 32 := Scf.iv c0_i32_42 c1_i32_43 k0_t2
  let c16_i32_45 : BitVec 32 := 16#32
  let v157 : BitVec 32 := Scalar.muli arg17 c16_i32_45
  let v158 : BitVec 32 := Scalar.addi v157 c0_i32_46
  let v206 : BitVec 32 := Scalar.addi c256_i32_63 v158
  let v427 : Index := Scalar.indexCast v206
  let c0_147 : Index := 0#32
  let c0_148 : Index := 0#32
  ![v427.toNat, 0, 0]
def k0_mult18 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_151 : BitVec 32 := 16#32
  let v435 : BitVec 32 := Scalar.muli arg17 c16_i32_151
  let c1_i32_152 : BitVec 32 := 1#32
  let v436 : BitVec 32 := Scalar.addi v435 c1_i32_152
  let c128_i32_153 : BitVec 32 := 128#32
  let v437 : BitVec 32 := Scalar.muli v436 c128_i32_153
  v437
def k0_mult19 (k0_t2 : Fin k0_t2_loop.trips) : BitVec 32 :=
  let c256_i32_155 : BitVec 32 := 256#32
  let c0_i32_42 : BitVec 32 := 0#32
  let c1_i32_43 : BitVec 32 := 1#32
  let arg17 : BitVec 32 := Scf.iv c0_i32_42 c1_i32_43 k0_t2
  let c16_i32_151 : BitVec 32 := 16#32
  let v435 : BitVec 32 := Scalar.muli arg17 c16_i32_151
  let c1_i32_152 : BitVec 32 := 1#32
  let v436 : BitVec 32 := Scalar.addi v435 c1_i32_152
  let v441 : BitVec 32 := Scalar.addi c256_i32_155 v436
  let c128_i32_156 : BitVec 32 := 128#32
  let v442 : BitVec 32 := Scalar.muli v441 c128_i32_156
  v442
def k0_mult20 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_151 : BitVec 32 := 16#32
  let v435 : BitVec 32 := Scalar.muli arg17 c16_i32_151
  let c1_i32_152 : BitVec 32 := 1#32
  let v436 : BitVec 32 := Scalar.addi v435 c1_i32_152
  let c128_i32_165 : BitVec 32 := 128#32
  let v464 : BitVec 32 := Scalar.muli v436 c128_i32_165
  v464
def k0_mult21 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_151 : BitVec 32 := 16#32
  let v435 : BitVec 32 := Scalar.muli arg17 c16_i32_151
  let c1_i32_152 : BitVec 32 := 1#32
  let v436 : BitVec 32 := Scalar.addi v435 c1_i32_152
  let c128_i32_189 : BitVec 32 := 128#32
  let v532 : BitVec 32 := Scalar.muli v436 c128_i32_189
  v532
def k0_mult22 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_151 : BitVec 32 := 16#32
  let v435 : BitVec 32 := Scalar.muli arg17 c16_i32_151
  let c1_i32_152 : BitVec 32 := 1#32
  let v436 : BitVec 32 := Scalar.addi v435 c1_i32_152
  let c0_i32_192 : BitVec 32 := 0#32
  let v537 : BitVec 1 := Scalar.cmpi .sgt v436 c0_i32_192
  let v538 : BitVec 32 := Scalar.extui v537
  let c0_i32_193 : BitVec 32 := 0#32
  let v539 : BitVec 1 := Scalar.cmpi .slt v436 c0_i32_193
  let v540 : BitVec 32 := Scalar.extui v539
  let v541 : BitVec 32 := Scalar.subi v538 v540
  let c128_i32_191 : BitVec 32 := 128#32
  let c0_i32_194 : BitVec 32 := 0#32
  let v542 : BitVec 1 := Scalar.cmpi .sgt c128_i32_191 c0_i32_194
  let v543 : BitVec 32 := Scalar.extui v542
  let c0_i32_195 : BitVec 32 := 0#32
  let v544 : BitVec 1 := Scalar.cmpi .slt c128_i32_191 c0_i32_195
  let v545 : BitVec 32 := Scalar.extui v544
  let v546 : BitVec 32 := Scalar.subi v543 v545
  let v547 : BitVec 1 := Scalar.cmpi .ne v541 v546
  let v548 : BitVec 32 := Scalar.remsi v436 c128_i32_191
  let c0_i32_196 : BitVec 32 := 0#32
  let v549 : BitVec 1 := Scalar.cmpi .ne v548 c0_i32_196
  let v550 : BitVec 1 := Scalar.andi v547 v549
  let v536 : BitVec 32 := Scalar.divsi v436 c128_i32_191
  let c1_i32_197 : BitVec 32 := 1#32
  let v551 : BitVec 32 := Scalar.subi v536 c1_i32_197
  let v552 : BitVec 32 := Scalar.select v550 v551 v536
  let c128_i32_198 : BitVec 32 := 128#32
  let v553 : BitVec 32 := Scalar.muli v552 c128_i32_198
  v553
def k0_mult23 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_151 : BitVec 32 := 16#32
  let v435 : BitVec 32 := Scalar.muli arg17 c16_i32_151
  let c1_i32_152 : BitVec 32 := 1#32
  let v436 : BitVec 32 := Scalar.addi v435 c1_i32_152
  let c128_i32_209 : BitVec 32 := 128#32
  let v585 : BitVec 32 := Scalar.muli v436 c128_i32_209
  v585
def k0_mult24 (k0_t2 : Fin k0_t2_loop.trips) : BitVec 32 :=
  let c256_i32_171 : BitVec 32 := 256#32
  let c0_i32_42 : BitVec 32 := 0#32
  let c1_i32_43 : BitVec 32 := 1#32
  let arg17 : BitVec 32 := Scf.iv c0_i32_42 c1_i32_43 k0_t2
  let c16_i32_151 : BitVec 32 := 16#32
  let v435 : BitVec 32 := Scalar.muli arg17 c16_i32_151
  let c1_i32_152 : BitVec 32 := 1#32
  let v436 : BitVec 32 := Scalar.addi v435 c1_i32_152
  let v484 : BitVec 32 := Scalar.addi c256_i32_171 v436
  let c128_i32_233 : BitVec 32 := 128#32
  let v646 : BitVec 32 := Scalar.muli v484 c128_i32_233
  v646
def k0_mult25 (k0_t2 : Fin k0_t2_loop.trips) : BitVec 32 :=
  let c256_i32_171 : BitVec 32 := 256#32
  let c0_i32_42 : BitVec 32 := 0#32
  let c1_i32_43 : BitVec 32 := 1#32
  let arg17 : BitVec 32 := Scf.iv c0_i32_42 c1_i32_43 k0_t2
  let c16_i32_151 : BitVec 32 := 16#32
  let v435 : BitVec 32 := Scalar.muli arg17 c16_i32_151
  let c1_i32_152 : BitVec 32 := 1#32
  let v436 : BitVec 32 := Scalar.addi v435 c1_i32_152
  let v484 : BitVec 32 := Scalar.addi c256_i32_171 v436
  let c0_i32_236 : BitVec 32 := 0#32
  let v651 : BitVec 1 := Scalar.cmpi .sgt v484 c0_i32_236
  let v652 : BitVec 32 := Scalar.extui v651
  let c0_i32_237 : BitVec 32 := 0#32
  let v653 : BitVec 1 := Scalar.cmpi .slt v484 c0_i32_237
  let v654 : BitVec 32 := Scalar.extui v653
  let v655 : BitVec 32 := Scalar.subi v652 v654
  let c128_i32_235 : BitVec 32 := 128#32
  let c0_i32_238 : BitVec 32 := 0#32
  let v656 : BitVec 1 := Scalar.cmpi .sgt c128_i32_235 c0_i32_238
  let v657 : BitVec 32 := Scalar.extui v656
  let c0_i32_239 : BitVec 32 := 0#32
  let v658 : BitVec 1 := Scalar.cmpi .slt c128_i32_235 c0_i32_239
  let v659 : BitVec 32 := Scalar.extui v658
  let v660 : BitVec 32 := Scalar.subi v657 v659
  let v661 : BitVec 1 := Scalar.cmpi .ne v655 v660
  let v662 : BitVec 32 := Scalar.remsi v484 c128_i32_235
  let c0_i32_240 : BitVec 32 := 0#32
  let v663 : BitVec 1 := Scalar.cmpi .ne v662 c0_i32_240
  let v664 : BitVec 1 := Scalar.andi v661 v663
  let v650 : BitVec 32 := Scalar.divsi v484 c128_i32_235
  let c1_i32_241 : BitVec 32 := 1#32
  let v665 : BitVec 32 := Scalar.subi v650 c1_i32_241
  let v666 : BitVec 32 := Scalar.select v664 v665 v650
  let c128_i32_242 : BitVec 32 := 128#32
  let v667 : BitVec 32 := Scalar.muli v666 c128_i32_242
  v667
def k0_mult26 (k0_t2 : Fin k0_t2_loop.trips) : BitVec 32 :=
  let c256_i32_171 : BitVec 32 := 256#32
  let c0_i32_42 : BitVec 32 := 0#32
  let c1_i32_43 : BitVec 32 := 1#32
  let arg17 : BitVec 32 := Scf.iv c0_i32_42 c1_i32_43 k0_t2
  let c16_i32_151 : BitVec 32 := 16#32
  let v435 : BitVec 32 := Scalar.muli arg17 c16_i32_151
  let c1_i32_152 : BitVec 32 := 1#32
  let v436 : BitVec 32 := Scalar.addi v435 c1_i32_152
  let v484 : BitVec 32 := Scalar.addi c256_i32_171 v436
  let c128_i32_253 : BitVec 32 := 128#32
  let v699 : BitVec 32 := Scalar.muli v484 c128_i32_253
  v699
def k0_mult27 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_260 : BitVec 32 := 16#32
  let v713 : BitVec 32 := Scalar.muli arg17 c16_i32_260
  let c2_i32 : BitVec 32 := 2#32
  let v714 : BitVec 32 := Scalar.addi v713 c2_i32
  let c128_i32_261 : BitVec 32 := 128#32
  let v715 : BitVec 32 := Scalar.muli v714 c128_i32_261
  v715
def k0_mult28 (k0_t2 : Fin k0_t2_loop.trips) : BitVec 32 :=
  let c256_i32_263 : BitVec 32 := 256#32
  let c0_i32_42 : BitVec 32 := 0#32
  let c1_i32_43 : BitVec 32 := 1#32
  let arg17 : BitVec 32 := Scf.iv c0_i32_42 c1_i32_43 k0_t2
  let c16_i32_260 : BitVec 32 := 16#32
  let v713 : BitVec 32 := Scalar.muli arg17 c16_i32_260
  let c2_i32 : BitVec 32 := 2#32
  let v714 : BitVec 32 := Scalar.addi v713 c2_i32
  let v719 : BitVec 32 := Scalar.addi c256_i32_263 v714
  let c128_i32_264 : BitVec 32 := 128#32
  let v720 : BitVec 32 := Scalar.muli v719 c128_i32_264
  v720
def k0_mult29 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_260 : BitVec 32 := 16#32
  let v713 : BitVec 32 := Scalar.muli arg17 c16_i32_260
  let c2_i32 : BitVec 32 := 2#32
  let v714 : BitVec 32 := Scalar.addi v713 c2_i32
  let c128_i32_273 : BitVec 32 := 128#32
  let v742 : BitVec 32 := Scalar.muli v714 c128_i32_273
  v742
def k0_mult30 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_260 : BitVec 32 := 16#32
  let v713 : BitVec 32 := Scalar.muli arg17 c16_i32_260
  let c2_i32 : BitVec 32 := 2#32
  let v714 : BitVec 32 := Scalar.addi v713 c2_i32
  let c128_i32_297 : BitVec 32 := 128#32
  let v810 : BitVec 32 := Scalar.muli v714 c128_i32_297
  v810
def k0_mult31 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_260 : BitVec 32 := 16#32
  let v713 : BitVec 32 := Scalar.muli arg17 c16_i32_260
  let c2_i32 : BitVec 32 := 2#32
  let v714 : BitVec 32 := Scalar.addi v713 c2_i32
  let c0_i32_300 : BitVec 32 := 0#32
  let v815 : BitVec 1 := Scalar.cmpi .sgt v714 c0_i32_300
  let v816 : BitVec 32 := Scalar.extui v815
  let c0_i32_301 : BitVec 32 := 0#32
  let v817 : BitVec 1 := Scalar.cmpi .slt v714 c0_i32_301
  let v818 : BitVec 32 := Scalar.extui v817
  let v819 : BitVec 32 := Scalar.subi v816 v818
  let c128_i32_299 : BitVec 32 := 128#32
  let c0_i32_302 : BitVec 32 := 0#32
  let v820 : BitVec 1 := Scalar.cmpi .sgt c128_i32_299 c0_i32_302
  let v821 : BitVec 32 := Scalar.extui v820
  let c0_i32_303 : BitVec 32 := 0#32
  let v822 : BitVec 1 := Scalar.cmpi .slt c128_i32_299 c0_i32_303
  let v823 : BitVec 32 := Scalar.extui v822
  let v824 : BitVec 32 := Scalar.subi v821 v823
  let v825 : BitVec 1 := Scalar.cmpi .ne v819 v824
  let v826 : BitVec 32 := Scalar.remsi v714 c128_i32_299
  let c0_i32_304 : BitVec 32 := 0#32
  let v827 : BitVec 1 := Scalar.cmpi .ne v826 c0_i32_304
  let v828 : BitVec 1 := Scalar.andi v825 v827
  let v814 : BitVec 32 := Scalar.divsi v714 c128_i32_299
  let c1_i32_305 : BitVec 32 := 1#32
  let v829 : BitVec 32 := Scalar.subi v814 c1_i32_305
  let v830 : BitVec 32 := Scalar.select v828 v829 v814
  let c128_i32_306 : BitVec 32 := 128#32
  let v831 : BitVec 32 := Scalar.muli v830 c128_i32_306
  v831
def k0_mult32 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_260 : BitVec 32 := 16#32
  let v713 : BitVec 32 := Scalar.muli arg17 c16_i32_260
  let c2_i32 : BitVec 32 := 2#32
  let v714 : BitVec 32 := Scalar.addi v713 c2_i32
  let c128_i32_317 : BitVec 32 := 128#32
  let v863 : BitVec 32 := Scalar.muli v714 c128_i32_317
  v863
def k0_mult33 (k0_t2 : Fin k0_t2_loop.trips) : BitVec 32 :=
  let c256_i32_279 : BitVec 32 := 256#32
  let c0_i32_42 : BitVec 32 := 0#32
  let c1_i32_43 : BitVec 32 := 1#32
  let arg17 : BitVec 32 := Scf.iv c0_i32_42 c1_i32_43 k0_t2
  let c16_i32_260 : BitVec 32 := 16#32
  let v713 : BitVec 32 := Scalar.muli arg17 c16_i32_260
  let c2_i32 : BitVec 32 := 2#32
  let v714 : BitVec 32 := Scalar.addi v713 c2_i32
  let v762 : BitVec 32 := Scalar.addi c256_i32_279 v714
  let c128_i32_341 : BitVec 32 := 128#32
  let v924 : BitVec 32 := Scalar.muli v762 c128_i32_341
  v924
def k0_mult34 (k0_t2 : Fin k0_t2_loop.trips) : BitVec 32 :=
  let c256_i32_279 : BitVec 32 := 256#32
  let c0_i32_42 : BitVec 32 := 0#32
  let c1_i32_43 : BitVec 32 := 1#32
  let arg17 : BitVec 32 := Scf.iv c0_i32_42 c1_i32_43 k0_t2
  let c16_i32_260 : BitVec 32 := 16#32
  let v713 : BitVec 32 := Scalar.muli arg17 c16_i32_260
  let c2_i32 : BitVec 32 := 2#32
  let v714 : BitVec 32 := Scalar.addi v713 c2_i32
  let v762 : BitVec 32 := Scalar.addi c256_i32_279 v714
  let c0_i32_344 : BitVec 32 := 0#32
  let v929 : BitVec 1 := Scalar.cmpi .sgt v762 c0_i32_344
  let v930 : BitVec 32 := Scalar.extui v929
  let c0_i32_345 : BitVec 32 := 0#32
  let v931 : BitVec 1 := Scalar.cmpi .slt v762 c0_i32_345
  let v932 : BitVec 32 := Scalar.extui v931
  let v933 : BitVec 32 := Scalar.subi v930 v932
  let c128_i32_343 : BitVec 32 := 128#32
  let c0_i32_346 : BitVec 32 := 0#32
  let v934 : BitVec 1 := Scalar.cmpi .sgt c128_i32_343 c0_i32_346
  let v935 : BitVec 32 := Scalar.extui v934
  let c0_i32_347 : BitVec 32 := 0#32
  let v936 : BitVec 1 := Scalar.cmpi .slt c128_i32_343 c0_i32_347
  let v937 : BitVec 32 := Scalar.extui v936
  let v938 : BitVec 32 := Scalar.subi v935 v937
  let v939 : BitVec 1 := Scalar.cmpi .ne v933 v938
  let v940 : BitVec 32 := Scalar.remsi v762 c128_i32_343
  let c0_i32_348 : BitVec 32 := 0#32
  let v941 : BitVec 1 := Scalar.cmpi .ne v940 c0_i32_348
  let v942 : BitVec 1 := Scalar.andi v939 v941
  let v928 : BitVec 32 := Scalar.divsi v762 c128_i32_343
  let c1_i32_349 : BitVec 32 := 1#32
  let v943 : BitVec 32 := Scalar.subi v928 c1_i32_349
  let v944 : BitVec 32 := Scalar.select v942 v943 v928
  let c128_i32_350 : BitVec 32 := 128#32
  let v945 : BitVec 32 := Scalar.muli v944 c128_i32_350
  v945
def k0_mult35 (k0_t2 : Fin k0_t2_loop.trips) : BitVec 32 :=
  let c256_i32_279 : BitVec 32 := 256#32
  let c0_i32_42 : BitVec 32 := 0#32
  let c1_i32_43 : BitVec 32 := 1#32
  let arg17 : BitVec 32 := Scf.iv c0_i32_42 c1_i32_43 k0_t2
  let c16_i32_260 : BitVec 32 := 16#32
  let v713 : BitVec 32 := Scalar.muli arg17 c16_i32_260
  let c2_i32 : BitVec 32 := 2#32
  let v714 : BitVec 32 := Scalar.addi v713 c2_i32
  let v762 : BitVec 32 := Scalar.addi c256_i32_279 v714
  let c128_i32_361 : BitVec 32 := 128#32
  let v977 : BitVec 32 := Scalar.muli v762 c128_i32_361
  v977
def k0_mult36 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_368 : BitVec 32 := 16#32
  let v991 : BitVec 32 := Scalar.muli arg17 c16_i32_368
  let c3_i32 : BitVec 32 := 3#32
  let v992 : BitVec 32 := Scalar.addi v991 c3_i32
  let c128_i32_369 : BitVec 32 := 128#32
  let v993 : BitVec 32 := Scalar.muli v992 c128_i32_369
  v993
def k0_mult37 (k0_t2 : Fin k0_t2_loop.trips) : BitVec 32 :=
  let c256_i32_371 : BitVec 32 := 256#32
  let c0_i32_42 : BitVec 32 := 0#32
  let c1_i32_43 : BitVec 32 := 1#32
  let arg17 : BitVec 32 := Scf.iv c0_i32_42 c1_i32_43 k0_t2
  let c16_i32_368 : BitVec 32 := 16#32
  let v991 : BitVec 32 := Scalar.muli arg17 c16_i32_368
  let c3_i32 : BitVec 32 := 3#32
  let v992 : BitVec 32 := Scalar.addi v991 c3_i32
  let v997 : BitVec 32 := Scalar.addi c256_i32_371 v992
  let c128_i32_372 : BitVec 32 := 128#32
  let v998 : BitVec 32 := Scalar.muli v997 c128_i32_372
  v998
def k0_mult38 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_368 : BitVec 32 := 16#32
  let v991 : BitVec 32 := Scalar.muli arg17 c16_i32_368
  let c3_i32 : BitVec 32 := 3#32
  let v992 : BitVec 32 := Scalar.addi v991 c3_i32
  let c128_i32_381 : BitVec 32 := 128#32
  let v1020 : BitVec 32 := Scalar.muli v992 c128_i32_381
  v1020
def k0_mult39 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_368 : BitVec 32 := 16#32
  let v991 : BitVec 32 := Scalar.muli arg17 c16_i32_368
  let c3_i32 : BitVec 32 := 3#32
  let v992 : BitVec 32 := Scalar.addi v991 c3_i32
  let c128_i32_405 : BitVec 32 := 128#32
  let v1088 : BitVec 32 := Scalar.muli v992 c128_i32_405
  v1088
def k0_mult40 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_368 : BitVec 32 := 16#32
  let v991 : BitVec 32 := Scalar.muli arg17 c16_i32_368
  let c3_i32 : BitVec 32 := 3#32
  let v992 : BitVec 32 := Scalar.addi v991 c3_i32
  let c0_i32_408 : BitVec 32 := 0#32
  let v1093 : BitVec 1 := Scalar.cmpi .sgt v992 c0_i32_408
  let v1094 : BitVec 32 := Scalar.extui v1093
  let c0_i32_409 : BitVec 32 := 0#32
  let v1095 : BitVec 1 := Scalar.cmpi .slt v992 c0_i32_409
  let v1096 : BitVec 32 := Scalar.extui v1095
  let v1097 : BitVec 32 := Scalar.subi v1094 v1096
  let c128_i32_407 : BitVec 32 := 128#32
  let c0_i32_410 : BitVec 32 := 0#32
  let v1098 : BitVec 1 := Scalar.cmpi .sgt c128_i32_407 c0_i32_410
  let v1099 : BitVec 32 := Scalar.extui v1098
  let c0_i32_411 : BitVec 32 := 0#32
  let v1100 : BitVec 1 := Scalar.cmpi .slt c128_i32_407 c0_i32_411
  let v1101 : BitVec 32 := Scalar.extui v1100
  let v1102 : BitVec 32 := Scalar.subi v1099 v1101
  let v1103 : BitVec 1 := Scalar.cmpi .ne v1097 v1102
  let v1104 : BitVec 32 := Scalar.remsi v992 c128_i32_407
  let c0_i32_412 : BitVec 32 := 0#32
  let v1105 : BitVec 1 := Scalar.cmpi .ne v1104 c0_i32_412
  let v1106 : BitVec 1 := Scalar.andi v1103 v1105
  let v1092 : BitVec 32 := Scalar.divsi v992 c128_i32_407
  let c1_i32_413 : BitVec 32 := 1#32
  let v1107 : BitVec 32 := Scalar.subi v1092 c1_i32_413
  let v1108 : BitVec 32 := Scalar.select v1106 v1107 v1092
  let c128_i32_414 : BitVec 32 := 128#32
  let v1109 : BitVec 32 := Scalar.muli v1108 c128_i32_414
  v1109
def k0_mult41 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_368 : BitVec 32 := 16#32
  let v991 : BitVec 32 := Scalar.muli arg17 c16_i32_368
  let c3_i32 : BitVec 32 := 3#32
  let v992 : BitVec 32 := Scalar.addi v991 c3_i32
  let c128_i32_425 : BitVec 32 := 128#32
  let v1141 : BitVec 32 := Scalar.muli v992 c128_i32_425
  v1141
def k0_mult42 (k0_t2 : Fin k0_t2_loop.trips) : BitVec 32 :=
  let c256_i32_387 : BitVec 32 := 256#32
  let c0_i32_42 : BitVec 32 := 0#32
  let c1_i32_43 : BitVec 32 := 1#32
  let arg17 : BitVec 32 := Scf.iv c0_i32_42 c1_i32_43 k0_t2
  let c16_i32_368 : BitVec 32 := 16#32
  let v991 : BitVec 32 := Scalar.muli arg17 c16_i32_368
  let c3_i32 : BitVec 32 := 3#32
  let v992 : BitVec 32 := Scalar.addi v991 c3_i32
  let v1040 : BitVec 32 := Scalar.addi c256_i32_387 v992
  let c128_i32_449 : BitVec 32 := 128#32
  let v1202 : BitVec 32 := Scalar.muli v1040 c128_i32_449
  v1202
def k0_mult43 (k0_t2 : Fin k0_t2_loop.trips) : BitVec 32 :=
  let c256_i32_387 : BitVec 32 := 256#32
  let c0_i32_42 : BitVec 32 := 0#32
  let c1_i32_43 : BitVec 32 := 1#32
  let arg17 : BitVec 32 := Scf.iv c0_i32_42 c1_i32_43 k0_t2
  let c16_i32_368 : BitVec 32 := 16#32
  let v991 : BitVec 32 := Scalar.muli arg17 c16_i32_368
  let c3_i32 : BitVec 32 := 3#32
  let v992 : BitVec 32 := Scalar.addi v991 c3_i32
  let v1040 : BitVec 32 := Scalar.addi c256_i32_387 v992
  let c0_i32_452 : BitVec 32 := 0#32
  let v1207 : BitVec 1 := Scalar.cmpi .sgt v1040 c0_i32_452
  let v1208 : BitVec 32 := Scalar.extui v1207
  let c0_i32_453 : BitVec 32 := 0#32
  let v1209 : BitVec 1 := Scalar.cmpi .slt v1040 c0_i32_453
  let v1210 : BitVec 32 := Scalar.extui v1209
  let v1211 : BitVec 32 := Scalar.subi v1208 v1210
  let c128_i32_451 : BitVec 32 := 128#32
  let c0_i32_454 : BitVec 32 := 0#32
  let v1212 : BitVec 1 := Scalar.cmpi .sgt c128_i32_451 c0_i32_454
  let v1213 : BitVec 32 := Scalar.extui v1212
  let c0_i32_455 : BitVec 32 := 0#32
  let v1214 : BitVec 1 := Scalar.cmpi .slt c128_i32_451 c0_i32_455
  let v1215 : BitVec 32 := Scalar.extui v1214
  let v1216 : BitVec 32 := Scalar.subi v1213 v1215
  let v1217 : BitVec 1 := Scalar.cmpi .ne v1211 v1216
  let v1218 : BitVec 32 := Scalar.remsi v1040 c128_i32_451
  let c0_i32_456 : BitVec 32 := 0#32
  let v1219 : BitVec 1 := Scalar.cmpi .ne v1218 c0_i32_456
  let v1220 : BitVec 1 := Scalar.andi v1217 v1219
  let v1206 : BitVec 32 := Scalar.divsi v1040 c128_i32_451
  let c1_i32_457 : BitVec 32 := 1#32
  let v1221 : BitVec 32 := Scalar.subi v1206 c1_i32_457
  let v1222 : BitVec 32 := Scalar.select v1220 v1221 v1206
  let c128_i32_458 : BitVec 32 := 128#32
  let v1223 : BitVec 32 := Scalar.muli v1222 c128_i32_458
  v1223
def k0_mult44 (k0_t2 : Fin k0_t2_loop.trips) : BitVec 32 :=
  let c256_i32_387 : BitVec 32 := 256#32
  let c0_i32_42 : BitVec 32 := 0#32
  let c1_i32_43 : BitVec 32 := 1#32
  let arg17 : BitVec 32 := Scf.iv c0_i32_42 c1_i32_43 k0_t2
  let c16_i32_368 : BitVec 32 := 16#32
  let v991 : BitVec 32 := Scalar.muli arg17 c16_i32_368
  let c3_i32 : BitVec 32 := 3#32
  let v992 : BitVec 32 := Scalar.addi v991 c3_i32
  let v1040 : BitVec 32 := Scalar.addi c256_i32_387 v992
  let c128_i32_469 : BitVec 32 := 128#32
  let v1255 : BitVec 32 := Scalar.muli v1040 c128_i32_469
  v1255
def k0_mult45 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_476 : BitVec 32 := 16#32
  let v1269 : BitVec 32 := Scalar.muli arg17 c16_i32_476
  let c4_i32 : BitVec 32 := 4#32
  let v1270 : BitVec 32 := Scalar.addi v1269 c4_i32
  let c128_i32_477 : BitVec 32 := 128#32
  let v1271 : BitVec 32 := Scalar.muli v1270 c128_i32_477
  v1271
def k0_mult46 (k0_t2 : Fin k0_t2_loop.trips) : BitVec 32 :=
  let c256_i32_479 : BitVec 32 := 256#32
  let c0_i32_42 : BitVec 32 := 0#32
  let c1_i32_43 : BitVec 32 := 1#32
  let arg17 : BitVec 32 := Scf.iv c0_i32_42 c1_i32_43 k0_t2
  let c16_i32_476 : BitVec 32 := 16#32
  let v1269 : BitVec 32 := Scalar.muli arg17 c16_i32_476
  let c4_i32 : BitVec 32 := 4#32
  let v1270 : BitVec 32 := Scalar.addi v1269 c4_i32
  let v1275 : BitVec 32 := Scalar.addi c256_i32_479 v1270
  let c128_i32_480 : BitVec 32 := 128#32
  let v1276 : BitVec 32 := Scalar.muli v1275 c128_i32_480
  v1276
def k0_mult47 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_476 : BitVec 32 := 16#32
  let v1269 : BitVec 32 := Scalar.muli arg17 c16_i32_476
  let c4_i32 : BitVec 32 := 4#32
  let v1270 : BitVec 32 := Scalar.addi v1269 c4_i32
  let c128_i32_489 : BitVec 32 := 128#32
  let v1298 : BitVec 32 := Scalar.muli v1270 c128_i32_489
  v1298
def k0_mult48 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_476 : BitVec 32 := 16#32
  let v1269 : BitVec 32 := Scalar.muli arg17 c16_i32_476
  let c4_i32 : BitVec 32 := 4#32
  let v1270 : BitVec 32 := Scalar.addi v1269 c4_i32
  let c128_i32_513 : BitVec 32 := 128#32
  let v1366 : BitVec 32 := Scalar.muli v1270 c128_i32_513
  v1366
def k0_mult49 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_476 : BitVec 32 := 16#32
  let v1269 : BitVec 32 := Scalar.muli arg17 c16_i32_476
  let c4_i32 : BitVec 32 := 4#32
  let v1270 : BitVec 32 := Scalar.addi v1269 c4_i32
  let c0_i32_516 : BitVec 32 := 0#32
  let v1371 : BitVec 1 := Scalar.cmpi .sgt v1270 c0_i32_516
  let v1372 : BitVec 32 := Scalar.extui v1371
  let c0_i32_517 : BitVec 32 := 0#32
  let v1373 : BitVec 1 := Scalar.cmpi .slt v1270 c0_i32_517
  let v1374 : BitVec 32 := Scalar.extui v1373
  let v1375 : BitVec 32 := Scalar.subi v1372 v1374
  let c128_i32_515 : BitVec 32 := 128#32
  let c0_i32_518 : BitVec 32 := 0#32
  let v1376 : BitVec 1 := Scalar.cmpi .sgt c128_i32_515 c0_i32_518
  let v1377 : BitVec 32 := Scalar.extui v1376
  let c0_i32_519 : BitVec 32 := 0#32
  let v1378 : BitVec 1 := Scalar.cmpi .slt c128_i32_515 c0_i32_519
  let v1379 : BitVec 32 := Scalar.extui v1378
  let v1380 : BitVec 32 := Scalar.subi v1377 v1379
  let v1381 : BitVec 1 := Scalar.cmpi .ne v1375 v1380
  let v1382 : BitVec 32 := Scalar.remsi v1270 c128_i32_515
  let c0_i32_520 : BitVec 32 := 0#32
  let v1383 : BitVec 1 := Scalar.cmpi .ne v1382 c0_i32_520
  let v1384 : BitVec 1 := Scalar.andi v1381 v1383
  let v1370 : BitVec 32 := Scalar.divsi v1270 c128_i32_515
  let c1_i32_521 : BitVec 32 := 1#32
  let v1385 : BitVec 32 := Scalar.subi v1370 c1_i32_521
  let v1386 : BitVec 32 := Scalar.select v1384 v1385 v1370
  let c128_i32_522 : BitVec 32 := 128#32
  let v1387 : BitVec 32 := Scalar.muli v1386 c128_i32_522
  v1387
def k0_mult50 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_476 : BitVec 32 := 16#32
  let v1269 : BitVec 32 := Scalar.muli arg17 c16_i32_476
  let c4_i32 : BitVec 32 := 4#32
  let v1270 : BitVec 32 := Scalar.addi v1269 c4_i32
  let c128_i32_533 : BitVec 32 := 128#32
  let v1419 : BitVec 32 := Scalar.muli v1270 c128_i32_533
  v1419
def k0_mult51 (k0_t2 : Fin k0_t2_loop.trips) : BitVec 32 :=
  let c256_i32_495 : BitVec 32 := 256#32
  let c0_i32_42 : BitVec 32 := 0#32
  let c1_i32_43 : BitVec 32 := 1#32
  let arg17 : BitVec 32 := Scf.iv c0_i32_42 c1_i32_43 k0_t2
  let c16_i32_476 : BitVec 32 := 16#32
  let v1269 : BitVec 32 := Scalar.muli arg17 c16_i32_476
  let c4_i32 : BitVec 32 := 4#32
  let v1270 : BitVec 32 := Scalar.addi v1269 c4_i32
  let v1318 : BitVec 32 := Scalar.addi c256_i32_495 v1270
  let c128_i32_557 : BitVec 32 := 128#32
  let v1480 : BitVec 32 := Scalar.muli v1318 c128_i32_557
  v1480
def k0_mult52 (k0_t2 : Fin k0_t2_loop.trips) : BitVec 32 :=
  let c256_i32_495 : BitVec 32 := 256#32
  let c0_i32_42 : BitVec 32 := 0#32
  let c1_i32_43 : BitVec 32 := 1#32
  let arg17 : BitVec 32 := Scf.iv c0_i32_42 c1_i32_43 k0_t2
  let c16_i32_476 : BitVec 32 := 16#32
  let v1269 : BitVec 32 := Scalar.muli arg17 c16_i32_476
  let c4_i32 : BitVec 32 := 4#32
  let v1270 : BitVec 32 := Scalar.addi v1269 c4_i32
  let v1318 : BitVec 32 := Scalar.addi c256_i32_495 v1270
  let c0_i32_560 : BitVec 32 := 0#32
  let v1485 : BitVec 1 := Scalar.cmpi .sgt v1318 c0_i32_560
  let v1486 : BitVec 32 := Scalar.extui v1485
  let c0_i32_561 : BitVec 32 := 0#32
  let v1487 : BitVec 1 := Scalar.cmpi .slt v1318 c0_i32_561
  let v1488 : BitVec 32 := Scalar.extui v1487
  let v1489 : BitVec 32 := Scalar.subi v1486 v1488
  let c128_i32_559 : BitVec 32 := 128#32
  let c0_i32_562 : BitVec 32 := 0#32
  let v1490 : BitVec 1 := Scalar.cmpi .sgt c128_i32_559 c0_i32_562
  let v1491 : BitVec 32 := Scalar.extui v1490
  let c0_i32_563 : BitVec 32 := 0#32
  let v1492 : BitVec 1 := Scalar.cmpi .slt c128_i32_559 c0_i32_563
  let v1493 : BitVec 32 := Scalar.extui v1492
  let v1494 : BitVec 32 := Scalar.subi v1491 v1493
  let v1495 : BitVec 1 := Scalar.cmpi .ne v1489 v1494
  let v1496 : BitVec 32 := Scalar.remsi v1318 c128_i32_559
  let c0_i32_564 : BitVec 32 := 0#32
  let v1497 : BitVec 1 := Scalar.cmpi .ne v1496 c0_i32_564
  let v1498 : BitVec 1 := Scalar.andi v1495 v1497
  let v1484 : BitVec 32 := Scalar.divsi v1318 c128_i32_559
  let c1_i32_565 : BitVec 32 := 1#32
  let v1499 : BitVec 32 := Scalar.subi v1484 c1_i32_565
  let v1500 : BitVec 32 := Scalar.select v1498 v1499 v1484
  let c128_i32_566 : BitVec 32 := 128#32
  let v1501 : BitVec 32 := Scalar.muli v1500 c128_i32_566
  v1501
def k0_mult53 (k0_t2 : Fin k0_t2_loop.trips) : BitVec 32 :=
  let c256_i32_495 : BitVec 32 := 256#32
  let c0_i32_42 : BitVec 32 := 0#32
  let c1_i32_43 : BitVec 32 := 1#32
  let arg17 : BitVec 32 := Scf.iv c0_i32_42 c1_i32_43 k0_t2
  let c16_i32_476 : BitVec 32 := 16#32
  let v1269 : BitVec 32 := Scalar.muli arg17 c16_i32_476
  let c4_i32 : BitVec 32 := 4#32
  let v1270 : BitVec 32 := Scalar.addi v1269 c4_i32
  let v1318 : BitVec 32 := Scalar.addi c256_i32_495 v1270
  let c128_i32_577 : BitVec 32 := 128#32
  let v1533 : BitVec 32 := Scalar.muli v1318 c128_i32_577
  v1533
def k0_mult54 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_584 : BitVec 32 := 16#32
  let v1547 : BitVec 32 := Scalar.muli arg17 c16_i32_584
  let c5_i32 : BitVec 32 := 5#32
  let v1548 : BitVec 32 := Scalar.addi v1547 c5_i32
  let c128_i32_585 : BitVec 32 := 128#32
  let v1549 : BitVec 32 := Scalar.muli v1548 c128_i32_585
  v1549
def k0_mult55 (k0_t2 : Fin k0_t2_loop.trips) : BitVec 32 :=
  let c256_i32_587 : BitVec 32 := 256#32
  let c0_i32_42 : BitVec 32 := 0#32
  let c1_i32_43 : BitVec 32 := 1#32
  let arg17 : BitVec 32 := Scf.iv c0_i32_42 c1_i32_43 k0_t2
  let c16_i32_584 : BitVec 32 := 16#32
  let v1547 : BitVec 32 := Scalar.muli arg17 c16_i32_584
  let c5_i32 : BitVec 32 := 5#32
  let v1548 : BitVec 32 := Scalar.addi v1547 c5_i32
  let v1553 : BitVec 32 := Scalar.addi c256_i32_587 v1548
  let c128_i32_588 : BitVec 32 := 128#32
  let v1554 : BitVec 32 := Scalar.muli v1553 c128_i32_588
  v1554
def k0_mult56 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_584 : BitVec 32 := 16#32
  let v1547 : BitVec 32 := Scalar.muli arg17 c16_i32_584
  let c5_i32 : BitVec 32 := 5#32
  let v1548 : BitVec 32 := Scalar.addi v1547 c5_i32
  let c128_i32_597 : BitVec 32 := 128#32
  let v1576 : BitVec 32 := Scalar.muli v1548 c128_i32_597
  v1576
def k0_mult57 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_584 : BitVec 32 := 16#32
  let v1547 : BitVec 32 := Scalar.muli arg17 c16_i32_584
  let c5_i32 : BitVec 32 := 5#32
  let v1548 : BitVec 32 := Scalar.addi v1547 c5_i32
  let c128_i32_621 : BitVec 32 := 128#32
  let v1644 : BitVec 32 := Scalar.muli v1548 c128_i32_621
  v1644
def k0_mult58 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_584 : BitVec 32 := 16#32
  let v1547 : BitVec 32 := Scalar.muli arg17 c16_i32_584
  let c5_i32 : BitVec 32 := 5#32
  let v1548 : BitVec 32 := Scalar.addi v1547 c5_i32
  let c0_i32_624 : BitVec 32 := 0#32
  let v1649 : BitVec 1 := Scalar.cmpi .sgt v1548 c0_i32_624
  let v1650 : BitVec 32 := Scalar.extui v1649
  let c0_i32_625 : BitVec 32 := 0#32
  let v1651 : BitVec 1 := Scalar.cmpi .slt v1548 c0_i32_625
  let v1652 : BitVec 32 := Scalar.extui v1651
  let v1653 : BitVec 32 := Scalar.subi v1650 v1652
  let c128_i32_623 : BitVec 32 := 128#32
  let c0_i32_626 : BitVec 32 := 0#32
  let v1654 : BitVec 1 := Scalar.cmpi .sgt c128_i32_623 c0_i32_626
  let v1655 : BitVec 32 := Scalar.extui v1654
  let c0_i32_627 : BitVec 32 := 0#32
  let v1656 : BitVec 1 := Scalar.cmpi .slt c128_i32_623 c0_i32_627
  let v1657 : BitVec 32 := Scalar.extui v1656
  let v1658 : BitVec 32 := Scalar.subi v1655 v1657
  let v1659 : BitVec 1 := Scalar.cmpi .ne v1653 v1658
  let v1660 : BitVec 32 := Scalar.remsi v1548 c128_i32_623
  let c0_i32_628 : BitVec 32 := 0#32
  let v1661 : BitVec 1 := Scalar.cmpi .ne v1660 c0_i32_628
  let v1662 : BitVec 1 := Scalar.andi v1659 v1661
  let v1648 : BitVec 32 := Scalar.divsi v1548 c128_i32_623
  let c1_i32_629 : BitVec 32 := 1#32
  let v1663 : BitVec 32 := Scalar.subi v1648 c1_i32_629
  let v1664 : BitVec 32 := Scalar.select v1662 v1663 v1648
  let c128_i32_630 : BitVec 32 := 128#32
  let v1665 : BitVec 32 := Scalar.muli v1664 c128_i32_630
  v1665
def k0_mult59 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_584 : BitVec 32 := 16#32
  let v1547 : BitVec 32 := Scalar.muli arg17 c16_i32_584
  let c5_i32 : BitVec 32 := 5#32
  let v1548 : BitVec 32 := Scalar.addi v1547 c5_i32
  let c128_i32_641 : BitVec 32 := 128#32
  let v1697 : BitVec 32 := Scalar.muli v1548 c128_i32_641
  v1697
def k0_mult60 (k0_t2 : Fin k0_t2_loop.trips) : BitVec 32 :=
  let c256_i32_603 : BitVec 32 := 256#32
  let c0_i32_42 : BitVec 32 := 0#32
  let c1_i32_43 : BitVec 32 := 1#32
  let arg17 : BitVec 32 := Scf.iv c0_i32_42 c1_i32_43 k0_t2
  let c16_i32_584 : BitVec 32 := 16#32
  let v1547 : BitVec 32 := Scalar.muli arg17 c16_i32_584
  let c5_i32 : BitVec 32 := 5#32
  let v1548 : BitVec 32 := Scalar.addi v1547 c5_i32
  let v1596 : BitVec 32 := Scalar.addi c256_i32_603 v1548
  let c128_i32_665 : BitVec 32 := 128#32
  let v1758 : BitVec 32 := Scalar.muli v1596 c128_i32_665
  v1758
def k0_mult61 (k0_t2 : Fin k0_t2_loop.trips) : BitVec 32 :=
  let c256_i32_603 : BitVec 32 := 256#32
  let c0_i32_42 : BitVec 32 := 0#32
  let c1_i32_43 : BitVec 32 := 1#32
  let arg17 : BitVec 32 := Scf.iv c0_i32_42 c1_i32_43 k0_t2
  let c16_i32_584 : BitVec 32 := 16#32
  let v1547 : BitVec 32 := Scalar.muli arg17 c16_i32_584
  let c5_i32 : BitVec 32 := 5#32
  let v1548 : BitVec 32 := Scalar.addi v1547 c5_i32
  let v1596 : BitVec 32 := Scalar.addi c256_i32_603 v1548
  let c0_i32_668 : BitVec 32 := 0#32
  let v1763 : BitVec 1 := Scalar.cmpi .sgt v1596 c0_i32_668
  let v1764 : BitVec 32 := Scalar.extui v1763
  let c0_i32_669 : BitVec 32 := 0#32
  let v1765 : BitVec 1 := Scalar.cmpi .slt v1596 c0_i32_669
  let v1766 : BitVec 32 := Scalar.extui v1765
  let v1767 : BitVec 32 := Scalar.subi v1764 v1766
  let c128_i32_667 : BitVec 32 := 128#32
  let c0_i32_670 : BitVec 32 := 0#32
  let v1768 : BitVec 1 := Scalar.cmpi .sgt c128_i32_667 c0_i32_670
  let v1769 : BitVec 32 := Scalar.extui v1768
  let c0_i32_671 : BitVec 32 := 0#32
  let v1770 : BitVec 1 := Scalar.cmpi .slt c128_i32_667 c0_i32_671
  let v1771 : BitVec 32 := Scalar.extui v1770
  let v1772 : BitVec 32 := Scalar.subi v1769 v1771
  let v1773 : BitVec 1 := Scalar.cmpi .ne v1767 v1772
  let v1774 : BitVec 32 := Scalar.remsi v1596 c128_i32_667
  let c0_i32_672 : BitVec 32 := 0#32
  let v1775 : BitVec 1 := Scalar.cmpi .ne v1774 c0_i32_672
  let v1776 : BitVec 1 := Scalar.andi v1773 v1775
  let v1762 : BitVec 32 := Scalar.divsi v1596 c128_i32_667
  let c1_i32_673 : BitVec 32 := 1#32
  let v1777 : BitVec 32 := Scalar.subi v1762 c1_i32_673
  let v1778 : BitVec 32 := Scalar.select v1776 v1777 v1762
  let c128_i32_674 : BitVec 32 := 128#32
  let v1779 : BitVec 32 := Scalar.muli v1778 c128_i32_674
  v1779
def k0_mult62 (k0_t2 : Fin k0_t2_loop.trips) : BitVec 32 :=
  let c256_i32_603 : BitVec 32 := 256#32
  let c0_i32_42 : BitVec 32 := 0#32
  let c1_i32_43 : BitVec 32 := 1#32
  let arg17 : BitVec 32 := Scf.iv c0_i32_42 c1_i32_43 k0_t2
  let c16_i32_584 : BitVec 32 := 16#32
  let v1547 : BitVec 32 := Scalar.muli arg17 c16_i32_584
  let c5_i32 : BitVec 32 := 5#32
  let v1548 : BitVec 32 := Scalar.addi v1547 c5_i32
  let v1596 : BitVec 32 := Scalar.addi c256_i32_603 v1548
  let c128_i32_685 : BitVec 32 := 128#32
  let v1811 : BitVec 32 := Scalar.muli v1596 c128_i32_685
  v1811
def k0_mult63 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_692 : BitVec 32 := 16#32
  let v1825 : BitVec 32 := Scalar.muli arg17 c16_i32_692
  let c6_i32 : BitVec 32 := 6#32
  let v1826 : BitVec 32 := Scalar.addi v1825 c6_i32
  let c128_i32_693 : BitVec 32 := 128#32
  let v1827 : BitVec 32 := Scalar.muli v1826 c128_i32_693
  v1827
def k0_mult64 (k0_t2 : Fin k0_t2_loop.trips) : BitVec 32 :=
  let c256_i32_695 : BitVec 32 := 256#32
  let c0_i32_42 : BitVec 32 := 0#32
  let c1_i32_43 : BitVec 32 := 1#32
  let arg17 : BitVec 32 := Scf.iv c0_i32_42 c1_i32_43 k0_t2
  let c16_i32_692 : BitVec 32 := 16#32
  let v1825 : BitVec 32 := Scalar.muli arg17 c16_i32_692
  let c6_i32 : BitVec 32 := 6#32
  let v1826 : BitVec 32 := Scalar.addi v1825 c6_i32
  let v1831 : BitVec 32 := Scalar.addi c256_i32_695 v1826
  let c128_i32_696 : BitVec 32 := 128#32
  let v1832 : BitVec 32 := Scalar.muli v1831 c128_i32_696
  v1832
def k0_mult65 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_692 : BitVec 32 := 16#32
  let v1825 : BitVec 32 := Scalar.muli arg17 c16_i32_692
  let c6_i32 : BitVec 32 := 6#32
  let v1826 : BitVec 32 := Scalar.addi v1825 c6_i32
  let c128_i32_705 : BitVec 32 := 128#32
  let v1854 : BitVec 32 := Scalar.muli v1826 c128_i32_705
  v1854
def k0_mult66 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_692 : BitVec 32 := 16#32
  let v1825 : BitVec 32 := Scalar.muli arg17 c16_i32_692
  let c6_i32 : BitVec 32 := 6#32
  let v1826 : BitVec 32 := Scalar.addi v1825 c6_i32
  let c128_i32_729 : BitVec 32 := 128#32
  let v1922 : BitVec 32 := Scalar.muli v1826 c128_i32_729
  v1922
def k0_mult67 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_692 : BitVec 32 := 16#32
  let v1825 : BitVec 32 := Scalar.muli arg17 c16_i32_692
  let c6_i32 : BitVec 32 := 6#32
  let v1826 : BitVec 32 := Scalar.addi v1825 c6_i32
  let c0_i32_732 : BitVec 32 := 0#32
  let v1927 : BitVec 1 := Scalar.cmpi .sgt v1826 c0_i32_732
  let v1928 : BitVec 32 := Scalar.extui v1927
  let c0_i32_733 : BitVec 32 := 0#32
  let v1929 : BitVec 1 := Scalar.cmpi .slt v1826 c0_i32_733
  let v1930 : BitVec 32 := Scalar.extui v1929
  let v1931 : BitVec 32 := Scalar.subi v1928 v1930
  let c128_i32_731 : BitVec 32 := 128#32
  let c0_i32_734 : BitVec 32 := 0#32
  let v1932 : BitVec 1 := Scalar.cmpi .sgt c128_i32_731 c0_i32_734
  let v1933 : BitVec 32 := Scalar.extui v1932
  let c0_i32_735 : BitVec 32 := 0#32
  let v1934 : BitVec 1 := Scalar.cmpi .slt c128_i32_731 c0_i32_735
  let v1935 : BitVec 32 := Scalar.extui v1934
  let v1936 : BitVec 32 := Scalar.subi v1933 v1935
  let v1937 : BitVec 1 := Scalar.cmpi .ne v1931 v1936
  let v1938 : BitVec 32 := Scalar.remsi v1826 c128_i32_731
  let c0_i32_736 : BitVec 32 := 0#32
  let v1939 : BitVec 1 := Scalar.cmpi .ne v1938 c0_i32_736
  let v1940 : BitVec 1 := Scalar.andi v1937 v1939
  let v1926 : BitVec 32 := Scalar.divsi v1826 c128_i32_731
  let c1_i32_737 : BitVec 32 := 1#32
  let v1941 : BitVec 32 := Scalar.subi v1926 c1_i32_737
  let v1942 : BitVec 32 := Scalar.select v1940 v1941 v1926
  let c128_i32_738 : BitVec 32 := 128#32
  let v1943 : BitVec 32 := Scalar.muli v1942 c128_i32_738
  v1943
def k0_mult68 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_692 : BitVec 32 := 16#32
  let v1825 : BitVec 32 := Scalar.muli arg17 c16_i32_692
  let c6_i32 : BitVec 32 := 6#32
  let v1826 : BitVec 32 := Scalar.addi v1825 c6_i32
  let c128_i32_749 : BitVec 32 := 128#32
  let v1975 : BitVec 32 := Scalar.muli v1826 c128_i32_749
  v1975
def k0_mult69 (k0_t2 : Fin k0_t2_loop.trips) : BitVec 32 :=
  let c256_i32_711 : BitVec 32 := 256#32
  let c0_i32_42 : BitVec 32 := 0#32
  let c1_i32_43 : BitVec 32 := 1#32
  let arg17 : BitVec 32 := Scf.iv c0_i32_42 c1_i32_43 k0_t2
  let c16_i32_692 : BitVec 32 := 16#32
  let v1825 : BitVec 32 := Scalar.muli arg17 c16_i32_692
  let c6_i32 : BitVec 32 := 6#32
  let v1826 : BitVec 32 := Scalar.addi v1825 c6_i32
  let v1874 : BitVec 32 := Scalar.addi c256_i32_711 v1826
  let c128_i32_773 : BitVec 32 := 128#32
  let v2036 : BitVec 32 := Scalar.muli v1874 c128_i32_773
  v2036
def k0_mult70 (k0_t2 : Fin k0_t2_loop.trips) : BitVec 32 :=
  let c256_i32_711 : BitVec 32 := 256#32
  let c0_i32_42 : BitVec 32 := 0#32
  let c1_i32_43 : BitVec 32 := 1#32
  let arg17 : BitVec 32 := Scf.iv c0_i32_42 c1_i32_43 k0_t2
  let c16_i32_692 : BitVec 32 := 16#32
  let v1825 : BitVec 32 := Scalar.muli arg17 c16_i32_692
  let c6_i32 : BitVec 32 := 6#32
  let v1826 : BitVec 32 := Scalar.addi v1825 c6_i32
  let v1874 : BitVec 32 := Scalar.addi c256_i32_711 v1826
  let c0_i32_776 : BitVec 32 := 0#32
  let v2041 : BitVec 1 := Scalar.cmpi .sgt v1874 c0_i32_776
  let v2042 : BitVec 32 := Scalar.extui v2041
  let c0_i32_777 : BitVec 32 := 0#32
  let v2043 : BitVec 1 := Scalar.cmpi .slt v1874 c0_i32_777
  let v2044 : BitVec 32 := Scalar.extui v2043
  let v2045 : BitVec 32 := Scalar.subi v2042 v2044
  let c128_i32_775 : BitVec 32 := 128#32
  let c0_i32_778 : BitVec 32 := 0#32
  let v2046 : BitVec 1 := Scalar.cmpi .sgt c128_i32_775 c0_i32_778
  let v2047 : BitVec 32 := Scalar.extui v2046
  let c0_i32_779 : BitVec 32 := 0#32
  let v2048 : BitVec 1 := Scalar.cmpi .slt c128_i32_775 c0_i32_779
  let v2049 : BitVec 32 := Scalar.extui v2048
  let v2050 : BitVec 32 := Scalar.subi v2047 v2049
  let v2051 : BitVec 1 := Scalar.cmpi .ne v2045 v2050
  let v2052 : BitVec 32 := Scalar.remsi v1874 c128_i32_775
  let c0_i32_780 : BitVec 32 := 0#32
  let v2053 : BitVec 1 := Scalar.cmpi .ne v2052 c0_i32_780
  let v2054 : BitVec 1 := Scalar.andi v2051 v2053
  let v2040 : BitVec 32 := Scalar.divsi v1874 c128_i32_775
  let c1_i32_781 : BitVec 32 := 1#32
  let v2055 : BitVec 32 := Scalar.subi v2040 c1_i32_781
  let v2056 : BitVec 32 := Scalar.select v2054 v2055 v2040
  let c128_i32_782 : BitVec 32 := 128#32
  let v2057 : BitVec 32 := Scalar.muli v2056 c128_i32_782
  v2057
def k0_mult71 (k0_t2 : Fin k0_t2_loop.trips) : BitVec 32 :=
  let c256_i32_711 : BitVec 32 := 256#32
  let c0_i32_42 : BitVec 32 := 0#32
  let c1_i32_43 : BitVec 32 := 1#32
  let arg17 : BitVec 32 := Scf.iv c0_i32_42 c1_i32_43 k0_t2
  let c16_i32_692 : BitVec 32 := 16#32
  let v1825 : BitVec 32 := Scalar.muli arg17 c16_i32_692
  let c6_i32 : BitVec 32 := 6#32
  let v1826 : BitVec 32 := Scalar.addi v1825 c6_i32
  let v1874 : BitVec 32 := Scalar.addi c256_i32_711 v1826
  let c128_i32_793 : BitVec 32 := 128#32
  let v2089 : BitVec 32 := Scalar.muli v1874 c128_i32_793
  v2089
def k0_mult72 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_800 : BitVec 32 := 16#32
  let v2103 : BitVec 32 := Scalar.muli arg17 c16_i32_800
  let c7_i32 : BitVec 32 := 7#32
  let v2104 : BitVec 32 := Scalar.addi v2103 c7_i32
  let c128_i32_801 : BitVec 32 := 128#32
  let v2105 : BitVec 32 := Scalar.muli v2104 c128_i32_801
  v2105
def k0_mult73 (k0_t2 : Fin k0_t2_loop.trips) : BitVec 32 :=
  let c256_i32_803 : BitVec 32 := 256#32
  let c0_i32_42 : BitVec 32 := 0#32
  let c1_i32_43 : BitVec 32 := 1#32
  let arg17 : BitVec 32 := Scf.iv c0_i32_42 c1_i32_43 k0_t2
  let c16_i32_800 : BitVec 32 := 16#32
  let v2103 : BitVec 32 := Scalar.muli arg17 c16_i32_800
  let c7_i32 : BitVec 32 := 7#32
  let v2104 : BitVec 32 := Scalar.addi v2103 c7_i32
  let v2109 : BitVec 32 := Scalar.addi c256_i32_803 v2104
  let c128_i32_804 : BitVec 32 := 128#32
  let v2110 : BitVec 32 := Scalar.muli v2109 c128_i32_804
  v2110
def k0_mult74 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_800 : BitVec 32 := 16#32
  let v2103 : BitVec 32 := Scalar.muli arg17 c16_i32_800
  let c7_i32 : BitVec 32 := 7#32
  let v2104 : BitVec 32 := Scalar.addi v2103 c7_i32
  let c128_i32_813 : BitVec 32 := 128#32
  let v2132 : BitVec 32 := Scalar.muli v2104 c128_i32_813
  v2132
def k0_mult75 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_800 : BitVec 32 := 16#32
  let v2103 : BitVec 32 := Scalar.muli arg17 c16_i32_800
  let c7_i32 : BitVec 32 := 7#32
  let v2104 : BitVec 32 := Scalar.addi v2103 c7_i32
  let c128_i32_837 : BitVec 32 := 128#32
  let v2200 : BitVec 32 := Scalar.muli v2104 c128_i32_837
  v2200
def k0_mult76 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_800 : BitVec 32 := 16#32
  let v2103 : BitVec 32 := Scalar.muli arg17 c16_i32_800
  let c7_i32 : BitVec 32 := 7#32
  let v2104 : BitVec 32 := Scalar.addi v2103 c7_i32
  let c0_i32_840 : BitVec 32 := 0#32
  let v2205 : BitVec 1 := Scalar.cmpi .sgt v2104 c0_i32_840
  let v2206 : BitVec 32 := Scalar.extui v2205
  let c0_i32_841 : BitVec 32 := 0#32
  let v2207 : BitVec 1 := Scalar.cmpi .slt v2104 c0_i32_841
  let v2208 : BitVec 32 := Scalar.extui v2207
  let v2209 : BitVec 32 := Scalar.subi v2206 v2208
  let c128_i32_839 : BitVec 32 := 128#32
  let c0_i32_842 : BitVec 32 := 0#32
  let v2210 : BitVec 1 := Scalar.cmpi .sgt c128_i32_839 c0_i32_842
  let v2211 : BitVec 32 := Scalar.extui v2210
  let c0_i32_843 : BitVec 32 := 0#32
  let v2212 : BitVec 1 := Scalar.cmpi .slt c128_i32_839 c0_i32_843
  let v2213 : BitVec 32 := Scalar.extui v2212
  let v2214 : BitVec 32 := Scalar.subi v2211 v2213
  let v2215 : BitVec 1 := Scalar.cmpi .ne v2209 v2214
  let v2216 : BitVec 32 := Scalar.remsi v2104 c128_i32_839
  let c0_i32_844 : BitVec 32 := 0#32
  let v2217 : BitVec 1 := Scalar.cmpi .ne v2216 c0_i32_844
  let v2218 : BitVec 1 := Scalar.andi v2215 v2217
  let v2204 : BitVec 32 := Scalar.divsi v2104 c128_i32_839
  let c1_i32_845 : BitVec 32 := 1#32
  let v2219 : BitVec 32 := Scalar.subi v2204 c1_i32_845
  let v2220 : BitVec 32 := Scalar.select v2218 v2219 v2204
  let c128_i32_846 : BitVec 32 := 128#32
  let v2221 : BitVec 32 := Scalar.muli v2220 c128_i32_846
  v2221
def k0_mult77 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_800 : BitVec 32 := 16#32
  let v2103 : BitVec 32 := Scalar.muli arg17 c16_i32_800
  let c7_i32 : BitVec 32 := 7#32
  let v2104 : BitVec 32 := Scalar.addi v2103 c7_i32
  let c128_i32_857 : BitVec 32 := 128#32
  let v2253 : BitVec 32 := Scalar.muli v2104 c128_i32_857
  v2253
def k0_mult78 (k0_t2 : Fin k0_t2_loop.trips) : BitVec 32 :=
  let c256_i32_819 : BitVec 32 := 256#32
  let c0_i32_42 : BitVec 32 := 0#32
  let c1_i32_43 : BitVec 32 := 1#32
  let arg17 : BitVec 32 := Scf.iv c0_i32_42 c1_i32_43 k0_t2
  let c16_i32_800 : BitVec 32 := 16#32
  let v2103 : BitVec 32 := Scalar.muli arg17 c16_i32_800
  let c7_i32 : BitVec 32 := 7#32
  let v2104 : BitVec 32 := Scalar.addi v2103 c7_i32
  let v2152 : BitVec 32 := Scalar.addi c256_i32_819 v2104
  let c128_i32_881 : BitVec 32 := 128#32
  let v2314 : BitVec 32 := Scalar.muli v2152 c128_i32_881
  v2314
def k0_mult79 (k0_t2 : Fin k0_t2_loop.trips) : BitVec 32 :=
  let c256_i32_819 : BitVec 32 := 256#32
  let c0_i32_42 : BitVec 32 := 0#32
  let c1_i32_43 : BitVec 32 := 1#32
  let arg17 : BitVec 32 := Scf.iv c0_i32_42 c1_i32_43 k0_t2
  let c16_i32_800 : BitVec 32 := 16#32
  let v2103 : BitVec 32 := Scalar.muli arg17 c16_i32_800
  let c7_i32 : BitVec 32 := 7#32
  let v2104 : BitVec 32 := Scalar.addi v2103 c7_i32
  let v2152 : BitVec 32 := Scalar.addi c256_i32_819 v2104
  let c0_i32_884 : BitVec 32 := 0#32
  let v2319 : BitVec 1 := Scalar.cmpi .sgt v2152 c0_i32_884
  let v2320 : BitVec 32 := Scalar.extui v2319
  let c0_i32_885 : BitVec 32 := 0#32
  let v2321 : BitVec 1 := Scalar.cmpi .slt v2152 c0_i32_885
  let v2322 : BitVec 32 := Scalar.extui v2321
  let v2323 : BitVec 32 := Scalar.subi v2320 v2322
  let c128_i32_883 : BitVec 32 := 128#32
  let c0_i32_886 : BitVec 32 := 0#32
  let v2324 : BitVec 1 := Scalar.cmpi .sgt c128_i32_883 c0_i32_886
  let v2325 : BitVec 32 := Scalar.extui v2324
  let c0_i32_887 : BitVec 32 := 0#32
  let v2326 : BitVec 1 := Scalar.cmpi .slt c128_i32_883 c0_i32_887
  let v2327 : BitVec 32 := Scalar.extui v2326
  let v2328 : BitVec 32 := Scalar.subi v2325 v2327
  let v2329 : BitVec 1 := Scalar.cmpi .ne v2323 v2328
  let v2330 : BitVec 32 := Scalar.remsi v2152 c128_i32_883
  let c0_i32_888 : BitVec 32 := 0#32
  let v2331 : BitVec 1 := Scalar.cmpi .ne v2330 c0_i32_888
  let v2332 : BitVec 1 := Scalar.andi v2329 v2331
  let v2318 : BitVec 32 := Scalar.divsi v2152 c128_i32_883
  let c1_i32_889 : BitVec 32 := 1#32
  let v2333 : BitVec 32 := Scalar.subi v2318 c1_i32_889
  let v2334 : BitVec 32 := Scalar.select v2332 v2333 v2318
  let c128_i32_890 : BitVec 32 := 128#32
  let v2335 : BitVec 32 := Scalar.muli v2334 c128_i32_890
  v2335
def k0_mult80 (k0_t2 : Fin k0_t2_loop.trips) : BitVec 32 :=
  let c256_i32_819 : BitVec 32 := 256#32
  let c0_i32_42 : BitVec 32 := 0#32
  let c1_i32_43 : BitVec 32 := 1#32
  let arg17 : BitVec 32 := Scf.iv c0_i32_42 c1_i32_43 k0_t2
  let c16_i32_800 : BitVec 32 := 16#32
  let v2103 : BitVec 32 := Scalar.muli arg17 c16_i32_800
  let c7_i32 : BitVec 32 := 7#32
  let v2104 : BitVec 32 := Scalar.addi v2103 c7_i32
  let v2152 : BitVec 32 := Scalar.addi c256_i32_819 v2104
  let c128_i32_901 : BitVec 32 := 128#32
  let v2367 : BitVec 32 := Scalar.muli v2152 c128_i32_901
  v2367
def k0_mult81 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_908 : BitVec 32 := 16#32
  let v2381 : BitVec 32 := Scalar.muli arg17 c16_i32_908
  let c8_i32 : BitVec 32 := 8#32
  let v2382 : BitVec 32 := Scalar.addi v2381 c8_i32
  let c128_i32_909 : BitVec 32 := 128#32
  let v2383 : BitVec 32 := Scalar.muli v2382 c128_i32_909
  v2383
def k0_mult82 (k0_t2 : Fin k0_t2_loop.trips) : BitVec 32 :=
  let c256_i32_911 : BitVec 32 := 256#32
  let c0_i32_42 : BitVec 32 := 0#32
  let c1_i32_43 : BitVec 32 := 1#32
  let arg17 : BitVec 32 := Scf.iv c0_i32_42 c1_i32_43 k0_t2
  let c16_i32_908 : BitVec 32 := 16#32
  let v2381 : BitVec 32 := Scalar.muli arg17 c16_i32_908
  let c8_i32 : BitVec 32 := 8#32
  let v2382 : BitVec 32 := Scalar.addi v2381 c8_i32
  let v2387 : BitVec 32 := Scalar.addi c256_i32_911 v2382
  let c128_i32_912 : BitVec 32 := 128#32
  let v2388 : BitVec 32 := Scalar.muli v2387 c128_i32_912
  v2388
def k0_mult83 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_908 : BitVec 32 := 16#32
  let v2381 : BitVec 32 := Scalar.muli arg17 c16_i32_908
  let c8_i32 : BitVec 32 := 8#32
  let v2382 : BitVec 32 := Scalar.addi v2381 c8_i32
  let c128_i32_921 : BitVec 32 := 128#32
  let v2410 : BitVec 32 := Scalar.muli v2382 c128_i32_921
  v2410
def k0_mult84 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_908 : BitVec 32 := 16#32
  let v2381 : BitVec 32 := Scalar.muli arg17 c16_i32_908
  let c8_i32 : BitVec 32 := 8#32
  let v2382 : BitVec 32 := Scalar.addi v2381 c8_i32
  let c128_i32_945 : BitVec 32 := 128#32
  let v2478 : BitVec 32 := Scalar.muli v2382 c128_i32_945
  v2478
def k0_mult85 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_908 : BitVec 32 := 16#32
  let v2381 : BitVec 32 := Scalar.muli arg17 c16_i32_908
  let c8_i32 : BitVec 32 := 8#32
  let v2382 : BitVec 32 := Scalar.addi v2381 c8_i32
  let c0_i32_948 : BitVec 32 := 0#32
  let v2483 : BitVec 1 := Scalar.cmpi .sgt v2382 c0_i32_948
  let v2484 : BitVec 32 := Scalar.extui v2483
  let c0_i32_949 : BitVec 32 := 0#32
  let v2485 : BitVec 1 := Scalar.cmpi .slt v2382 c0_i32_949
  let v2486 : BitVec 32 := Scalar.extui v2485
  let v2487 : BitVec 32 := Scalar.subi v2484 v2486
  let c128_i32_947 : BitVec 32 := 128#32
  let c0_i32_950 : BitVec 32 := 0#32
  let v2488 : BitVec 1 := Scalar.cmpi .sgt c128_i32_947 c0_i32_950
  let v2489 : BitVec 32 := Scalar.extui v2488
  let c0_i32_951 : BitVec 32 := 0#32
  let v2490 : BitVec 1 := Scalar.cmpi .slt c128_i32_947 c0_i32_951
  let v2491 : BitVec 32 := Scalar.extui v2490
  let v2492 : BitVec 32 := Scalar.subi v2489 v2491
  let v2493 : BitVec 1 := Scalar.cmpi .ne v2487 v2492
  let v2494 : BitVec 32 := Scalar.remsi v2382 c128_i32_947
  let c0_i32_952 : BitVec 32 := 0#32
  let v2495 : BitVec 1 := Scalar.cmpi .ne v2494 c0_i32_952
  let v2496 : BitVec 1 := Scalar.andi v2493 v2495
  let v2482 : BitVec 32 := Scalar.divsi v2382 c128_i32_947
  let c1_i32_953 : BitVec 32 := 1#32
  let v2497 : BitVec 32 := Scalar.subi v2482 c1_i32_953
  let v2498 : BitVec 32 := Scalar.select v2496 v2497 v2482
  let c128_i32_954 : BitVec 32 := 128#32
  let v2499 : BitVec 32 := Scalar.muli v2498 c128_i32_954
  v2499
def k0_mult86 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_908 : BitVec 32 := 16#32
  let v2381 : BitVec 32 := Scalar.muli arg17 c16_i32_908
  let c8_i32 : BitVec 32 := 8#32
  let v2382 : BitVec 32 := Scalar.addi v2381 c8_i32
  let c128_i32_965 : BitVec 32 := 128#32
  let v2531 : BitVec 32 := Scalar.muli v2382 c128_i32_965
  v2531
def k0_mult87 (k0_t2 : Fin k0_t2_loop.trips) : BitVec 32 :=
  let c256_i32_927 : BitVec 32 := 256#32
  let c0_i32_42 : BitVec 32 := 0#32
  let c1_i32_43 : BitVec 32 := 1#32
  let arg17 : BitVec 32 := Scf.iv c0_i32_42 c1_i32_43 k0_t2
  let c16_i32_908 : BitVec 32 := 16#32
  let v2381 : BitVec 32 := Scalar.muli arg17 c16_i32_908
  let c8_i32 : BitVec 32 := 8#32
  let v2382 : BitVec 32 := Scalar.addi v2381 c8_i32
  let v2430 : BitVec 32 := Scalar.addi c256_i32_927 v2382
  let c128_i32_989 : BitVec 32 := 128#32
  let v2592 : BitVec 32 := Scalar.muli v2430 c128_i32_989
  v2592
def k0_mult88 (k0_t2 : Fin k0_t2_loop.trips) : BitVec 32 :=
  let c256_i32_927 : BitVec 32 := 256#32
  let c0_i32_42 : BitVec 32 := 0#32
  let c1_i32_43 : BitVec 32 := 1#32
  let arg17 : BitVec 32 := Scf.iv c0_i32_42 c1_i32_43 k0_t2
  let c16_i32_908 : BitVec 32 := 16#32
  let v2381 : BitVec 32 := Scalar.muli arg17 c16_i32_908
  let c8_i32 : BitVec 32 := 8#32
  let v2382 : BitVec 32 := Scalar.addi v2381 c8_i32
  let v2430 : BitVec 32 := Scalar.addi c256_i32_927 v2382
  let c0_i32_992 : BitVec 32 := 0#32
  let v2597 : BitVec 1 := Scalar.cmpi .sgt v2430 c0_i32_992
  let v2598 : BitVec 32 := Scalar.extui v2597
  let c0_i32_993 : BitVec 32 := 0#32
  let v2599 : BitVec 1 := Scalar.cmpi .slt v2430 c0_i32_993
  let v2600 : BitVec 32 := Scalar.extui v2599
  let v2601 : BitVec 32 := Scalar.subi v2598 v2600
  let c128_i32_991 : BitVec 32 := 128#32
  let c0_i32_994 : BitVec 32 := 0#32
  let v2602 : BitVec 1 := Scalar.cmpi .sgt c128_i32_991 c0_i32_994
  let v2603 : BitVec 32 := Scalar.extui v2602
  let c0_i32_995 : BitVec 32 := 0#32
  let v2604 : BitVec 1 := Scalar.cmpi .slt c128_i32_991 c0_i32_995
  let v2605 : BitVec 32 := Scalar.extui v2604
  let v2606 : BitVec 32 := Scalar.subi v2603 v2605
  let v2607 : BitVec 1 := Scalar.cmpi .ne v2601 v2606
  let v2608 : BitVec 32 := Scalar.remsi v2430 c128_i32_991
  let c0_i32_996 : BitVec 32 := 0#32
  let v2609 : BitVec 1 := Scalar.cmpi .ne v2608 c0_i32_996
  let v2610 : BitVec 1 := Scalar.andi v2607 v2609
  let v2596 : BitVec 32 := Scalar.divsi v2430 c128_i32_991
  let c1_i32_997 : BitVec 32 := 1#32
  let v2611 : BitVec 32 := Scalar.subi v2596 c1_i32_997
  let v2612 : BitVec 32 := Scalar.select v2610 v2611 v2596
  let c128_i32_998 : BitVec 32 := 128#32
  let v2613 : BitVec 32 := Scalar.muli v2612 c128_i32_998
  v2613
def k0_mult89 (k0_t2 : Fin k0_t2_loop.trips) : BitVec 32 :=
  let c256_i32_927 : BitVec 32 := 256#32
  let c0_i32_42 : BitVec 32 := 0#32
  let c1_i32_43 : BitVec 32 := 1#32
  let arg17 : BitVec 32 := Scf.iv c0_i32_42 c1_i32_43 k0_t2
  let c16_i32_908 : BitVec 32 := 16#32
  let v2381 : BitVec 32 := Scalar.muli arg17 c16_i32_908
  let c8_i32 : BitVec 32 := 8#32
  let v2382 : BitVec 32 := Scalar.addi v2381 c8_i32
  let v2430 : BitVec 32 := Scalar.addi c256_i32_927 v2382
  let c128_i32_1009 : BitVec 32 := 128#32
  let v2645 : BitVec 32 := Scalar.muli v2430 c128_i32_1009
  v2645
def k0_mult90 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_1016 : BitVec 32 := 16#32
  let v2659 : BitVec 32 := Scalar.muli arg17 c16_i32_1016
  let c9_i32 : BitVec 32 := 9#32
  let v2660 : BitVec 32 := Scalar.addi v2659 c9_i32
  let c128_i32_1017 : BitVec 32 := 128#32
  let v2661 : BitVec 32 := Scalar.muli v2660 c128_i32_1017
  v2661
def k0_mult91 (k0_t2 : Fin k0_t2_loop.trips) : BitVec 32 :=
  let c256_i32_1019 : BitVec 32 := 256#32
  let c0_i32_42 : BitVec 32 := 0#32
  let c1_i32_43 : BitVec 32 := 1#32
  let arg17 : BitVec 32 := Scf.iv c0_i32_42 c1_i32_43 k0_t2
  let c16_i32_1016 : BitVec 32 := 16#32
  let v2659 : BitVec 32 := Scalar.muli arg17 c16_i32_1016
  let c9_i32 : BitVec 32 := 9#32
  let v2660 : BitVec 32 := Scalar.addi v2659 c9_i32
  let v2665 : BitVec 32 := Scalar.addi c256_i32_1019 v2660
  let c128_i32_1020 : BitVec 32 := 128#32
  let v2666 : BitVec 32 := Scalar.muli v2665 c128_i32_1020
  v2666
def k0_mult92 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_1016 : BitVec 32 := 16#32
  let v2659 : BitVec 32 := Scalar.muli arg17 c16_i32_1016
  let c9_i32 : BitVec 32 := 9#32
  let v2660 : BitVec 32 := Scalar.addi v2659 c9_i32
  let c128_i32_1029 : BitVec 32 := 128#32
  let v2688 : BitVec 32 := Scalar.muli v2660 c128_i32_1029
  v2688
def k0_mult93 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_1016 : BitVec 32 := 16#32
  let v2659 : BitVec 32 := Scalar.muli arg17 c16_i32_1016
  let c9_i32 : BitVec 32 := 9#32
  let v2660 : BitVec 32 := Scalar.addi v2659 c9_i32
  let c128_i32_1053 : BitVec 32 := 128#32
  let v2756 : BitVec 32 := Scalar.muli v2660 c128_i32_1053
  v2756
def k0_mult94 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_1016 : BitVec 32 := 16#32
  let v2659 : BitVec 32 := Scalar.muli arg17 c16_i32_1016
  let c9_i32 : BitVec 32 := 9#32
  let v2660 : BitVec 32 := Scalar.addi v2659 c9_i32
  let c0_i32_1056 : BitVec 32 := 0#32
  let v2761 : BitVec 1 := Scalar.cmpi .sgt v2660 c0_i32_1056
  let v2762 : BitVec 32 := Scalar.extui v2761
  let c0_i32_1057 : BitVec 32 := 0#32
  let v2763 : BitVec 1 := Scalar.cmpi .slt v2660 c0_i32_1057
  let v2764 : BitVec 32 := Scalar.extui v2763
  let v2765 : BitVec 32 := Scalar.subi v2762 v2764
  let c128_i32_1055 : BitVec 32 := 128#32
  let c0_i32_1058 : BitVec 32 := 0#32
  let v2766 : BitVec 1 := Scalar.cmpi .sgt c128_i32_1055 c0_i32_1058
  let v2767 : BitVec 32 := Scalar.extui v2766
  let c0_i32_1059 : BitVec 32 := 0#32
  let v2768 : BitVec 1 := Scalar.cmpi .slt c128_i32_1055 c0_i32_1059
  let v2769 : BitVec 32 := Scalar.extui v2768
  let v2770 : BitVec 32 := Scalar.subi v2767 v2769
  let v2771 : BitVec 1 := Scalar.cmpi .ne v2765 v2770
  let v2772 : BitVec 32 := Scalar.remsi v2660 c128_i32_1055
  let c0_i32_1060 : BitVec 32 := 0#32
  let v2773 : BitVec 1 := Scalar.cmpi .ne v2772 c0_i32_1060
  let v2774 : BitVec 1 := Scalar.andi v2771 v2773
  let v2760 : BitVec 32 := Scalar.divsi v2660 c128_i32_1055
  let c1_i32_1061 : BitVec 32 := 1#32
  let v2775 : BitVec 32 := Scalar.subi v2760 c1_i32_1061
  let v2776 : BitVec 32 := Scalar.select v2774 v2775 v2760
  let c128_i32_1062 : BitVec 32 := 128#32
  let v2777 : BitVec 32 := Scalar.muli v2776 c128_i32_1062
  v2777
def k0_mult95 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_1016 : BitVec 32 := 16#32
  let v2659 : BitVec 32 := Scalar.muli arg17 c16_i32_1016
  let c9_i32 : BitVec 32 := 9#32
  let v2660 : BitVec 32 := Scalar.addi v2659 c9_i32
  let c128_i32_1073 : BitVec 32 := 128#32
  let v2809 : BitVec 32 := Scalar.muli v2660 c128_i32_1073
  v2809
def k0_mult96 (k0_t2 : Fin k0_t2_loop.trips) : BitVec 32 :=
  let c256_i32_1035 : BitVec 32 := 256#32
  let c0_i32_42 : BitVec 32 := 0#32
  let c1_i32_43 : BitVec 32 := 1#32
  let arg17 : BitVec 32 := Scf.iv c0_i32_42 c1_i32_43 k0_t2
  let c16_i32_1016 : BitVec 32 := 16#32
  let v2659 : BitVec 32 := Scalar.muli arg17 c16_i32_1016
  let c9_i32 : BitVec 32 := 9#32
  let v2660 : BitVec 32 := Scalar.addi v2659 c9_i32
  let v2708 : BitVec 32 := Scalar.addi c256_i32_1035 v2660
  let c128_i32_1097 : BitVec 32 := 128#32
  let v2870 : BitVec 32 := Scalar.muli v2708 c128_i32_1097
  v2870
def k0_mult97 (k0_t2 : Fin k0_t2_loop.trips) : BitVec 32 :=
  let c256_i32_1035 : BitVec 32 := 256#32
  let c0_i32_42 : BitVec 32 := 0#32
  let c1_i32_43 : BitVec 32 := 1#32
  let arg17 : BitVec 32 := Scf.iv c0_i32_42 c1_i32_43 k0_t2
  let c16_i32_1016 : BitVec 32 := 16#32
  let v2659 : BitVec 32 := Scalar.muli arg17 c16_i32_1016
  let c9_i32 : BitVec 32 := 9#32
  let v2660 : BitVec 32 := Scalar.addi v2659 c9_i32
  let v2708 : BitVec 32 := Scalar.addi c256_i32_1035 v2660
  let c0_i32_1100 : BitVec 32 := 0#32
  let v2875 : BitVec 1 := Scalar.cmpi .sgt v2708 c0_i32_1100
  let v2876 : BitVec 32 := Scalar.extui v2875
  let c0_i32_1101 : BitVec 32 := 0#32
  let v2877 : BitVec 1 := Scalar.cmpi .slt v2708 c0_i32_1101
  let v2878 : BitVec 32 := Scalar.extui v2877
  let v2879 : BitVec 32 := Scalar.subi v2876 v2878
  let c128_i32_1099 : BitVec 32 := 128#32
  let c0_i32_1102 : BitVec 32 := 0#32
  let v2880 : BitVec 1 := Scalar.cmpi .sgt c128_i32_1099 c0_i32_1102
  let v2881 : BitVec 32 := Scalar.extui v2880
  let c0_i32_1103 : BitVec 32 := 0#32
  let v2882 : BitVec 1 := Scalar.cmpi .slt c128_i32_1099 c0_i32_1103
  let v2883 : BitVec 32 := Scalar.extui v2882
  let v2884 : BitVec 32 := Scalar.subi v2881 v2883
  let v2885 : BitVec 1 := Scalar.cmpi .ne v2879 v2884
  let v2886 : BitVec 32 := Scalar.remsi v2708 c128_i32_1099
  let c0_i32_1104 : BitVec 32 := 0#32
  let v2887 : BitVec 1 := Scalar.cmpi .ne v2886 c0_i32_1104
  let v2888 : BitVec 1 := Scalar.andi v2885 v2887
  let v2874 : BitVec 32 := Scalar.divsi v2708 c128_i32_1099
  let c1_i32_1105 : BitVec 32 := 1#32
  let v2889 : BitVec 32 := Scalar.subi v2874 c1_i32_1105
  let v2890 : BitVec 32 := Scalar.select v2888 v2889 v2874
  let c128_i32_1106 : BitVec 32 := 128#32
  let v2891 : BitVec 32 := Scalar.muli v2890 c128_i32_1106
  v2891
def k0_mult98 (k0_t2 : Fin k0_t2_loop.trips) : BitVec 32 :=
  let c256_i32_1035 : BitVec 32 := 256#32
  let c0_i32_42 : BitVec 32 := 0#32
  let c1_i32_43 : BitVec 32 := 1#32
  let arg17 : BitVec 32 := Scf.iv c0_i32_42 c1_i32_43 k0_t2
  let c16_i32_1016 : BitVec 32 := 16#32
  let v2659 : BitVec 32 := Scalar.muli arg17 c16_i32_1016
  let c9_i32 : BitVec 32 := 9#32
  let v2660 : BitVec 32 := Scalar.addi v2659 c9_i32
  let v2708 : BitVec 32 := Scalar.addi c256_i32_1035 v2660
  let c128_i32_1117 : BitVec 32 := 128#32
  let v2923 : BitVec 32 := Scalar.muli v2708 c128_i32_1117
  v2923
def k0_mult99 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_1124 : BitVec 32 := 16#32
  let v2937 : BitVec 32 := Scalar.muli arg17 c16_i32_1124
  let c10_i32 : BitVec 32 := 10#32
  let v2938 : BitVec 32 := Scalar.addi v2937 c10_i32
  let c128_i32_1125 : BitVec 32 := 128#32
  let v2939 : BitVec 32 := Scalar.muli v2938 c128_i32_1125
  v2939
def k0_mult100 (k0_t2 : Fin k0_t2_loop.trips) : BitVec 32 :=
  let c256_i32_1127 : BitVec 32 := 256#32
  let c0_i32_42 : BitVec 32 := 0#32
  let c1_i32_43 : BitVec 32 := 1#32
  let arg17 : BitVec 32 := Scf.iv c0_i32_42 c1_i32_43 k0_t2
  let c16_i32_1124 : BitVec 32 := 16#32
  let v2937 : BitVec 32 := Scalar.muli arg17 c16_i32_1124
  let c10_i32 : BitVec 32 := 10#32
  let v2938 : BitVec 32 := Scalar.addi v2937 c10_i32
  let v2943 : BitVec 32 := Scalar.addi c256_i32_1127 v2938
  let c128_i32_1128 : BitVec 32 := 128#32
  let v2944 : BitVec 32 := Scalar.muli v2943 c128_i32_1128
  v2944
def k0_mult101 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_1124 : BitVec 32 := 16#32
  let v2937 : BitVec 32 := Scalar.muli arg17 c16_i32_1124
  let c10_i32 : BitVec 32 := 10#32
  let v2938 : BitVec 32 := Scalar.addi v2937 c10_i32
  let c128_i32_1137 : BitVec 32 := 128#32
  let v2966 : BitVec 32 := Scalar.muli v2938 c128_i32_1137
  v2966
def k0_mult102 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_1124 : BitVec 32 := 16#32
  let v2937 : BitVec 32 := Scalar.muli arg17 c16_i32_1124
  let c10_i32 : BitVec 32 := 10#32
  let v2938 : BitVec 32 := Scalar.addi v2937 c10_i32
  let c128_i32_1161 : BitVec 32 := 128#32
  let v3034 : BitVec 32 := Scalar.muli v2938 c128_i32_1161
  v3034
def k0_mult103 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_1124 : BitVec 32 := 16#32
  let v2937 : BitVec 32 := Scalar.muli arg17 c16_i32_1124
  let c10_i32 : BitVec 32 := 10#32
  let v2938 : BitVec 32 := Scalar.addi v2937 c10_i32
  let c0_i32_1164 : BitVec 32 := 0#32
  let v3039 : BitVec 1 := Scalar.cmpi .sgt v2938 c0_i32_1164
  let v3040 : BitVec 32 := Scalar.extui v3039
  let c0_i32_1165 : BitVec 32 := 0#32
  let v3041 : BitVec 1 := Scalar.cmpi .slt v2938 c0_i32_1165
  let v3042 : BitVec 32 := Scalar.extui v3041
  let v3043 : BitVec 32 := Scalar.subi v3040 v3042
  let c128_i32_1163 : BitVec 32 := 128#32
  let c0_i32_1166 : BitVec 32 := 0#32
  let v3044 : BitVec 1 := Scalar.cmpi .sgt c128_i32_1163 c0_i32_1166
  let v3045 : BitVec 32 := Scalar.extui v3044
  let c0_i32_1167 : BitVec 32 := 0#32
  let v3046 : BitVec 1 := Scalar.cmpi .slt c128_i32_1163 c0_i32_1167
  let v3047 : BitVec 32 := Scalar.extui v3046
  let v3048 : BitVec 32 := Scalar.subi v3045 v3047
  let v3049 : BitVec 1 := Scalar.cmpi .ne v3043 v3048
  let v3050 : BitVec 32 := Scalar.remsi v2938 c128_i32_1163
  let c0_i32_1168 : BitVec 32 := 0#32
  let v3051 : BitVec 1 := Scalar.cmpi .ne v3050 c0_i32_1168
  let v3052 : BitVec 1 := Scalar.andi v3049 v3051
  let v3038 : BitVec 32 := Scalar.divsi v2938 c128_i32_1163
  let c1_i32_1169 : BitVec 32 := 1#32
  let v3053 : BitVec 32 := Scalar.subi v3038 c1_i32_1169
  let v3054 : BitVec 32 := Scalar.select v3052 v3053 v3038
  let c128_i32_1170 : BitVec 32 := 128#32
  let v3055 : BitVec 32 := Scalar.muli v3054 c128_i32_1170
  v3055
def k0_mult104 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_1124 : BitVec 32 := 16#32
  let v2937 : BitVec 32 := Scalar.muli arg17 c16_i32_1124
  let c10_i32 : BitVec 32 := 10#32
  let v2938 : BitVec 32 := Scalar.addi v2937 c10_i32
  let c128_i32_1181 : BitVec 32 := 128#32
  let v3087 : BitVec 32 := Scalar.muli v2938 c128_i32_1181
  v3087
def k0_mult105 (k0_t2 : Fin k0_t2_loop.trips) : BitVec 32 :=
  let c256_i32_1143 : BitVec 32 := 256#32
  let c0_i32_42 : BitVec 32 := 0#32
  let c1_i32_43 : BitVec 32 := 1#32
  let arg17 : BitVec 32 := Scf.iv c0_i32_42 c1_i32_43 k0_t2
  let c16_i32_1124 : BitVec 32 := 16#32
  let v2937 : BitVec 32 := Scalar.muli arg17 c16_i32_1124
  let c10_i32 : BitVec 32 := 10#32
  let v2938 : BitVec 32 := Scalar.addi v2937 c10_i32
  let v2986 : BitVec 32 := Scalar.addi c256_i32_1143 v2938
  let c128_i32_1205 : BitVec 32 := 128#32
  let v3148 : BitVec 32 := Scalar.muli v2986 c128_i32_1205
  v3148
def k0_mult106 (k0_t2 : Fin k0_t2_loop.trips) : BitVec 32 :=
  let c256_i32_1143 : BitVec 32 := 256#32
  let c0_i32_42 : BitVec 32 := 0#32
  let c1_i32_43 : BitVec 32 := 1#32
  let arg17 : BitVec 32 := Scf.iv c0_i32_42 c1_i32_43 k0_t2
  let c16_i32_1124 : BitVec 32 := 16#32
  let v2937 : BitVec 32 := Scalar.muli arg17 c16_i32_1124
  let c10_i32 : BitVec 32 := 10#32
  let v2938 : BitVec 32 := Scalar.addi v2937 c10_i32
  let v2986 : BitVec 32 := Scalar.addi c256_i32_1143 v2938
  let c0_i32_1208 : BitVec 32 := 0#32
  let v3153 : BitVec 1 := Scalar.cmpi .sgt v2986 c0_i32_1208
  let v3154 : BitVec 32 := Scalar.extui v3153
  let c0_i32_1209 : BitVec 32 := 0#32
  let v3155 : BitVec 1 := Scalar.cmpi .slt v2986 c0_i32_1209
  let v3156 : BitVec 32 := Scalar.extui v3155
  let v3157 : BitVec 32 := Scalar.subi v3154 v3156
  let c128_i32_1207 : BitVec 32 := 128#32
  let c0_i32_1210 : BitVec 32 := 0#32
  let v3158 : BitVec 1 := Scalar.cmpi .sgt c128_i32_1207 c0_i32_1210
  let v3159 : BitVec 32 := Scalar.extui v3158
  let c0_i32_1211 : BitVec 32 := 0#32
  let v3160 : BitVec 1 := Scalar.cmpi .slt c128_i32_1207 c0_i32_1211
  let v3161 : BitVec 32 := Scalar.extui v3160
  let v3162 : BitVec 32 := Scalar.subi v3159 v3161
  let v3163 : BitVec 1 := Scalar.cmpi .ne v3157 v3162
  let v3164 : BitVec 32 := Scalar.remsi v2986 c128_i32_1207
  let c0_i32_1212 : BitVec 32 := 0#32
  let v3165 : BitVec 1 := Scalar.cmpi .ne v3164 c0_i32_1212
  let v3166 : BitVec 1 := Scalar.andi v3163 v3165
  let v3152 : BitVec 32 := Scalar.divsi v2986 c128_i32_1207
  let c1_i32_1213 : BitVec 32 := 1#32
  let v3167 : BitVec 32 := Scalar.subi v3152 c1_i32_1213
  let v3168 : BitVec 32 := Scalar.select v3166 v3167 v3152
  let c128_i32_1214 : BitVec 32 := 128#32
  let v3169 : BitVec 32 := Scalar.muli v3168 c128_i32_1214
  v3169
def k0_mult107 (k0_t2 : Fin k0_t2_loop.trips) : BitVec 32 :=
  let c256_i32_1143 : BitVec 32 := 256#32
  let c0_i32_42 : BitVec 32 := 0#32
  let c1_i32_43 : BitVec 32 := 1#32
  let arg17 : BitVec 32 := Scf.iv c0_i32_42 c1_i32_43 k0_t2
  let c16_i32_1124 : BitVec 32 := 16#32
  let v2937 : BitVec 32 := Scalar.muli arg17 c16_i32_1124
  let c10_i32 : BitVec 32 := 10#32
  let v2938 : BitVec 32 := Scalar.addi v2937 c10_i32
  let v2986 : BitVec 32 := Scalar.addi c256_i32_1143 v2938
  let c128_i32_1225 : BitVec 32 := 128#32
  let v3201 : BitVec 32 := Scalar.muli v2986 c128_i32_1225
  v3201
def k0_mult108 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_1232 : BitVec 32 := 16#32
  let v3215 : BitVec 32 := Scalar.muli arg17 c16_i32_1232
  let c11_i32 : BitVec 32 := 11#32
  let v3216 : BitVec 32 := Scalar.addi v3215 c11_i32
  let c128_i32_1233 : BitVec 32 := 128#32
  let v3217 : BitVec 32 := Scalar.muli v3216 c128_i32_1233
  v3217
def k0_mult109 (k0_t2 : Fin k0_t2_loop.trips) : BitVec 32 :=
  let c256_i32_1235 : BitVec 32 := 256#32
  let c0_i32_42 : BitVec 32 := 0#32
  let c1_i32_43 : BitVec 32 := 1#32
  let arg17 : BitVec 32 := Scf.iv c0_i32_42 c1_i32_43 k0_t2
  let c16_i32_1232 : BitVec 32 := 16#32
  let v3215 : BitVec 32 := Scalar.muli arg17 c16_i32_1232
  let c11_i32 : BitVec 32 := 11#32
  let v3216 : BitVec 32 := Scalar.addi v3215 c11_i32
  let v3221 : BitVec 32 := Scalar.addi c256_i32_1235 v3216
  let c128_i32_1236 : BitVec 32 := 128#32
  let v3222 : BitVec 32 := Scalar.muli v3221 c128_i32_1236
  v3222
def k0_mult110 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_1232 : BitVec 32 := 16#32
  let v3215 : BitVec 32 := Scalar.muli arg17 c16_i32_1232
  let c11_i32 : BitVec 32 := 11#32
  let v3216 : BitVec 32 := Scalar.addi v3215 c11_i32
  let c128_i32_1245 : BitVec 32 := 128#32
  let v3244 : BitVec 32 := Scalar.muli v3216 c128_i32_1245
  v3244
def k0_mult111 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_1232 : BitVec 32 := 16#32
  let v3215 : BitVec 32 := Scalar.muli arg17 c16_i32_1232
  let c11_i32 : BitVec 32 := 11#32
  let v3216 : BitVec 32 := Scalar.addi v3215 c11_i32
  let c128_i32_1269 : BitVec 32 := 128#32
  let v3312 : BitVec 32 := Scalar.muli v3216 c128_i32_1269
  v3312
def k0_mult112 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_1232 : BitVec 32 := 16#32
  let v3215 : BitVec 32 := Scalar.muli arg17 c16_i32_1232
  let c11_i32 : BitVec 32 := 11#32
  let v3216 : BitVec 32 := Scalar.addi v3215 c11_i32
  let c0_i32_1272 : BitVec 32 := 0#32
  let v3317 : BitVec 1 := Scalar.cmpi .sgt v3216 c0_i32_1272
  let v3318 : BitVec 32 := Scalar.extui v3317
  let c0_i32_1273 : BitVec 32 := 0#32
  let v3319 : BitVec 1 := Scalar.cmpi .slt v3216 c0_i32_1273
  let v3320 : BitVec 32 := Scalar.extui v3319
  let v3321 : BitVec 32 := Scalar.subi v3318 v3320
  let c128_i32_1271 : BitVec 32 := 128#32
  let c0_i32_1274 : BitVec 32 := 0#32
  let v3322 : BitVec 1 := Scalar.cmpi .sgt c128_i32_1271 c0_i32_1274
  let v3323 : BitVec 32 := Scalar.extui v3322
  let c0_i32_1275 : BitVec 32 := 0#32
  let v3324 : BitVec 1 := Scalar.cmpi .slt c128_i32_1271 c0_i32_1275
  let v3325 : BitVec 32 := Scalar.extui v3324
  let v3326 : BitVec 32 := Scalar.subi v3323 v3325
  let v3327 : BitVec 1 := Scalar.cmpi .ne v3321 v3326
  let v3328 : BitVec 32 := Scalar.remsi v3216 c128_i32_1271
  let c0_i32_1276 : BitVec 32 := 0#32
  let v3329 : BitVec 1 := Scalar.cmpi .ne v3328 c0_i32_1276
  let v3330 : BitVec 1 := Scalar.andi v3327 v3329
  let v3316 : BitVec 32 := Scalar.divsi v3216 c128_i32_1271
  let c1_i32_1277 : BitVec 32 := 1#32
  let v3331 : BitVec 32 := Scalar.subi v3316 c1_i32_1277
  let v3332 : BitVec 32 := Scalar.select v3330 v3331 v3316
  let c128_i32_1278 : BitVec 32 := 128#32
  let v3333 : BitVec 32 := Scalar.muli v3332 c128_i32_1278
  v3333
def k0_mult113 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_1232 : BitVec 32 := 16#32
  let v3215 : BitVec 32 := Scalar.muli arg17 c16_i32_1232
  let c11_i32 : BitVec 32 := 11#32
  let v3216 : BitVec 32 := Scalar.addi v3215 c11_i32
  let c128_i32_1289 : BitVec 32 := 128#32
  let v3365 : BitVec 32 := Scalar.muli v3216 c128_i32_1289
  v3365
def k0_mult114 (k0_t2 : Fin k0_t2_loop.trips) : BitVec 32 :=
  let c256_i32_1251 : BitVec 32 := 256#32
  let c0_i32_42 : BitVec 32 := 0#32
  let c1_i32_43 : BitVec 32 := 1#32
  let arg17 : BitVec 32 := Scf.iv c0_i32_42 c1_i32_43 k0_t2
  let c16_i32_1232 : BitVec 32 := 16#32
  let v3215 : BitVec 32 := Scalar.muli arg17 c16_i32_1232
  let c11_i32 : BitVec 32 := 11#32
  let v3216 : BitVec 32 := Scalar.addi v3215 c11_i32
  let v3264 : BitVec 32 := Scalar.addi c256_i32_1251 v3216
  let c128_i32_1313 : BitVec 32 := 128#32
  let v3426 : BitVec 32 := Scalar.muli v3264 c128_i32_1313
  v3426
def k0_mult115 (k0_t2 : Fin k0_t2_loop.trips) : BitVec 32 :=
  let c256_i32_1251 : BitVec 32 := 256#32
  let c0_i32_42 : BitVec 32 := 0#32
  let c1_i32_43 : BitVec 32 := 1#32
  let arg17 : BitVec 32 := Scf.iv c0_i32_42 c1_i32_43 k0_t2
  let c16_i32_1232 : BitVec 32 := 16#32
  let v3215 : BitVec 32 := Scalar.muli arg17 c16_i32_1232
  let c11_i32 : BitVec 32 := 11#32
  let v3216 : BitVec 32 := Scalar.addi v3215 c11_i32
  let v3264 : BitVec 32 := Scalar.addi c256_i32_1251 v3216
  let c0_i32_1316 : BitVec 32 := 0#32
  let v3431 : BitVec 1 := Scalar.cmpi .sgt v3264 c0_i32_1316
  let v3432 : BitVec 32 := Scalar.extui v3431
  let c0_i32_1317 : BitVec 32 := 0#32
  let v3433 : BitVec 1 := Scalar.cmpi .slt v3264 c0_i32_1317
  let v3434 : BitVec 32 := Scalar.extui v3433
  let v3435 : BitVec 32 := Scalar.subi v3432 v3434
  let c128_i32_1315 : BitVec 32 := 128#32
  let c0_i32_1318 : BitVec 32 := 0#32
  let v3436 : BitVec 1 := Scalar.cmpi .sgt c128_i32_1315 c0_i32_1318
  let v3437 : BitVec 32 := Scalar.extui v3436
  let c0_i32_1319 : BitVec 32 := 0#32
  let v3438 : BitVec 1 := Scalar.cmpi .slt c128_i32_1315 c0_i32_1319
  let v3439 : BitVec 32 := Scalar.extui v3438
  let v3440 : BitVec 32 := Scalar.subi v3437 v3439
  let v3441 : BitVec 1 := Scalar.cmpi .ne v3435 v3440
  let v3442 : BitVec 32 := Scalar.remsi v3264 c128_i32_1315
  let c0_i32_1320 : BitVec 32 := 0#32
  let v3443 : BitVec 1 := Scalar.cmpi .ne v3442 c0_i32_1320
  let v3444 : BitVec 1 := Scalar.andi v3441 v3443
  let v3430 : BitVec 32 := Scalar.divsi v3264 c128_i32_1315
  let c1_i32_1321 : BitVec 32 := 1#32
  let v3445 : BitVec 32 := Scalar.subi v3430 c1_i32_1321
  let v3446 : BitVec 32 := Scalar.select v3444 v3445 v3430
  let c128_i32_1322 : BitVec 32 := 128#32
  let v3447 : BitVec 32 := Scalar.muli v3446 c128_i32_1322
  v3447
def k0_mult116 (k0_t2 : Fin k0_t2_loop.trips) : BitVec 32 :=
  let c256_i32_1251 : BitVec 32 := 256#32
  let c0_i32_42 : BitVec 32 := 0#32
  let c1_i32_43 : BitVec 32 := 1#32
  let arg17 : BitVec 32 := Scf.iv c0_i32_42 c1_i32_43 k0_t2
  let c16_i32_1232 : BitVec 32 := 16#32
  let v3215 : BitVec 32 := Scalar.muli arg17 c16_i32_1232
  let c11_i32 : BitVec 32 := 11#32
  let v3216 : BitVec 32 := Scalar.addi v3215 c11_i32
  let v3264 : BitVec 32 := Scalar.addi c256_i32_1251 v3216
  let c128_i32_1333 : BitVec 32 := 128#32
  let v3479 : BitVec 32 := Scalar.muli v3264 c128_i32_1333
  v3479
def k0_mult117 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_1340 : BitVec 32 := 16#32
  let v3493 : BitVec 32 := Scalar.muli arg17 c16_i32_1340
  let c12_i32 : BitVec 32 := 12#32
  let v3494 : BitVec 32 := Scalar.addi v3493 c12_i32
  let c128_i32_1341 : BitVec 32 := 128#32
  let v3495 : BitVec 32 := Scalar.muli v3494 c128_i32_1341
  v3495
def k0_mult118 (k0_t2 : Fin k0_t2_loop.trips) : BitVec 32 :=
  let c256_i32_1343 : BitVec 32 := 256#32
  let c0_i32_42 : BitVec 32 := 0#32
  let c1_i32_43 : BitVec 32 := 1#32
  let arg17 : BitVec 32 := Scf.iv c0_i32_42 c1_i32_43 k0_t2
  let c16_i32_1340 : BitVec 32 := 16#32
  let v3493 : BitVec 32 := Scalar.muli arg17 c16_i32_1340
  let c12_i32 : BitVec 32 := 12#32
  let v3494 : BitVec 32 := Scalar.addi v3493 c12_i32
  let v3499 : BitVec 32 := Scalar.addi c256_i32_1343 v3494
  let c128_i32_1344 : BitVec 32 := 128#32
  let v3500 : BitVec 32 := Scalar.muli v3499 c128_i32_1344
  v3500
def k0_mult119 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_1340 : BitVec 32 := 16#32
  let v3493 : BitVec 32 := Scalar.muli arg17 c16_i32_1340
  let c12_i32 : BitVec 32 := 12#32
  let v3494 : BitVec 32 := Scalar.addi v3493 c12_i32
  let c128_i32_1353 : BitVec 32 := 128#32
  let v3522 : BitVec 32 := Scalar.muli v3494 c128_i32_1353
  v3522
def k0_mult120 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_1340 : BitVec 32 := 16#32
  let v3493 : BitVec 32 := Scalar.muli arg17 c16_i32_1340
  let c12_i32 : BitVec 32 := 12#32
  let v3494 : BitVec 32 := Scalar.addi v3493 c12_i32
  let c128_i32_1377 : BitVec 32 := 128#32
  let v3590 : BitVec 32 := Scalar.muli v3494 c128_i32_1377
  v3590
def k0_mult121 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_1340 : BitVec 32 := 16#32
  let v3493 : BitVec 32 := Scalar.muli arg17 c16_i32_1340
  let c12_i32 : BitVec 32 := 12#32
  let v3494 : BitVec 32 := Scalar.addi v3493 c12_i32
  let c0_i32_1380 : BitVec 32 := 0#32
  let v3595 : BitVec 1 := Scalar.cmpi .sgt v3494 c0_i32_1380
  let v3596 : BitVec 32 := Scalar.extui v3595
  let c0_i32_1381 : BitVec 32 := 0#32
  let v3597 : BitVec 1 := Scalar.cmpi .slt v3494 c0_i32_1381
  let v3598 : BitVec 32 := Scalar.extui v3597
  let v3599 : BitVec 32 := Scalar.subi v3596 v3598
  let c128_i32_1379 : BitVec 32 := 128#32
  let c0_i32_1382 : BitVec 32 := 0#32
  let v3600 : BitVec 1 := Scalar.cmpi .sgt c128_i32_1379 c0_i32_1382
  let v3601 : BitVec 32 := Scalar.extui v3600
  let c0_i32_1383 : BitVec 32 := 0#32
  let v3602 : BitVec 1 := Scalar.cmpi .slt c128_i32_1379 c0_i32_1383
  let v3603 : BitVec 32 := Scalar.extui v3602
  let v3604 : BitVec 32 := Scalar.subi v3601 v3603
  let v3605 : BitVec 1 := Scalar.cmpi .ne v3599 v3604
  let v3606 : BitVec 32 := Scalar.remsi v3494 c128_i32_1379
  let c0_i32_1384 : BitVec 32 := 0#32
  let v3607 : BitVec 1 := Scalar.cmpi .ne v3606 c0_i32_1384
  let v3608 : BitVec 1 := Scalar.andi v3605 v3607
  let v3594 : BitVec 32 := Scalar.divsi v3494 c128_i32_1379
  let c1_i32_1385 : BitVec 32 := 1#32
  let v3609 : BitVec 32 := Scalar.subi v3594 c1_i32_1385
  let v3610 : BitVec 32 := Scalar.select v3608 v3609 v3594
  let c128_i32_1386 : BitVec 32 := 128#32
  let v3611 : BitVec 32 := Scalar.muli v3610 c128_i32_1386
  v3611
def k0_mult122 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_1340 : BitVec 32 := 16#32
  let v3493 : BitVec 32 := Scalar.muli arg17 c16_i32_1340
  let c12_i32 : BitVec 32 := 12#32
  let v3494 : BitVec 32 := Scalar.addi v3493 c12_i32
  let c128_i32_1397 : BitVec 32 := 128#32
  let v3643 : BitVec 32 := Scalar.muli v3494 c128_i32_1397
  v3643
def k0_mult123 (k0_t2 : Fin k0_t2_loop.trips) : BitVec 32 :=
  let c256_i32_1359 : BitVec 32 := 256#32
  let c0_i32_42 : BitVec 32 := 0#32
  let c1_i32_43 : BitVec 32 := 1#32
  let arg17 : BitVec 32 := Scf.iv c0_i32_42 c1_i32_43 k0_t2
  let c16_i32_1340 : BitVec 32 := 16#32
  let v3493 : BitVec 32 := Scalar.muli arg17 c16_i32_1340
  let c12_i32 : BitVec 32 := 12#32
  let v3494 : BitVec 32 := Scalar.addi v3493 c12_i32
  let v3542 : BitVec 32 := Scalar.addi c256_i32_1359 v3494
  let c128_i32_1421 : BitVec 32 := 128#32
  let v3704 : BitVec 32 := Scalar.muli v3542 c128_i32_1421
  v3704
def k0_mult124 (k0_t2 : Fin k0_t2_loop.trips) : BitVec 32 :=
  let c256_i32_1359 : BitVec 32 := 256#32
  let c0_i32_42 : BitVec 32 := 0#32
  let c1_i32_43 : BitVec 32 := 1#32
  let arg17 : BitVec 32 := Scf.iv c0_i32_42 c1_i32_43 k0_t2
  let c16_i32_1340 : BitVec 32 := 16#32
  let v3493 : BitVec 32 := Scalar.muli arg17 c16_i32_1340
  let c12_i32 : BitVec 32 := 12#32
  let v3494 : BitVec 32 := Scalar.addi v3493 c12_i32
  let v3542 : BitVec 32 := Scalar.addi c256_i32_1359 v3494
  let c0_i32_1424 : BitVec 32 := 0#32
  let v3709 : BitVec 1 := Scalar.cmpi .sgt v3542 c0_i32_1424
  let v3710 : BitVec 32 := Scalar.extui v3709
  let c0_i32_1425 : BitVec 32 := 0#32
  let v3711 : BitVec 1 := Scalar.cmpi .slt v3542 c0_i32_1425
  let v3712 : BitVec 32 := Scalar.extui v3711
  let v3713 : BitVec 32 := Scalar.subi v3710 v3712
  let c128_i32_1423 : BitVec 32 := 128#32
  let c0_i32_1426 : BitVec 32 := 0#32
  let v3714 : BitVec 1 := Scalar.cmpi .sgt c128_i32_1423 c0_i32_1426
  let v3715 : BitVec 32 := Scalar.extui v3714
  let c0_i32_1427 : BitVec 32 := 0#32
  let v3716 : BitVec 1 := Scalar.cmpi .slt c128_i32_1423 c0_i32_1427
  let v3717 : BitVec 32 := Scalar.extui v3716
  let v3718 : BitVec 32 := Scalar.subi v3715 v3717
  let v3719 : BitVec 1 := Scalar.cmpi .ne v3713 v3718
  let v3720 : BitVec 32 := Scalar.remsi v3542 c128_i32_1423
  let c0_i32_1428 : BitVec 32 := 0#32
  let v3721 : BitVec 1 := Scalar.cmpi .ne v3720 c0_i32_1428
  let v3722 : BitVec 1 := Scalar.andi v3719 v3721
  let v3708 : BitVec 32 := Scalar.divsi v3542 c128_i32_1423
  let c1_i32_1429 : BitVec 32 := 1#32
  let v3723 : BitVec 32 := Scalar.subi v3708 c1_i32_1429
  let v3724 : BitVec 32 := Scalar.select v3722 v3723 v3708
  let c128_i32_1430 : BitVec 32 := 128#32
  let v3725 : BitVec 32 := Scalar.muli v3724 c128_i32_1430
  v3725
def k0_mult125 (k0_t2 : Fin k0_t2_loop.trips) : BitVec 32 :=
  let c256_i32_1359 : BitVec 32 := 256#32
  let c0_i32_42 : BitVec 32 := 0#32
  let c1_i32_43 : BitVec 32 := 1#32
  let arg17 : BitVec 32 := Scf.iv c0_i32_42 c1_i32_43 k0_t2
  let c16_i32_1340 : BitVec 32 := 16#32
  let v3493 : BitVec 32 := Scalar.muli arg17 c16_i32_1340
  let c12_i32 : BitVec 32 := 12#32
  let v3494 : BitVec 32 := Scalar.addi v3493 c12_i32
  let v3542 : BitVec 32 := Scalar.addi c256_i32_1359 v3494
  let c128_i32_1441 : BitVec 32 := 128#32
  let v3757 : BitVec 32 := Scalar.muli v3542 c128_i32_1441
  v3757
def k0_mult126 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_1448 : BitVec 32 := 16#32
  let v3771 : BitVec 32 := Scalar.muli arg17 c16_i32_1448
  let c13_i32 : BitVec 32 := 13#32
  let v3772 : BitVec 32 := Scalar.addi v3771 c13_i32
  let c128_i32_1449 : BitVec 32 := 128#32
  let v3773 : BitVec 32 := Scalar.muli v3772 c128_i32_1449
  v3773
def k0_mult127 (k0_t2 : Fin k0_t2_loop.trips) : BitVec 32 :=
  let c256_i32_1451 : BitVec 32 := 256#32
  let c0_i32_42 : BitVec 32 := 0#32
  let c1_i32_43 : BitVec 32 := 1#32
  let arg17 : BitVec 32 := Scf.iv c0_i32_42 c1_i32_43 k0_t2
  let c16_i32_1448 : BitVec 32 := 16#32
  let v3771 : BitVec 32 := Scalar.muli arg17 c16_i32_1448
  let c13_i32 : BitVec 32 := 13#32
  let v3772 : BitVec 32 := Scalar.addi v3771 c13_i32
  let v3777 : BitVec 32 := Scalar.addi c256_i32_1451 v3772
  let c128_i32_1452 : BitVec 32 := 128#32
  let v3778 : BitVec 32 := Scalar.muli v3777 c128_i32_1452
  v3778
def k0_mult128 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_1448 : BitVec 32 := 16#32
  let v3771 : BitVec 32 := Scalar.muli arg17 c16_i32_1448
  let c13_i32 : BitVec 32 := 13#32
  let v3772 : BitVec 32 := Scalar.addi v3771 c13_i32
  let c128_i32_1461 : BitVec 32 := 128#32
  let v3800 : BitVec 32 := Scalar.muli v3772 c128_i32_1461
  v3800
def k0_mult129 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_1448 : BitVec 32 := 16#32
  let v3771 : BitVec 32 := Scalar.muli arg17 c16_i32_1448
  let c13_i32 : BitVec 32 := 13#32
  let v3772 : BitVec 32 := Scalar.addi v3771 c13_i32
  let c128_i32_1485 : BitVec 32 := 128#32
  let v3868 : BitVec 32 := Scalar.muli v3772 c128_i32_1485
  v3868
def k0_mult130 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_1448 : BitVec 32 := 16#32
  let v3771 : BitVec 32 := Scalar.muli arg17 c16_i32_1448
  let c13_i32 : BitVec 32 := 13#32
  let v3772 : BitVec 32 := Scalar.addi v3771 c13_i32
  let c0_i32_1488 : BitVec 32 := 0#32
  let v3873 : BitVec 1 := Scalar.cmpi .sgt v3772 c0_i32_1488
  let v3874 : BitVec 32 := Scalar.extui v3873
  let c0_i32_1489 : BitVec 32 := 0#32
  let v3875 : BitVec 1 := Scalar.cmpi .slt v3772 c0_i32_1489
  let v3876 : BitVec 32 := Scalar.extui v3875
  let v3877 : BitVec 32 := Scalar.subi v3874 v3876
  let c128_i32_1487 : BitVec 32 := 128#32
  let c0_i32_1490 : BitVec 32 := 0#32
  let v3878 : BitVec 1 := Scalar.cmpi .sgt c128_i32_1487 c0_i32_1490
  let v3879 : BitVec 32 := Scalar.extui v3878
  let c0_i32_1491 : BitVec 32 := 0#32
  let v3880 : BitVec 1 := Scalar.cmpi .slt c128_i32_1487 c0_i32_1491
  let v3881 : BitVec 32 := Scalar.extui v3880
  let v3882 : BitVec 32 := Scalar.subi v3879 v3881
  let v3883 : BitVec 1 := Scalar.cmpi .ne v3877 v3882
  let v3884 : BitVec 32 := Scalar.remsi v3772 c128_i32_1487
  let c0_i32_1492 : BitVec 32 := 0#32
  let v3885 : BitVec 1 := Scalar.cmpi .ne v3884 c0_i32_1492
  let v3886 : BitVec 1 := Scalar.andi v3883 v3885
  let v3872 : BitVec 32 := Scalar.divsi v3772 c128_i32_1487
  let c1_i32_1493 : BitVec 32 := 1#32
  let v3887 : BitVec 32 := Scalar.subi v3872 c1_i32_1493
  let v3888 : BitVec 32 := Scalar.select v3886 v3887 v3872
  let c128_i32_1494 : BitVec 32 := 128#32
  let v3889 : BitVec 32 := Scalar.muli v3888 c128_i32_1494
  v3889
def k0_mult131 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_1448 : BitVec 32 := 16#32
  let v3771 : BitVec 32 := Scalar.muli arg17 c16_i32_1448
  let c13_i32 : BitVec 32 := 13#32
  let v3772 : BitVec 32 := Scalar.addi v3771 c13_i32
  let c128_i32_1505 : BitVec 32 := 128#32
  let v3921 : BitVec 32 := Scalar.muli v3772 c128_i32_1505
  v3921
def k0_mult132 (k0_t2 : Fin k0_t2_loop.trips) : BitVec 32 :=
  let c256_i32_1467 : BitVec 32 := 256#32
  let c0_i32_42 : BitVec 32 := 0#32
  let c1_i32_43 : BitVec 32 := 1#32
  let arg17 : BitVec 32 := Scf.iv c0_i32_42 c1_i32_43 k0_t2
  let c16_i32_1448 : BitVec 32 := 16#32
  let v3771 : BitVec 32 := Scalar.muli arg17 c16_i32_1448
  let c13_i32 : BitVec 32 := 13#32
  let v3772 : BitVec 32 := Scalar.addi v3771 c13_i32
  let v3820 : BitVec 32 := Scalar.addi c256_i32_1467 v3772
  let c128_i32_1529 : BitVec 32 := 128#32
  let v3982 : BitVec 32 := Scalar.muli v3820 c128_i32_1529
  v3982
def k0_mult133 (k0_t2 : Fin k0_t2_loop.trips) : BitVec 32 :=
  let c256_i32_1467 : BitVec 32 := 256#32
  let c0_i32_42 : BitVec 32 := 0#32
  let c1_i32_43 : BitVec 32 := 1#32
  let arg17 : BitVec 32 := Scf.iv c0_i32_42 c1_i32_43 k0_t2
  let c16_i32_1448 : BitVec 32 := 16#32
  let v3771 : BitVec 32 := Scalar.muli arg17 c16_i32_1448
  let c13_i32 : BitVec 32 := 13#32
  let v3772 : BitVec 32 := Scalar.addi v3771 c13_i32
  let v3820 : BitVec 32 := Scalar.addi c256_i32_1467 v3772
  let c0_i32_1532 : BitVec 32 := 0#32
  let v3987 : BitVec 1 := Scalar.cmpi .sgt v3820 c0_i32_1532
  let v3988 : BitVec 32 := Scalar.extui v3987
  let c0_i32_1533 : BitVec 32 := 0#32
  let v3989 : BitVec 1 := Scalar.cmpi .slt v3820 c0_i32_1533
  let v3990 : BitVec 32 := Scalar.extui v3989
  let v3991 : BitVec 32 := Scalar.subi v3988 v3990
  let c128_i32_1531 : BitVec 32 := 128#32
  let c0_i32_1534 : BitVec 32 := 0#32
  let v3992 : BitVec 1 := Scalar.cmpi .sgt c128_i32_1531 c0_i32_1534
  let v3993 : BitVec 32 := Scalar.extui v3992
  let c0_i32_1535 : BitVec 32 := 0#32
  let v3994 : BitVec 1 := Scalar.cmpi .slt c128_i32_1531 c0_i32_1535
  let v3995 : BitVec 32 := Scalar.extui v3994
  let v3996 : BitVec 32 := Scalar.subi v3993 v3995
  let v3997 : BitVec 1 := Scalar.cmpi .ne v3991 v3996
  let v3998 : BitVec 32 := Scalar.remsi v3820 c128_i32_1531
  let c0_i32_1536 : BitVec 32 := 0#32
  let v3999 : BitVec 1 := Scalar.cmpi .ne v3998 c0_i32_1536
  let v4000 : BitVec 1 := Scalar.andi v3997 v3999
  let v3986 : BitVec 32 := Scalar.divsi v3820 c128_i32_1531
  let c1_i32_1537 : BitVec 32 := 1#32
  let v4001 : BitVec 32 := Scalar.subi v3986 c1_i32_1537
  let v4002 : BitVec 32 := Scalar.select v4000 v4001 v3986
  let c128_i32_1538 : BitVec 32 := 128#32
  let v4003 : BitVec 32 := Scalar.muli v4002 c128_i32_1538
  v4003
def k0_mult134 (k0_t2 : Fin k0_t2_loop.trips) : BitVec 32 :=
  let c256_i32_1467 : BitVec 32 := 256#32
  let c0_i32_42 : BitVec 32 := 0#32
  let c1_i32_43 : BitVec 32 := 1#32
  let arg17 : BitVec 32 := Scf.iv c0_i32_42 c1_i32_43 k0_t2
  let c16_i32_1448 : BitVec 32 := 16#32
  let v3771 : BitVec 32 := Scalar.muli arg17 c16_i32_1448
  let c13_i32 : BitVec 32 := 13#32
  let v3772 : BitVec 32 := Scalar.addi v3771 c13_i32
  let v3820 : BitVec 32 := Scalar.addi c256_i32_1467 v3772
  let c128_i32_1549 : BitVec 32 := 128#32
  let v4035 : BitVec 32 := Scalar.muli v3820 c128_i32_1549
  v4035
def k0_mult135 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_1556 : BitVec 32 := 16#32
  let v4049 : BitVec 32 := Scalar.muli arg17 c16_i32_1556
  let c14_i32 : BitVec 32 := 14#32
  let v4050 : BitVec 32 := Scalar.addi v4049 c14_i32
  let c128_i32_1557 : BitVec 32 := 128#32
  let v4051 : BitVec 32 := Scalar.muli v4050 c128_i32_1557
  v4051
def k0_mult136 (k0_t2 : Fin k0_t2_loop.trips) : BitVec 32 :=
  let c256_i32_1559 : BitVec 32 := 256#32
  let c0_i32_42 : BitVec 32 := 0#32
  let c1_i32_43 : BitVec 32 := 1#32
  let arg17 : BitVec 32 := Scf.iv c0_i32_42 c1_i32_43 k0_t2
  let c16_i32_1556 : BitVec 32 := 16#32
  let v4049 : BitVec 32 := Scalar.muli arg17 c16_i32_1556
  let c14_i32 : BitVec 32 := 14#32
  let v4050 : BitVec 32 := Scalar.addi v4049 c14_i32
  let v4055 : BitVec 32 := Scalar.addi c256_i32_1559 v4050
  let c128_i32_1560 : BitVec 32 := 128#32
  let v4056 : BitVec 32 := Scalar.muli v4055 c128_i32_1560
  v4056
def k0_mult137 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_1556 : BitVec 32 := 16#32
  let v4049 : BitVec 32 := Scalar.muli arg17 c16_i32_1556
  let c14_i32 : BitVec 32 := 14#32
  let v4050 : BitVec 32 := Scalar.addi v4049 c14_i32
  let c128_i32_1569 : BitVec 32 := 128#32
  let v4078 : BitVec 32 := Scalar.muli v4050 c128_i32_1569
  v4078
def k0_mult138 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_1556 : BitVec 32 := 16#32
  let v4049 : BitVec 32 := Scalar.muli arg17 c16_i32_1556
  let c14_i32 : BitVec 32 := 14#32
  let v4050 : BitVec 32 := Scalar.addi v4049 c14_i32
  let c128_i32_1593 : BitVec 32 := 128#32
  let v4146 : BitVec 32 := Scalar.muli v4050 c128_i32_1593
  v4146
def k0_mult139 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_1556 : BitVec 32 := 16#32
  let v4049 : BitVec 32 := Scalar.muli arg17 c16_i32_1556
  let c14_i32 : BitVec 32 := 14#32
  let v4050 : BitVec 32 := Scalar.addi v4049 c14_i32
  let c0_i32_1596 : BitVec 32 := 0#32
  let v4151 : BitVec 1 := Scalar.cmpi .sgt v4050 c0_i32_1596
  let v4152 : BitVec 32 := Scalar.extui v4151
  let c0_i32_1597 : BitVec 32 := 0#32
  let v4153 : BitVec 1 := Scalar.cmpi .slt v4050 c0_i32_1597
  let v4154 : BitVec 32 := Scalar.extui v4153
  let v4155 : BitVec 32 := Scalar.subi v4152 v4154
  let c128_i32_1595 : BitVec 32 := 128#32
  let c0_i32_1598 : BitVec 32 := 0#32
  let v4156 : BitVec 1 := Scalar.cmpi .sgt c128_i32_1595 c0_i32_1598
  let v4157 : BitVec 32 := Scalar.extui v4156
  let c0_i32_1599 : BitVec 32 := 0#32
  let v4158 : BitVec 1 := Scalar.cmpi .slt c128_i32_1595 c0_i32_1599
  let v4159 : BitVec 32 := Scalar.extui v4158
  let v4160 : BitVec 32 := Scalar.subi v4157 v4159
  let v4161 : BitVec 1 := Scalar.cmpi .ne v4155 v4160
  let v4162 : BitVec 32 := Scalar.remsi v4050 c128_i32_1595
  let c0_i32_1600 : BitVec 32 := 0#32
  let v4163 : BitVec 1 := Scalar.cmpi .ne v4162 c0_i32_1600
  let v4164 : BitVec 1 := Scalar.andi v4161 v4163
  let v4150 : BitVec 32 := Scalar.divsi v4050 c128_i32_1595
  let c1_i32_1601 : BitVec 32 := 1#32
  let v4165 : BitVec 32 := Scalar.subi v4150 c1_i32_1601
  let v4166 : BitVec 32 := Scalar.select v4164 v4165 v4150
  let c128_i32_1602 : BitVec 32 := 128#32
  let v4167 : BitVec 32 := Scalar.muli v4166 c128_i32_1602
  v4167
def k0_mult140 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_1556 : BitVec 32 := 16#32
  let v4049 : BitVec 32 := Scalar.muli arg17 c16_i32_1556
  let c14_i32 : BitVec 32 := 14#32
  let v4050 : BitVec 32 := Scalar.addi v4049 c14_i32
  let c128_i32_1613 : BitVec 32 := 128#32
  let v4199 : BitVec 32 := Scalar.muli v4050 c128_i32_1613
  v4199
def k0_mult141 (k0_t2 : Fin k0_t2_loop.trips) : BitVec 32 :=
  let c256_i32_1575 : BitVec 32 := 256#32
  let c0_i32_42 : BitVec 32 := 0#32
  let c1_i32_43 : BitVec 32 := 1#32
  let arg17 : BitVec 32 := Scf.iv c0_i32_42 c1_i32_43 k0_t2
  let c16_i32_1556 : BitVec 32 := 16#32
  let v4049 : BitVec 32 := Scalar.muli arg17 c16_i32_1556
  let c14_i32 : BitVec 32 := 14#32
  let v4050 : BitVec 32 := Scalar.addi v4049 c14_i32
  let v4098 : BitVec 32 := Scalar.addi c256_i32_1575 v4050
  let c128_i32_1637 : BitVec 32 := 128#32
  let v4260 : BitVec 32 := Scalar.muli v4098 c128_i32_1637
  v4260
def k0_mult142 (k0_t2 : Fin k0_t2_loop.trips) : BitVec 32 :=
  let c256_i32_1575 : BitVec 32 := 256#32
  let c0_i32_42 : BitVec 32 := 0#32
  let c1_i32_43 : BitVec 32 := 1#32
  let arg17 : BitVec 32 := Scf.iv c0_i32_42 c1_i32_43 k0_t2
  let c16_i32_1556 : BitVec 32 := 16#32
  let v4049 : BitVec 32 := Scalar.muli arg17 c16_i32_1556
  let c14_i32 : BitVec 32 := 14#32
  let v4050 : BitVec 32 := Scalar.addi v4049 c14_i32
  let v4098 : BitVec 32 := Scalar.addi c256_i32_1575 v4050
  let c0_i32_1640 : BitVec 32 := 0#32
  let v4265 : BitVec 1 := Scalar.cmpi .sgt v4098 c0_i32_1640
  let v4266 : BitVec 32 := Scalar.extui v4265
  let c0_i32_1641 : BitVec 32 := 0#32
  let v4267 : BitVec 1 := Scalar.cmpi .slt v4098 c0_i32_1641
  let v4268 : BitVec 32 := Scalar.extui v4267
  let v4269 : BitVec 32 := Scalar.subi v4266 v4268
  let c128_i32_1639 : BitVec 32 := 128#32
  let c0_i32_1642 : BitVec 32 := 0#32
  let v4270 : BitVec 1 := Scalar.cmpi .sgt c128_i32_1639 c0_i32_1642
  let v4271 : BitVec 32 := Scalar.extui v4270
  let c0_i32_1643 : BitVec 32 := 0#32
  let v4272 : BitVec 1 := Scalar.cmpi .slt c128_i32_1639 c0_i32_1643
  let v4273 : BitVec 32 := Scalar.extui v4272
  let v4274 : BitVec 32 := Scalar.subi v4271 v4273
  let v4275 : BitVec 1 := Scalar.cmpi .ne v4269 v4274
  let v4276 : BitVec 32 := Scalar.remsi v4098 c128_i32_1639
  let c0_i32_1644 : BitVec 32 := 0#32
  let v4277 : BitVec 1 := Scalar.cmpi .ne v4276 c0_i32_1644
  let v4278 : BitVec 1 := Scalar.andi v4275 v4277
  let v4264 : BitVec 32 := Scalar.divsi v4098 c128_i32_1639
  let c1_i32_1645 : BitVec 32 := 1#32
  let v4279 : BitVec 32 := Scalar.subi v4264 c1_i32_1645
  let v4280 : BitVec 32 := Scalar.select v4278 v4279 v4264
  let c128_i32_1646 : BitVec 32 := 128#32
  let v4281 : BitVec 32 := Scalar.muli v4280 c128_i32_1646
  v4281
def k0_mult143 (k0_t2 : Fin k0_t2_loop.trips) : BitVec 32 :=
  let c256_i32_1575 : BitVec 32 := 256#32
  let c0_i32_42 : BitVec 32 := 0#32
  let c1_i32_43 : BitVec 32 := 1#32
  let arg17 : BitVec 32 := Scf.iv c0_i32_42 c1_i32_43 k0_t2
  let c16_i32_1556 : BitVec 32 := 16#32
  let v4049 : BitVec 32 := Scalar.muli arg17 c16_i32_1556
  let c14_i32 : BitVec 32 := 14#32
  let v4050 : BitVec 32 := Scalar.addi v4049 c14_i32
  let v4098 : BitVec 32 := Scalar.addi c256_i32_1575 v4050
  let c128_i32_1657 : BitVec 32 := 128#32
  let v4313 : BitVec 32 := Scalar.muli v4098 c128_i32_1657
  v4313
def k0_mult144 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_1664 : BitVec 32 := 16#32
  let v4327 : BitVec 32 := Scalar.muli arg17 c16_i32_1664
  let c15_i32 : BitVec 32 := 15#32
  let v4328 : BitVec 32 := Scalar.addi v4327 c15_i32
  let c128_i32_1665 : BitVec 32 := 128#32
  let v4329 : BitVec 32 := Scalar.muli v4328 c128_i32_1665
  v4329
def k0_mult145 (k0_t2 : Fin k0_t2_loop.trips) : BitVec 32 :=
  let c256_i32_1667 : BitVec 32 := 256#32
  let c0_i32_42 : BitVec 32 := 0#32
  let c1_i32_43 : BitVec 32 := 1#32
  let arg17 : BitVec 32 := Scf.iv c0_i32_42 c1_i32_43 k0_t2
  let c16_i32_1664 : BitVec 32 := 16#32
  let v4327 : BitVec 32 := Scalar.muli arg17 c16_i32_1664
  let c15_i32 : BitVec 32 := 15#32
  let v4328 : BitVec 32 := Scalar.addi v4327 c15_i32
  let v4333 : BitVec 32 := Scalar.addi c256_i32_1667 v4328
  let c128_i32_1668 : BitVec 32 := 128#32
  let v4334 : BitVec 32 := Scalar.muli v4333 c128_i32_1668
  v4334
def k0_mult146 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_1664 : BitVec 32 := 16#32
  let v4327 : BitVec 32 := Scalar.muli arg17 c16_i32_1664
  let c15_i32 : BitVec 32 := 15#32
  let v4328 : BitVec 32 := Scalar.addi v4327 c15_i32
  let c128_i32_1677 : BitVec 32 := 128#32
  let v4356 : BitVec 32 := Scalar.muli v4328 c128_i32_1677
  v4356
def k0_mult147 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_1664 : BitVec 32 := 16#32
  let v4327 : BitVec 32 := Scalar.muli arg17 c16_i32_1664
  let c15_i32 : BitVec 32 := 15#32
  let v4328 : BitVec 32 := Scalar.addi v4327 c15_i32
  let c128_i32_1701 : BitVec 32 := 128#32
  let v4424 : BitVec 32 := Scalar.muli v4328 c128_i32_1701
  v4424
def k0_mult148 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_1664 : BitVec 32 := 16#32
  let v4327 : BitVec 32 := Scalar.muli arg17 c16_i32_1664
  let c15_i32 : BitVec 32 := 15#32
  let v4328 : BitVec 32 := Scalar.addi v4327 c15_i32
  let c0_i32_1704 : BitVec 32 := 0#32
  let v4429 : BitVec 1 := Scalar.cmpi .sgt v4328 c0_i32_1704
  let v4430 : BitVec 32 := Scalar.extui v4429
  let c0_i32_1705 : BitVec 32 := 0#32
  let v4431 : BitVec 1 := Scalar.cmpi .slt v4328 c0_i32_1705
  let v4432 : BitVec 32 := Scalar.extui v4431
  let v4433 : BitVec 32 := Scalar.subi v4430 v4432
  let c128_i32_1703 : BitVec 32 := 128#32
  let c0_i32_1706 : BitVec 32 := 0#32
  let v4434 : BitVec 1 := Scalar.cmpi .sgt c128_i32_1703 c0_i32_1706
  let v4435 : BitVec 32 := Scalar.extui v4434
  let c0_i32_1707 : BitVec 32 := 0#32
  let v4436 : BitVec 1 := Scalar.cmpi .slt c128_i32_1703 c0_i32_1707
  let v4437 : BitVec 32 := Scalar.extui v4436
  let v4438 : BitVec 32 := Scalar.subi v4435 v4437
  let v4439 : BitVec 1 := Scalar.cmpi .ne v4433 v4438
  let v4440 : BitVec 32 := Scalar.remsi v4328 c128_i32_1703
  let c0_i32_1708 : BitVec 32 := 0#32
  let v4441 : BitVec 1 := Scalar.cmpi .ne v4440 c0_i32_1708
  let v4442 : BitVec 1 := Scalar.andi v4439 v4441
  let v4428 : BitVec 32 := Scalar.divsi v4328 c128_i32_1703
  let c1_i32_1709 : BitVec 32 := 1#32
  let v4443 : BitVec 32 := Scalar.subi v4428 c1_i32_1709
  let v4444 : BitVec 32 := Scalar.select v4442 v4443 v4428
  let c128_i32_1710 : BitVec 32 := 128#32
  let v4445 : BitVec 32 := Scalar.muli v4444 c128_i32_1710
  v4445
def k0_mult149 (k0_t2 : Fin k0_t2_loop.trips) : BitVec 32 :=
  let c0_i32_42 : BitVec 32 := 0#32
  let c1_i32_43 : BitVec 32 := 1#32
  let arg17 : BitVec 32 := Scf.iv c0_i32_42 c1_i32_43 k0_t2
  let c16_i32_1664 : BitVec 32 := 16#32
  let v4327 : BitVec 32 := Scalar.muli arg17 c16_i32_1664
  let c15_i32 : BitVec 32 := 15#32
  let v4328 : BitVec 32 := Scalar.addi v4327 c15_i32
  let c128_i32_1721 : BitVec 32 := 128#32
  let v4477 : BitVec 32 := Scalar.muli v4328 c128_i32_1721
  v4477
def k0_mult150 (k0_t2 : Fin k0_t2_loop.trips) : BitVec 32 :=
  let c256_i32_1683 : BitVec 32 := 256#32
  let c0_i32_42 : BitVec 32 := 0#32
  let c1_i32_43 : BitVec 32 := 1#32
  let arg17 : BitVec 32 := Scf.iv c0_i32_42 c1_i32_43 k0_t2
  let c16_i32_1664 : BitVec 32 := 16#32
  let v4327 : BitVec 32 := Scalar.muli arg17 c16_i32_1664
  let c15_i32 : BitVec 32 := 15#32
  let v4328 : BitVec 32 := Scalar.addi v4327 c15_i32
  let v4376 : BitVec 32 := Scalar.addi c256_i32_1683 v4328
  let c128_i32_1745 : BitVec 32 := 128#32
  let v4538 : BitVec 32 := Scalar.muli v4376 c128_i32_1745
  v4538
def k0_mult151 (k0_t2 : Fin k0_t2_loop.trips) : BitVec 32 :=
  let c256_i32_1683 : BitVec 32 := 256#32
  let c0_i32_42 : BitVec 32 := 0#32
  let c1_i32_43 : BitVec 32 := 1#32
  let arg17 : BitVec 32 := Scf.iv c0_i32_42 c1_i32_43 k0_t2
  let c16_i32_1664 : BitVec 32 := 16#32
  let v4327 : BitVec 32 := Scalar.muli arg17 c16_i32_1664
  let c15_i32 : BitVec 32 := 15#32
  let v4328 : BitVec 32 := Scalar.addi v4327 c15_i32
  let v4376 : BitVec 32 := Scalar.addi c256_i32_1683 v4328
  let c0_i32_1748 : BitVec 32 := 0#32
  let v4543 : BitVec 1 := Scalar.cmpi .sgt v4376 c0_i32_1748
  let v4544 : BitVec 32 := Scalar.extui v4543
  let c0_i32_1749 : BitVec 32 := 0#32
  let v4545 : BitVec 1 := Scalar.cmpi .slt v4376 c0_i32_1749
  let v4546 : BitVec 32 := Scalar.extui v4545
  let v4547 : BitVec 32 := Scalar.subi v4544 v4546
  let c128_i32_1747 : BitVec 32 := 128#32
  let c0_i32_1750 : BitVec 32 := 0#32
  let v4548 : BitVec 1 := Scalar.cmpi .sgt c128_i32_1747 c0_i32_1750
  let v4549 : BitVec 32 := Scalar.extui v4548
  let c0_i32_1751 : BitVec 32 := 0#32
  let v4550 : BitVec 1 := Scalar.cmpi .slt c128_i32_1747 c0_i32_1751
  let v4551 : BitVec 32 := Scalar.extui v4550
  let v4552 : BitVec 32 := Scalar.subi v4549 v4551
  let v4553 : BitVec 1 := Scalar.cmpi .ne v4547 v4552
  let v4554 : BitVec 32 := Scalar.remsi v4376 c128_i32_1747
  let c0_i32_1752 : BitVec 32 := 0#32
  let v4555 : BitVec 1 := Scalar.cmpi .ne v4554 c0_i32_1752
  let v4556 : BitVec 1 := Scalar.andi v4553 v4555
  let v4542 : BitVec 32 := Scalar.divsi v4376 c128_i32_1747
  let c1_i32_1753 : BitVec 32 := 1#32
  let v4557 : BitVec 32 := Scalar.subi v4542 c1_i32_1753
  let v4558 : BitVec 32 := Scalar.select v4556 v4557 v4542
  let c128_i32_1754 : BitVec 32 := 128#32
  let v4559 : BitVec 32 := Scalar.muli v4558 c128_i32_1754
  v4559
def k0_mult152 (k0_t2 : Fin k0_t2_loop.trips) : BitVec 32 :=
  let c256_i32_1683 : BitVec 32 := 256#32
  let c0_i32_42 : BitVec 32 := 0#32
  let c1_i32_43 : BitVec 32 := 1#32
  let arg17 : BitVec 32 := Scf.iv c0_i32_42 c1_i32_43 k0_t2
  let c16_i32_1664 : BitVec 32 := 16#32
  let v4327 : BitVec 32 := Scalar.muli arg17 c16_i32_1664
  let c15_i32 : BitVec 32 := 15#32
  let v4328 : BitVec 32 := Scalar.addi v4327 c15_i32
  let v4376 : BitVec 32 := Scalar.addi c256_i32_1683 v4328
  let c128_i32_1765 : BitVec 32 := 128#32
  let v4591 : BitVec 32 := Scalar.muli v4376 c128_i32_1765
  v4591
@[reducible] def k0_t3_loop : Scf.Loop 32 :=
  let c0_i32_42 : BitVec 32 := 0#32
  let c256_i32 : BitVec 32 := 256#32
  let v159 : BitVec 32 := Scalar.addi c0_i32_42 c256_i32
  let c1_i32_43 : BitVec 32 := 1#32
  ⟨c0_i32_42, v159, c1_i32_43⟩
def k0_mult153 (k0_t3 : Fin k0_t3_loop.trips) : BitVec 32 :=
  let c0_i32_42 : BitVec 32 := 0#32
  let c1_i32_43 : BitVec 32 := 1#32
  let arg17 : BitVec 32 := Scf.iv c0_i32_42 c1_i32_43 k0_t3
  let c128_i32 : BitVec 32 := 128#32
  let v160 : BitVec 32 := Scalar.muli arg17 c128_i32
  v160
def k0_off13 (k0_t3 : Fin k0_t3_loop.trips) : Fin 2 → Nat :=
  let c0_45 : Index := 0#32
  let c0_i32_42 : BitVec 32 := 0#32
  let c1_i32_43 : BitVec 32 := 1#32
  let arg17 : BitVec 32 := Scf.iv c0_i32_42 c1_i32_43 k0_t3
  let c128_i32 : BitVec 32 := 128#32
  let v160 : BitVec 32 := Scalar.muli arg17 c128_i32
  let v161 : BitVec 32 := v160
  let v162 : Index := Scalar.indexCast v161
  ![0, v162.toNat]
def k0_mult154 (k0_t3 : Fin k0_t3_loop.trips) : BitVec 32 :=
  let c256_i32_46 : BitVec 32 := 256#32
  let c0_i32_42 : BitVec 32 := 0#32
  let c1_i32_43 : BitVec 32 := 1#32
  let arg17 : BitVec 32 := Scf.iv c0_i32_42 c1_i32_43 k0_t3
  let v164 : BitVec 32 := Scalar.addi c256_i32_46 arg17
  let c128_i32_47 : BitVec 32 := 128#32
  let v165 : BitVec 32 := Scalar.muli v164 c128_i32_47
  v165
def k0_off14 (k0_t3 : Fin k0_t3_loop.trips) : Fin 2 → Nat :=
  let c0_48 : Index := 0#32
  let c256_i32_46 : BitVec 32 := 256#32
  let c0_i32_42 : BitVec 32 := 0#32
  let c1_i32_43 : BitVec 32 := 1#32
  let arg17 : BitVec 32 := Scf.iv c0_i32_42 c1_i32_43 k0_t3
  let v164 : BitVec 32 := Scalar.addi c256_i32_46 arg17
  let c128_i32_47 : BitVec 32 := 128#32
  let v165 : BitVec 32 := Scalar.muli v164 c128_i32_47
  let v166 : BitVec 32 := v165
  let v167 : Index := Scalar.indexCast v166
  ![0, v167.toNat]
def k0_off15 (k0_t3 : Fin k0_t3_loop.trips) : Fin 2 → Nat :=
  let c0_i32_42 : BitVec 32 := 0#32
  let c1_i32_43 : BitVec 32 := 1#32
  let arg17 : BitVec 32 := Scf.iv c0_i32_42 c1_i32_43 k0_t3
  let v173 : Index := Scalar.indexCast arg17
  let c0_50 : Index := 0#32
  ![v173.toNat, 0]
def k0_mult155 (k0_t3 : Fin k0_t3_loop.trips) : BitVec 32 :=
  let c0_i32_42 : BitVec 32 := 0#32
  let c1_i32_43 : BitVec 32 := 1#32
  let arg17 : BitVec 32 := Scf.iv c0_i32_42 c1_i32_43 k0_t3
  let c128_i32_56 : BitVec 32 := 128#32
  let v187 : BitVec 32 := Scalar.muli arg17 c128_i32_56
  v187
def k0_off16 (k0_t3 : Fin k0_t3_loop.trips) : Fin 2 → Nat :=
  let c0_57 : Index := 0#32
  let c0_i32_42 : BitVec 32 := 0#32
  let c1_i32_43 : BitVec 32 := 1#32
  let arg17 : BitVec 32 := Scf.iv c0_i32_42 c1_i32_43 k0_t3
  let c128_i32_56 : BitVec 32 := 128#32
  let v187 : BitVec 32 := Scalar.muli arg17 c128_i32_56
  let v188 : BitVec 32 := v187
  let v189 : Index := Scalar.indexCast v188
  ![0, v189.toNat]
def k0_mult156 (k0_t3 : Fin k0_t3_loop.trips) : BitVec 32 :=
  let c0_i32_42 : BitVec 32 := 0#32
  let c1_i32_43 : BitVec 32 := 1#32
  let arg17 : BitVec 32 := Scf.iv c0_i32_42 c1_i32_43 k0_t3
  let c128_i32_79 : BitVec 32 := 128#32
  let v255 : BitVec 32 := Scalar.muli arg17 c128_i32_79
  v255
def k0_mult157 (k0_t3 : Fin k0_t3_loop.trips) : BitVec 32 :=
  let c0_i32_42 : BitVec 32 := 0#32
  let c1_i32_43 : BitVec 32 := 1#32
  let arg17 : BitVec 32 := Scf.iv c0_i32_42 c1_i32_43 k0_t3
  let c0_i32_82 : BitVec 32 := 0#32
  let v260 : BitVec 1 := Scalar.cmpi .sgt arg17 c0_i32_82
  let v261 : BitVec 32 := Scalar.extui v260
  let c0_i32_83 : BitVec 32 := 0#32
  let v262 : BitVec 1 := Scalar.cmpi .slt arg17 c0_i32_83
  let v263 : BitVec 32 := Scalar.extui v262
  let v264 : BitVec 32 := Scalar.subi v261 v263
  let c128_i32_81 : BitVec 32 := 128#32
  let c0_i32_84 : BitVec 32 := 0#32
  let v265 : BitVec 1 := Scalar.cmpi .sgt c128_i32_81 c0_i32_84
  let v266 : BitVec 32 := Scalar.extui v265
  let c0_i32_85 : BitVec 32 := 0#32
  let v267 : BitVec 1 := Scalar.cmpi .slt c128_i32_81 c0_i32_85
  let v268 : BitVec 32 := Scalar.extui v267
  let v269 : BitVec 32 := Scalar.subi v266 v268
  let v270 : BitVec 1 := Scalar.cmpi .ne v264 v269
  let v271 : BitVec 32 := Scalar.remsi arg17 c128_i32_81
  let c0_i32_86 : BitVec 32 := 0#32
  let v272 : BitVec 1 := Scalar.cmpi .ne v271 c0_i32_86
  let v273 : BitVec 1 := Scalar.andi v270 v272
  let v259 : BitVec 32 := Scalar.divsi arg17 c128_i32_81
  let c1_i32_87 : BitVec 32 := 1#32
  let v274 : BitVec 32 := Scalar.subi v259 c1_i32_87
  let v275 : BitVec 32 := Scalar.select v273 v274 v259
  let c128_i32_88 : BitVec 32 := 128#32
  let v276 : BitVec 32 := Scalar.muli v275 c128_i32_88
  v276
def k0_off17 (k0_t3 : Fin k0_t3_loop.trips) : Fin 2 → Nat :=
  let c0_95 : Index := 0#32
  let c0_i32_42 : BitVec 32 := 0#32
  let c1_i32_43 : BitVec 32 := 1#32
  let arg17 : BitVec 32 := Scf.iv c0_i32_42 c1_i32_43 k0_t3
  let c0_i32_82 : BitVec 32 := 0#32
  let v260 : BitVec 1 := Scalar.cmpi .sgt arg17 c0_i32_82
  let v261 : BitVec 32 := Scalar.extui v260
  let c0_i32_83 : BitVec 32 := 0#32
  let v262 : BitVec 1 := Scalar.cmpi .slt arg17 c0_i32_83
  let v263 : BitVec 32 := Scalar.extui v262
  let v264 : BitVec 32 := Scalar.subi v261 v263
  let c128_i32_81 : BitVec 32 := 128#32
  let c0_i32_84 : BitVec 32 := 0#32
  let v265 : BitVec 1 := Scalar.cmpi .sgt c128_i32_81 c0_i32_84
  let v266 : BitVec 32 := Scalar.extui v265
  let c0_i32_85 : BitVec 32 := 0#32
  let v267 : BitVec 1 := Scalar.cmpi .slt c128_i32_81 c0_i32_85
  let v268 : BitVec 32 := Scalar.extui v267
  let v269 : BitVec 32 := Scalar.subi v266 v268
  let v270 : BitVec 1 := Scalar.cmpi .ne v264 v269
  let v271 : BitVec 32 := Scalar.remsi arg17 c128_i32_81
  let c0_i32_86 : BitVec 32 := 0#32
  let v272 : BitVec 1 := Scalar.cmpi .ne v271 c0_i32_86
  let v273 : BitVec 1 := Scalar.andi v270 v272
  let v259 : BitVec 32 := Scalar.divsi arg17 c128_i32_81
  let c1_i32_87 : BitVec 32 := 1#32
  let v274 : BitVec 32 := Scalar.subi v259 c1_i32_87
  let v275 : BitVec 32 := Scalar.select v273 v274 v259
  let c128_i32_88 : BitVec 32 := 128#32
  let v276 : BitVec 32 := Scalar.muli v275 c128_i32_88
  let v277 : BitVec 32 := v276
  let v292 : Index := Scalar.indexCast v277
  ![0, v292.toNat]
def k0_off18 (k0_t3 : Fin k0_t3_loop.trips) : Fin 3 → Nat :=
  let c0_i32_42 : BitVec 32 := 0#32
  let c1_i32_43 : BitVec 32 := 1#32
  let arg17 : BitVec 32 := Scf.iv c0_i32_42 c1_i32_43 k0_t3
  let v297 : Index := Scalar.indexCast arg17
  let c0_96 : Index := 0#32
  let c0_97 : Index := 0#32
  ![v297.toNat, 0, 0]
def k0_off19 (k0_t3 : Fin k0_t3_loop.trips) : Fin 3 → Nat :=
  let c0_i32_42 : BitVec 32 := 0#32
  let c1_i32_43 : BitVec 32 := 1#32
  let arg17 : BitVec 32 := Scf.iv c0_i32_42 c1_i32_43 k0_t3
  let v334 : Index := Scalar.indexCast arg17
  let c1_110 : Index := 1#32
  let c0_111 : Index := 0#32
  ![v334.toNat, 1, 0]
def k0_off20 (k0_t3 : Fin k0_t3_loop.trips) : Fin 3 → Nat :=
  let c0_i32_42 : BitVec 32 := 0#32
  let c1_i32_43 : BitVec 32 := 1#32
  let arg17 : BitVec 32 := Scf.iv c0_i32_42 c1_i32_43 k0_t3
  let v359 : Index := Scalar.indexCast arg17
  let c2_120 : Index := 2#32
  let c0_121 : Index := 0#32
  ![v359.toNat, 2, 0]
def k0_off21 (k0_t3 : Fin k0_t3_loop.trips) : Fin 3 → Nat :=
  let c0_i32_42 : BitVec 32 := 0#32
  let c1_i32_43 : BitVec 32 := 1#32
  let arg17 : BitVec 32 := Scf.iv c0_i32_42 c1_i32_43 k0_t3
  let v384 : Index := Scalar.indexCast arg17
  let c3_130 : Index := 3#32
  let c0_131 : Index := 0#32
  ![v384.toNat, 3, 0]
def k0_off22 (k0_t3 : Fin k0_t3_loop.trips) : Fin 3 → Nat :=
  let c0_i32_42 : BitVec 32 := 0#32
  let c1_i32_43 : BitVec 32 := 1#32
  let arg17 : BitVec 32 := Scf.iv c0_i32_42 c1_i32_43 k0_t3
  let v409 : Index := Scalar.indexCast arg17
  let c4_140 : Index := 4#32
  let c0_141 : Index := 0#32
  ![v409.toNat, 4, 0]
def k0_off23 (k0_t3 : Fin k0_t3_loop.trips) : Fin 3 → Nat :=
  let c0_i32_42 : BitVec 32 := 0#32
  let c1_i32_43 : BitVec 32 := 1#32
  let arg17 : BitVec 32 := Scf.iv c0_i32_42 c1_i32_43 k0_t3
  let v434 : Index := Scalar.indexCast arg17
  let c5_150 : Index := 5#32
  let c0_151 : Index := 0#32
  ![v434.toNat, 5, 0]
def k0_off24 (k0_t3 : Fin k0_t3_loop.trips) : Fin 3 → Nat :=
  let c0_i32_42 : BitVec 32 := 0#32
  let c1_i32_43 : BitVec 32 := 1#32
  let arg17 : BitVec 32 := Scf.iv c0_i32_42 c1_i32_43 k0_t3
  let v459 : Index := Scalar.indexCast arg17
  let c6_160 : Index := 6#32
  let c0_161 : Index := 0#32
  ![v459.toNat, 6, 0]
def k0_off25 (k0_t3 : Fin k0_t3_loop.trips) : Fin 3 → Nat :=
  let c0_i32_42 : BitVec 32 := 0#32
  let c1_i32_43 : BitVec 32 := 1#32
  let arg17 : BitVec 32 := Scf.iv c0_i32_42 c1_i32_43 k0_t3
  let v484 : Index := Scalar.indexCast arg17
  let c7_169 : Index := 7#32
  let c0_170 : Index := 0#32
  ![v484.toNat, 7, 0]
def k0_mult158 (k0_t3 : Fin k0_t3_loop.trips) : BitVec 32 :=
  let c0_i32_42 : BitVec 32 := 0#32
  let c1_i32_43 : BitVec 32 := 1#32
  let arg17 : BitVec 32 := Scf.iv c0_i32_42 c1_i32_43 k0_t3
  let c128_i32_179 : BitVec 32 := 128#32
  let v508 : BitVec 32 := Scalar.muli arg17 c128_i32_179
  v508
def k0_mult159 (k0_t3 : Fin k0_t3_loop.trips) : BitVec 32 :=
  let c256_i32_62 : BitVec 32 := 256#32
  let c0_i32_42 : BitVec 32 := 0#32
  let c1_i32_43 : BitVec 32 := 1#32
  let arg17 : BitVec 32 := Scf.iv c0_i32_42 c1_i32_43 k0_t3
  let v207 : BitVec 32 := Scalar.addi c256_i32_62 arg17
  let c128_i32_198 : BitVec 32 := 128#32
  let v559 : BitVec 32 := Scalar.muli v207 c128_i32_198
  v559
def k0_mult160 (k0_t3 : Fin k0_t3_loop.trips) : BitVec 32 :=
  let c256_i32_62 : BitVec 32 := 256#32
  let c0_i32_42 : BitVec 32 := 0#32
  let c1_i32_43 : BitVec 32 := 1#32
  let arg17 : BitVec 32 := Scf.iv c0_i32_42 c1_i32_43 k0_t3
  let v207 : BitVec 32 := Scalar.addi c256_i32_62 arg17
  let c0_i32_201 : BitVec 32 := 0#32
  let v564 : BitVec 1 := Scalar.cmpi .sgt v207 c0_i32_201
  let v565 : BitVec 32 := Scalar.extui v564
  let c0_i32_202 : BitVec 32 := 0#32
  let v566 : BitVec 1 := Scalar.cmpi .slt v207 c0_i32_202
  let v567 : BitVec 32 := Scalar.extui v566
  let v568 : BitVec 32 := Scalar.subi v565 v567
  let c128_i32_200 : BitVec 32 := 128#32
  let c0_i32_203 : BitVec 32 := 0#32
  let v569 : BitVec 1 := Scalar.cmpi .sgt c128_i32_200 c0_i32_203
  let v570 : BitVec 32 := Scalar.extui v569
  let c0_i32_204 : BitVec 32 := 0#32
  let v571 : BitVec 1 := Scalar.cmpi .slt c128_i32_200 c0_i32_204
  let v572 : BitVec 32 := Scalar.extui v571
  let v573 : BitVec 32 := Scalar.subi v570 v572
  let v574 : BitVec 1 := Scalar.cmpi .ne v568 v573
  let v575 : BitVec 32 := Scalar.remsi v207 c128_i32_200
  let c0_i32_205 : BitVec 32 := 0#32
  let v576 : BitVec 1 := Scalar.cmpi .ne v575 c0_i32_205
  let v577 : BitVec 1 := Scalar.andi v574 v576
  let v563 : BitVec 32 := Scalar.divsi v207 c128_i32_200
  let c1_i32_206 : BitVec 32 := 1#32
  let v578 : BitVec 32 := Scalar.subi v563 c1_i32_206
  let v579 : BitVec 32 := Scalar.select v577 v578 v563
  let c128_i32_207 : BitVec 32 := 128#32
  let v580 : BitVec 32 := Scalar.muli v579 c128_i32_207
  v580
def k0_off26 (k0_t3 : Fin k0_t3_loop.trips) : Fin 2 → Nat :=
  let c0_214 : Index := 0#32
  let c256_i32_62 : BitVec 32 := 256#32
  let c0_i32_42 : BitVec 32 := 0#32
  let c1_i32_43 : BitVec 32 := 1#32
  let arg17 : BitVec 32 := Scf.iv c0_i32_42 c1_i32_43 k0_t3
  let v207 : BitVec 32 := Scalar.addi c256_i32_62 arg17
  let c0_i32_201 : BitVec 32 := 0#32
  let v564 : BitVec 1 := Scalar.cmpi .sgt v207 c0_i32_201
  let v565 : BitVec 32 := Scalar.extui v564
  let c0_i32_202 : BitVec 32 := 0#32
  let v566 : BitVec 1 := Scalar.cmpi .slt v207 c0_i32_202
  let v567 : BitVec 32 := Scalar.extui v566
  let v568 : BitVec 32 := Scalar.subi v565 v567
  let c128_i32_200 : BitVec 32 := 128#32
  let c0_i32_203 : BitVec 32 := 0#32
  let v569 : BitVec 1 := Scalar.cmpi .sgt c128_i32_200 c0_i32_203
  let v570 : BitVec 32 := Scalar.extui v569
  let c0_i32_204 : BitVec 32 := 0#32
  let v571 : BitVec 1 := Scalar.cmpi .slt c128_i32_200 c0_i32_204
  let v572 : BitVec 32 := Scalar.extui v571
  let v573 : BitVec 32 := Scalar.subi v570 v572
  let v574 : BitVec 1 := Scalar.cmpi .ne v568 v573
  let v575 : BitVec 32 := Scalar.remsi v207 c128_i32_200
  let c0_i32_205 : BitVec 32 := 0#32
  let v576 : BitVec 1 := Scalar.cmpi .ne v575 c0_i32_205
  let v577 : BitVec 1 := Scalar.andi v574 v576
  let v563 : BitVec 32 := Scalar.divsi v207 c128_i32_200
  let c1_i32_206 : BitVec 32 := 1#32
  let v578 : BitVec 32 := Scalar.subi v563 c1_i32_206
  let v579 : BitVec 32 := Scalar.select v577 v578 v563
  let c128_i32_207 : BitVec 32 := 128#32
  let v580 : BitVec 32 := Scalar.muli v579 c128_i32_207
  let v581 : BitVec 32 := v580
  let v596 : Index := Scalar.indexCast v581
  ![0, v596.toNat]
def k0_off27 (k0_t3 : Fin k0_t3_loop.trips) : Fin 3 → Nat :=
  let c256_i32_62 : BitVec 32 := 256#32
  let c0_i32_42 : BitVec 32 := 0#32
  let c1_i32_43 : BitVec 32 := 1#32
  let arg17 : BitVec 32 := Scf.iv c0_i32_42 c1_i32_43 k0_t3
  let v207 : BitVec 32 := Scalar.addi c256_i32_62 arg17
  let v601 : Index := Scalar.indexCast v207
  let c0_215 : Index := 0#32
  let c0_216 : Index := 0#32
  ![v601.toNat, 0, 0]
def k0_off28 (k0_t3 : Fin k0_t3_loop.trips) : Fin 3 → Nat :=
  let c256_i32_62 : BitVec 32 := 256#32
  let c0_i32_42 : BitVec 32 := 0#32
  let c1_i32_43 : BitVec 32 := 1#32
  let arg17 : BitVec 32 := Scf.iv c0_i32_42 c1_i32_43 k0_t3
  let v207 : BitVec 32 := Scalar.addi c256_i32_62 arg17
  let v638 : Index := Scalar.indexCast v207
  let c1_229 : Index := 1#32
  let c0_230 : Index := 0#32
  ![v638.toNat, 1, 0]
def k0_off29 (k0_t3 : Fin k0_t3_loop.trips) : Fin 3 → Nat :=
  let c256_i32_62 : BitVec 32 := 256#32
  let c0_i32_42 : BitVec 32 := 0#32
  let c1_i32_43 : BitVec 32 := 1#32
  let arg17 : BitVec 32 := Scf.iv c0_i32_42 c1_i32_43 k0_t3
  let v207 : BitVec 32 := Scalar.addi c256_i32_62 arg17
  let v663 : Index := Scalar.indexCast v207
  let c2_239 : Index := 2#32
  let c0_240 : Index := 0#32
  ![v663.toNat, 2, 0]
def k0_off30 (k0_t3 : Fin k0_t3_loop.trips) : Fin 3 → Nat :=
  let c256_i32_62 : BitVec 32 := 256#32
  let c0_i32_42 : BitVec 32 := 0#32
  let c1_i32_43 : BitVec 32 := 1#32
  let arg17 : BitVec 32 := Scf.iv c0_i32_42 c1_i32_43 k0_t3
  let v207 : BitVec 32 := Scalar.addi c256_i32_62 arg17
  let v688 : Index := Scalar.indexCast v207
  let c3_249 : Index := 3#32
  let c0_250 : Index := 0#32
  ![v688.toNat, 3, 0]
def k0_off31 (k0_t3 : Fin k0_t3_loop.trips) : Fin 3 → Nat :=
  let c256_i32_62 : BitVec 32 := 256#32
  let c0_i32_42 : BitVec 32 := 0#32
  let c1_i32_43 : BitVec 32 := 1#32
  let arg17 : BitVec 32 := Scf.iv c0_i32_42 c1_i32_43 k0_t3
  let v207 : BitVec 32 := Scalar.addi c256_i32_62 arg17
  let v713 : Index := Scalar.indexCast v207
  let c4_259 : Index := 4#32
  let c0_260 : Index := 0#32
  ![v713.toNat, 4, 0]
def k0_off32 (k0_t3 : Fin k0_t3_loop.trips) : Fin 3 → Nat :=
  let c256_i32_62 : BitVec 32 := 256#32
  let c0_i32_42 : BitVec 32 := 0#32
  let c1_i32_43 : BitVec 32 := 1#32
  let arg17 : BitVec 32 := Scf.iv c0_i32_42 c1_i32_43 k0_t3
  let v207 : BitVec 32 := Scalar.addi c256_i32_62 arg17
  let v738 : Index := Scalar.indexCast v207
  let c5_269 : Index := 5#32
  let c0_270 : Index := 0#32
  ![v738.toNat, 5, 0]
def k0_off33 (k0_t3 : Fin k0_t3_loop.trips) : Fin 3 → Nat :=
  let c256_i32_62 : BitVec 32 := 256#32
  let c0_i32_42 : BitVec 32 := 0#32
  let c1_i32_43 : BitVec 32 := 1#32
  let arg17 : BitVec 32 := Scf.iv c0_i32_42 c1_i32_43 k0_t3
  let v207 : BitVec 32 := Scalar.addi c256_i32_62 arg17
  let v763 : Index := Scalar.indexCast v207
  let c6_279 : Index := 6#32
  let c0_280 : Index := 0#32
  ![v763.toNat, 6, 0]
def k0_off34 (k0_t3 : Fin k0_t3_loop.trips) : Fin 3 → Nat :=
  let c256_i32_62 : BitVec 32 := 256#32
  let c0_i32_42 : BitVec 32 := 0#32
  let c1_i32_43 : BitVec 32 := 1#32
  let arg17 : BitVec 32 := Scf.iv c0_i32_42 c1_i32_43 k0_t3
  let v207 : BitVec 32 := Scalar.addi c256_i32_62 arg17
  let v788 : Index := Scalar.indexCast v207
  let c7_289 : Index := 7#32
  let c0_290 : Index := 0#32
  ![v788.toNat, 7, 0]
def k0_mult161 (k0_t3 : Fin k0_t3_loop.trips) : BitVec 32 :=
  let c256_i32_62 : BitVec 32 := 256#32
  let c0_i32_42 : BitVec 32 := 0#32
  let c1_i32_43 : BitVec 32 := 1#32
  let arg17 : BitVec 32 := Scf.iv c0_i32_42 c1_i32_43 k0_t3
  let v207 : BitVec 32 := Scalar.addi c256_i32_62 arg17
  let c128_i32_299 : BitVec 32 := 128#32
  let v812 : BitVec 32 := Scalar.muli v207 c128_i32_299
  v812
@[reducible] def k0_t4_loop : Scf.Loop 32 :=
  let c0_i32_42 : BitVec 32 := 0#32
  let c64_i32_43 : BitVec 32 := 64#32
  let v156 : BitVec 32 := Scalar.addi c0_i32_42 c64_i32_43
  let c1_i32_44 : BitVec 32 := 1#32
  ⟨c0_i32_42, v156, c1_i32_44⟩
def k0_off35 (i : grid0.Coords) (v13 : BitVec 32) (v17 : BitVec 32) (v21 : BitVec 32) (v25 : BitVec 32) (v29 : BitVec 32) (v33 : BitVec 32) (v37 : BitVec 32) (k0_t4 : Fin k0_t4_loop.trips) (c0_i32_46 : BitVec 32) : Fin 3 → Nat :=
  let c0_i32_42 : BitVec 32 := 0#32
  let c1_i32_44 : BitVec 32 := 1#32
  let arg17 : BitVec 32 := Scf.iv c0_i32_42 c1_i32_44 k0_t4
  let c8_i32 : BitVec 32 := 8#32
  let v157 : BitVec 32 := Scalar.muli arg17 c8_i32
  let v158 : BitVec 32 := Scalar.addi v157 c0_i32_46
  let v159 : Index := Scalar.indexCast v158
  let c0_i32_4 : BitVec 32 := 0#32
  let arg0 : BitVec 32 := BitVec.ofNat 32 (i 0).val
  let c32_i32 : BitVec 32 := 32#32
  let v0 : BitVec 32 := Scalar.muli arg0 c32_i32
  let v14 : BitVec 1 := Scalar.cmpi .sle v13 v0
  let v15 : BitVec 32 := Scalar.extui v14
  let v16 : BitVec 32 := Scalar.addi c0_i32_4 v15
  let v18 : BitVec 1 := Scalar.cmpi .sle v17 v0
  let v19 : BitVec 32 := Scalar.extui v18
  let v20 : BitVec 32 := Scalar.addi v16 v19
  let v22 : BitVec 1 := Scalar.cmpi .sle v21 v0
  let v23 : BitVec 32 := Scalar.extui v22
  let v24 : BitVec 32 := Scalar.addi v20 v23
  let v26 : BitVec 1 := Scalar.cmpi .sle v25 v0
  let v27 : BitVec 32 := Scalar.extui v26
  let v28 : BitVec 32 := Scalar.addi v24 v27
  let v30 : BitVec 1 := Scalar.cmpi .sle v29 v0
  let v31 : BitVec 32 := Scalar.extui v30
  let v32 : BitVec 32 := Scalar.addi v28 v31
  let v34 : BitVec 1 := Scalar.cmpi .sle v33 v0
  let v35 : BitVec 32 := Scalar.extui v34
  let v36 : BitVec 32 := Scalar.addi v32 v35
  let v38 : BitVec 1 := Scalar.cmpi .sle v37 v0
  let v39 : BitVec 32 := Scalar.extui v38
  let v40 : BitVec 32 := Scalar.addi v36 v39
  let v160 : Index := Scalar.indexCast v40
  let c0_47 : Index := 0#32
  ![v159.toNat, v160.toNat, 0]
def k0_cond4 (i : grid0.Coords) (v13 : BitVec 32) (v17 : BitVec 32) (v21 : BitVec 32) (v25 : BitVec 32) (v29 : BitVec 32) (v33 : BitVec 32) (v37 : BitVec 32) (v43 : BitVec 32) (v47 : BitVec 32) (v51 : BitVec 32) (v55 : BitVec 32) (v59 : BitVec 32) (v63 : BitVec 32) (v67 : BitVec 32) (v81 : BitVec 32) (v85 : BitVec 32) (v89 : BitVec 32) (v93 : BitVec 32) (v97 : BitVec 32) (v101 : BitVec 32) (v105 : BitVec 32) : BitVec 1 :=
  let c0_i32_4 : BitVec 32 := 0#32
  let arg0 : BitVec 32 := BitVec.ofNat 32 (i 0).val
  let c32_i32 : BitVec 32 := 32#32
  let v0 : BitVec 32 := Scalar.muli arg0 c32_i32
  let v14 : BitVec 1 := Scalar.cmpi .sle v13 v0
  let v15 : BitVec 32 := Scalar.extui v14
  let v16 : BitVec 32 := Scalar.addi c0_i32_4 v15
  let v18 : BitVec 1 := Scalar.cmpi .sle v17 v0
  let v19 : BitVec 32 := Scalar.extui v18
  let v20 : BitVec 32 := Scalar.addi v16 v19
  let v22 : BitVec 1 := Scalar.cmpi .sle v21 v0
  let v23 : BitVec 32 := Scalar.extui v22
  let v24 : BitVec 32 := Scalar.addi v20 v23
  let v26 : BitVec 1 := Scalar.cmpi .sle v25 v0
  let v27 : BitVec 32 := Scalar.extui v26
  let v28 : BitVec 32 := Scalar.addi v24 v27
  let v30 : BitVec 1 := Scalar.cmpi .sle v29 v0
  let v31 : BitVec 32 := Scalar.extui v30
  let v32 : BitVec 32 := Scalar.addi v28 v31
  let v34 : BitVec 1 := Scalar.cmpi .sle v33 v0
  let v35 : BitVec 32 := Scalar.extui v34
  let v36 : BitVec 32 := Scalar.addi v32 v35
  let v38 : BitVec 1 := Scalar.cmpi .sle v37 v0
  let v39 : BitVec 32 := Scalar.extui v38
  let v40 : BitVec 32 := Scalar.addi v36 v39
  let c0_i32_7 : BitVec 32 := 0#32
  let c32_i32_5 : BitVec 32 := 32#32
  let v41 : BitVec 32 := Scalar.addi v0 c32_i32_5
  let c1_i32 : BitVec 32 := 1#32
  let v42 : BitVec 32 := Scalar.subi v41 c1_i32
  let v44 : BitVec 1 := Scalar.cmpi .sle v43 v42
  let v45 : BitVec 32 := Scalar.extui v44
  let v46 : BitVec 32 := Scalar.addi c0_i32_7 v45
  let v48 : BitVec 1 := Scalar.cmpi .sle v47 v42
  let v49 : BitVec 32 := Scalar.extui v48
  let v50 : BitVec 32 := Scalar.addi v46 v49
  let v52 : BitVec 1 := Scalar.cmpi .sle v51 v42
  let v53 : BitVec 32 := Scalar.extui v52
  let v54 : BitVec 32 := Scalar.addi v50 v53
  let v56 : BitVec 1 := Scalar.cmpi .sle v55 v42
  let v57 : BitVec 32 := Scalar.extui v56
  let v58 : BitVec 32 := Scalar.addi v54 v57
  let v60 : BitVec 1 := Scalar.cmpi .sle v59 v42
  let v61 : BitVec 32 := Scalar.extui v60
  let v62 : BitVec 32 := Scalar.addi v58 v61
  let v64 : BitVec 1 := Scalar.cmpi .sle v63 v42
  let v65 : BitVec 32 := Scalar.extui v64
  let v66 : BitVec 32 := Scalar.addi v62 v65
  let v68 : BitVec 1 := Scalar.cmpi .sle v67 v42
  let v69 : BitVec 32 := Scalar.extui v68
  let v70 : BitVec 32 := Scalar.addi v66 v69
  let v77 : BitVec 1 := Scalar.cmpi .eq v40 v70
  let c39_i32 : BitVec 32 := 39#32
  let v78 : BitVec 1 := Scalar.cmpi .eq arg0 c39_i32
  let c0_i32_18 : BitVec 32 := 0#32
  let c64_i32 : BitVec 32 := 64#32
  let v79 : BitVec 32 := Scalar.addi v0 c64_i32
  let c1_i32_16 : BitVec 32 := 1#32
  let v80 : BitVec 32 := Scalar.subi v79 c1_i32_16
  let v82 : BitVec 1 := Scalar.cmpi .sle v81 v80
  let v83 : BitVec 32 := Scalar.extui v82
  let v84 : BitVec 32 := Scalar.addi c0_i32_18 v83
  let v86 : BitVec 1 := Scalar.cmpi .sle v85 v80
  let v87 : BitVec 32 := Scalar.extui v86
  let v88 : BitVec 32 := Scalar.addi v84 v87
  let v90 : BitVec 1 := Scalar.cmpi .sle v89 v80
  let v91 : BitVec 32 := Scalar.extui v90
  let v92 : BitVec 32 := Scalar.addi v88 v91
  let v94 : BitVec 1 := Scalar.cmpi .sle v93 v80
  let v95 : BitVec 32 := Scalar.extui v94
  let v96 : BitVec 32 := Scalar.addi v92 v95
  let v98 : BitVec 1 := Scalar.cmpi .sle v97 v80
  let v99 : BitVec 32 := Scalar.extui v98
  let v100 : BitVec 32 := Scalar.addi v96 v99
  let v102 : BitVec 1 := Scalar.cmpi .sle v101 v80
  let v103 : BitVec 32 := Scalar.extui v102
  let v104 : BitVec 32 := Scalar.addi v100 v103
  let v106 : BitVec 1 := Scalar.cmpi .sle v105 v80
  let v107 : BitVec 32 := Scalar.extui v106
  let v108 : BitVec 32 := Scalar.addi v104 v107
  let v109 : BitVec 1 := Scalar.cmpi .ne v108 v40
  let v110 : BitVec 1 := Scalar.ori v78 v109
  let v111 : BitVec 1 := Scalar.andi v77 v110
  let v112 : BitVec 32 := Scalar.extui v111
  let c0_i32_25 : BitVec 32 := 0#32
  let v113 : BitVec 1 := Scalar.cmpi .ne v112 c0_i32_25
  v113

def k0_chk2 (i : grid0.Coords) (v13 : BitVec 32) (v17 : BitVec 32) (v21 : BitVec 32) (v25 : BitVec 32) (v29 : BitVec 32) (v33 : BitVec 32) (v37 : BitVec 32) (v43 : BitVec 32) (v47 : BitVec 32) (v51 : BitVec 32) (v55 : BitVec 32) (v59 : BitVec 32) (v63 : BitVec 32) (v67 : BitVec 32) (v81 : BitVec 32) (v85 : BitVec 32) (v89 : BitVec 32) (v93 : BitVec 32) (v97 : BitVec 32) (v101 : BitVec 32) (v105 : BitVec 32) : Prop :=
  (∀ k0_t4 : Fin k0_t4_loop.trips, ∀ (k0_h4 : k0_cond4 i v13 v17 v21 v25 v29 v33 v37 v43 v47 v51 v55 v59 v63 v67 v81 v85 v89 v93 v97 v101 v105 = 1#1), ∀ (r : Fin 8), ∀ a, (k0_off35 i v13 v17 v21 v25 v29 v33 v37 k0_t4 (BitVec.ofNat 32 r.val)) a + S1x1x128.size a ≤ S512x8x128.size a)
theorem k0_off35_inb : ∀ (i : grid0.Coords) (v13 : BitVec 32) (v17 : BitVec 32) (v21 : BitVec 32) (v25 : BitVec 32) (v29 : BitVec 32) (v33 : BitVec 32) (v37 : BitVec 32) (v43 : BitVec 32) (v47 : BitVec 32) (v51 : BitVec 32) (v55 : BitVec 32) (v59 : BitVec 32) (v63 : BitVec 32) (v67 : BitVec 32) (v81 : BitVec 32) (v85 : BitVec 32) (v89 : BitVec 32) (v93 : BitVec 32) (v97 : BitVec 32) (v101 : BitVec 32) (v105 : BitVec 32) (k0_hw2 : k0_chk2 i v13 v17 v21 v25 v29 v33 v37 v43 v47 v51 v55 v59 v63 v67 v81 v85 v89 v93 v97 v101 v105) (k0_t4 : Fin k0_t4_loop.trips), ∀ (k0_h4 : k0_cond4 i v13 v17 v21 v25 v29 v33 v37 v43 v47 v51 v55 v59 v63 v67 v81 v85 v89 v93 v97 v101 v105 = 1#1), ∀ (r : Fin 8), ∀ a, (k0_off35 i v13 v17 v21 v25 v29 v33 v37 k0_t4 (BitVec.ofNat 32 r.val)) a + S1x1x128.size a ≤ S512x8x128.size a := fun i v13 v17 v21 v25 v29 v33 v37 v43 v47 v51 v55 v59 v63 v67 v81 v85 v89 v93 v97 v101 v105 k0_hw2 k0_t4 k0_h4 r => k0_hw2 k0_t4 k0_h4 r

def k0_off36 (k0_t4 : Fin k0_t4_loop.trips) (c0_i32_46 : BitVec 32) : Fin 3 → Nat :=
  let c0_i32_42 : BitVec 32 := 0#32
  let c1_i32_44 : BitVec 32 := 1#32
  let arg17 : BitVec 32 := Scf.iv c0_i32_42 c1_i32_44 k0_t4
  let c8_i32 : BitVec 32 := 8#32
  let v157 : BitVec 32 := Scalar.muli arg17 c8_i32
  let v158 : BitVec 32 := Scalar.addi v157 c0_i32_46
  let v163 : Index := Scalar.indexCast v158
  let c0_48 : Index := 0#32
  let c0_49 : Index := 0#32
  ![v163.toNat, 0, 0]
def k0_cond5 (i : grid0.Coords) : BitVec 1 :=
  let arg0 : BitVec 32 := BitVec.ofNat 32 (i 0).val
  let c39_i32_40 : BitVec 32 := 39#32
  let v153 : BitVec 1 := Scalar.cmpi .eq arg0 c39_i32_40
  let v154 : BitVec 32 := Scalar.extui v153
  let c0_i32_41 : BitVec 32 := 0#32
  let v155 : BitVec 1 := Scalar.cmpi .ne v154 c0_i32_41
  v155

@[reducible] def k0_t5_loop : Scf.Loop 32 :=
  let c0_i32_42 : BitVec 32 := 0#32
  let c64_i32_43 : BitVec 32 := 64#32
  let v156 : BitVec 32 := Scalar.addi c0_i32_42 c64_i32_43
  let c1_i32_44 : BitVec 32 := 1#32
  ⟨c0_i32_42, v156, c1_i32_44⟩
def k0_off37 (k0_t5 : Fin k0_t5_loop.trips) (c0_i32_46 : BitVec 32) : Fin 3 → Nat :=
  let c0_i32_42 : BitVec 32 := 0#32
  let c1_i32_44 : BitVec 32 := 1#32
  let arg17 : BitVec 32 := Scf.iv c0_i32_42 c1_i32_44 k0_t5
  let c8_i32 : BitVec 32 := 8#32
  let v157 : BitVec 32 := Scalar.muli arg17 c8_i32
  let v158 : BitVec 32 := Scalar.addi v157 c0_i32_46
  let v159 : Index := Scalar.indexCast v158
  let c0_47 : Index := 0#32
  let c0_48 : Index := 0#32
  ![v159.toNat, 0, 0]
def k0_mult162 (k0_t5 : Fin k0_t5_loop.trips) : BitVec 32 :=
  let c0_i32_42 : BitVec 32 := 0#32
  let c1_i32_44 : BitVec 32 := 1#32
  let arg17 : BitVec 32 := Scf.iv c0_i32_42 c1_i32_44 k0_t5
  let c8_i32 : BitVec 32 := 8#32
  let v157 : BitVec 32 := Scalar.muli arg17 c8_i32
  let c0_i32_46 : BitVec 32 := 0#32
  let v158 : BitVec 32 := Scalar.addi v157 c0_i32_46
  let c128_i32 : BitVec 32 := 128#32
  let v162 : BitVec 32 := Scalar.muli v158 c128_i32
  v162
def k0_off38 (k0_t5 : Fin k0_t5_loop.trips) (c0_i32_46 : BitVec 32) : Fin 2 → Nat :=
  let c0_49 : Index := 0#32
  let c0_i32_42 : BitVec 32 := 0#32
  let c1_i32_44 : BitVec 32 := 1#32
  let arg17 : BitVec 32 := Scf.iv c0_i32_42 c1_i32_44 k0_t5
  let c8_i32 : BitVec 32 := 8#32
  let v157 : BitVec 32 := Scalar.muli arg17 c8_i32
  let v158 : BitVec 32 := Scalar.addi v157 c0_i32_46
  let c128_i32 : BitVec 32 := 128#32
  let v162 : BitVec 32 := Scalar.muli v158 c128_i32
  let v163 : BitVec 32 := v162
  let v164 : Index := Scalar.indexCast v163
  ![0, v164.toNat]
def k0_mult163 (k0_t5 : Fin k0_t5_loop.trips) : BitVec 32 :=
  let c0_i32_42 : BitVec 32 := 0#32
  let c1_i32_44 : BitVec 32 := 1#32
  let arg17 : BitVec 32 := Scf.iv c0_i32_42 c1_i32_44 k0_t5
  let c8_i32_50 : BitVec 32 := 8#32
  let v166 : BitVec 32 := Scalar.muli arg17 c8_i32_50
  let c1_i32_51 : BitVec 32 := 1#32
  let v167 : BitVec 32 := Scalar.addi v166 c1_i32_51
  let c128_i32_54 : BitVec 32 := 128#32
  let v171 : BitVec 32 := Scalar.muli v167 c128_i32_54
  v171
def k0_mult164 (k0_t5 : Fin k0_t5_loop.trips) : BitVec 32 :=
  let c0_i32_42 : BitVec 32 := 0#32
  let c1_i32_44 : BitVec 32 := 1#32
  let arg17 : BitVec 32 := Scf.iv c0_i32_42 c1_i32_44 k0_t5
  let c8_i32_56 : BitVec 32 := 8#32
  let v175 : BitVec 32 := Scalar.muli arg17 c8_i32_56
  let c2_i32 : BitVec 32 := 2#32
  let v176 : BitVec 32 := Scalar.addi v175 c2_i32
  let c128_i32_59 : BitVec 32 := 128#32
  let v180 : BitVec 32 := Scalar.muli v176 c128_i32_59
  v180
def k0_mult165 (k0_t5 : Fin k0_t5_loop.trips) : BitVec 32 :=
  let c0_i32_42 : BitVec 32 := 0#32
  let c1_i32_44 : BitVec 32 := 1#32
  let arg17 : BitVec 32 := Scf.iv c0_i32_42 c1_i32_44 k0_t5
  let c8_i32_61 : BitVec 32 := 8#32
  let v184 : BitVec 32 := Scalar.muli arg17 c8_i32_61
  let c3_i32 : BitVec 32 := 3#32
  let v185 : BitVec 32 := Scalar.addi v184 c3_i32
  let c128_i32_64 : BitVec 32 := 128#32
  let v189 : BitVec 32 := Scalar.muli v185 c128_i32_64
  v189
def k0_mult166 (k0_t5 : Fin k0_t5_loop.trips) : BitVec 32 :=
  let c0_i32_42 : BitVec 32 := 0#32
  let c1_i32_44 : BitVec 32 := 1#32
  let arg17 : BitVec 32 := Scf.iv c0_i32_42 c1_i32_44 k0_t5
  let c8_i32_66 : BitVec 32 := 8#32
  let v193 : BitVec 32 := Scalar.muli arg17 c8_i32_66
  let c4_i32 : BitVec 32 := 4#32
  let v194 : BitVec 32 := Scalar.addi v193 c4_i32
  let c128_i32_69 : BitVec 32 := 128#32
  let v198 : BitVec 32 := Scalar.muli v194 c128_i32_69
  v198
def k0_mult167 (k0_t5 : Fin k0_t5_loop.trips) : BitVec 32 :=
  let c0_i32_42 : BitVec 32 := 0#32
  let c1_i32_44 : BitVec 32 := 1#32
  let arg17 : BitVec 32 := Scf.iv c0_i32_42 c1_i32_44 k0_t5
  let c8_i32_71 : BitVec 32 := 8#32
  let v202 : BitVec 32 := Scalar.muli arg17 c8_i32_71
  let c5_i32 : BitVec 32 := 5#32
  let v203 : BitVec 32 := Scalar.addi v202 c5_i32
  let c128_i32_74 : BitVec 32 := 128#32
  let v207 : BitVec 32 := Scalar.muli v203 c128_i32_74
  v207
def k0_mult168 (k0_t5 : Fin k0_t5_loop.trips) : BitVec 32 :=
  let c0_i32_42 : BitVec 32 := 0#32
  let c1_i32_44 : BitVec 32 := 1#32
  let arg17 : BitVec 32 := Scf.iv c0_i32_42 c1_i32_44 k0_t5
  let c8_i32_76 : BitVec 32 := 8#32
  let v211 : BitVec 32 := Scalar.muli arg17 c8_i32_76
  let c6_i32 : BitVec 32 := 6#32
  let v212 : BitVec 32 := Scalar.addi v211 c6_i32
  let c128_i32_79 : BitVec 32 := 128#32
  let v216 : BitVec 32 := Scalar.muli v212 c128_i32_79
  v216
def k0_mult169 (k0_t5 : Fin k0_t5_loop.trips) : BitVec 32 :=
  let c0_i32_42 : BitVec 32 := 0#32
  let c1_i32_44 : BitVec 32 := 1#32
  let arg17 : BitVec 32 := Scf.iv c0_i32_42 c1_i32_44 k0_t5
  let c8_i32_81 : BitVec 32 := 8#32
  let v220 : BitVec 32 := Scalar.muli arg17 c8_i32_81
  let c7_i32 : BitVec 32 := 7#32
  let v221 : BitVec 32 := Scalar.addi v220 c7_i32
  let c128_i32_84 : BitVec 32 := 128#32
  let v225 : BitVec 32 := Scalar.muli v221 c128_i32_84
  v225
def k0_cond3 (i : grid0.Coords) (v13 : BitVec 32) (v17 : BitVec 32) (v21 : BitVec 32) (v25 : BitVec 32) (v29 : BitVec 32) (v33 : BitVec 32) (v37 : BitVec 32) (v43 : BitVec 32) (v47 : BitVec 32) (v51 : BitVec 32) (v55 : BitVec 32) (v59 : BitVec 32) (v63 : BitVec 32) (v67 : BitVec 32) : BitVec 1 :=
  let c0_i32_4 : BitVec 32 := 0#32
  let arg0 : BitVec 32 := BitVec.ofNat 32 (i 0).val
  let c32_i32 : BitVec 32 := 32#32
  let v0 : BitVec 32 := Scalar.muli arg0 c32_i32
  let v14 : BitVec 1 := Scalar.cmpi .sle v13 v0
  let v15 : BitVec 32 := Scalar.extui v14
  let v16 : BitVec 32 := Scalar.addi c0_i32_4 v15
  let v18 : BitVec 1 := Scalar.cmpi .sle v17 v0
  let v19 : BitVec 32 := Scalar.extui v18
  let v20 : BitVec 32 := Scalar.addi v16 v19
  let v22 : BitVec 1 := Scalar.cmpi .sle v21 v0
  let v23 : BitVec 32 := Scalar.extui v22
  let v24 : BitVec 32 := Scalar.addi v20 v23
  let v26 : BitVec 1 := Scalar.cmpi .sle v25 v0
  let v27 : BitVec 32 := Scalar.extui v26
  let v28 : BitVec 32 := Scalar.addi v24 v27
  let v30 : BitVec 1 := Scalar.cmpi .sle v29 v0
  let v31 : BitVec 32 := Scalar.extui v30
  let v32 : BitVec 32 := Scalar.addi v28 v31
  let v34 : BitVec 1 := Scalar.cmpi .sle v33 v0
  let v35 : BitVec 32 := Scalar.extui v34
  let v36 : BitVec 32 := Scalar.addi v32 v35
  let v38 : BitVec 1 := Scalar.cmpi .sle v37 v0
  let v39 : BitVec 32 := Scalar.extui v38
  let v40 : BitVec 32 := Scalar.addi v36 v39
  let c0_i32_7 : BitVec 32 := 0#32
  let c32_i32_5 : BitVec 32 := 32#32
  let v41 : BitVec 32 := Scalar.addi v0 c32_i32_5
  let c1_i32 : BitVec 32 := 1#32
  let v42 : BitVec 32 := Scalar.subi v41 c1_i32
  let v44 : BitVec 1 := Scalar.cmpi .sle v43 v42
  let v45 : BitVec 32 := Scalar.extui v44
  let v46 : BitVec 32 := Scalar.addi c0_i32_7 v45
  let v48 : BitVec 1 := Scalar.cmpi .sle v47 v42
  let v49 : BitVec 32 := Scalar.extui v48
  let v50 : BitVec 32 := Scalar.addi v46 v49
  let v52 : BitVec 1 := Scalar.cmpi .sle v51 v42
  let v53 : BitVec 32 := Scalar.extui v52
  let v54 : BitVec 32 := Scalar.addi v50 v53
  let v56 : BitVec 1 := Scalar.cmpi .sle v55 v42
  let v57 : BitVec 32 := Scalar.extui v56
  let v58 : BitVec 32 := Scalar.addi v54 v57
  let v60 : BitVec 1 := Scalar.cmpi .sle v59 v42
  let v61 : BitVec 32 := Scalar.extui v60
  let v62 : BitVec 32 := Scalar.addi v58 v61
  let v64 : BitVec 1 := Scalar.cmpi .sle v63 v42
  let v65 : BitVec 32 := Scalar.extui v64
  let v66 : BitVec 32 := Scalar.addi v62 v65
  let v68 : BitVec 1 := Scalar.cmpi .sle v67 v42
  let v69 : BitVec 32 := Scalar.extui v68
  let v70 : BitVec 32 := Scalar.addi v66 v69
  let v74 : BitVec 1 := Scalar.cmpi .ne v40 v70
  let v75 : BitVec 32 := Scalar.extui v74
  let c0_i32_15 : BitVec 32 := 0#32
  let v76 : BitVec 1 := Scalar.cmpi .ne v75 c0_i32_15
  v76

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x65536 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x32768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x65536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x65536 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x65536 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x65536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x65536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
variable {F : FTy → Type} [FloatOps F] [Named F]
def κ : String → Option EReal := fun
  | "log2_e" => some (((Real.log 2)⁻¹ : ℝ) : EReal)
  | "neg_log2_e" => some ((-((Real.log 2)⁻¹) : ℝ) : EReal)
  | _ => none
-- ==== ReferenceIdeal.lean ====
abbrev S1280x65536 : Shape := ⟨2, ![1280, 65536]⟩
abbrev S1280x512 : Shape := ⟨2, ![1280, 512]⟩
abbrev S1280x32768 : Shape := ⟨2, ![1280, 32768]⟩
abbrev S9 : Shape := ⟨1, ![9]⟩
abbrev S8x65536 : Shape := ⟨2, ![8, 65536]⟩
abbrev S1280x512x1 : Shape := ⟨3, ![1280, 512, 1]⟩
abbrev S1280x512x128 : Shape := ⟨3, ![1280, 512, 128]⟩
abbrev S1 : Shape := ⟨1, ![1]⟩
abbrev S1x65536 : Shape := ⟨2, ![1, 65536]⟩
abbrev S65536 : Shape := ⟨1, ![65536]⟩

abbrev nBuf : Space → Nat
  | .hbm => 10
  | .vmem => 9
  | .smem => 1
  | _ => 0

abbrev bufTy : (tb : Table) → Fin (tcTables nBuf tb) → BufTy
  | .hbm, ⟨0, _⟩ => ⟨S1280x65536, .fp8e4m3⟩
  | .hbm, ⟨1, _⟩ => ⟨S1280x512, .f32⟩
  | .hbm, ⟨2, _⟩ => ⟨S1280x32768, .bf16⟩
  | .hbm, ⟨3, _⟩ => ⟨S9, .i32⟩
  | .hbm, ⟨4, _⟩ => ⟨S8x65536, .f32⟩
  | .hbm, ⟨5, _⟩ => ⟨S1280x65536, .fp8e5m2⟩
  | .hbm, ⟨6, _⟩ => ⟨S1280x512, .f32⟩
  | .hbm, ⟨7, _⟩ => ⟨S1280x65536, .fp8e5m2⟩
  | .hbm, ⟨8, _⟩ => ⟨S8x65536, .f32⟩
  | .hbm, ⟨9, _⟩ => ⟨S8x65536, .f32⟩
  | .local _ .vmem, ⟨0, _⟩ => ⟨S1280x65536, .fp8e4m3⟩
  | .local _ .vmem, ⟨1, _⟩ => ⟨S1280x512, .f32⟩
  | .local _ .vmem, ⟨2, _⟩ => ⟨S1280x32768, .bf16⟩
  | .local _ .vmem, ⟨3, _⟩ => ⟨S8x65536, .f32⟩
  | .local _ .vmem, ⟨4, _⟩ => ⟨S1280x65536, .fp8e5m2⟩
  | .local _ .vmem, ⟨5, _⟩ => ⟨S1280x512, .f32⟩
  | .local _ .vmem, ⟨6, _⟩ => ⟨S1280x65536, .fp8e5m2⟩
  | .local _ .vmem, ⟨7, _⟩ => ⟨S8x65536, .f32⟩
  | .local _ .vmem, ⟨8, _⟩ => ⟨S8x65536, .f32⟩
  | .local _ .smem, ⟨0, _⟩ => ⟨S9, .i32⟩
  | _, _ => ⟨S1280x65536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F] [Named F]

def κ : String → Option EReal := fun
  | "log2_e" => some (((Real.log 2)⁻¹ : ℝ) : EReal)
  | _ => none

abbrev grid0 : Pipeline.Grid := .none

abbrev stage0_0 : Fin 1 → Memref sig .tc .vmem S1280x65536 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1280x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1280x32768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S9 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x65536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1280x65536 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1280x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1280x65536 .fp8e5m2 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x65536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x65536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KitKernel.lean ====
/- What the runs of `Kernel` share: the region's entry contents, the table of offsets, the windows' blocks, and the memrefs the body is called with. -/
module

public import proofs.«01_k».proof.Proof.Gen.Kernel.Launch
public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers when the region is entered: as launched. -/
abbrev V (c : Dev nD) (b : Ref sig .tc) : Buf (Elt F) ((c : Thread nD τ).loc b) := m ((c : Thread nD τ).loc b)

set_option maxHeartbeats 800000 in
/-- The program up to the region: the region alone. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The table of group offsets, read off the launch memory. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- No window's index map reads the table, so its contents are admissible whatever they are. -/
theorem okM : ok0 (F := F) (tbl m) := trivial
abbrev adm : (pcfg0 (F := F)).Adm := ⟨tbl m, okM m⟩
abbrev cfgM : Pipeline.Cfg sig Λ₀ := cfg0 (adm m)

abbrev tbM : Memref sig .tc .smem S9 .i32 := Memref.whole main_arg3
abbrev htbM : tbM.IsWhole := Memref.isWhole_whole _
abbrev TbBuf (c : Dev nD) {S : Shape} {e : EltTy} (M : Memref sig .tc .smem S e) : Type := Buf (Elt F) (M.view.loc (c : Thread nD τ))
/-- The half of the table that the body holds, read only. -/
abbrev tbPt (c : Dev nD) {S : Shape} {e : EltTy} (M : Memref sig .tc .smem S e) (f : TbBuf (F := F) c M) : sProp 𝕄 :=
  M.view.loc (c : Thread nD τ) ↦{fullShare.right} f
theorem PhiT_eq (c : Dev nD) : (Pipeline.ΦT pre0 (tbl m) c : sProp 𝕄) = iprop(tbPt c tbM (tbl m 0)) := by
  unfold Pipeline.ΦT Pipeline.prefHeld
  rw [show (Finset.univ : Finset (Fin 1)) = {(0 : Fin 1)} from by decide, bigSep_singleton]
  rfl

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

theorem before_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3_of {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The argument arrays end unchanged, from a run to the frame's post. -/
theorem frame_of (rdat : (c : Dev nD) → Pipeline.RDat τ (Elt F) Unit ℕ (UR sig nD τ) ℕ ((Pipeline.pin pcfgs fun _ => adm m) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans (hA c 0),
      (Pipeline.RDat.FramePost.arr_in h c 1 rfl).trans (hA c 1),
      (Pipeline.RDat.FramePost.arr_in h c 2 rfl).trans (hA c 2),
      (h c).2 main_arg3 (by decide : main_arg3 ∈ Pipeline.restRefs sig spec0),
      (Pipeline.RDat.FramePost.arr_in h c 3 rfl).trans (hA c 3)⟩) h

theorem liveAt_0 : ∀ t : Fin (cfgM m).N, (cfgM m).idle 0 (grid0.coords t) = false :=
  (fun _ => rfl : ∀ t : Fin grid0.N, idle0 (tbl m) 0 (grid0.coords t) = false)
abbrev ms_0 (t : Fin (cfgM m).N) : Memref sig .tc .vmem S32x65536 .fp8e4m3 := spec0_0.stage ((cfgM m).slots t 0)
abbrev hs_0 (t : Fin (cfgM m).N) : (ms_0 m t).IsWhole := hstage0_0 (((cfgM m).slots t 0).cast nbuf0_0)
theorem liveAt_1 : ∀ t : Fin (cfgM m).N, (cfgM m).idle 1 (grid0.coords t) = false :=
  (fun _ => rfl : ∀ t : Fin grid0.N, idle0 (tbl m) 1 (grid0.coords t) = false)
abbrev ms_1 (t : Fin (cfgM m).N) : Memref sig .tc .vmem S32x512 .f32 := spec0_1.stage ((cfgM m).slots t 1)
abbrev hs_1 (t : Fin (cfgM m).N) : (ms_1 m t).IsWhole := hstage0_1 (((cfgM m).slots t 1).cast nbuf0_1)
theorem liveAt_2 : ∀ t : Fin (cfgM m).N, (cfgM m).idle 2 (grid0.coords t) = false :=
  (fun _ => rfl : ∀ t : Fin grid0.N, idle0 (tbl m) 2 (grid0.coords t) = false)
abbrev ms_2 (t : Fin (cfgM m).N) : Memref sig .tc .vmem S32x32768 .bf16 := spec0_2.stage ((cfgM m).slots t 2)
abbrev hs_2 (t : Fin (cfgM m).N) : (ms_2 m t).IsWhole := hstage0_2 (((cfgM m).slots t 2).cast nbuf0_2)
theorem liveAt_3 : ∀ t : Fin (cfgM m).N, (cfgM m).idle 3 (grid0.coords t) = false :=
  (fun _ => rfl : ∀ t : Fin grid0.N, idle0 (tbl m) 3 (grid0.coords t) = false)
abbrev ms_3 (t : Fin (cfgM m).N) : Memref sig .tc .vmem S8x65536 .f32 := spec0_3.stage ((cfgM m).slots t 3)
abbrev hs_3 (t : Fin (cfgM m).N) : (ms_3 m t).IsWhole := hstage0_3 (((cfgM m).slots t 3).cast nbuf0_3)
abbrev ms_4 (t : Fin (cfgM m).N) : Memref sig .tc .vmem S32x65536 .fp8e5m2 := spec0_4.stage ((cfgM m).slots t 4)
abbrev hs_4 (t : Fin (cfgM m).N) : (ms_4 m t).IsWhole := hstage0_4 (((cfgM m).slots t 4).cast nbuf0_4)
abbrev ms_5 (t : Fin (cfgM m).N) : Memref sig .tc .vmem S32x512 .f32 := spec0_5.stage ((cfgM m).slots t 5)
abbrev hs_5 (t : Fin (cfgM m).N) : (ms_5 m t).IsWhole := hstage0_5 (((cfgM m).slots t 5).cast nbuf0_5)
abbrev ms_6 (t : Fin (cfgM m).N) : Memref sig .tc .vmem S32x65536 .fp8e5m2 := spec0_6.stage ((cfgM m).slots t 6)
abbrev hs_6 (t : Fin (cfgM m).N) : (ms_6 m t).IsWhole := hstage0_6 (((cfgM m).slots t 6).cast nbuf0_6)
abbrev ms_7 (t : Fin (cfgM m).N) : Memref sig .tc .vmem S8x65536 .f32 := spec0_7.stage ((cfgM m).slots t 7)
abbrev hs_7 (t : Fin (cfgM m).N) : (ms_7 m t).IsWhole := hstage0_7 (((cfgM m).slots t 7).cast nbuf0_7)
abbrev ms_8 (t : Fin (cfgM m).N) : Memref sig .tc .vmem S8x65536 .f32 := spec0_8.stage ((cfgM m).slots t 8)
abbrev hs_8 (t : Fin (cfgM m).N) : (ms_8 m t).IsWhole := hstage0_8 (((cfgM m).slots t 8).cast nbuf0_8)
abbrev scM_0 : Memref sig .tc .vmem S512x8x128 .f32 := Memref.whole cc0_scratch0
abbrev scM_1 : Memref sig .tc .vmem S512x8x128 .f32 := Memref.whole cc0_scratch1
abbrev scM_2 : Memref sig .tc .vmem S512x8x128 .f32 := Memref.whole cc0_scratch2
abbrev scM_3 : Memref sig .tc .vmem S256x128 .f32 := Memref.whole cc0_scratch3
abbrev scM_4 : Memref sig .tc .vmem S32x128 .i32 := Memref.whole cc0_scratch4
abbrev scM_5 : Memref sig .tc .vmem S32x512 .f32 := Memref.whole cc0_scratch5

/-- The scoped buffers the windows do not use: the body's scratch, each owned at some contents. -/
theorem PhiA_eq (c : Dev nD) :
    (Pipeline.ΦA spec0 c : sProp 𝕄)
      = iprop(iprop((∃ d, owns (c : Thread nD τ) scM_0 fullShare d) ∗ (∃ d, owns (c : Thread nD τ) scM_1 fullShare d) ∗ (∃ d, owns (c : Thread nD τ) scM_2 fullShare d) ∗ (∃ d, owns (c : Thread nD τ) scM_3 fullShare d) ∗ (∃ d, owns (c : Thread nD τ) scM_4 fullShare d) ∗ (∃ d, owns (c : Thread nD τ) scM_5 fullShare d)) ∗ (∃ r, prngReg c r)) := by
  unfold Pipeline.ΦA; rw [scopedRest0_eq]; simp only [scM_0, scM_1, scM_2, scM_3, scM_4, scM_5, owns_whole]; try rfl

/-- The kernel body at point `t`, on the memrefs the pipeline calls it with. -/
abbrev bodyAt (a : (pcfg0 (F := F)).Adm) (t : Fin (cfg0 a).N) : Prog (TpuEff nD τ sig (Elt F) Λ₀ .tc) PUnit :=
  cc0_swiglu_bwd_quant (grid0.coords t) (Memref.whole main_arg3) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)

theorem defs₀_row (t : Fin (cfgM m).N) :
    defs₀ (F := F) .tc (cfgM m).body ((cfgM m).bodyArgs t ((cfgM m).slots t)) = bodyAt (adm m) t := by
  unfold defs₀; rw [Defs.onTc_tc]

end Cert.Proof.Kernel

end
-- ==== Proof.Loop2Kernel.lean ====
/- The two chunk loops of `Kernel`: per trip, what the region reads keeps its contents and what it writes is held at some contents. -/
module

public import proofs.«01_k».proof.Proof.Gen.Kernel.Launch
public import proofs.«01_k».proof.Proof.Gen.Kernel.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (arg1 : Memref sig .tc .smem S9 .i32) (harg1 : arg1.IsWhole)
  (arg2 : Memref sig .tc .vmem S32x65536 .fp8e4m3) (harg2 : arg2.IsWhole)
  (arg3 : Memref sig .tc .vmem S32x512 .f32) (harg3 : arg3.IsWhole)
  (arg4 : Memref sig .tc .vmem S32x32768 .bf16) (harg4 : arg4.IsWhole)
  (arg5 : Memref sig .tc .vmem S8x65536 .f32) (harg5 : arg5.IsWhole)
  (arg6 : Memref sig .tc .vmem S32x65536 .fp8e5m2) (harg6 : arg6.IsWhole)
  (arg7 : Memref sig .tc .vmem S32x512 .f32) (harg7 : arg7.IsWhole)
  (arg8 : Memref sig .tc .vmem S32x65536 .fp8e5m2) (harg8 : arg8.IsWhole)
  (arg9 : Memref sig .tc .vmem S8x65536 .f32) (harg9 : arg9.IsWhole)
  (arg10 : Memref sig .tc .vmem S8x65536 .f32) (harg10 : arg10.IsWhole)
  (arg11 : Memref sig .tc .vmem S512x8x128 .f32) (harg11 : arg11.IsWhole)
  (arg12 : Memref sig .tc .vmem S512x8x128 .f32) (harg12 : arg12.IsWhole)
  (arg13 : Memref sig .tc .vmem S512x8x128 .f32) (harg13 : arg13.IsWhole)
  (arg14 : Memref sig .tc .vmem S256x128 .f32) (harg14 : arg14.IsWhole)
  (arg15 : Memref sig .tc .vmem S32x128 .i32) (harg15 : arg15.IsWhole)
  (arg16 : Memref sig .tc .vmem S32x512 .f32) (harg16 : arg16.IsWhole)

set_option maxHeartbeats 40000000 in
/-- The loop of a chunk whose rows all belong to one expert: codes, dH, column scales, row scales and the diagonal mask are read; row codes, column codes, running maxima and row maxima are written. -/
@[sl_loop] def loopInv_k0_t2 (𝒱 : Variants) (c : Dev nD) (bd : Option 𝒱.V) (E : Set ℕ) (i : grid0.Coords)
    (arg0 : BitVec 32) (v0 : BitVec 32) (v12 : IVec S32x128 32) (v13 : Elt F .i32) (v17 : Elt F .i32) (v21 : Elt F .i32) (v25 : Elt F .i32) (v29 : Elt F .i32) (v33 : Elt F .i32) (v37 : Elt F .i32) (v40 : BitVec 32) (c32_i32_5 : BitVec 32)
    (v43 : Elt F .i32) (v47 : Elt F .i32) (v51 : Elt F .i32) (v55 : Elt F .i32) (v59 : Elt F .i32) (v63 : Elt F .i32) (v67 : Elt F .i32) (k0_hw1 : k0_chk1 i v13 v17 v21 v25 v29 v33 v37 v43 v47 v51 v55 v59 v63 v67) (k0_h2 : k0_cond2 i v13 v17 v21 v25 v29 v33 v37 v43 v47 v51 v55 v59 v63 v67 = 1#1)
    (X_arg2 : BufTy.Contents (Elt F) arg2.view.ty) (X_arg4 : BufTy.Contents (Elt F) arg4.view.ty) (X_arg11 : BufTy.Contents (Elt F) arg11.view.ty) (X_arg14 : BufTy.Contents (Elt F) arg14.view.ty) (X_arg15 : BufTy.Contents (Elt F) arg15.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v12 v13 v17 v21 v25 v29 v33 v37 v40 c32_i32_5 v43 v47 v51 v55 v59 v63 v67 k0_hw1 k0_h2 where
  inv k acc := iprop((arg2.view.loc (c : Thread nD τ) ↦[arg2.view.set]{fullShare} X_arg2) ∗ (arg4.view.loc (c : Thread nD τ) ↦[arg4.view.set]{fullShare} X_arg4) ∗ (arg11.view.loc (c : Thread nD τ) ↦[arg11.view.set]{fullShare} X_arg11) ∗ (arg14.view.loc (c : Thread nD τ) ↦[arg14.view.set]{fullShare} X_arg14) ∗ (arg15.view.loc (c : Thread nD τ) ↦[arg15.view.set]{fullShare} X_arg15) ∗ (∃ f_arg6 : BufTy.Contents (Elt F) arg6.view.ty, (arg6.view.loc (c : Thread nD τ) ↦[arg6.view.set]{fullShare} f_arg6)) ∗ (∃ f_arg8 : BufTy.Contents (Elt F) arg8.view.ty, (arg8.view.loc (c : Thread nD τ) ↦[arg8.view.set]{fullShare} f_arg8)) ∗ (∃ f_arg12 : BufTy.Contents (Elt F) arg12.view.ty, (arg12.view.loc (c : Thread nD τ) ↦[arg12.view.set]{fullShare} f_arg12)) ∗ (∃ f_arg16 : BufTy.Contents (Elt F) arg16.view.ty, (arg16.view.loc (c : Thread nD τ) ↦[arg16.view.set]{fullShare} f_arg16)))
  step k acc := by
    iintro ⟨HR_arg2, HR_arg4, HR_arg11, HR_arg14, HR_arg15, ⟨%f_arg6, HW_arg6⟩, ⟨%f_arg8, HW_arg8⟩, ⟨%f_arg12, HW_arg12⟩, ⟨%f_arg16, HW_arg16⟩⟩
    have hk : k.val < k0_t2_loop.trips := k.isLt
    unfold k0_t2_body
    sl_exec
    sl_step
    isplitl [HR_arg2]; · iexact HR_arg2
    isplitl [HR_arg4]; · iexact HR_arg4
    isplitl [HR_arg11]; · iexact HR_arg11
    isplitl [HR_arg14]; · iexact HR_arg14
    isplitl [HR_arg15]; · iexact HR_arg15
    isplitl [HW_arg6]; · iexists _; iexact HW_arg6
    isplitl [HW_arg8]; · iexists _; iexact HW_arg8
    isplitl [HW_arg12]; · iexists _; iexact HW_arg12
    iexists _; iexact HW_arg16

end Cert.Proof.Kernel

end
-- ==== Proof.Loop3Kernel.lean ====
/- The two chunk loops of `Kernel`: per trip, what the region reads keeps its contents and what it writes is held at some contents. -/
module

public import proofs.«01_k».proof.Proof.Gen.Kernel.Launch
public import proofs.«01_k».proof.Proof.Gen.Kernel.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (arg1 : Memref sig .tc .smem S9 .i32) (harg1 : arg1.IsWhole)
  (arg2 : Memref sig .tc .vmem S32x65536 .fp8e4m3) (harg2 : arg2.IsWhole)
  (arg3 : Memref sig .tc .vmem S32x512 .f32) (harg3 : arg3.IsWhole)
  (arg4 : Memref sig .tc .vmem S32x32768 .bf16) (harg4 : arg4.IsWhole)
  (arg5 : Memref sig .tc .vmem S8x65536 .f32) (harg5 : arg5.IsWhole)
  (arg6 : Memref sig .tc .vmem S32x65536 .fp8e5m2) (harg6 : arg6.IsWhole)
  (arg7 : Memref sig .tc .vmem S32x512 .f32) (harg7 : arg7.IsWhole)
  (arg8 : Memref sig .tc .vmem S32x65536 .fp8e5m2) (harg8 : arg8.IsWhole)
  (arg9 : Memref sig .tc .vmem S8x65536 .f32) (harg9 : arg9.IsWhole)
  (arg10 : Memref sig .tc .vmem S8x65536 .f32) (harg10 : arg10.IsWhole)
  (arg11 : Memref sig .tc .vmem S512x8x128 .f32) (harg11 : arg11.IsWhole)
  (arg12 : Memref sig .tc .vmem S512x8x128 .f32) (harg12 : arg12.IsWhole)
  (arg13 : Memref sig .tc .vmem S512x8x128 .f32) (harg13 : arg13.IsWhole)
  (arg14 : Memref sig .tc .vmem S256x128 .f32) (harg14 : arg14.IsWhole)
  (arg15 : Memref sig .tc .vmem S32x128 .i32) (harg15 : arg15.IsWhole)
  (arg16 : Memref sig .tc .vmem S32x512 .f32) (harg16 : arg16.IsWhole)

set_option maxHeartbeats 40000000 in
/-- The loop of a chunk whose rows belong to several experts: beside the buffers of the other loop it reads the offsets, and it writes the finished maxima. -/
@[sl_loop] def loopInv_k0_t3 (𝒱 : Variants) (c : Dev nD) (bd : Option 𝒱.V) (E : Set ℕ) (i : grid0.Coords)
    (arg0 : BitVec 32) (v0 : BitVec 32) (v12 : IVec S32x128 32) (v13 : Elt F .i32) (v17 : Elt F .i32) (v21 : Elt F .i32) (v25 : Elt F .i32) (v29 : Elt F .i32) (v33 : Elt F .i32) (v37 : Elt F .i32) (v40 : BitVec 32) (c32_i32_5 : BitVec 32)
    (X_arg1 : BufTy.Contents (Elt F) arg1.view.ty) (X_arg2 : BufTy.Contents (Elt F) arg2.view.ty) (X_arg4 : BufTy.Contents (Elt F) arg4.view.ty) (X_arg11 : BufTy.Contents (Elt F) arg11.view.ty) (X_arg14 : BufTy.Contents (Elt F) arg14.view.ty) (X_arg15 : BufTy.Contents (Elt F) arg15.view.ty) :
    LoopInvTy_k0_t3 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v12 v13 v17 v21 v25 v29 v33 v37 v40 c32_i32_5 where
  inv k acc := iprop((arg1.view.loc (c : Thread nD τ) ↦{fullShare.right} X_arg1) ∗ (arg2.view.loc (c : Thread nD τ) ↦[arg2.view.set]{fullShare} X_arg2) ∗ (arg4.view.loc (c : Thread nD τ) ↦[arg4.view.set]{fullShare} X_arg4) ∗ (arg11.view.loc (c : Thread nD τ) ↦[arg11.view.set]{fullShare} X_arg11) ∗ (arg14.view.loc (c : Thread nD τ) ↦[arg14.view.set]{fullShare} X_arg14) ∗ (arg15.view.loc (c : Thread nD τ) ↦[arg15.view.set]{fullShare} X_arg15) ∗ (∃ f_arg6 : BufTy.Contents (Elt F) arg6.view.ty, (arg6.view.loc (c : Thread nD τ) ↦[arg6.view.set]{fullShare} f_arg6)) ∗ (∃ f_arg8 : BufTy.Contents (Elt F) arg8.view.ty, (arg8.view.loc (c : Thread nD τ) ↦[arg8.view.set]{fullShare} f_arg8)) ∗ (∃ f_arg13 : BufTy.Contents (Elt F) arg13.view.ty, (arg13.view.loc (c : Thread nD τ) ↦[arg13.view.set]{fullShare} f_arg13)) ∗ (∃ f_arg16 : BufTy.Contents (Elt F) arg16.view.ty, (arg16.view.loc (c : Thread nD τ) ↦[arg16.view.set]{fullShare} f_arg16)))
  step k acc := by
    iintro ⟨HT, HR_arg2, HR_arg4, HR_arg11, HR_arg14, HR_arg15, ⟨%f_arg6, HW_arg6⟩, ⟨%f_arg8, HW_arg8⟩, ⟨%f_arg13, HW_arg13⟩, ⟨%f_arg16, HW_arg16⟩⟩
    have hk : k.val < k0_t3_loop.trips := k.isLt
    unfold k0_t3_body
    sl_exec
    sl_step
    isplitl [HT]; · iexact HT
    isplitl [HR_arg2]; · iexact HR_arg2
    isplitl [HR_arg4]; · iexact HR_arg4
    isplitl [HR_arg11]; · iexact HR_arg11
    isplitl [HR_arg14]; · iexact HR_arg14
    isplitl [HR_arg15]; · iexact HR_arg15
    isplitl [HW_arg6]; · iexists _; iexact HW_arg6
    isplitl [HW_arg8]; · iexists _; iexact HW_arg8
    isplitl [HW_arg13]; · iexists _; iexact HW_arg13
    iexists _; iexact HW_arg16

end Cert.Proof.Kernel

end
-- ==== Proof.ChecksKernel.lean ====
/- The side conditions the body of `Kernel` assumes of the offsets hold at every contents of the table: the expert of a row is at most 7. -/
module

public import proofs.«01_k».proof.Proof.Gen.Kernel
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem bit_le (b : BitVec 1) : (Scalar.extui b : BitVec 32).toNat ≤ 1 := by
  revert b; decide

/-- A sum of seven comparison bits lies between 0 and 7, read signed. -/
theorem count_le (b₁ b₂ b₃ b₄ b₅ b₆ b₇ : BitVec 1) :
    ∃ n : Int, Affine.IsInt (Scalar.addi (Scalar.addi (Scalar.addi (Scalar.addi (Scalar.addi (Scalar.addi (Scalar.addi 0#32 (Scalar.extui b₁)) (Scalar.extui b₂)) (Scalar.extui b₃)) (Scalar.extui b₄)) (Scalar.extui b₅)) (Scalar.extui b₆)) (Scalar.extui b₇) : BitVec 32) n ∧ 0 ≤ n ∧ n ≤ 7 := by
  have h₁ := bit_le b₁; have h₂ := bit_le b₂; have h₃ := bit_le b₃; have h₄ := bit_le b₄
  have h₅ := bit_le b₅; have h₆ := bit_le b₆; have h₇ := bit_le b₇
  refine ⟨_, by unfold Affine.IsInt; rfl, ?_⟩
  rw [BitVec.toInt_eq_toNat_of_lt] <;> simp only [Scalar.addi, IntOp.addi, BitVec.toNat_add, BitVec.toNat_ofNat] <;> omega

theorem chk1_all (i : grid0.Coords) (v13 v17 v21 v25 v29 v33 v37 v43 v47 v51 v55 v59 v63 v67 : BitVec 32) : k0_chk1 i v13 v17 v21 v25 v29 v33 v37 v43 v47 v51 v55 v59 v63 v67 := by
  have h0 : Affine.IsInt 0#32 (0) := Affine.ofNat _ (by omega)
  have h1 : Affine.IsInt 1#32 (1) := Affine.ofNat _ (by omega)
  have h16 : Affine.IsInt 16#32 (16) := Affine.ofNat _ (by omega)
  have h256 : Affine.IsInt 256#32 (256) := Affine.ofNat _ (by omega)
  unfold k0_chk1
  refine ⟨fun t _ r => ?_, fun t _ r => ?_⟩
  · have hr := r.isLt
    have ht : t.val < 16 := Nat.lt_of_lt_of_le t.isLt k0_t2_abs.2.1
    have hv : Affine.IsInt _ ((t.val : Int)) := Affine.iv h0 h1 t.val (by omega)
    have hm : Affine.IsInt _ (16 * (t.val : Int)) := Affine.muli hv h16 (by omega)
    have hk : Affine.IsInt (BitVec.ofNat 32 r.val) ((r.val : Int)) := Affine.ofNat _ (by omega)
    have ha : Affine.IsInt _ (16 * (t.val : Int) + (r.val : Int)) := Affine.addi hm hk (by omega)
    obtain ⟨n, hn, hn0, hn7⟩ := count_le (Scalar.cmpi .sle v13 (Scalar.muli (BitVec.ofNat 32 (i 0).val) 32#32)) (Scalar.cmpi .sle v17 (Scalar.muli (BitVec.ofNat 32 (i 0).val) 32#32)) (Scalar.cmpi .sle v21 (Scalar.muli (BitVec.ofNat 32 (i 0).val) 32#32)) (Scalar.cmpi .sle v25 (Scalar.muli (BitVec.ofNat 32 (i 0).val) 32#32)) (Scalar.cmpi .sle v29 (Scalar.muli (BitVec.ofNat 32 (i 0).val) 32#32)) (Scalar.cmpi .sle v33 (Scalar.muli (BitVec.ofNat 32 (i 0).val) 32#32)) (Scalar.cmpi .sle v37 (Scalar.muli (BitVec.ofNat 32 (i 0).val) 32#32))
    exact Affine.inb_cons ha (by omega) <| Affine.inb_cons hn (by omega) <| Affine.inb_cons h0 (by omega) <| Affine.inb_nil
  · have hr := r.isLt
    have ht : t.val < 16 := Nat.lt_of_lt_of_le t.isLt k0_t2_abs.2.1
    have hv : Affine.IsInt _ ((t.val : Int)) := Affine.iv h0 h1 t.val (by omega)
    have hm : Affine.IsInt _ (16 * (t.val : Int)) := Affine.muli hv h16 (by omega)
    have hk : Affine.IsInt (BitVec.ofNat 32 r.val) ((r.val : Int)) := Affine.ofNat _ (by omega)
    have ha : Affine.IsInt _ (16 * (t.val : Int) + (r.val : Int)) := Affine.addi hm hk (by omega)
    have hb : Affine.IsInt _ (256 + (16 * (t.val : Int) + (r.val : Int))) := Affine.addi h256 ha (by omega)
    obtain ⟨n, hn, hn0, hn7⟩ := count_le (Scalar.cmpi .sle v13 (Scalar.muli (BitVec.ofNat 32 (i 0).val) 32#32)) (Scalar.cmpi .sle v17 (Scalar.muli (BitVec.ofNat 32 (i 0).val) 32#32)) (Scalar.cmpi .sle v21 (Scalar.muli (BitVec.ofNat 32 (i 0).val) 32#32)) (Scalar.cmpi .sle v25 (Scalar.muli (BitVec.ofNat 32 (i 0).val) 32#32)) (Scalar.cmpi .sle v29 (Scalar.muli (BitVec.ofNat 32 (i 0).val) 32#32)) (Scalar.cmpi .sle v33 (Scalar.muli (BitVec.ofNat 32 (i 0).val) 32#32)) (Scalar.cmpi .sle v37 (Scalar.muli (BitVec.ofNat 32 (i 0).val) 32#32))
    exact Affine.inb_cons hb (by omega) <| Affine.inb_cons hn (by omega) <| Affine.inb_cons h0 (by omega) <| Affine.inb_nil

theorem chk2_all (i : grid0.Coords) (v13 v17 v21 v25 v29 v33 v37 v43 v47 v51 v55 v59 v63 v67 v81 v85 v89 v93 v97 v101 v105 : BitVec 32) : k0_chk2 i v13 v17 v21 v25 v29 v33 v37 v43 v47 v51 v55 v59 v63 v67 v81 v85 v89 v93 v97 v101 v105 := by
  have h0 : Affine.IsInt 0#32 (0) := Affine.ofNat _ (by omega)
  have h1 : Affine.IsInt 1#32 (1) := Affine.ofNat _ (by omega)
  have h8 : Affine.IsInt 8#32 (8) := Affine.ofNat _ (by omega)
  unfold k0_chk2
  refine fun t _ r => ?_
  have hr := r.isLt
  have ht : t.val < 64 := Nat.lt_of_lt_of_le t.isLt k0_t4_abs.2.1
  have hv : Affine.IsInt _ ((t.val : Int)) := Affine.iv h0 h1 t.val (by omega)
  have hm : Affine.IsInt _ (8 * (t.val : Int)) := Affine.muli hv h8 (by omega)
  have hk : Affine.IsInt (BitVec.ofNat 32 r.val) ((r.val : Int)) := Affine.ofNat _ (by omega)
  have ha : Affine.IsInt _ (8 * (t.val : Int) + (r.val : Int)) := Affine.addi hm hk (by omega)
  obtain ⟨n, hn, hn0, hn7⟩ := count_le (Scalar.cmpi .sle v13 (Scalar.muli (BitVec.ofNat 32 (i 0).val) 32#32)) (Scalar.cmpi .sle v17 (Scalar.muli (BitVec.ofNat 32 (i 0).val) 32#32)) (Scalar.cmpi .sle v21 (Scalar.muli (BitVec.ofNat 32 (i 0).val) 32#32)) (Scalar.cmpi .sle v25 (Scalar.muli (BitVec.ofNat 32 (i 0).val) 32#32)) (Scalar.cmpi .sle v29 (Scalar.muli (BitVec.ofNat 32 (i 0).val) 32#32)) (Scalar.cmpi .sle v33 (Scalar.muli (BitVec.ofNat 32 (i 0).val) 32#32)) (Scalar.cmpi .sle v37 (Scalar.muli (BitVec.ofNat 32 (i 0).val) 32#32))
  exact Affine.inb_cons ha (by omega) <| Affine.inb_cons hn (by omega) <| Affine.inb_cons h0 (by omega) <| Affine.inb_nil

end Cert.Proof.Kernel

end
-- ==== Proof.RunKernel.lean ====
/- One run of the body of `Kernel`: the inputs and the table keep their contents, the outputs and the scratch end at some contents. -/
module

public import proofs.«01_k».proof.Proof.KitKernel
public import proofs.«01_k».proof.Proof.Loop2Kernel
public import proofs.«01_k».proof.Proof.Loop3Kernel
public import proofs.«01_k».proof.Proof.ChecksKernel

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (arg1 : Memref sig .tc .smem S9 .i32) (harg1 : arg1.IsWhole)
  (arg2 : Memref sig .tc .vmem S32x65536 .fp8e4m3) (harg2 : arg2.IsWhole)
  (arg3 : Memref sig .tc .vmem S32x512 .f32) (harg3 : arg3.IsWhole)
  (arg4 : Memref sig .tc .vmem S32x32768 .bf16) (harg4 : arg4.IsWhole)
  (arg5 : Memref sig .tc .vmem S8x65536 .f32) (harg5 : arg5.IsWhole)
  (arg6 : Memref sig .tc .vmem S32x65536 .fp8e5m2) (harg6 : arg6.IsWhole)
  (arg7 : Memref sig .tc .vmem S32x512 .f32) (harg7 : arg7.IsWhole)
  (arg8 : Memref sig .tc .vmem S32x65536 .fp8e5m2) (harg8 : arg8.IsWhole)
  (arg9 : Memref sig .tc .vmem S8x65536 .f32) (harg9 : arg9.IsWhole)
  (arg10 : Memref sig .tc .vmem S8x65536 .f32) (harg10 : arg10.IsWhole)
  (arg11 : Memref sig .tc .vmem S512x8x128 .f32) (harg11 : arg11.IsWhole)
  (arg12 : Memref sig .tc .vmem S512x8x128 .f32) (harg12 : arg12.IsWhole)
  (arg13 : Memref sig .tc .vmem S512x8x128 .f32) (harg13 : arg13.IsWhole)
  (arg14 : Memref sig .tc .vmem S256x128 .f32) (harg14 : arg14.IsWhole)
  (arg15 : Memref sig .tc .vmem S32x128 .i32) (harg15 : arg15.IsWhole)
  (arg16 : Memref sig .tc .vmem S32x512 .f32) (harg16 : arg16.IsWhole)

/-- What the body holds between its parts: the inputs and the table at their contents, the outputs and the scratch at some
contents. -/
def Res (c : Dev nD) (x0 : Vec F S32x65536 .fp8e4m3) (x1 : Vec F S32x512 .f32) (x2 : Vec F S32x32768 .bf16) (x3 : Vec F S8x65536 .f32) (xt : TbBuf (F := F) c arg1) : sProp 𝕄 :=
  iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ tbPt c arg1 xt)

set_option maxHeartbeats 40000000 in
theorem part135_run (c : Dev nD) (i : grid0.Coords) (x0 : Vec F S32x65536 .fp8e4m3) (x1 : Vec F S32x512 .f32) (x2 : Vec F S32x32768 .bf16) (x3 : Vec F S8x65536 .f32) (xt : TbBuf (F := F) c arg1) (E : Set ℕ) (K : _ → sProp 𝕄) :
    iprop(Res arg1 arg2 harg2 arg3 harg3 arg4 harg4 arg5 harg5 arg6 arg7 arg8 arg9 arg10 arg11 arg12 arg13 arg14 arg15 arg16 c x0 x1 x2 x3 xt ∗ (∀ r, Res arg1 arg2 harg2 arg3 harg3 arg4 harg4 arg5 harg5 arg6 arg7 arg8 arg9 arg10 arg11 arg12 arg13 arg14 arg15 arg16 c x0 x1 x2 x3 xt -∗ K r))
      ⊢ wp frame (wpE (defs₀ (F := F)) Variants.none c none) E (k0_part135 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  rw [k0_part135_eq_skeleton]; unfold k0_part135_skel Res
  iintro ⟨⟨H0, H1, H2, H3, ⟨%fH4, H4⟩, ⟨%fH5, H5⟩, ⟨%fH6, H6⟩, ⟨%fH7, H7⟩, ⟨%fH8, H8⟩, ⟨%fHS0, HS0⟩, ⟨%fHS1, HS1⟩, ⟨%fHS2, HS2⟩, ⟨%fHS3, HS3⟩, ⟨%fHS4, HS4⟩, ⟨%fHS5, HS5⟩, HT⟩, Hk⟩
  sl_exec
  split
  all_goals
    sl_exec
    sl_step
    iapply Hk
    isplitl [H0]
    · iexact H0
    isplitl [H1]
    · iexact H1
    isplitl [H2]
    · iexact H2
    isplitl [H3]
    · iexact H3
    isplitl [H4]
    · iexists _; iexact H4
    isplitl [H5]
    · iexists _; iexact H5
    isplitl [H6]
    · iexists _; iexact H6
    isplitl [H7]
    · iexists _; iexact H7
    isplitl [H8]
    · iexists _; iexact H8
    isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    isplitl [HS5]
    · iexists _; iexact HS5
    iexact HT

set_option maxHeartbeats 40000000 in
theorem part136_run (c : Dev nD) (i : grid0.Coords) (x0 : Vec F S32x65536 .fp8e4m3) (x1 : Vec F S32x512 .f32) (x2 : Vec F S32x32768 .bf16) (x3 : Vec F S8x65536 .f32) (xt : TbBuf (F := F) c arg1) (arg0 v0 : BitVec 32) (v12 : IVec S32x128 32) (v13 v17 v21 v25 v29 v33 v37 : Elt F .i32) (v40 c32 : BitVec 32) (E : Set ℕ) (K : _ → sProp 𝕄) :
    iprop(Res arg1 arg2 harg2 arg3 harg3 arg4 harg4 arg5 harg5 arg6 arg7 arg8 arg9 arg10 arg11 arg12 arg13 arg14 arg15 arg16 c x0 x1 x2 x3 xt ∗ (∀ r, Res arg1 arg2 harg2 arg3 harg3 arg4 harg4 arg5 harg5 arg6 arg7 arg8 arg9 arg10 arg11 arg12 arg13 arg14 arg15 arg16 c x0 x1 x2 x3 xt -∗ K r))
      ⊢ wp frame (wpE (defs₀ (F := F)) Variants.none c none) E (k0_part136 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v12 v13 v17 v21 v25 v29 v33 v37 v40 c32) K := by
  rw [k0_part136_eq_skeleton]; unfold k0_part136_skel Res
  iintro ⟨⟨H0, H1, H2, H3, ⟨%fH4, H4⟩, ⟨%fH5, H5⟩, ⟨%fH6, H6⟩, ⟨%fH7, H7⟩, ⟨%fH8, H8⟩, ⟨%fHS0, HS0⟩, ⟨%fHS1, HS1⟩, ⟨%fHS2, HS2⟩, ⟨%fHS3, HS3⟩, ⟨%fHS4, HS4⟩, ⟨%fHS5, HS5⟩, HT⟩, Hk⟩
  sl_exec (disch := exact chk1_all ..)
  split
  all_goals
    sl_exec
    split
  all_goals
    sl_exec
    sl_step
    iapply Hk
    isplitl [H0]
    · iexact H0
    isplitl [H1]
    · iexact H1
    isplitl [H2]
    · iexact H2
    isplitl [H3]
    · iexact H3
    isplitl [H4]
    · iexists _; iexact H4
    isplitl [H5]
    · iexists _; iexact H5
    isplitl [H6]
    · iexists _; iexact H6
    isplitl [H7]
    · iexists _; iexact H7
    isplitl [H8]
    · iexists _; iexact H8
    isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    isplitl [HS5]
    · iexists _; iexact HS5
    iexact HT

set_option maxHeartbeats 40000000 in
theorem part137_run (c : Dev nD) (i : grid0.Coords) (x0 : Vec F S32x65536 .fp8e4m3) (x1 : Vec F S32x512 .f32) (x2 : Vec F S32x32768 .bf16) (x3 : Vec F S8x65536 .f32) (xt : TbBuf (F := F) c arg1) (v13 v17 v21 v25 v29 v33 v37 : Elt F .i32) (v40 : BitVec 32) (v43 v47 v51 v55 v59 v63 v67 : Elt F .i32) (v77 v78 : BitVec 1) (v80 : BitVec 32) (v81 : Elt F .i32) (v82 : BitVec 1) (E : Set ℕ) (K : _ → sProp 𝕄) :
    iprop(Res arg1 arg2 harg2 arg3 harg3 arg4 harg4 arg5 harg5 arg6 arg7 arg8 arg9 arg10 arg11 arg12 arg13 arg14 arg15 arg16 c x0 x1 x2 x3 xt ∗ (∀ r, Res arg1 arg2 harg2 arg3 harg3 arg4 harg4 arg5 harg5 arg6 arg7 arg8 arg9 arg10 arg11 arg12 arg13 arg14 arg15 arg16 c x0 x1 x2 x3 xt -∗ K r))
      ⊢ wp frame (wpE (defs₀ (F := F)) Variants.none c none) E (k0_part137 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v13 v17 v21 v25 v29 v33 v37 v40 v43 v47 v51 v55 v59 v63 v67 v77 v78 v80 v81 v82) K := by
  rw [k0_part137_eq_skeleton]; unfold k0_part137_skel Res
  iintro ⟨⟨H0, H1, H2, H3, ⟨%fH4, H4⟩, ⟨%fH5, H5⟩, ⟨%fH6, H6⟩, ⟨%fH7, H7⟩, ⟨%fH8, H8⟩, ⟨%fHS0, HS0⟩, ⟨%fHS1, HS1⟩, ⟨%fHS2, HS2⟩, ⟨%fHS3, HS3⟩, ⟨%fHS4, HS4⟩, ⟨%fHS5, HS5⟩, HT⟩, Hk⟩
  sl_exec (disch := exact chk2_all ..)
  split
  all_goals
    sl_exec
    sl_step
    iapply Hk
    isplitl [H0]
    · iexact H0
    isplitl [H1]
    · iexact H1
    isplitl [H2]
    · iexact H2
    isplitl [H3]
    · iexact H3
    isplitl [H4]
    · iexists _; iexact H4
    isplitl [H5]
    · iexists _; iexact H5
    isplitl [H6]
    · iexists _; iexact H6
    isplitl [H7]
    · iexists _; iexact H7
    isplitl [H8]
    · iexists _; iexact H8
    isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    isplitl [HS5]
    · iexists _; iexact HS5
    iexact HT

set_option maxHeartbeats 40000000 in
theorem kernelRun (c : Dev nD) (i : grid0.Coords) (x0 : Vec F S32x65536 .fp8e4m3) (x1 : Vec F S32x512 .f32) (x2 : Vec F S32x32768 .bf16) (x3 : Vec F S8x65536 .f32) (xt : TbBuf (F := F) c arg1) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ tbPt c arg1 xt
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ tbPt c arg1 xt) -∗ K ⟨⟩))
          ⊢ wp frame (wpE (defs₀ (F := F)) Variants.none c none) E (cc0_swiglu_bwd_quant (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  intro E K
  simp only [cc0_swiglu_bwd_quant_eq_skeleton]; unfold cc0_swiglu_bwd_quant_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, HT, Hk⟩
  obtain rfl := harg2.eq_unread hf0; obtain rfl := harg3.eq_unread hf1; obtain rfl := harg4.eq_unread hf2; obtain rfl := harg5.eq_unread hf3
  rw [wp_bind]
  iapply (part135_run arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c i x0 x1 x2 x3 xt)
  isplitr [Hk]
  · unfold Res
    isplitl [H0]
    · iexact H0
    isplitl [H1]
    · iexact H1
    isplitl [H2]
    · iexact H2
    isplitl [H3]
    · iexact H3
    isplitl [H4]
    · iexists _; iexact H4
    isplitl [H5]
    · iexists _; iexact H5
    isplitl [H6]
    · iexists _; iexact H6
    isplitl [H7]
    · iexists _; iexact H7
    isplitl [H8]
    · iexists _; iexact H8
    isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    isplitl [HS5]
    · iexists _; iexact HS5
    iexact HT
  iintro %r Hr
  obtain ⟨arg0, v0, v12, v13, v17, v21, v25, v29, v33, v37, v40, c32⟩ := r
  dsimp only
  rw [wp_bind]
  iapply (part136_run arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c i x0 x1 x2 x3 xt)
  isplitl [Hr]
  · iexact Hr
  iintro %r Hr
  obtain ⟨v43, v47, v51, v55, v59, v63, v67, v77, v78, v80, v81, v82⟩ := r
  dsimp only
  rw [wp_bind]
  iapply (part137_run arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c i x0 x1 x2 x3 xt)
  isplitl [Hr]
  · iexact Hr
  iintro %r Hr
  obtain ⟨v116, v120, v125, c127⟩ := r
  dsimp only
  unfold Res
  icases Hr with ⟨H0, H1, H2, H3, ⟨%fH4, H4⟩, ⟨%fH5, H5⟩, ⟨%fH6, H6⟩, ⟨%fH7, H7⟩, ⟨%fH8, H8⟩, ⟨%fHS0, HS0⟩, ⟨%fHS1, HS1⟩, ⟨%fHS2, HS2⟩, ⟨%fHS3, HS3⟩, ⟨%fHS4, HS4⟩, ⟨%fHS5, HS5⟩, HT⟩
  sl_exec
  split
  all_goals
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexact HT

end Cert.Proof.Kernel

end
-- ==== Proof.FrameKernel.lean ====
/- The frame of `Kernel`: the pipeline's proof data with the outputs forgotten, the body obligation, the launch. -/
module

public import proofs.«01_k».proof.Proof.RunKernel

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows of which nothing is stated here: the five outputs. -/
def forgets : Fin 9 → Bool := fun w => w.val == 4 || w.val == 5 || w.val == 6 || w.val == 7 || w.val == 8

/-- The proof data: each input's buffer at its block, the outputs not named. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := (cfgM m)) ⟨4, h⟩ t
    | ⟨5, h⟩ => Pipeline.Dat.unnamed (cfg := (cfgM m)) ⟨5, h⟩ t
    | ⟨6, h⟩ => Pipeline.Dat.unnamed (cfg := (cfgM m)) ⟨6, h⟩ t
    | ⟨7, h⟩ => Pipeline.Dat.unnamed (cfg := (cfgM m)) ⟨7, h⟩ t
    | ⟨8, h⟩ => Pipeline.Dat.unnamed (cfg := (cfgM m)) ⟨8, h⟩ t
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after_0 (c : Dev nD) (t : Fin (cfgM m).N) : (dats m 0 c).after 0 t = iblk m c 0 t := by dsimp only [dats]; try rfl
theorem before_0 (c : Dev nD) (t : Fin (cfgM m).N) (d) : (dats m 0 c).before 0 t d = iblk m c 0 t :=
  before_0_of m (dats m 0 c) (A_eq m c 0) (after_0 m c) t d

theorem after_1 (c : Dev nD) (t : Fin (cfgM m).N) : (dats m 0 c).after 1 t = iblk m c 1 t := by dsimp only [dats]; try rfl
theorem before_1 (c : Dev nD) (t : Fin (cfgM m).N) (d) : (dats m 0 c).before 1 t d = iblk m c 1 t :=
  before_1_of m (dats m 0 c) (A_eq m c 1) (after_1 m c) t d

theorem after_2 (c : Dev nD) (t : Fin (cfgM m).N) : (dats m 0 c).after 2 t = iblk m c 2 t := by dsimp only [dats]; try rfl
theorem before_2 (c : Dev nD) (t : Fin (cfgM m).N) (d) : (dats m 0 c).before 2 t d = iblk m c 2 t :=
  before_2_of m (dats m 0 c) (A_eq m c 2) (after_2 m c) t d

theorem after_3 (c : Dev nD) (t : Fin (cfgM m).N) : (dats m 0 c).after 3 t = iblk m c 3 t := by dsimp only [dats]; try rfl
theorem before_3 (c : Dev nD) (t : Fin (cfgM m).N) (d) : (dats m 0 c).before 3 t d = iblk m c 3 t :=
  before_3_of m (dats m 0 c) (A_eq m c 3) (after_3 m c) t d

/-- What the body is called with at point `t`, window by window, -/
def bodyPre (c : Dev nD) (t : Fin (cfgM m).N) : sProp 𝕄 :=
  iprop((dats m 0 c).Φ t.castSucc ∗ (dats m 0 c).owesAt () t.castSucc
    ∗ (∃ d, owns (c : Thread nD τ) (ms_0 m t) fullShare ((dats m 0 c).before 0 t d))
    ∗ (∃ d, owns (c : Thread nD τ) (ms_1 m t) fullShare ((dats m 0 c).before 1 t d))
    ∗ (∃ d, owns (c : Thread nD τ) (ms_2 m t) fullShare ((dats m 0 c).before 2 t d))
    ∗ (∃ d, owns (c : Thread nD τ) (ms_3 m t) fullShare ((dats m 0 c).before 3 t d))
    ∗ (∃ d, owns (c : Thread nD τ) (ms_4 m t) fullShare d)
    ∗ (∃ d, owns (c : Thread nD τ) (ms_5 m t) fullShare d)
    ∗ (∃ d, owns (c : Thread nD τ) (ms_6 m t) fullShare d)
    ∗ (∃ d, owns (c : Thread nD τ) (ms_7 m t) fullShare d)
    ∗ (∃ d, owns (c : Thread nD τ) (ms_8 m t) fullShare d))

/-- and what it returns. -/
def bodyPost (c : Dev nD) (t : Fin (cfgM m).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms_4 m t) fullShare d)
    ∗ (∃ d, owns (c : Thread nD τ) (ms_5 m t) fullShare d)
    ∗ (∃ d, owns (c : Thread nD τ) (ms_6 m t) fullShare d)
    ∗ (∃ d, owns (c : Thread nD τ) (ms_7 m t) fullShare d)
    ∗ (∃ d, owns (c : Thread nD τ) (ms_8 m t) fullShare d))

set_option maxHeartbeats 4000000 in
theorem sound_body (c : Dev nD) (t : Fin (cfgM m).N) :
    bodyPre m c t ⊢ wp frame (wpE (defs₀ (F := F)) Variants.none c none) Set.univ (bodyAt (adm m) t) (fun _ => bodyPost m c t) := by
  unfold bodyPre bodyPost bodyAt
  simp only [before_0, before_1, before_2, before_3]
  rw [show (dats m 0 c).Φ t.succ = (dats m 0 c).Φ t.castSucc from rfl,
    show (dats m 0 c).owesAt () t.succ = (dats m 0 c).owesAt () t.castSucc from rfl]
  rw [show (dats m 0 c).Φ t.castSucc = iprop(Pipeline.ΦA spec0 c ∗ Pipeline.ΦT pre0 (tbl m) c) from rfl, PhiT_eq, PhiA_eq]
  rw [show (dats m 0 c).leavesExact 0 t = owns (c : Thread nD τ) (ms_0 m t) fullShare ((dats m 0 c).after 0 t) from by
      unfold Dat.leavesExact; rw [liveAt_0 m t]; try rfl, after_0]
  rw [show (dats m 0 c).leavesExact 1 t = owns (c : Thread nD τ) (ms_1 m t) fullShare ((dats m 0 c).after 1 t) from by
      unfold Dat.leavesExact; rw [liveAt_1 m t]; try rfl, after_1]
  rw [show (dats m 0 c).leavesExact 2 t = owns (c : Thread nD τ) (ms_2 m t) fullShare ((dats m 0 c).after 2 t) from by
      unfold Dat.leavesExact; rw [liveAt_2 m t]; try rfl, after_2]
  rw [show (dats m 0 c).leavesExact 3 t = owns (c : Thread nD τ) (ms_3 m t) fullShare ((dats m 0 c).after 3 t) from by
      unfold Dat.leavesExact; rw [liveAt_3 m t]; try rfl, after_3]
  iintro ⟨⟨⟨⟨HS0, HS1, HS2, HS3, HS4, HS5⟩, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (kernelRun _ _ _ _ _ _ _ _ _ _ _ _ _ _ _ _ _ _ _ _ _ _ _ _ _ _ _ _ _ _ _ _ c (grid0.coords t) (iblk m c 0 t) (iblk m c 1 t) (iblk m c 2 t) (iblk m c 3 t) (tbl m 0) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  isplitl [HS0]; · iexact HS0
  isplitl [HS1]; · iexact HS1
  isplitl [HS2]; · iexact HS2
  isplitl [HS3]; · iexact HS3
  isplitl [HS4]; · iexact HS4
  isplitl [HS5]; · iexact HS5
  isplitl [HT]; · iexact HT
  iintro ⟨H0, H1, H2, H3, H4, H5, H6, H7, H8, HS0, HS1, HS2, HS3, HS4, HS5, HT⟩
  isplitl [HS0 HS1 HS2 HS3 HS4 HS5 Hg HT]
  · isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ forgets := fun t => by
  rw [bigSep_W0, bigSep_W0, defs₀_row m]
  exact triple_restated (sound_body m c t) rfl .rfl fun _ => .rfl

set_option backward.isDefEq.respectTransparency.types false in
/-- The launch: the frame's post, and every semaphore counter at zero. -/
theorem run_main_quiescent : θ_run defs (onTc (τ := τ) (main (F := F))) (s₀ m ρ) (fun r => (Pipeline.RDat.FramePost ((Pipeline.pin pcfgs fun _ => adm m) 0) (fun c => (dats m 0 c).toRForget forgets) (V m)) r ∧ r.2.sem = fun _ => 0) :=
  Pipeline.θ_run_frameP_forget (Q' := _) pcfgs (fun _ => adm m) (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hpf := V_pre m) (hΦ := fun _ _ => rfl)

theorem run_main : θ_run defs (onTc (τ := τ) (main (F := F))) (s₀ m ρ) (Pipeline.RDat.FramePost ((Pipeline.pin pcfgs fun _ => adm m) 0) (fun c => (dats m 0 c).toRForget forgets) (V m)) :=
  (θ_run defs _ _).mono (fun _ h => h.1) (run_main_quiescent m ρ)

/-- The frame: the argument arrays end unchanged and the semaphore counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (fun c => (dats m 0 c).toRForget forgets) (A_eq m) (run_main m ρ))
    ((θ_run defs _ _).mono (fun _ h => h.2) (run_main_quiescent m ρ))

end Cert.Proof.Kernel

end
-- ==== Proof.KitKernelIdeal.lean ====
/- What the runs of `KernelIdeal` share: the region's entry contents, the table of offsets, the windows' blocks, and the memrefs the body is called with. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A core's buffers when the region is entered: as launched. -/
abbrev V (c : Dev nD) (b : Ref sig .tc) : Buf (Elt F) ((c : Thread nD τ).loc b) := m ((c : Thread nD τ).loc b)

set_option maxHeartbeats 800000 in
/-- The program up to the region: the region alone. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The table of group offsets, read off the launch memory. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- No window's index map reads the table, so its contents are admissible whatever they are. -/
theorem okM : ok0 (F := F) (tbl m) := trivial
abbrev adm : (pcfg0 (F := F)).Adm := ⟨tbl m, okM m⟩
abbrev cfgM : Pipeline.Cfg sig Λ₀ := cfg0 (adm m)

abbrev tbM : Memref sig .tc .smem S9 .i32 := Memref.whole main_arg3
abbrev htbM : tbM.IsWhole := Memref.isWhole_whole _
abbrev TbBuf (c : Dev nD) {S : Shape} {e : EltTy} (M : Memref sig .tc .smem S e) : Type := Buf (Elt F) (M.view.loc (c : Thread nD τ))
/-- The half of the table that the body holds, read only. -/
abbrev tbPt (c : Dev nD) {S : Shape} {e : EltTy} (M : Memref sig .tc .smem S e) (f : TbBuf (F := F) c M) : sProp 𝕄 :=
  M.view.loc (c : Thread nD τ) ↦{fullShare.right} f
theorem PhiT_eq (c : Dev nD) : (Pipeline.ΦT pre0 (tbl m) c : sProp 𝕄) = iprop(tbPt c tbM (tbl m 0)) := by
  unfold Pipeline.ΦT Pipeline.prefHeld
  rw [show (Finset.univ : Finset (Fin 1)) = {(0 : Fin 1)} from by decide, bigSep_singleton]
  rfl

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

theorem before_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3_of {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The argument arrays end unchanged, from a run to the frame's post. -/
theorem frame_of (rdat : (c : Dev nD) → Pipeline.RDat τ (Elt F) Unit ℕ (UR sig nD τ) ℕ ((Pipeline.pin pcfgs fun _ => adm m) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans (hA c 0),
      (Pipeline.RDat.FramePost.arr_in h c 1 rfl).trans (hA c 1),
      (Pipeline.RDat.FramePost.arr_in h c 2 rfl).trans (hA c 2),
      (h c).2 main_arg3 (by decide : main_arg3 ∈ Pipeline.restRefs sig spec0),
      (Pipeline.RDat.FramePost.arr_in h c 3 rfl).trans (hA c 3)⟩) h

theorem liveAt_0 : ∀ t : Fin (cfgM m).N, (cfgM m).idle 0 (grid0.coords t) = false :=
  (fun _ => rfl : ∀ t : Fin grid0.N, idle0 (tbl m) 0 (grid0.coords t) = false)
abbrev ms_0 (t : Fin (cfgM m).N) : Memref sig .tc .vmem S32x65536 .fp8e4m3 := spec0_0.stage ((cfgM m).slots t 0)
abbrev hs_0 (t : Fin (cfgM m).N) : (ms_0 m t).IsWhole := hstage0_0 (((cfgM m).slots t 0).cast nbuf0_0)
theorem liveAt_1 : ∀ t : Fin (cfgM m).N, (cfgM m).idle 1 (grid0.coords t) = false :=
  (fun _ => rfl : ∀ t : Fin grid0.N, idle0 (tbl m) 1 (grid0.coords t) = false)
abbrev ms_1 (t : Fin (cfgM m).N) : Memref sig .tc .vmem S32x512 .f32 := spec0_1.stage ((cfgM m).slots t 1)
abbrev hs_1 (t : Fin (cfgM m).N) : (ms_1 m t).IsWhole := hstage0_1 (((cfgM m).slots t 1).cast nbuf0_1)
theorem liveAt_2 : ∀ t : Fin (cfgM m).N, (cfgM m).idle 2 (grid0.coords t) = false :=
  (fun _ => rfl : ∀ t : Fin grid0.N, idle0 (tbl m) 2 (grid0.coords t) = false)
abbrev ms_2 (t : Fin (cfgM m).N) : Memref sig .tc .vmem S32x32768 .bf16 := spec0_2.stage ((cfgM m).slots t 2)
abbrev hs_2 (t : Fin (cfgM m).N) : (ms_2 m t).IsWhole := hstage0_2 (((cfgM m).slots t 2).cast nbuf0_2)
theorem liveAt_3 : ∀ t : Fin (cfgM m).N, (cfgM m).idle 3 (grid0.coords t) = false :=
  (fun _ => rfl : ∀ t : Fin grid0.N, idle0 (tbl m) 3 (grid0.coords t) = false)
abbrev ms_3 (t : Fin (cfgM m).N) : Memref sig .tc .vmem S8x65536 .f32 := spec0_3.stage ((cfgM m).slots t 3)
abbrev hs_3 (t : Fin (cfgM m).N) : (ms_3 m t).IsWhole := hstage0_3 (((cfgM m).slots t 3).cast nbuf0_3)
abbrev ms_4 (t : Fin (cfgM m).N) : Memref sig .tc .vmem S32x65536 .fp8e5m2 := spec0_4.stage ((cfgM m).slots t 4)
abbrev hs_4 (t : Fin (cfgM m).N) : (ms_4 m t).IsWhole := hstage0_4 (((cfgM m).slots t 4).cast nbuf0_4)
abbrev ms_5 (t : Fin (cfgM m).N) : Memref sig .tc .vmem S32x512 .f32 := spec0_5.stage ((cfgM m).slots t 5)
abbrev hs_5 (t : Fin (cfgM m).N) : (ms_5 m t).IsWhole := hstage0_5 (((cfgM m).slots t 5).cast nbuf0_5)
abbrev ms_6 (t : Fin (cfgM m).N) : Memref sig .tc .vmem S32x65536 .fp8e5m2 := spec0_6.stage ((cfgM m).slots t 6)
abbrev hs_6 (t : Fin (cfgM m).N) : (ms_6 m t).IsWhole := hstage0_6 (((cfgM m).slots t 6).cast nbuf0_6)
abbrev ms_7 (t : Fin (cfgM m).N) : Memref sig .tc .vmem S8x65536 .f32 := spec0_7.stage ((cfgM m).slots t 7)
abbrev hs_7 (t : Fin (cfgM m).N) : (ms_7 m t).IsWhole := hstage0_7 (((cfgM m).slots t 7).cast nbuf0_7)
abbrev ms_8 (t : Fin (cfgM m).N) : Memref sig .tc .vmem S8x65536 .f32 := spec0_8.stage ((cfgM m).slots t 8)
abbrev hs_8 (t : Fin (cfgM m).N) : (ms_8 m t).IsWhole := hstage0_8 (((cfgM m).slots t 8).cast nbuf0_8)
abbrev scM_0 : Memref sig .tc .vmem S512x8x128 .f32 := Memref.whole cc0_scratch0
abbrev scM_1 : Memref sig .tc .vmem S512x8x128 .f32 := Memref.whole cc0_scratch1
abbrev scM_2 : Memref sig .tc .vmem S512x8x128 .f32 := Memref.whole cc0_scratch2
abbrev scM_3 : Memref sig .tc .vmem S256x128 .f32 := Memref.whole cc0_scratch3
abbrev scM_4 : Memref sig .tc .vmem S32x128 .i32 := Memref.whole cc0_scratch4
abbrev scM_5 : Memref sig .tc .vmem S32x512 .f32 := Memref.whole cc0_scratch5

/-- The scoped buffers the windows do not use: the body's scratch, each owned at some contents. -/
theorem PhiA_eq (c : Dev nD) :
    (Pipeline.ΦA spec0 c : sProp 𝕄)
      = iprop(iprop((∃ d, owns (c : Thread nD τ) scM_0 fullShare d) ∗ (∃ d, owns (c : Thread nD τ) scM_1 fullShare d) ∗ (∃ d, owns (c : Thread nD τ) scM_2 fullShare d) ∗ (∃ d, owns (c : Thread nD τ) scM_3 fullShare d) ∗ (∃ d, owns (c : Thread nD τ) scM_4 fullShare d) ∗ (∃ d, owns (c : Thread nD τ) scM_5 fullShare d)) ∗ (∃ r, prngReg c r)) := by
  unfold Pipeline.ΦA; rw [scopedRest0_eq]; simp only [scM_0, scM_1, scM_2, scM_3, scM_4, scM_5, owns_whole]; try rfl

/-- The kernel body at point `t`, on the memrefs the pipeline calls it with. -/
abbrev bodyAt (a : (pcfg0 (F := F)).Adm) (t : Fin (cfg0 a).N) : Prog (TpuEff nD τ sig (Elt F) Λ₀ .tc) PUnit :=
  cc0_swiglu_bwd_quant (grid0.coords t) (Memref.whole main_arg3) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)

theorem defs₀_row (t : Fin (cfgM m).N) :
    defs₀ (F := F) .tc (cfgM m).body ((cfgM m).bodyArgs t ((cfgM m).slots t)) = bodyAt (adm m) t := by
  unfold defs₀; rw [Defs.onTc_tc]

end Cert.Proof.KernelIdeal

end
-- ==== Proof.Loop1KernelIdeal.lean ====
/- The loop of `KernelIdeal` over the history, with nothing said of values: the history keeps its contents and what is written is held at some contents. -/
module

public import proofs.«01_k».proof.Proof.Gen.KernelIdeal.Launch
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (arg1 : Memref sig .tc .smem S9 .i32) (harg1 : arg1.IsWhole)
  (arg2 : Memref sig .tc .vmem S32x65536 .fp8e4m3) (harg2 : arg2.IsWhole)
  (arg3 : Memref sig .tc .vmem S32x512 .f32) (harg3 : arg3.IsWhole)
  (arg4 : Memref sig .tc .vmem S32x32768 .bf16) (harg4 : arg4.IsWhole)
  (arg5 : Memref sig .tc .vmem S8x65536 .f32) (harg5 : arg5.IsWhole)
  (arg6 : Memref sig .tc .vmem S32x65536 .fp8e5m2) (harg6 : arg6.IsWhole)
  (arg7 : Memref sig .tc .vmem S32x512 .f32) (harg7 : arg7.IsWhole)
  (arg8 : Memref sig .tc .vmem S32x65536 .fp8e5m2) (harg8 : arg8.IsWhole)
  (arg9 : Memref sig .tc .vmem S8x65536 .f32) (harg9 : arg9.IsWhole)
  (arg10 : Memref sig .tc .vmem S8x65536 .f32) (harg10 : arg10.IsWhole)
  (arg11 : Memref sig .tc .vmem S512x8x128 .f32) (harg11 : arg11.IsWhole)
  (arg12 : Memref sig .tc .vmem S512x8x128 .f32) (harg12 : arg12.IsWhole)
  (arg13 : Memref sig .tc .vmem S512x8x128 .f32) (harg13 : arg13.IsWhole)
  (arg14 : Memref sig .tc .vmem S256x128 .f32) (harg14 : arg14.IsWhole)
  (arg15 : Memref sig .tc .vmem S32x128 .i32) (harg15 : arg15.IsWhole)
  (arg16 : Memref sig .tc .vmem S32x512 .f32) (harg16 : arg16.IsWhole)

set_option maxHeartbeats 40000000 in
/-- The loop over the history: it is read; the column scales, their reciprocals and two more tables are written. -/
@[sl_loop] def loopInv_k0_t1 (𝒱 : Variants) (c : Dev nD) (bd : Option 𝒱.V) (E : Set ℕ) (i : grid0.Coords) (k0_h1 : k0_cond1 i = 1#1) (X_arg5 : BufTy.Contents (Elt F) arg5.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 where
  inv k acc := iprop((arg5.view.loc (c : Thread nD τ) ↦[arg5.view.set]{fullShare} X_arg5) ∗ (∃ f_arg9 : BufTy.Contents (Elt F) arg9.view.ty, (arg9.view.loc (c : Thread nD τ) ↦[arg9.view.set]{fullShare} f_arg9)) ∗ (∃ f_arg11 : BufTy.Contents (Elt F) arg11.view.ty, (arg11.view.loc (c : Thread nD τ) ↦[arg11.view.set]{fullShare} f_arg11)) ∗ (∃ f_arg12 : BufTy.Contents (Elt F) arg12.view.ty, (arg12.view.loc (c : Thread nD τ) ↦[arg12.view.set]{fullShare} f_arg12)) ∗ (∃ f_arg13 : BufTy.Contents (Elt F) arg13.view.ty, (arg13.view.loc (c : Thread nD τ) ↦[arg13.view.set]{fullShare} f_arg13)))
  step k acc := by
    iintro ⟨HR_arg5, ⟨%f_arg9, HW_arg9⟩, ⟨%f_arg11, HW_arg11⟩, ⟨%f_arg12, HW_arg12⟩, ⟨%f_arg13, HW_arg13⟩⟩
    have hk : k.val < 128 := Nat.lt_of_lt_of_le k.isLt k0_t1_abs.2.1
    unfold k0_t1_body
    sl_exec
    sl_step
    isplitl [HR_arg5]; · iexact HR_arg5
    isplitl [HW_arg9]; · iexists _; iexact HW_arg9
    isplitl [HW_arg11]; · iexists _; iexact HW_arg11
    isplitl [HW_arg12]; · iexists _; iexact HW_arg12
    iexists _; iexact HW_arg13

end Cert.Proof.KernelIdeal

end
-- ==== Proof.Loop2KernelIdeal.lean ====
/- The two chunk loops of `KernelIdeal`: per trip, what the region reads keeps its contents and what it writes is held at some contents. -/
module

public import proofs.«01_k».proof.Proof.Gen.KernelIdeal.Launch
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (arg1 : Memref sig .tc .smem S9 .i32) (harg1 : arg1.IsWhole)
  (arg2 : Memref sig .tc .vmem S32x65536 .fp8e4m3) (harg2 : arg2.IsWhole)
  (arg3 : Memref sig .tc .vmem S32x512 .f32) (harg3 : arg3.IsWhole)
  (arg4 : Memref sig .tc .vmem S32x32768 .bf16) (harg4 : arg4.IsWhole)
  (arg5 : Memref sig .tc .vmem S8x65536 .f32) (harg5 : arg5.IsWhole)
  (arg6 : Memref sig .tc .vmem S32x65536 .fp8e5m2) (harg6 : arg6.IsWhole)
  (arg7 : Memref sig .tc .vmem S32x512 .f32) (harg7 : arg7.IsWhole)
  (arg8 : Memref sig .tc .vmem S32x65536 .fp8e5m2) (harg8 : arg8.IsWhole)
  (arg9 : Memref sig .tc .vmem S8x65536 .f32) (harg9 : arg9.IsWhole)
  (arg10 : Memref sig .tc .vmem S8x65536 .f32) (harg10 : arg10.IsWhole)
  (arg11 : Memref sig .tc .vmem S512x8x128 .f32) (harg11 : arg11.IsWhole)
  (arg12 : Memref sig .tc .vmem S512x8x128 .f32) (harg12 : arg12.IsWhole)
  (arg13 : Memref sig .tc .vmem S512x8x128 .f32) (harg13 : arg13.IsWhole)
  (arg14 : Memref sig .tc .vmem S256x128 .f32) (harg14 : arg14.IsWhole)
  (arg15 : Memref sig .tc .vmem S32x128 .i32) (harg15 : arg15.IsWhole)
  (arg16 : Memref sig .tc .vmem S32x512 .f32) (harg16 : arg16.IsWhole)

set_option maxHeartbeats 40000000 in
/-- The loop of a chunk whose rows all belong to one expert: codes, dH, column scales, row scales and the diagonal mask are read; row codes, column codes, running maxima and row maxima are written. -/
@[sl_loop] def loopInv_k0_t2 (𝒱 : Variants) (c : Dev nD) (bd : Option 𝒱.V) (E : Set ℕ) (i : grid0.Coords)
    (arg0 : BitVec 32) (v0 : BitVec 32) (v12 : IVec S32x128 32) (v13 : Elt F .i32) (v17 : Elt F .i32) (v21 : Elt F .i32) (v25 : Elt F .i32) (v29 : Elt F .i32) (v33 : Elt F .i32) (v37 : Elt F .i32) (v40 : BitVec 32) (c32_i32_5 : BitVec 32)
    (v43 : Elt F .i32) (v47 : Elt F .i32) (v51 : Elt F .i32) (v55 : Elt F .i32) (v59 : Elt F .i32) (v63 : Elt F .i32) (v67 : Elt F .i32) (k0_hw1 : k0_chk1 i v13 v17 v21 v25 v29 v33 v37 v43 v47 v51 v55 v59 v63 v67) (k0_h2 : k0_cond2 i v13 v17 v21 v25 v29 v33 v37 v43 v47 v51 v55 v59 v63 v67 = 1#1)
    (X_arg2 : BufTy.Contents (Elt F) arg2.view.ty) (X_arg4 : BufTy.Contents (Elt F) arg4.view.ty) (X_arg11 : BufTy.Contents (Elt F) arg11.view.ty) (X_arg14 : BufTy.Contents (Elt F) arg14.view.ty) (X_arg15 : BufTy.Contents (Elt F) arg15.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v12 v13 v17 v21 v25 v29 v33 v37 v40 c32_i32_5 v43 v47 v51 v55 v59 v63 v67 k0_hw1 k0_h2 where
  inv k acc := iprop((arg2.view.loc (c : Thread nD τ) ↦[arg2.view.set]{fullShare} X_arg2) ∗ (arg4.view.loc (c : Thread nD τ) ↦[arg4.view.set]{fullShare} X_arg4) ∗ (arg11.view.loc (c : Thread nD τ) ↦[arg11.view.set]{fullShare} X_arg11) ∗ (arg14.view.loc (c : Thread nD τ) ↦[arg14.view.set]{fullShare} X_arg14) ∗ (arg15.view.loc (c : Thread nD τ) ↦[arg15.view.set]{fullShare} X_arg15) ∗ (∃ f_arg6 : BufTy.Contents (Elt F) arg6.view.ty, (arg6.view.loc (c : Thread nD τ) ↦[arg6.view.set]{fullShare} f_arg6)) ∗ (∃ f_arg8 : BufTy.Contents (Elt F) arg8.view.ty, (arg8.view.loc (c : Thread nD τ) ↦[arg8.view.set]{fullShare} f_arg8)) ∗ (∃ f_arg12 : BufTy.Contents (Elt F) arg12.view.ty, (arg12.view.loc (c : Thread nD τ) ↦[arg12.view.set]{fullShare} f_arg12)) ∗ (∃ f_arg16 : BufTy.Contents (Elt F) arg16.view.ty, (arg16.view.loc (c : Thread nD τ) ↦[arg16.view.set]{fullShare} f_arg16)))
  step k acc := by
    iintro ⟨HR_arg2, HR_arg4, HR_arg11, HR_arg14, HR_arg15, ⟨%f_arg6, HW_arg6⟩, ⟨%f_arg8, HW_arg8⟩, ⟨%f_arg12, HW_arg12⟩, ⟨%f_arg16, HW_arg16⟩⟩
    have hk : k.val < k0_t2_loop.trips := k.isLt
    unfold k0_t2_body
    sl_exec
    sl_step
    isplitl [HR_arg2]; · iexact HR_arg2
    isplitl [HR_arg4]; · iexact HR_arg4
    isplitl [HR_arg11]; · iexact HR_arg11
    isplitl [HR_arg14]; · iexact HR_arg14
    isplitl [HR_arg15]; · iexact HR_arg15
    isplitl [HW_arg6]; · iexists _; iexact HW_arg6
    isplitl [HW_arg8]; · iexists _; iexact HW_arg8
    isplitl [HW_arg12]; · iexists _; iexact HW_arg12
    iexists _; iexact HW_arg16

end Cert.Proof.KernelIdeal

end
-- ==== Proof.Loop3KernelIdeal.lean ====
/- The two chunk loops of `KernelIdeal`: per trip, what the region reads keeps its contents and what it writes is held at some contents. -/
module

public import proofs.«01_k».proof.Proof.Gen.KernelIdeal.Launch
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (arg1 : Memref sig .tc .smem S9 .i32) (harg1 : arg1.IsWhole)
  (arg2 : Memref sig .tc .vmem S32x65536 .fp8e4m3) (harg2 : arg2.IsWhole)
  (arg3 : Memref sig .tc .vmem S32x512 .f32) (harg3 : arg3.IsWhole)
  (arg4 : Memref sig .tc .vmem S32x32768 .bf16) (harg4 : arg4.IsWhole)
  (arg5 : Memref sig .tc .vmem S8x65536 .f32) (harg5 : arg5.IsWhole)
  (arg6 : Memref sig .tc .vmem S32x65536 .fp8e5m2) (harg6 : arg6.IsWhole)
  (arg7 : Memref sig .tc .vmem S32x512 .f32) (harg7 : arg7.IsWhole)
  (arg8 : Memref sig .tc .vmem S32x65536 .fp8e5m2) (harg8 : arg8.IsWhole)
  (arg9 : Memref sig .tc .vmem S8x65536 .f32) (harg9 : arg9.IsWhole)
  (arg10 : Memref sig .tc .vmem S8x65536 .f32) (harg10 : arg10.IsWhole)
  (arg11 : Memref sig .tc .vmem S512x8x128 .f32) (harg11 : arg11.IsWhole)
  (arg12 : Memref sig .tc .vmem S512x8x128 .f32) (harg12 : arg12.IsWhole)
  (arg13 : Memref sig .tc .vmem S512x8x128 .f32) (harg13 : arg13.IsWhole)
  (arg14 : Memref sig .tc .vmem S256x128 .f32) (harg14 : arg14.IsWhole)
  (arg15 : Memref sig .tc .vmem S32x128 .i32) (harg15 : arg15.IsWhole)
  (arg16 : Memref sig .tc .vmem S32x512 .f32) (harg16 : arg16.IsWhole)

set_option maxHeartbeats 40000000 in
/-- The loop of a chunk whose rows belong to several experts: beside the buffers of the other loop it reads the offsets, and it writes the finished maxima. -/
@[sl_loop] def loopInv_k0_t3 (𝒱 : Variants) (c : Dev nD) (bd : Option 𝒱.V) (E : Set ℕ) (i : grid0.Coords)
    (arg0 : BitVec 32) (v0 : BitVec 32) (v12 : IVec S32x128 32) (v13 : Elt F .i32) (v17 : Elt F .i32) (v21 : Elt F .i32) (v25 : Elt F .i32) (v29 : Elt F .i32) (v33 : Elt F .i32) (v37 : Elt F .i32) (v40 : BitVec 32) (c32_i32_5 : BitVec 32)
    (X_arg1 : BufTy.Contents (Elt F) arg1.view.ty) (X_arg2 : BufTy.Contents (Elt F) arg2.view.ty) (X_arg4 : BufTy.Contents (Elt F) arg4.view.ty) (X_arg11 : BufTy.Contents (Elt F) arg11.view.ty) (X_arg14 : BufTy.Contents (Elt F) arg14.view.ty) (X_arg15 : BufTy.Contents (Elt F) arg15.view.ty) :
    LoopInvTy_k0_t3 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v12 v13 v17 v21 v25 v29 v33 v37 v40 c32_i32_5 where
  inv k acc := iprop((arg1.view.loc (c : Thread nD τ) ↦{fullShare.right} X_arg1) ∗ (arg2.view.loc (c : Thread nD τ) ↦[arg2.view.set]{fullShare} X_arg2) ∗ (arg4.view.loc (c : Thread nD τ) ↦[arg4.view.set]{fullShare} X_arg4) ∗ (arg11.view.loc (c : Thread nD τ) ↦[arg11.view.set]{fullShare} X_arg11) ∗ (arg14.view.loc (c : Thread nD τ) ↦[arg14.view.set]{fullShare} X_arg14) ∗ (arg15.view.loc (c : Thread nD τ) ↦[arg15.view.set]{fullShare} X_arg15) ∗ (∃ f_arg6 : BufTy.Contents (Elt F) arg6.view.ty, (arg6.view.loc (c : Thread nD τ) ↦[arg6.view.set]{fullShare} f_arg6)) ∗ (∃ f_arg8 : BufTy.Contents (Elt F) arg8.view.ty, (arg8.view.loc (c : Thread nD τ) ↦[arg8.view.set]{fullShare} f_arg8)) ∗ (∃ f_arg13 : BufTy.Contents (Elt F) arg13.view.ty, (arg13.view.loc (c : Thread nD τ) ↦[arg13.view.set]{fullShare} f_arg13)) ∗ (∃ f_arg16 : BufTy.Contents (Elt F) arg16.view.ty, (arg16.view.loc (c : Thread nD τ) ↦[arg16.view.set]{fullShare} f_arg16)))
  step k acc := by
    iintro ⟨HT, HR_arg2, HR_arg4, HR_arg11, HR_arg14, HR_arg15, ⟨%f_arg6, HW_arg6⟩, ⟨%f_arg8, HW_arg8⟩, ⟨%f_arg13, HW_arg13⟩, ⟨%f_arg16, HW_arg16⟩⟩
    have hk : k.val < k0_t3_loop.trips := k.isLt
    unfold k0_t3_body
    sl_exec
    sl_step
    isplitl [HT]; · iexact HT
    isplitl [HR_arg2]; · iexact HR_arg2
    isplitl [HR_arg4]; · iexact HR_arg4
    isplitl [HR_arg11]; · iexact HR_arg11
    isplitl [HR_arg14]; · iexact HR_arg14
    isplitl [HR_arg15]; · iexact HR_arg15
    isplitl [HW_arg6]; · iexists _; iexact HW_arg6
    isplitl [HW_arg8]; · iexists _; iexact HW_arg8
    isplitl [HW_arg13]; · iexists _; iexact HW_arg13
    iexists _; iexact HW_arg16

end Cert.Proof.KernelIdeal

end
-- ==== Proof.ChecksKernelIdeal.lean ====
/- The side conditions the body of `KernelIdeal` assumes of the offsets hold at every contents of the table: the expert of a row is at most 7. -/
module

public import proofs.«01_k».proof.Proof.Gen.KernelIdeal
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem bit_le (b : BitVec 1) : (Scalar.extui b : BitVec 32).toNat ≤ 1 := by
  revert b; decide

/-- A sum of seven comparison bits lies between 0 and 7, read signed. -/
theorem count_le (b₁ b₂ b₃ b₄ b₅ b₆ b₇ : BitVec 1) :
    ∃ n : Int, Affine.IsInt (Scalar.addi (Scalar.addi (Scalar.addi (Scalar.addi (Scalar.addi (Scalar.addi (Scalar.addi 0#32 (Scalar.extui b₁)) (Scalar.extui b₂)) (Scalar.extui b₃)) (Scalar.extui b₄)) (Scalar.extui b₅)) (Scalar.extui b₆)) (Scalar.extui b₇) : BitVec 32) n ∧ 0 ≤ n ∧ n ≤ 7 := by
  have h₁ := bit_le b₁; have h₂ := bit_le b₂; have h₃ := bit_le b₃; have h₄ := bit_le b₄
  have h₅ := bit_le b₅; have h₆ := bit_le b₆; have h₇ := bit_le b₇
  refine ⟨_, by unfold Affine.IsInt; rfl, ?_⟩
  rw [BitVec.toInt_eq_toNat_of_lt] <;> simp only [Scalar.addi, IntOp.addi, BitVec.toNat_add, BitVec.toNat_ofNat] <;> omega

theorem chk1_all (i : grid0.Coords) (v13 v17 v21 v25 v29 v33 v37 v43 v47 v51 v55 v59 v63 v67 : BitVec 32) : k0_chk1 i v13 v17 v21 v25 v29 v33 v37 v43 v47 v51 v55 v59 v63 v67 := by
  have h0 : Affine.IsInt 0#32 (0) := Affine.ofNat _ (by omega)
  have h1 : Affine.IsInt 1#32 (1) := Affine.ofNat _ (by omega)
  have h16 : Affine.IsInt 16#32 (16) := Affine.ofNat _ (by omega)
  have h256 : Affine.IsInt 256#32 (256) := Affine.ofNat _ (by omega)
  unfold k0_chk1
  refine ⟨fun t _ r => ?_, fun t _ r => ?_⟩
  · have hr := r.isLt
    have ht : t.val < 16 := Nat.lt_of_lt_of_le t.isLt k0_t2_abs.2.1
    have hv : Affine.IsInt _ ((t.val : Int)) := Affine.iv h0 h1 t.val (by omega)
    have hm : Affine.IsInt _ (16 * (t.val : Int)) := Affine.muli hv h16 (by omega)
    have hk : Affine.IsInt (BitVec.ofNat 32 r.val) ((r.val : Int)) := Affine.ofNat _ (by omega)
    have ha : Affine.IsInt _ (16 * (t.val : Int) + (r.val : Int)) := Affine.addi hm hk (by omega)
    obtain ⟨n, hn, hn0, hn7⟩ := count_le (Scalar.cmpi .sle v13 (Scalar.muli (BitVec.ofNat 32 (i 0).val) 32#32)) (Scalar.cmpi .sle v17 (Scalar.muli (BitVec.ofNat 32 (i 0).val) 32#32)) (Scalar.cmpi .sle v21 (Scalar.muli (BitVec.ofNat 32 (i 0).val) 32#32)) (Scalar.cmpi .sle v25 (Scalar.muli (BitVec.ofNat 32 (i 0).val) 32#32)) (Scalar.cmpi .sle v29 (Scalar.muli (BitVec.ofNat 32 (i 0).val) 32#32)) (Scalar.cmpi .sle v33 (Scalar.muli (BitVec.ofNat 32 (i 0).val) 32#32)) (Scalar.cmpi .sle v37 (Scalar.muli (BitVec.ofNat 32 (i 0).val) 32#32))
    exact Affine.inb_cons ha (by omega) <| Affine.inb_cons hn (by omega) <| Affine.inb_cons h0 (by omega) <| Affine.inb_nil
  · have hr := r.isLt
    have ht : t.val < 16 := Nat.lt_of_lt_of_le t.isLt k0_t2_abs.2.1
    have hv : Affine.IsInt _ ((t.val : Int)) := Affine.iv h0 h1 t.val (by omega)
    have hm : Affine.IsInt _ (16 * (t.val : Int)) := Affine.muli hv h16 (by omega)
    have hk : Affine.IsInt (BitVec.ofNat 32 r.val) ((r.val : Int)) := Affine.ofNat _ (by omega)
    have ha : Affine.IsInt _ (16 * (t.val : Int) + (r.val : Int)) := Affine.addi hm hk (by omega)
    have hb : Affine.IsInt _ (256 + (16 * (t.val : Int) + (r.val : Int))) := Affine.addi h256 ha (by omega)
    obtain ⟨n, hn, hn0, hn7⟩ := count_le (Scalar.cmpi .sle v13 (Scalar.muli (BitVec.ofNat 32 (i 0).val) 32#32)) (Scalar.cmpi .sle v17 (Scalar.muli (BitVec.ofNat 32 (i 0).val) 32#32)) (Scalar.cmpi .sle v21 (Scalar.muli (BitVec.ofNat 32 (i 0).val) 32#32)) (Scalar.cmpi .sle v25 (Scalar.muli (BitVec.ofNat 32 (i 0).val) 32#32)) (Scalar.cmpi .sle v29 (Scalar.muli (BitVec.ofNat 32 (i 0).val) 32#32)) (Scalar.cmpi .sle v33 (Scalar.muli (BitVec.ofNat 32 (i 0).val) 32#32)) (Scalar.cmpi .sle v37 (Scalar.muli (BitVec.ofNat 32 (i 0).val) 32#32))
    exact Affine.inb_cons hb (by omega) <| Affine.inb_cons hn (by omega) <| Affine.inb_cons h0 (by omega) <| Affine.inb_nil

theorem chk2_all (i : grid0.Coords) (v13 v17 v21 v25 v29 v33 v37 v43 v47 v51 v55 v59 v63 v67 v81 v85 v89 v93 v97 v101 v105 : BitVec 32) : k0_chk2 i v13 v17 v21 v25 v29 v33 v37 v43 v47 v51 v55 v59 v63 v67 v81 v85 v89 v93 v97 v101 v105 := by
  have h0 : Affine.IsInt 0#32 (0) := Affine.ofNat _ (by omega)
  have h1 : Affine.IsInt 1#32 (1) := Affine.ofNat _ (by omega)
  have h8 : Affine.IsInt 8#32 (8) := Affine.ofNat _ (by omega)
  unfold k0_chk2
  refine fun t _ r => ?_
  have hr := r.isLt
  have ht : t.val < 64 := Nat.lt_of_lt_of_le t.isLt k0_t4_abs.2.1
  have hv : Affine.IsInt _ ((t.val : Int)) := Affine.iv h0 h1 t.val (by omega)
  have hm : Affine.IsInt _ (8 * (t.val : Int)) := Affine.muli hv h8 (by omega)
  have hk : Affine.IsInt (BitVec.ofNat 32 r.val) ((r.val : Int)) := Affine.ofNat _ (by omega)
  have ha : Affine.IsInt _ (8 * (t.val : Int) + (r.val : Int)) := Affine.addi hm hk (by omega)
  obtain ⟨n, hn, hn0, hn7⟩ := count_le (Scalar.cmpi .sle v13 (Scalar.muli (BitVec.ofNat 32 (i 0).val) 32#32)) (Scalar.cmpi .sle v17 (Scalar.muli (BitVec.ofNat 32 (i 0).val) 32#32)) (Scalar.cmpi .sle v21 (Scalar.muli (BitVec.ofNat 32 (i 0).val) 32#32)) (Scalar.cmpi .sle v25 (Scalar.muli (BitVec.ofNat 32 (i 0).val) 32#32)) (Scalar.cmpi .sle v29 (Scalar.muli (BitVec.ofNat 32 (i 0).val) 32#32)) (Scalar.cmpi .sle v33 (Scalar.muli (BitVec.ofNat 32 (i 0).val) 32#32)) (Scalar.cmpi .sle v37 (Scalar.muli (BitVec.ofNat 32 (i 0).val) 32#32))
  exact Affine.inb_cons ha (by omega) <| Affine.inb_cons hn (by omega) <| Affine.inb_cons h0 (by omega) <| Affine.inb_nil

end Cert.Proof.KernelIdeal

end
-- ==== Proof.RunKernelIdeal.lean ====
/- One run of the body of `KernelIdeal`: the inputs and the table keep their contents, the outputs and the scratch end at some contents. -/
module

public import proofs.«01_k».proof.Proof.KitKernelIdeal
public import proofs.«01_k».proof.Proof.Loop1KernelIdeal
public import proofs.«01_k».proof.Proof.Loop2KernelIdeal
public import proofs.«01_k».proof.Proof.Loop3KernelIdeal
public import proofs.«01_k».proof.Proof.ChecksKernelIdeal

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (arg1 : Memref sig .tc .smem S9 .i32) (harg1 : arg1.IsWhole)
  (arg2 : Memref sig .tc .vmem S32x65536 .fp8e4m3) (harg2 : arg2.IsWhole)
  (arg3 : Memref sig .tc .vmem S32x512 .f32) (harg3 : arg3.IsWhole)
  (arg4 : Memref sig .tc .vmem S32x32768 .bf16) (harg4 : arg4.IsWhole)
  (arg5 : Memref sig .tc .vmem S8x65536 .f32) (harg5 : arg5.IsWhole)
  (arg6 : Memref sig .tc .vmem S32x65536 .fp8e5m2) (harg6 : arg6.IsWhole)
  (arg7 : Memref sig .tc .vmem S32x512 .f32) (harg7 : arg7.IsWhole)
  (arg8 : Memref sig .tc .vmem S32x65536 .fp8e5m2) (harg8 : arg8.IsWhole)
  (arg9 : Memref sig .tc .vmem S8x65536 .f32) (harg9 : arg9.IsWhole)
  (arg10 : Memref sig .tc .vmem S8x65536 .f32) (harg10 : arg10.IsWhole)
  (arg11 : Memref sig .tc .vmem S512x8x128 .f32) (harg11 : arg11.IsWhole)
  (arg12 : Memref sig .tc .vmem S512x8x128 .f32) (harg12 : arg12.IsWhole)
  (arg13 : Memref sig .tc .vmem S512x8x128 .f32) (harg13 : arg13.IsWhole)
  (arg14 : Memref sig .tc .vmem S256x128 .f32) (harg14 : arg14.IsWhole)
  (arg15 : Memref sig .tc .vmem S32x128 .i32) (harg15 : arg15.IsWhole)
  (arg16 : Memref sig .tc .vmem S32x512 .f32) (harg16 : arg16.IsWhole)

/-- What the body holds between its parts: the inputs and the table at their contents, the outputs and the scratch at some
contents. -/
def Res (c : Dev nD) (x0 : Vec F S32x65536 .fp8e4m3) (x1 : Vec F S32x512 .f32) (x2 : Vec F S32x32768 .bf16) (x3 : Vec F S8x65536 .f32) (xt : TbBuf (F := F) c arg1) : sProp 𝕄 :=
  iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ tbPt c arg1 xt)

set_option maxHeartbeats 40000000 in
theorem part135_run (c : Dev nD) (i : grid0.Coords) (x0 : Vec F S32x65536 .fp8e4m3) (x1 : Vec F S32x512 .f32) (x2 : Vec F S32x32768 .bf16) (x3 : Vec F S8x65536 .f32) (xt : TbBuf (F := F) c arg1) (E : Set ℕ) (K : _ → sProp 𝕄) :
    iprop(Res arg1 arg2 harg2 arg3 harg3 arg4 harg4 arg5 harg5 arg6 arg7 arg8 arg9 arg10 arg11 arg12 arg13 arg14 arg15 arg16 c x0 x1 x2 x3 xt ∗ (∀ r, Res arg1 arg2 harg2 arg3 harg3 arg4 harg4 arg5 harg5 arg6 arg7 arg8 arg9 arg10 arg11 arg12 arg13 arg14 arg15 arg16 c x0 x1 x2 x3 xt -∗ K r))
      ⊢ wp frame (wpE (defs₀ (F := F)) Variants.none c none) E (k0_part135 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  rw [k0_part135_eq_skeleton]; unfold k0_part135_skel Res
  iintro ⟨⟨H0, H1, H2, H3, ⟨%fH4, H4⟩, ⟨%fH5, H5⟩, ⟨%fH6, H6⟩, ⟨%fH7, H7⟩, ⟨%fH8, H8⟩, ⟨%fHS0, HS0⟩, ⟨%fHS1, HS1⟩, ⟨%fHS2, HS2⟩, ⟨%fHS3, HS3⟩, ⟨%fHS4, HS4⟩, ⟨%fHS5, HS5⟩, HT⟩, Hk⟩
  sl_exec
  split
  all_goals
    sl_exec
    sl_step
    iapply Hk
    isplitl [H0]
    · iexact H0
    isplitl [H1]
    · iexact H1
    isplitl [H2]
    · iexact H2
    isplitl [H3]
    · iexact H3
    isplitl [H4]
    · iexists _; iexact H4
    isplitl [H5]
    · iexists _; iexact H5
    isplitl [H6]
    · iexists _; iexact H6
    isplitl [H7]
    · iexists _; iexact H7
    isplitl [H8]
    · iexists _; iexact H8
    isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    isplitl [HS5]
    · iexists _; iexact HS5
    iexact HT

set_option maxHeartbeats 40000000 in
theorem part136_run (c : Dev nD) (i : grid0.Coords) (x0 : Vec F S32x65536 .fp8e4m3) (x1 : Vec F S32x512 .f32) (x2 : Vec F S32x32768 .bf16) (x3 : Vec F S8x65536 .f32) (xt : TbBuf (F := F) c arg1) (arg0 v0 : BitVec 32) (v12 : IVec S32x128 32) (v13 v17 v21 v25 v29 v33 v37 : Elt F .i32) (v40 c32 : BitVec 32) (E : Set ℕ) (K : _ → sProp 𝕄) :
    iprop(Res arg1 arg2 harg2 arg3 harg3 arg4 harg4 arg5 harg5 arg6 arg7 arg8 arg9 arg10 arg11 arg12 arg13 arg14 arg15 arg16 c x0 x1 x2 x3 xt ∗ (∀ r, Res arg1 arg2 harg2 arg3 harg3 arg4 harg4 arg5 harg5 arg6 arg7 arg8 arg9 arg10 arg11 arg12 arg13 arg14 arg15 arg16 c x0 x1 x2 x3 xt -∗ K r))
      ⊢ wp frame (wpE (defs₀ (F := F)) Variants.none c none) E (k0_part136 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v12 v13 v17 v21 v25 v29 v33 v37 v40 c32) K := by
  rw [k0_part136_eq_skeleton]; unfold k0_part136_skel Res
  iintro ⟨⟨H0, H1, H2, H3, ⟨%fH4, H4⟩, ⟨%fH5, H5⟩, ⟨%fH6, H6⟩, ⟨%fH7, H7⟩, ⟨%fH8, H8⟩, ⟨%fHS0, HS0⟩, ⟨%fHS1, HS1⟩, ⟨%fHS2, HS2⟩, ⟨%fHS3, HS3⟩, ⟨%fHS4, HS4⟩, ⟨%fHS5, HS5⟩, HT⟩, Hk⟩
  sl_exec (disch := exact chk1_all ..)
  split
  all_goals
    sl_exec
    split
  all_goals
    sl_exec
    sl_step
    iapply Hk
    isplitl [H0]
    · iexact H0
    isplitl [H1]
    · iexact H1
    isplitl [H2]
    · iexact H2
    isplitl [H3]
    · iexact H3
    isplitl [H4]
    · iexists _; iexact H4
    isplitl [H5]
    · iexists _; iexact H5
    isplitl [H6]
    · iexists _; iexact H6
    isplitl [H7]
    · iexists _; iexact H7
    isplitl [H8]
    · iexists _; iexact H8
    isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    isplitl [HS5]
    · iexists _; iexact HS5
    iexact HT

set_option maxHeartbeats 40000000 in
theorem part137_run (c : Dev nD) (i : grid0.Coords) (x0 : Vec F S32x65536 .fp8e4m3) (x1 : Vec F S32x512 .f32) (x2 : Vec F S32x32768 .bf16) (x3 : Vec F S8x65536 .f32) (xt : TbBuf (F := F) c arg1) (v13 v17 v21 v25 v29 v33 v37 : Elt F .i32) (v40 : BitVec 32) (v43 v47 v51 v55 v59 v63 v67 : Elt F .i32) (v77 v78 : BitVec 1) (v80 : BitVec 32) (v81 : Elt F .i32) (v82 : BitVec 1) (E : Set ℕ) (K : _ → sProp 𝕄) :
    iprop(Res arg1 arg2 harg2 arg3 harg3 arg4 harg4 arg5 harg5 arg6 arg7 arg8 arg9 arg10 arg11 arg12 arg13 arg14 arg15 arg16 c x0 x1 x2 x3 xt ∗ (∀ r, Res arg1 arg2 harg2 arg3 harg3 arg4 harg4 arg5 harg5 arg6 arg7 arg8 arg9 arg10 arg11 arg12 arg13 arg14 arg15 arg16 c x0 x1 x2 x3 xt -∗ K r))
      ⊢ wp frame (wpE (defs₀ (F := F)) Variants.none c none) E (k0_part137 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v13 v17 v21 v25 v29 v33 v37 v40 v43 v47 v51 v55 v59 v63 v67 v77 v78 v80 v81 v82) K := by
  rw [k0_part137_eq_skeleton]; unfold k0_part137_skel Res
  iintro ⟨⟨H0, H1, H2, H3, ⟨%fH4, H4⟩, ⟨%fH5, H5⟩, ⟨%fH6, H6⟩, ⟨%fH7, H7⟩, ⟨%fH8, H8⟩, ⟨%fHS0, HS0⟩, ⟨%fHS1, HS1⟩, ⟨%fHS2, HS2⟩, ⟨%fHS3, HS3⟩, ⟨%fHS4, HS4⟩, ⟨%fHS5, HS5⟩, HT⟩, Hk⟩
  sl_exec (disch := exact chk2_all ..)
  split
  all_goals
    sl_exec
    sl_step
    iapply Hk
    isplitl [H0]
    · iexact H0
    isplitl [H1]
    · iexact H1
    isplitl [H2]
    · iexact H2
    isplitl [H3]
    · iexact H3
    isplitl [H4]
    · iexists _; iexact H4
    isplitl [H5]
    · iexists _; iexact H5
    isplitl [H6]
    · iexists _; iexact H6
    isplitl [H7]
    · iexists _; iexact H7
    isplitl [H8]
    · iexists _; iexact H8
    isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    isplitl [HS5]
    · iexists _; iexact HS5
    iexact HT

set_option maxHeartbeats 40000000 in
theorem kernelRun (c : Dev nD) (i : grid0.Coords) (x0 : Vec F S32x65536 .fp8e4m3) (x1 : Vec F S32x512 .f32) (x2 : Vec F S32x32768 .bf16) (x3 : Vec F S8x65536 .f32) (xt : TbBuf (F := F) c arg1) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ tbPt c arg1 xt
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ tbPt c arg1 xt) -∗ K ⟨⟩))
          ⊢ wp frame (wpE (defs₀ (F := F)) Variants.none c none) E (cc0_swiglu_bwd_quant (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  intro E K
  simp only [cc0_swiglu_bwd_quant_eq_skeleton]; unfold cc0_swiglu_bwd_quant_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, HT, Hk⟩
  obtain rfl := harg2.eq_unread hf0; obtain rfl := harg3.eq_unread hf1; obtain rfl := harg4.eq_unread hf2; obtain rfl := harg5.eq_unread hf3
  rw [wp_bind]
  iapply (part135_run arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c i x0 x1 x2 x3 xt)
  isplitr [Hk]
  · unfold Res
    isplitl [H0]
    · iexact H0
    isplitl [H1]
    · iexact H1
    isplitl [H2]
    · iexact H2
    isplitl [H3]
    · iexact H3
    isplitl [H4]
    · iexists _; iexact H4
    isplitl [H5]
    · iexists _; iexact H5
    isplitl [H6]
    · iexists _; iexact H6
    isplitl [H7]
    · iexists _; iexact H7
    isplitl [H8]
    · iexists _; iexact H8
    isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    isplitl [HS5]
    · iexists _; iexact HS5
    iexact HT
  iintro %r Hr
  obtain ⟨arg0, v0, v12, v13, v17, v21, v25, v29, v33, v37, v40, c32⟩ := r
  dsimp only
  rw [wp_bind]
  iapply (part136_run arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c i x0 x1 x2 x3 xt)
  isplitl [Hr]
  · iexact Hr
  iintro %r Hr
  obtain ⟨v43, v47, v51, v55, v59, v63, v67, v77, v78, v80, v81, v82⟩ := r
  dsimp only
  rw [wp_bind]
  iapply (part137_run arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c i x0 x1 x2 x3 xt)
  isplitl [Hr]
  · iexact Hr
  iintro %r Hr
  obtain ⟨v116, v120, v125, c127⟩ := r
  dsimp only
  unfold Res
  icases Hr with ⟨H0, H1, H2, H3, ⟨%fH4, H4⟩, ⟨%fH5, H5⟩, ⟨%fH6, H6⟩, ⟨%fH7, H7⟩, ⟨%fH8, H8⟩, ⟨%fHS0, HS0⟩, ⟨%fHS1, HS1⟩, ⟨%fHS2, HS2⟩, ⟨%fHS3, HS3⟩, ⟨%fHS4, HS4⟩, ⟨%fHS5, HS5⟩, HT⟩
  sl_exec
  split
  all_goals
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexact HT

end Cert.Proof.KernelIdeal

end
-- ==== Proof.FrameKernelIdeal.lean ====
/- The frame of `KernelIdeal`: the pipeline's proof data with the outputs forgotten, the body obligation, the launch. -/
module

public import proofs.«01_k».proof.Proof.RunKernelIdeal

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The windows of which nothing is stated here: the five outputs. -/
def forgets : Fin 9 → Bool := fun w => w.val == 4 || w.val == 5 || w.val == 6 || w.val == 7 || w.val == 8

/-- The proof data: each input's buffer at its block, the outputs not named. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := (cfgM m)) ⟨4, h⟩ t
    | ⟨5, h⟩ => Pipeline.Dat.unnamed (cfg := (cfgM m)) ⟨5, h⟩ t
    | ⟨6, h⟩ => Pipeline.Dat.unnamed (cfg := (cfgM m)) ⟨6, h⟩ t
    | ⟨7, h⟩ => Pipeline.Dat.unnamed (cfg := (cfgM m)) ⟨7, h⟩ t
    | ⟨8, h⟩ => Pipeline.Dat.unnamed (cfg := (cfgM m)) ⟨8, h⟩ t
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after_0 (c : Dev nD) (t : Fin (cfgM m).N) : (dats m 0 c).after 0 t = iblk m c 0 t := by dsimp only [dats]; try rfl
theorem before_0 (c : Dev nD) (t : Fin (cfgM m).N) (d) : (dats m 0 c).before 0 t d = iblk m c 0 t :=
  before_0_of m (dats m 0 c) (A_eq m c 0) (after_0 m c) t d

theorem after_1 (c : Dev nD) (t : Fin (cfgM m).N) : (dats m 0 c).after 1 t = iblk m c 1 t := by dsimp only [dats]; try rfl
theorem before_1 (c : Dev nD) (t : Fin (cfgM m).N) (d) : (dats m 0 c).before 1 t d = iblk m c 1 t :=
  before_1_of m (dats m 0 c) (A_eq m c 1) (after_1 m c) t d

theorem after_2 (c : Dev nD) (t : Fin (cfgM m).N) : (dats m 0 c).after 2 t = iblk m c 2 t := by dsimp only [dats]; try rfl
theorem before_2 (c : Dev nD) (t : Fin (cfgM m).N) (d) : (dats m 0 c).before 2 t d = iblk m c 2 t :=
  before_2_of m (dats m 0 c) (A_eq m c 2) (after_2 m c) t d

theorem after_3 (c : Dev nD) (t : Fin (cfgM m).N) : (dats m 0 c).after 3 t = iblk m c 3 t := by dsimp only [dats]; try rfl
theorem before_3 (c : Dev nD) (t : Fin (cfgM m).N) (d) : (dats m 0 c).before 3 t d = iblk m c 3 t :=
  before_3_of m (dats m 0 c) (A_eq m c 3) (after_3 m c) t d

/-- What the body is called with at point `t`, window by window, -/
def bodyPre (c : Dev nD) (t : Fin (cfgM m).N) : sProp 𝕄 :=
  iprop((dats m 0 c).Φ t.castSucc ∗ (dats m 0 c).owesAt () t.castSucc
    ∗ (∃ d, owns (c : Thread nD τ) (ms_0 m t) fullShare ((dats m 0 c).before 0 t d))
    ∗ (∃ d, owns (c : Thread nD τ) (ms_1 m t) fullShare ((dats m 0 c).before 1 t d))
    ∗ (∃ d, owns (c : Thread nD τ) (ms_2 m t) fullShare ((dats m 0 c).before 2 t d))
    ∗ (∃ d, owns (c : Thread nD τ) (ms_3 m t) fullShare ((dats m 0 c).before 3 t d))
    ∗ (∃ d, owns (c : Thread nD τ) (ms_4 m t) fullShare d)
    ∗ (∃ d, owns (c : Thread nD τ) (ms_5 m t) fullShare d)
    ∗ (∃ d, owns (c : Thread nD τ) (ms_6 m t) fullShare d)
    ∗ (∃ d, owns (c : Thread nD τ) (ms_7 m t) fullShare d)
    ∗ (∃ d, owns (c : Thread nD τ) (ms_8 m t) fullShare d))

/-- and what it returns. -/
def bodyPost (c : Dev nD) (t : Fin (cfgM m).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms_4 m t) fullShare d)
    ∗ (∃ d, owns (c : Thread nD τ) (ms_5 m t) fullShare d)
    ∗ (∃ d, owns (c : Thread nD τ) (ms_6 m t) fullShare d)
    ∗ (∃ d, owns (c : Thread nD τ) (ms_7 m t) fullShare d)
    ∗ (∃ d, owns (c : Thread nD τ) (ms_8 m t) fullShare d))

set_option maxHeartbeats 4000000 in
theorem sound_body (c : Dev nD) (t : Fin (cfgM m).N) :
    bodyPre m c t ⊢ wp frame (wpE (defs₀ (F := F)) Variants.none c none) Set.univ (bodyAt (adm m) t) (fun _ => bodyPost m c t) := by
  unfold bodyPre bodyPost bodyAt
  simp only [before_0, before_1, before_2, before_3]
  rw [show (dats m 0 c).Φ t.succ = (dats m 0 c).Φ t.castSucc from rfl,
    show (dats m 0 c).owesAt () t.succ = (dats m 0 c).owesAt () t.castSucc from rfl]
  rw [show (dats m 0 c).Φ t.castSucc = iprop(Pipeline.ΦA spec0 c ∗ Pipeline.ΦT pre0 (tbl m) c) from rfl, PhiT_eq, PhiA_eq]
  rw [show (dats m 0 c).leavesExact 0 t = owns (c : Thread nD τ) (ms_0 m t) fullShare ((dats m 0 c).after 0 t) from by
      unfold Dat.leavesExact; rw [liveAt_0 m t]; try rfl, after_0]
  rw [show (dats m 0 c).leavesExact 1 t = owns (c : Thread nD τ) (ms_1 m t) fullShare ((dats m 0 c).after 1 t) from by
      unfold Dat.leavesExact; rw [liveAt_1 m t]; try rfl, after_1]
  rw [show (dats m 0 c).leavesExact 2 t = owns (c : Thread nD τ) (ms_2 m t) fullShare ((dats m 0 c).after 2 t) from by
      unfold Dat.leavesExact; rw [liveAt_2 m t]; try rfl, after_2]
  rw [show (dats m 0 c).leavesExact 3 t = owns (c : Thread nD τ) (ms_3 m t) fullShare ((dats m 0 c).after 3 t) from by
      unfold Dat.leavesExact; rw [liveAt_3 m t]; try rfl, after_3]
  iintro ⟨⟨⟨⟨HS0, HS1, HS2, HS3, HS4, HS5⟩, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (kernelRun _ _ _ _ _ _ _ _ _ _ _ _ _ _ _ _ _ _ _ _ _ _ _ _ _ _ _ _ _ _ _ _ c (grid0.coords t) (iblk m c 0 t) (iblk m c 1 t) (iblk m c 2 t) (iblk m c 3 t) (tbl m 0) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  isplitl [HS0]; · iexact HS0
  isplitl [HS1]; · iexact HS1
  isplitl [HS2]; · iexact HS2
  isplitl [HS3]; · iexact HS3
  isplitl [HS4]; · iexact HS4
  isplitl [HS5]; · iexact HS5
  isplitl [HT]; · iexact HT
  iintro ⟨H0, H1, H2, H3, H4, H5, H6, H7, H8, HS0, HS1, HS2, HS3, HS4, HS5, HT⟩
  isplitl [HS0 HS1 HS2 HS3 HS4 HS5 Hg HT]
  · isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ forgets := fun t => by
  rw [bigSep_W0, bigSep_W0, defs₀_row m]
  exact triple_restated (sound_body m c t) rfl .rfl fun _ => .rfl

set_option backward.isDefEq.respectTransparency.types false in
/-- The launch: the frame's post, and every semaphore counter at zero. -/
theorem run_main_quiescent : θ_run defs (onTc (τ := τ) (main (F := F))) (s₀ m ρ) (fun r => (Pipeline.RDat.FramePost ((Pipeline.pin pcfgs fun _ => adm m) 0) (fun c => (dats m 0 c).toRForget forgets) (V m)) r ∧ r.2.sem = fun _ => 0) :=
  Pipeline.θ_run_frameP_forget (Q' := _) pcfgs (fun _ => adm m) (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hpf := V_pre m) (hΦ := fun _ _ => rfl)

theorem run_main : θ_run defs (onTc (τ := τ) (main (F := F))) (s₀ m ρ) (Pipeline.RDat.FramePost ((Pipeline.pin pcfgs fun _ => adm m) 0) (fun c => (dats m 0 c).toRForget forgets) (V m)) :=
  (θ_run defs _ _).mono (fun _ h => h.1) (run_main_quiescent m ρ)

/-- The frame: the argument arrays end unchanged and the semaphore counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (fun c => (dats m 0 c).toRForget forgets) (A_eq m) (run_main m ρ))
    ((θ_run defs _ _).mono (fun _ h => h.2) (run_main_quiescent m ρ))

end Cert.Proof.KernelIdeal

end
-- ==== Proof.RefArr.lean ====
/- The reference's result arrays as functions of its argument arrays, at any float values. The reference is one call
   without a grid: each of its first four results is one store of the whole array. -/
module

public import proofs.«01_k».proof.Proof.Gen.ReferenceIdeal.Value

@[expose] public section

noncomputable section

namespace Cert.Proof.Ref

open Cert.ReferenceIdeal Cert.ReferenceIdeal.Gen Cert.ReferenceIdeal.Value Idealize.ShloMosaic Idealize.ShloMosaic.TcCoe Idealize.SL.Sem

variable {F : FTy → Type} [FloatOps F] [Named F]

/-- Place `k` of the nine offsets. -/
def word (k : Fin 9) : S9.Idx := fun a => match a with | ⟨0, _⟩ => k

/-- The number of the group of every row. -/
def grp (x3 : Vec F S9 .i32) : IVec S1280x65536 32 :=
  k0_pay10 (iota .tc S1280x65536 32 [0] iota_S1280x65536_d0_w32) (k0_pay8 (x3 (word 0)) (x3 (word 1)) (x3 (word 2))) (k0_pay9 (x3 (word 3)))
    (x3 (word 4)) (x3 (word 5)) (x3 (word 6)) (x3 (word 7)) (x3 (word 8))

/-- The float of a hundredth of a power of two that the history is scaled by. -/
def cst : F .f32 := Scalar.ofBits .f32 0x37924925#32

/-- The row codes, -/
def G5 (x0 : Vec F S1280x65536 .fp8e4m3) (x1 : Vec F S1280x512 .f32) (x2 : Vec F S1280x32768 .bf16) : Vec F S1280x65536 .fp8e5m2 :=
  k0_pay7 (k0_pay4 x1 x0 x2) (k0_pay5 x1 x0 x2)

/-- the row scales, -/
def G6 (x0 : Vec F S1280x65536 .fp8e4m3) (x1 : Vec F S1280x512 .f32) (x2 : Vec F S1280x32768 .bf16) : Vec F S1280x512 .f32 :=
  k0_pay6 x1 x0 x2

/-- the column codes, -/
def G7 (x0 : Vec F S1280x65536 .fp8e4m3) (x1 : Vec F S1280x512 .f32) (x2 : Vec F S1280x32768 .bf16) (x3 : Vec F S9 .i32) (x4 : Vec F S8x65536 .f32) : Vec F S1280x65536 .fp8e5m2 :=
  k0_pay17 (k0_pay3 x1 x0 x2) (grp x3) (k0_pay13 x4 cst) (k0_pay14 (grp x3) x4 cst) (k0_pay15 (grp x3)) (k0_pay16 x4 cst)

/-- and the column scales. -/
def G8 (x4 : Vec F S8x65536 .f32) : Vec F S8x65536 .f32 := k0_pay12 x4 cst

theorem hz : (![0, 0] : Fin 2 → Nat) = fun _ => 0 := funext fun a => by fin_cases a <;> rfl

section

variable (c : Dev nD) (arg0 : Memref sig .tc .vmem S1280x65536 .fp8e4m3) (h0 : arg0.IsWhole) (arg1 : Memref sig .tc .vmem S1280x512 .f32) (h1 : arg1.IsWhole)
  (arg2 : Memref sig .tc .vmem S1280x32768 .bf16) (h2 : arg2.IsWhole) (arg3 : Memref sig .tc .smem S9 .i32) (h3 : arg3.IsWhole)
  (arg4 : Memref sig .tc .vmem S8x65536 .f32) (h4 : arg4.IsWhole) (arg5 : Memref sig .tc .vmem S1280x65536 .fp8e5m2) (h5 : arg5.IsWhole)
  (arg6 : Memref sig .tc .vmem S1280x512 .f32) (h6 : arg6.IsWhole) (arg7 : Memref sig .tc .vmem S1280x65536 .fp8e5m2) (h7 : arg7.IsWhole)
  (arg8 : Memref sig .tc .vmem S8x65536 .f32) (h8 : arg8.IsWhole) (arg9 : Memref sig .tc .vmem S8x65536 .f32) (h9 : arg9.IsWhole)
  (x0 : Vec F S1280x65536 .fp8e4m3) (x1 : Vec F S1280x512 .f32) (x2 : Vec F S1280x32768 .bf16) (x3 : Vec F S9 .i32) (x4 : Vec F S8x65536 .f32)

/-- What a load of the whole of each argument's buffer reads, -/
abbrev ld0 : Vec F S1280x65536 .fp8e4m3 := View.readAt (Elt F) arg0.view (Rect.unit ![0, 0] S1280x65536.size inb_S1280x65536_S1280x65536_0_0).toLoadRect (h0.unread x0)
abbrev ld1 : Vec F S1280x512 .f32 := View.readAt (Elt F) arg1.view (Rect.unit ![0, 0] S1280x512.size inb_S1280x512_S1280x512_0_0).toLoadRect (h1.unread x1)
abbrev ld2 : Vec F S1280x32768 .bf16 := View.readAt (Elt F) arg2.view (Rect.unit ![0, 0] S1280x32768.size inb_S1280x32768_S1280x32768_0_0).toLoadRect (h2.unread x2)
abbrev ld4 : Vec F S8x65536 .f32 := View.readAt (Elt F) arg4.view (Rect.unit ![0, 0] S8x65536.size inb_S8x65536_S8x65536_0_0).toLoadRect (h4.unread x4)

/-- is the argument. -/
theorem ld0_eq : ld0 arg0 h0 x0 = x0 := by
  unfold ld0; rw [View.readAt_eq_ld, h0.read_unread, View.ld_unit_zero hz]
theorem ld1_eq : ld1 arg1 h1 x1 = x1 := by
  unfold ld1; rw [View.readAt_eq_ld, h1.read_unread, View.ld_unit_zero hz]
theorem ld2_eq : ld2 arg2 h2 x2 = x2 := by
  unfold ld2; rw [View.readAt_eq_ld, h2.read_unread, View.ld_unit_zero hz]
theorem ld4_eq : ld4 arg4 h4 x4 = x4 := by
  unfold ld4; rw [View.readAt_eq_ld, h4.read_unread, View.ld_unit_zero hz]

/-- What the scalar load of place `k` of the offsets reads, -/
abbrev ldw (k : Fin 9) (inb : ∀ a : Fin S9.rank, (![k.val] : Fin 1 → Nat) a + S1.size a ≤ S9.size a) : BitVec 32 :=
  View.readAt (Elt F) arg3.view (Rect.unit (s := S9) ![k.val] S1.size inb).toLoadRect (h3.unread x3) (Shape.Idx.first (numel1_S1.symm ▸ Nat.one_pos))

/-- is that word. -/
theorem ldw_eq (k : Fin 9) (inb : ∀ a : Fin S9.rank, (![k.val] : Fin 1 → Nat) a + S1.size a ≤ S9.size a) : ldw arg3 h3 x3 k inb = x3 (word k) := by
  unfold ldw
  rw [View.readAt_eq_ld, h3.read_unread]
  exact congrArg x3 (funext fun a => by match a with | ⟨0, _⟩ => rfl)

/-- What the run leaves in each result's buffer. -/
theorem out5_eq : out0_A_5 c arg0 h0 arg1 h1 arg2 h2 arg3 h3 arg4 h4 arg5 h5 arg6 h6 arg7 h7 arg8 h8 arg9 h9 x0 x1 x2 x3 x4 = G5 x0 x1 x2 := by
  unfold out0_A_5
  rw [View.read_writes_junk_eq_canon]
  show View.canon ([⟨Rect.unit ![0, 0] S1280x65536.size inb_S1280x65536_S1280x65536_0_0,
      G5 (ld0 arg0 h0 x0) (ld1 arg1 h1 x1) (ld2 arg2 h2 x2)⟩] : List (View.Piece (Elt F) S1280x65536 .fp8e5m2)) = _
  rw [View.canon_unit_zero hz, ld0_eq, ld1_eq, ld2_eq]

theorem out6_eq : out0_A_6 c arg0 h0 arg1 h1 arg2 h2 arg3 h3 arg4 h4 arg5 h5 arg6 h6 arg7 h7 arg8 h8 arg9 h9 x0 x1 x2 x3 x4 = G6 x0 x1 x2 := by
  unfold out0_A_6
  rw [View.read_writes_junk_eq_canon]
  show View.canon ([⟨Rect.unit ![0, 0] S1280x512.size inb_S1280x512_S1280x512_0_0,
      G6 (ld0 arg0 h0 x0) (ld1 arg1 h1 x1) (ld2 arg2 h2 x2)⟩] : List (View.Piece (Elt F) S1280x512 .f32)) = _
  rw [View.canon_unit_zero hz, ld0_eq, ld1_eq, ld2_eq]

/-- The offsets as the scalar loads read them. -/
def ldx3 : Vec F S9 .i32 := fun i => ldw arg3 h3 x3 (i 0) (fun a => by match a with | ⟨0, _⟩ => exact (i 0).isLt)

theorem ldx3_eq : ldx3 arg3 h3 x3 = x3 := funext fun i =>
  (ldw_eq arg3 h3 x3 (i 0) _).trans (congrArg x3 (funext fun a => by match a with | ⟨0, _⟩ => rfl))

theorem out7_eq : out0_A_7 c arg0 h0 arg1 h1 arg2 h2 arg3 h3 arg4 h4 arg5 h5 arg6 h6 arg7 h7 arg8 h8 arg9 h9 x0 x1 x2 x3 x4 = G7 x0 x1 x2 x3 x4 := by
  unfold out0_A_7
  rw [View.read_writes_junk_eq_canon]
  show View.canon ([⟨Rect.unit ![0, 0] S1280x65536.size inb_S1280x65536_S1280x65536_0_0,
      G7 (ld0 arg0 h0 x0) (ld1 arg1 h1 x1) (ld2 arg2 h2 x2) (ldx3 arg3 h3 x3) (ld4 arg4 h4 x4)⟩] : List (View.Piece (Elt F) S1280x65536 .fp8e5m2)) = _
  rw [View.canon_unit_zero hz, ld0_eq, ld1_eq, ld2_eq, ldx3_eq, ld4_eq]

theorem out8_eq : out0_A_8 c arg0 h0 arg1 h1 arg2 h2 arg3 h3 arg4 h4 arg5 h5 arg6 h6 arg7 h7 arg8 h8 arg9 h9 x0 x1 x2 x3 x4 = G8 x4 := by
  unfold out0_A_8
  rw [View.read_writes_junk_eq_canon]
  show View.canon ([⟨Rect.unit ![0, 0] S8x65536.size inb_S8x65536_S8x65536_0_0, G8 (ld4 arg4 h4 x4)⟩] : List (View.Piece (Elt F) S8x65536 .f32)) = _
  rw [View.canon_unit_zero hz, ld4_eq]

end

variable (m : (ℓ : Loc nD τ sig) → Buf (Elt F) ℓ) (ρ : Dev nD → PrngReg)

/-- At the one grid point each window's block index is zero, so an index of a window's block is the same index of its
    array. -/
theorem idx_zero : ∀ t : Fin cfg0.N, (win0_0.index t (0 : Fin 2) = 0 ∧ win0_0.index t (1 : Fin 2) = 0) ∧ (win0_1.index t (0 : Fin 2) = 0 ∧ win0_1.index t (1 : Fin 2) = 0)
    ∧ (win0_2.index t (0 : Fin 2) = 0 ∧ win0_2.index t (1 : Fin 2) = 0) ∧ win0_3.index t (0 : Fin 1) = 0 ∧ (win0_4.index t (0 : Fin 2) = 0 ∧ win0_4.index t (1 : Fin 2) = 0)
    ∧ (win0_5.index t (0 : Fin 2) = 0 ∧ win0_5.index t (1 : Fin 2) = 0) ∧ (win0_6.index t (0 : Fin 2) = 0 ∧ win0_6.index t (1 : Fin 2) = 0)
    ∧ (win0_7.index t (0 : Fin 2) = 0 ∧ win0_7.index t (1 : Fin 2) = 0) ∧ (win0_8.index t (0 : Fin 2) = 0 ∧ win0_8.index t (1 : Fin 2) = 0) :=
  (by decide +kernel : ∀ t : Fin grid0.N, _)

/-- An index whose coordinates are those of `j` over a block of index zero is `j`. -/
theorem ext2 {a b : ℕ} {x j : (⟨2, ![a, b]⟩ : Shape).Idx} {p q : ℕ} (hp : p = 0) (hq : q = 0)
    (h0 : (x 0).val = p * a + 1 * (j 0).val) (h1 : (x 1).val = q * b + 1 * (j 1).val) : x = j := by
  subst hp hq
  funext k; apply Fin.ext
  match k with
  | ⟨0, _⟩ => exact h0.trans (by rw [Nat.zero_mul, Nat.zero_add, Nat.one_mul]; rfl)
  | ⟨1, _⟩ => exact h1.trans (by rw [Nat.zero_mul, Nat.zero_add, Nat.one_mul]; rfl)

variable (t : Fin cfg0.N)

theorem emb0 (j : S1280x65536.Idx) : ((cfg0.win 0).blk t).view.emb j = j := ext2 (idx_zero t).1.1 (idx_zero t).1.2 rfl rfl
theorem emb1 (j : S1280x512.Idx) : ((cfg0.win 1).blk t).view.emb j = j := ext2 (idx_zero t).2.1.1 (idx_zero t).2.1.2 rfl rfl
theorem emb2 (j : S1280x32768.Idx) : ((cfg0.win 2).blk t).view.emb j = j := ext2 (idx_zero t).2.2.1.1 (idx_zero t).2.2.1.2 rfl rfl
theorem emb4 (j : S8x65536.Idx) : ((cfg0.win 4).blk t).view.emb j = j := ext2 (idx_zero t).2.2.2.2.1.1 (idx_zero t).2.2.2.2.1.2 rfl rfl
theorem emb5 (j : S1280x65536.Idx) : ((cfg0.win 5).blk t).view.emb j = j := ext2 (idx_zero t).2.2.2.2.2.1.1 (idx_zero t).2.2.2.2.2.1.2 rfl rfl
theorem emb6 (j : S1280x512.Idx) : ((cfg0.win 6).blk t).view.emb j = j := ext2 (idx_zero t).2.2.2.2.2.2.1.1 (idx_zero t).2.2.2.2.2.2.1.2 rfl rfl
theorem emb7 (j : S1280x65536.Idx) : ((cfg0.win 7).blk t).view.emb j = j := ext2 (idx_zero t).2.2.2.2.2.2.2.1.1 (idx_zero t).2.2.2.2.2.2.2.1.2 rfl rfl
theorem emb8 (j : S8x65536.Idx) : ((cfg0.win 8).blk t).view.emb j = j := ext2 (idx_zero t).2.2.2.2.2.2.2.2.1 (idx_zero t).2.2.2.2.2.2.2.2.2 rfl rfl
theorem emb3 (j : S9.Idx) : ((cfg0.win 3).blk t).view.emb j = j := by
  have e0 := (idx_zero t).2.2.2.1
  funext a; apply Fin.ext
  match a with
  | ⟨0, _⟩ => show win0_3.index t (0 : Fin 1) * 9 + 1 * (j 0).val = (j 0).val; omega

/-- So an input window's block is its array as launched. -/
theorem iblk0_eq (c : Dev nD) : iblk m c 0 t = m ((c : Thread nD τ).loc main_arg0) :=
  Eq.trans (funext fun j => congrArg (V m c main_arg0) (emb0 t j)) (V_main_arg0 m c)
theorem iblk1_eq (c : Dev nD) : iblk m c 1 t = m ((c : Thread nD τ).loc main_arg1) :=
  Eq.trans (funext fun j => congrArg (V m c main_arg1) (emb1 t j)) (V_main_arg1 m c)
theorem iblk2_eq (c : Dev nD) : iblk m c 2 t = m ((c : Thread nD τ).loc main_arg2) :=
  Eq.trans (funext fun j => congrArg (V m c main_arg2) (emb2 t j)) (V_main_arg2 m c)
theorem iblk3_eq (c : Dev nD) : iblk m c 3 t = m ((c : Thread nD τ).loc main_arg3) :=
  Eq.trans (funext fun j => congrArg (V m c main_arg3) (emb3 t j)) (V_main_arg3 m c)
theorem iblk4_eq (c : Dev nD) : iblk m c 4 t = m ((c : Thread nD τ).loc main_arg4) :=
  Eq.trans (funext fun j => congrArg (V m c main_arg4) (emb4 t j)) (V_main_arg4 m c)

/-- What the point writes back to each result is its block of that result's function of the argument arrays. -/
theorem flushed5_eq (c : Dev nD) : (dats m 0 c).flushed 5 t = ((cfg0.win 5).blk t).view.read (Elt F) (G5 (m ((c : Thread nD τ).loc main_arg0)) (m ((c : Thread nD τ).loc main_arg1)) (m ((c : Thread nD τ).loc main_arg2))) := by
  rw [flushed5_A, out5_eq, iblk0_eq, iblk1_eq, iblk2_eq]
  exact funext fun j => congrArg (G5 (m ((c : Thread nD τ).loc main_arg0)) (m ((c : Thread nD τ).loc main_arg1)) (m ((c : Thread nD τ).loc main_arg2))) (emb5 t j).symm
theorem flushed6_eq (c : Dev nD) : (dats m 0 c).flushed 6 t = ((cfg0.win 6).blk t).view.read (Elt F) (G6 (m ((c : Thread nD τ).loc main_arg0)) (m ((c : Thread nD τ).loc main_arg1)) (m ((c : Thread nD τ).loc main_arg2))) := by
  rw [flushed6_A, out6_eq, iblk0_eq, iblk1_eq, iblk2_eq]
  exact funext fun j => congrArg (G6 (m ((c : Thread nD τ).loc main_arg0)) (m ((c : Thread nD τ).loc main_arg1)) (m ((c : Thread nD τ).loc main_arg2))) (emb6 t j).symm
theorem flushed7_eq (c : Dev nD) : (dats m 0 c).flushed 7 t = ((cfg0.win 7).blk t).view.read (Elt F) (G7 (m ((c : Thread nD τ).loc main_arg0)) (m ((c : Thread nD τ).loc main_arg1)) (m ((c : Thread nD τ).loc main_arg2)) (m ((c : Thread nD τ).loc main_arg3)) (m ((c : Thread nD τ).loc main_arg4))) := by
  rw [flushed7_A, out7_eq, iblk0_eq, iblk1_eq, iblk2_eq, iblk3_eq, iblk4_eq]
  exact funext fun j => congrArg (G7 (m ((c : Thread nD τ).loc main_arg0)) (m ((c : Thread nD τ).loc main_arg1)) (m ((c : Thread nD τ).loc main_arg2)) (m ((c : Thread nD τ).loc main_arg3)) (m ((c : Thread nD τ).loc main_arg4))) (emb7 t j).symm
theorem flushed8_eq (c : Dev nD) : (dats m 0 c).flushed 8 t = ((cfg0.win 8).blk t).view.read (Elt F) (G8 (m ((c : Thread nD τ).loc main_arg4))) := by
  rw [flushed8_A, out8_eq, iblk4_eq]
  exact funext fun j => congrArg (G8 (m ((c : Thread nD τ).loc main_arg4))) (emb8 t j).symm

/-- Every index of a result array is in the point's block. -/
theorem covered5 (i : S1280x65536.Idx) : ∃ t : Fin cfg0.N, (cfg0.win 5).flush t = true ∧ i ∈ ((cfg0.win 5).blk t).view.set :=
  ⟨(⟨0, by decide⟩ : Fin cfg0.N), flush0_5 _, by
    have h := ((cfg0.win 5).blk (⟨0, by decide⟩ : Fin cfg0.N)).view.emb_mem_set i; rwa [emb5] at h⟩
theorem covered6 (i : S1280x512.Idx) : ∃ t : Fin cfg0.N, (cfg0.win 6).flush t = true ∧ i ∈ ((cfg0.win 6).blk t).view.set :=
  ⟨(⟨0, by decide⟩ : Fin cfg0.N), flush0_6 _, by
    have h := ((cfg0.win 6).blk (⟨0, by decide⟩ : Fin cfg0.N)).view.emb_mem_set i; rwa [emb6] at h⟩
theorem covered7 (i : S1280x65536.Idx) : ∃ t : Fin cfg0.N, (cfg0.win 7).flush t = true ∧ i ∈ ((cfg0.win 7).blk t).view.set :=
  ⟨(⟨0, by decide⟩ : Fin cfg0.N), flush0_7 _, by
    have h := ((cfg0.win 7).blk (⟨0, by decide⟩ : Fin cfg0.N)).view.emb_mem_set i; rwa [emb7] at h⟩
theorem covered8 (i : S8x65536.Idx) : ∃ t : Fin cfg0.N, (cfg0.win 8).flush t = true ∧ i ∈ ((cfg0.win 8).blk t).view.set :=
  ⟨(⟨0, by decide⟩ : Fin cfg0.N), flush0_8 _, by
    have h := ((cfg0.win 8).blk (⟨0, by decide⟩ : Fin cfg0.N)).view.emb_mem_set i; rwa [emb8] at h⟩

/-- So each result array after the run is that function. -/
theorem final5 (c : Dev nD) : (dats m 0 c).arrAt 5 cfg0.N = G5 (m ((c : Thread nD τ).loc main_arg0)) (m ((c : Thread nD τ).loc main_arg1)) (m ((c : Thread nD τ).loc main_arg2)) :=
  (dats m 0 c).arrAt_eq_of_cover 5 (G5 (m ((c : Thread nD τ).loc main_arg0)) (m ((c : Thread nD τ).loc main_arg1)) (m ((c : Thread nD τ).loc main_arg2))) (fun t _ => flushed5_eq m t c) covered5
theorem final6 (c : Dev nD) : (dats m 0 c).arrAt 6 cfg0.N = G6 (m ((c : Thread nD τ).loc main_arg0)) (m ((c : Thread nD τ).loc main_arg1)) (m ((c : Thread nD τ).loc main_arg2)) :=
  (dats m 0 c).arrAt_eq_of_cover 6 (G6 (m ((c : Thread nD τ).loc main_arg0)) (m ((c : Thread nD τ).loc main_arg1)) (m ((c : Thread nD τ).loc main_arg2))) (fun t _ => flushed6_eq m t c) covered6
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 7 (G7 (m ((c : Thread nD τ).loc main_arg0)) (m ((c : Thread nD τ).loc main_arg1)) (m ((c : Thread nD τ).loc main_arg2)) (m ((c : Thread nD τ).loc main_arg3)) (m ((c : Thread nD τ).loc main_arg4))) (fun t _ => flushed7_eq m t c) covered7
theorem final8 (c : Dev nD) : (dats m 0 c).arrAt 8 cfg0.N = G8 (m ((c : Thread nD τ).loc main_arg4)) :=
  (dats m 0 c).arrAt_eq_of_cover 8 (G8 (m ((c : Thread nD τ).loc main_arg4))) (fun t _ => flushed8_eq m t c) covered8

/-- The run of the reference with its first four result arrays at their functions of the arguments, the arguments unchanged. -/
theorem run : θ_run defs (onTc (τ := τ) (main (F := F))) ⟨m, fun _ => 0, ρ⟩ fun r => ∀ c : Dev nD,
      r.2.mem ((c : Thread nD τ).loc main_v0_0) = G5 (m ((c : Thread nD τ).loc main_arg0)) (m ((c : Thread nD τ).loc main_arg1)) (m ((c : Thread nD τ).loc main_arg2))
      ∧ r.2.mem ((c : Thread nD τ).loc main_v0_1) = G6 (m ((c : Thread nD τ).loc main_arg0)) (m ((c : Thread nD τ).loc main_arg1)) (m ((c : Thread nD τ).loc main_arg2))
      ∧ r.2.mem ((c : Thread nD τ).loc main_v0_2) = G7 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_3) = G8 (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c), (h c).2.2.1.trans (final7 m c), (h c).2.2.2.1.trans (final8 m c), (h c).2.2.2.2.2⟩) (run_blocks m ρ)

end Cert.Proof.Ref

end
-- ==== Proof.Canon.lean ====
/- What one block of the kernel computes, as functions of the block's inputs, and how the buffers of codes and of row maxima fill block by block. -/
module

public import proofs.«01_k».proof.Proof.Gen.KernelIdeal.Launch
public import proofs.«01_k».proof.Proof.Gen.KernelIdeal.Loops
public import Idealize.ShloMosaic.Lib.Writes
public import Idealize.ShloMosaic.Lib.WritesUnit
public import Idealize.ShloMosaic.Lib.VecWindow
public import Idealize.ShloMosaic.Lib.Tactic
public import Idealize.ShloMosaic.Lib.WordCmp
public import Idealize.ShloMosaic.Lib.TopK.GroupedStream
public import Idealize.ShloMosaic.Lib.Pipeline.Value

@[expose] public section

set_option maxRecDepth 16384

noncomputable section

namespace Cert.Proof.KernelIdeal

open Cert.KernelIdeal Cert.KernelIdeal.Gen
open Idealize.ShloMosaic

variable {F : FTy → Type} [FloatOps F] [Named F]

/-! ### One block -/

/-- The gradient with respect to the gate half of a block. -/
def dGate (cg cu : Vec F S32x128 .fp8e4m3) (st : Vec F S1x128 .f32) (mk : Vec F S32x128 .i32) (dh : Vec F S32x128 .bf16) : FVec F S32x128 .f32 :=
  k0_pay509 (k0_pay504 cg cu st mk) (k0_pay505 cg cu st mk) (k0_pay506 cg cu st mk) (k0_pay507 cg cu st mk dh) (Scalar.ofBits .f32 0x3F800000#32)

/-- The gradient with respect to the up half of a block. -/
def dUp (cg cu : Vec F S32x128 .fp8e4m3) (st : Vec F S1x128 .f32) (mk : Vec F S32x128 .i32) (dh : Vec F S32x128 .bf16) : FVec F S32x128 .f32 :=
  k0_pay508 cg cu st mk dh

/-- The largest magnitude of each row of a block. -/
def rowMax (d : FVec F S32x128 .f32) : FVec F S32x1 .f32 :=
  shapeCast S32x1 (multiReduction .maximumf [1] S32 (absf d) 0xFF800000#32 reduces_S32x128_S32 (.inl rfl) rfl) shapeCasts_S32_S32x1

/-- A maximum times the reciprocal of the largest code, entry by entry. -/
def qV {s : Shape} (a : FVec F s .f32) : FVec F s .f32 := mulf a (broadcast s (Scalar.ofBits .f32 0x37924925#32 : F .f32))

/-- That quotient held between the smallest normal value and `2^125`. -/
def clipV {s : Shape} (a : FVec F s .f32) : FVec F s .f32 :=
  minimumf (broadcast s (Scalar.ofBits .f32 0x7E000000#32 : F .f32)) (maximumf (broadcast s (Scalar.ofBits .f32 0x00800000#32 : F .f32)) (qV a))

/-- The integer part of the base-two logarithm, placed in the exponent field. -/
def fieldV {s : Shape} (a : FVec F s .f32) : IVec s 32 :=
  shli (addi (fptosi 32 (floor (mulf (log (clipV a)) (broadcast s (Named.named κ "log2_e" 0x3FB8AA3B#32 : F .f32))))) (broadcast s 127#32)) (broadcast s 23#32)

/-- The field set right by one in either direction. -/
def fixV {s : Shape} (c : FVec F s .f32) (f : IVec s 32) : IVec s 32 :=
  select (cmpf .oge c (mulf (broadcast s (Scalar.ofBits .f32 0x40000000#32 : F .f32)) (bitcastToFloat .f32 f)))
    (addi (select (cmpf .olt c (bitcastToFloat .f32 f)) (subi f (broadcast s 8388608#32)) f) (broadcast s 8388608#32))
    (select (cmpf .olt c (bitcastToFloat .f32 f)) (subi f (broadcast s 8388608#32)) f)

/-- The exponent field of the power of two at or below a maximum over the largest code; zero where that quotient is not normal. -/
def expoV {s : Shape} (a : FVec F s .f32) : IVec s 32 :=
  select (cmpf .olt (qV a) (broadcast s (Scalar.ofBits .f32 0x00800000#32 : F .f32))) (broadcast s 0#32) (fixV (clipV a) (fieldV a))

/-- The scale of a block: twice that power of two, or one. -/
def scaleV {s : Shape} (a : FVec F s .f32) : FVec F s .f32 :=
  select (cmpi .eq (expoV a) (broadcast s 0#32)) (broadcast s (Scalar.ofBits .f32 0x3F800000#32 : F .f32)) (bitcastToFloat .f32 (addi (expoV a) (broadcast s 8388608#32)))

/-- The reciprocal of the scale. -/
def invV {s : Shape} (a : FVec F s .f32) : FVec F s .f32 :=
  select (cmpi .eq (expoV a) (broadcast s 0#32)) (broadcast s (Scalar.ofBits .f32 0x3F800000#32 : F .f32)) (bitcastToFloat .f32 (subi (broadcast s 2122317824#32) (expoV a)))

/-- Values held to the range of the codes and rounded to codes. -/
def codeV {s : Shape} (d : FVec F s .f32) : FVec F s .fp8e5m2 :=
  truncf .fp8e5m2 (minimumf (broadcast s (Scalar.ofBits .f32 0x47600000#32 : F .f32)) (maximumf (broadcast s (Scalar.ofBits .f32 0xC7600000#32 : F .f32)) d)) bitsLt_fp8e5m2_f32

/-- The row codes of a block. -/
def rowCodes (d : FVec F S32x128 .f32) : FVec F S32x128 .fp8e5m2 :=
  codeV (mulf d (broadcastTo S32x128 (invV (rowMax d)) broadcasts_S32x1_S32x128))

/-- The row maxima of a block along its lanes. -/
def rowMaxB (d : FVec F S32x128 .f32) : FVec F S32x128 .f32 :=
  shapeCast S32x128 (broadcastTo S32x128 (shapeCast S32x1 (rowMax d) shapeCasts_S32x1_S32x1) broadcasts_S32x1_S32x128) shapeCasts_S32x128_S32x128

/-- The rows of a chunk that belong to one expert: those from its first offset up to the next. -/
def own (v158 : IVec S32x128 32) (lo hi : BitVec 32) : IVec S32x128 1 :=
  andi (cmpi .sge v158 (broadcast S32x128 lo)) (cmpi .slt v158 (broadcast S32x128 hi))

/-- One expert's row of reciprocal scales, along every row of a block. -/
def rowB (r : Vec F S1x1x128 .f32) : FVec F S32x128 .f32 :=
  broadcastTo S32x128 (shapeCast S1x128 (shapeCast S1x128 r shapeCasts_S1x1x128_S1x128) shapeCasts_S1x128_S1x128) broadcasts_S1x128_S32x128

/-- The same, as the loop of a one-expert chunk spells it. -/
def rowB1 (r : Vec F S1x1x128 .f32) : FVec F S32x128 .f32 :=
  broadcastTo S32x128 (shapeCast S1x128 r shapeCasts_S1x1x128_S1x128) broadcasts_S1x128_S32x128

/-- The reciprocal scales of a block whose rows belong to several experts. -/
def invMix (v158 : IVec S32x128 32) (w0 w1 w2 w3 w4 w5 w6 w7 w8 : BitVec 32) (r0 r1 r2 r3 r4 r5 r6 r7 : Vec F S1x1x128 .f32) : FVec F S32x128 .f32 :=
  select (own v158 w7 w8) (rowB r7) (select (own v158 w6 w7) (rowB r6) (select (own v158 w5 w6) (rowB r5) (select (own v158 w4 w5) (rowB r4) (select (own v158 w3 w4) (rowB r3) (select (own v158 w2 w3) (rowB r2) (select (own v158 w1 w2) (rowB r1) (select (own v158 w0 w1) (rowB r0) (rowB r0))))))))

theorem invMix_congr {v158 : IVec S32x128 32} {w0 w1 w2 w3 w4 w5 w6 w7 w8 w0' w1' w2' w3' w4' w5' w6' w7' w8' : BitVec 32} {r0 r1 r2 r3 r4 r5 r6 r7 r0' r1' r2' r3' r4' r5' r6' r7' : Vec F S1x1x128 .f32} (hw0 : w0 = w0') (hw1 : w1 = w1') (hw2 : w2 = w2') (hw3 : w3 = w3') (hw4 : w4 = w4') (hw5 : w5 = w5') (hw6 : w6 = w6') (hw7 : w7 = w7') (hw8 : w8 = w8') (hr0 : r0 = r0') (hr1 : r1 = r1') (hr2 : r2 = r2') (hr3 : r3 = r3') (hr4 : r4 = r4') (hr5 : r5 = r5') (hr6 : r6 = r6') (hr7 : r7 = r7') :
    invMix v158 w0 w1 w2 w3 w4 w5 w6 w7 w8 r0 r1 r2 r3 r4 r5 r6 r7 = invMix v158 w0' w1' w2' w3' w4' w5' w6' w7' w8' r0' r1' r2' r3' r4' r5' r6' r7' := by
  rw [hw0, hw1, hw2, hw3, hw4, hw5, hw6, hw7, hw8, hr0, hr1, hr2, hr3, hr4, hr5, hr6, hr7]

/-- The column codes of a block. -/
def colCodes (d inv : FVec F S32x128 .f32) : FVec F S32x128 .fp8e5m2 := codeV (mulf d inv)

theorem colCodes_congr {d d' inv inv' : FVec F S32x128 .f32} (hd : d = d') (hi : inv = inv') : colCodes d inv = colCodes d' inv' := by
  rw [hd, hi]

/-! ### Blocks of the arrays -/

/-- The index of a rank-two shape with the given coordinates. -/
def ix2 {m n : ℕ} (a : Fin m) (b : Fin n) : (⟨2, ![m, n]⟩ : Shape).Idx :=
  fun i => Fin.cases (motive := fun i => Fin (![m, n] i)) a (fun j => Fin.cases (motive := fun j => Fin (![m, n] j.succ)) b (fun z => z.elim0) j) i

@[simp] theorem ix2_zero {m n : ℕ} (a : Fin m) (b : Fin n) : (ix2 a b 0 : Fin m) = a := rfl
@[simp] theorem ix2_one {m n : ℕ} (a : Fin m) (b : Fin n) : (ix2 a b 1 : Fin n) = b := rfl

theorem ix2_ext {m n : ℕ} {x y : (⟨2, ![m, n]⟩ : Shape).Idx} (h0 : (x 0).val = (y 0).val) (h1 : (x 1).val = (y 1).val) : x = y := by
  funext a
  apply Fin.ext
  revert a
  exact Fin.forall_fin_two.mpr ⟨h0, h1⟩

/-- Block `b` of 128 columns of the codes. -/
def blk2 {E : Type} (A : S32x65536.Idx → E) (b : ℕ) : S32x128.Idx → E :=
  fun x => A (ix2 (m := 32) (n := 65536) (x 0) ⟨(128 * b + (x 1).val) % 65536, Nat.mod_lt _ (by decide)⟩)

/-- Block `b` of 128 columns of the incoming gradient. -/
def blk4 {E : Type} (A : S32x32768.Idx → E) (b : ℕ) : S32x128.Idx → E :=
  fun x => A (ix2 (m := 32) (n := 32768) (x 0) ⟨(128 * b + (x 1).val) % 32768, Nat.mod_lt _ (by decide)⟩)

/-- Row `b` of the transposed scales. -/
def row14 {E : Type} (A : S256x128.Idx → E) (b : ℕ) : S1x128.Idx → E :=
  fun x => A (ix2 (m := 256) (n := 128) ⟨b % 256, Nat.mod_lt _ (by decide)⟩ (x 1))

/-- The gradient's block `b`: a gate block below 256, an up block from there on. -/
def dBlk (A2 : S32x65536.Idx → Elt F .fp8e4m3) (A4 : S32x32768.Idx → Elt F .bf16) (A14 : S256x128.Idx → Elt F .f32) (A15 : S32x128.Idx → Elt F .i32) (b : ℕ) : FVec F S32x128 .f32 :=
  if b < 256 then dGate (blk2 A2 b) (blk2 A2 (256 + b)) (row14 A14 b) A15 (blk4 A4 b)
  else dUp (blk2 A2 (b - 256)) (blk2 A2 b) (row14 A14 (b - 256)) A15 (blk4 A4 (b - 256))

/-- The index of a rank-three shape with the given coordinates. -/
def ix3 {m n p : ℕ} (a : Fin m) (b : Fin n) (c : Fin p) : (⟨3, ![m, n, p]⟩ : Shape).Idx :=
  fun i => Fin.cases (motive := fun i => Fin (![m, n, p] i)) a (fun j => Fin.cases (motive := fun j => Fin (![m, n, p] j.succ)) b
    (fun l => Fin.cases (motive := fun l => Fin (![m, n, p] l.succ.succ)) c (fun z => z.elim0) l) j) i

/-- Row `e` of block `b` of the reciprocal scales. -/
def row11 {E : Type} (A : S512x8x128.Idx → E) (b e : ℕ) : S1x1x128.Idx → E :=
  fun x => A (ix3 (m := 512) (n := 8) (p := 128) ⟨b % 512, Nat.mod_lt _ (by decide)⟩ ⟨e % 8, Nat.mod_lt _ (by decide)⟩ (x 2))

/-- Word `e` of the table of offsets. -/
def tw (A : S9.Idx → BitVec 32) (e : Fin 9) : BitVec 32 := A (fun a => Fin.cases (motive := fun a => Fin (![9] a)) e (fun z => z.elim0) a)

/-- The reciprocal scales of block `b`, its rows shared among the experts by the offsets. -/
def mixInv (v158 : IVec S32x128 32) (T : S9.Idx → BitVec 32) (A : S512x8x128.Idx → Elt F .f32) (b : ℕ) : FVec F S32x128 .f32 :=
  invMix v158 (tw T 0) (tw T 1) (tw T 2) (tw T 3) (tw T 4) (tw T 5) (tw T 6) (tw T 7) (tw T 8)
    (row11 A b 0) (row11 A b 1) (row11 A b 2) (row11 A b 3) (row11 A b 4) (row11 A b 5) (row11 A b 6) (row11 A b 7)

section Loads

variable {sig : RefSig} {κ' : Kind} {sp : Space} {e : EltTy} {Val : EltTy → Type}

theorem load2 (v : View sig κ' sp S32x65536 e) (X : v.ty.Contents Val) {off : Fin 2 → ℕ} (inb) {b : ℕ} (hb : b < 512) (ho : off = ![0, 128 * b]) :
    v.readAt Val (Rect.unit (s := S32x65536) off S32x128.size inb).toLoadRect X = blk2 (v.read Val X) b := by
  subst ho
  funext x
  have h1 : (x 1).val < 128 := (x 1).isLt
  show v.read Val X ((Rect.unit (s := S32x65536) _ S32x128.size inb).emb x) = _
  refine congrArg (v.read Val X) (ix2_ext ?_ ?_)
  · show 0 + 1 * (x 0).val = (x 0).val
    omega
  · show 128 * b + 1 * (x 1).val = (128 * b + (x 1).val) % 65536
    omega

theorem load4 (v : View sig κ' sp S32x32768 e) (X : v.ty.Contents Val) {off : Fin 2 → ℕ} (inb) {b : ℕ} (hb : b < 256) (ho : off = ![0, 128 * b]) :
    v.readAt Val (Rect.unit (s := S32x32768) off S32x128.size inb).toLoadRect X = blk4 (v.read Val X) b := by
  subst ho
  funext x
  have h1 : (x 1).val < 128 := (x 1).isLt
  show v.read Val X ((Rect.unit (s := S32x32768) _ S32x128.size inb).emb x) = _
  refine congrArg (v.read Val X) (ix2_ext ?_ ?_)
  · show 0 + 1 * (x 0).val = (x 0).val
    omega
  · show 128 * b + 1 * (x 1).val = (128 * b + (x 1).val) % 32768
    omega

theorem load14 (v : View sig κ' sp S256x128 e) (X : v.ty.Contents Val) {off : Fin 2 → ℕ} (inb) {b : ℕ} (hb : b < 256) (ho : off = ![b, 0]) :
    v.readAt Val (Rect.unit (s := S256x128) off S1x128.size inb).toLoadRect X = row14 (v.read Val X) b := by
  subst ho
  funext x
  have h0 : (x 0).val < 1 := (x 0).isLt
  show v.read Val X ((Rect.unit (s := S256x128) _ S1x128.size inb).emb x) = _
  refine congrArg (v.read Val X) (ix2_ext ?_ ?_)
  · show b + 1 * (x 0).val = b % 256
    omega
  · show 0 + 1 * (x 1).val = (x 1).val
    omega

theorem load15 (v : View sig κ' sp S32x128 e) (X : v.ty.Contents Val) (inb) :
    v.readAt Val (Rect.unit (s := S32x128) ![0, 0] S32x128.size inb).toLoadRect X = v.read Val X := by
  funext x
  show v.read Val X ((Rect.unit (s := S32x128) _ S32x128.size inb).emb x) = _
  refine congrArg (v.read Val X) (ix2_ext ?_ ?_)
  · show 0 + 1 * (x 0).val = (x 0).val
    omega
  · show 0 + 1 * (x 1).val = (x 1).val
    omega

theorem load11 (v : View sig κ' sp S512x8x128 e) (X : v.ty.Contents Val) {off : Fin 3 → ℕ} (inb) {b n : ℕ} (hb : b < 512) (hn : n < 8) (ho : off = ![b, n, 0]) :
    v.readAt Val (Rect.unit (s := S512x8x128) off S1x1x128.size inb).toLoadRect X = row11 (v.read Val X) b n := by
  subst ho
  funext x
  have h0 : (x 0).val < 1 := (x 0).isLt
  have h1 : (x 1).val < 1 := (x 1).isLt
  show v.read Val X ((Rect.unit (s := S512x8x128) _ S1x1x128.size inb).emb x) = _
  refine congrArg (v.read Val X) ?_
  funext a
  apply Fin.ext
  revert a
  refine Fin.forall_fin_succ.mpr ⟨?_, Fin.forall_fin_two.mpr ⟨?_, ?_⟩⟩
  · show b + 1 * (x 0).val = b % 512
    omega
  · show n + 1 * (x 1).val = n % 8
    omega
  · show 0 + 1 * (x 2).val = (x 2).val
    omega

theorem load1 (v : View sig κ' sp S9 .i32) (X : v.ty.Contents (Elt F)) {off : Fin 1 → ℕ} (inb) (h) (e : Fin 9) (ho : off = ![e.val]) :
    v.readAt (Elt F) (Rect.unit (s := S9) off S1.size inb).toLoadRect X (Shape.Idx.first h) = tw (v.read (Elt F) X) e := by
  subst ho
  show v.read (Elt F) X ((Rect.unit (s := S9) _ S1.size inb).emb _) = _
  refine congrArg (v.read (Elt F) X) ?_
  funext a
  apply Fin.ext
  revert a
  refine Fin.forall_fin_one.mpr ?_
  show e.val + 1 * (Shape.Idx.first h (0 : Fin 1)).val = e.val
  have : (Shape.Idx.first h (0 : Fin 1)).val < 1 := (Shape.Idx.first h (0 : Fin 1)).isLt
  omega

end Loads

section Block

variable {arg2 : Memref sig .tc .vmem S32x65536 .fp8e4m3} {arg4 : Memref sig .tc .vmem S32x32768 .bf16}
  {arg14 : Memref sig .tc .vmem S256x128 .f32} {arg15 : Memref sig .tc .vmem S32x128 .i32}
  {X2 : BufTy.Contents (Elt F) arg2.view.ty} {X4 : BufTy.Contents (Elt F) arg4.view.ty}
  {X14 : BufTy.Contents (Elt F) arg14.view.ty} {X15 : BufTy.Contents (Elt F) arg15.view.ty}

/-- The gradient's block `b` as the loops' buffers hold its inputs. -/
abbrev dBuf (arg2 : Memref sig .tc .vmem S32x65536 .fp8e4m3) (arg4 : Memref sig .tc .vmem S32x32768 .bf16) (arg14 : Memref sig .tc .vmem S256x128 .f32) (arg15 : Memref sig .tc .vmem S32x128 .i32)
    (X2 : BufTy.Contents (Elt F) arg2.view.ty) (X4 : BufTy.Contents (Elt F) arg4.view.ty) (X14 : BufTy.Contents (Elt F) arg14.view.ty) (X15 : BufTy.Contents (Elt F) arg15.view.ty) (b : ℕ) : FVec F S32x128 .f32 :=
  dBlk (arg2.view.read (Elt F) X2) (arg4.view.read (Elt F) X4) (arg14.view.read (Elt F) X14) (arg15.view.read (Elt F) X15) b

theorem dGate_loads {o1 o2 o3 o4 : Fin 2 → ℕ} (i1 i2 i3 i4 i5) {b : ℕ} (hb : b < 256) (h1 : o1 = ![0, 128 * b]) (h2 : o2 = ![0, 128 * (256 + b)]) (h3 : o3 = ![b, 0]) (h4 : o4 = ![0, 128 * b]) :
    dGate (arg2.view.readAt (Elt F) (Rect.unit (s := S32x65536) o1 S32x128.size i1).toLoadRect X2) (arg2.view.readAt (Elt F) (Rect.unit (s := S32x65536) o2 S32x128.size i2).toLoadRect X2)
      (arg14.view.readAt (Elt F) (Rect.unit (s := S256x128) o3 S1x128.size i3).toLoadRect X14) (arg15.view.readAt (Elt F) (Rect.unit (s := S32x128) ![0, 0] S32x128.size i5).toLoadRect X15)
      (arg4.view.readAt (Elt F) (Rect.unit (s := S32x32768) o4 S32x128.size i4).toLoadRect X4) = dBuf arg2 arg4 arg14 arg15 X2 X4 X14 X15 b := by
  rw [load2 _ _ i1 (by omega) h1, load2 _ _ i2 (by omega) h2, load14 _ _ i3 hb h3, load4 _ _ i4 hb h4, load15]
  unfold dBuf dBlk
  rw [if_pos hb]

theorem dUp_loads {o1 o2 o3 o4 : Fin 2 → ℕ} (i1 i2 i3 i4 i5) {b : ℕ} (hb : b < 256) (h1 : o1 = ![0, 128 * b]) (h2 : o2 = ![0, 128 * (256 + b)]) (h3 : o3 = ![b, 0]) (h4 : o4 = ![0, 128 * b]) :
    dUp (arg2.view.readAt (Elt F) (Rect.unit (s := S32x65536) o1 S32x128.size i1).toLoadRect X2) (arg2.view.readAt (Elt F) (Rect.unit (s := S32x65536) o2 S32x128.size i2).toLoadRect X2)
      (arg14.view.readAt (Elt F) (Rect.unit (s := S256x128) o3 S1x128.size i3).toLoadRect X14) (arg15.view.readAt (Elt F) (Rect.unit (s := S32x128) ![0, 0] S32x128.size i5).toLoadRect X15)
      (arg4.view.readAt (Elt F) (Rect.unit (s := S32x32768) o4 S32x128.size i4).toLoadRect X4) = dBuf arg2 arg4 arg14 arg15 X2 X4 X14 X15 (256 + b) := by
  rw [load2 _ _ i1 (by omega) h1, load2 _ _ i2 (by omega) h2, load14 _ _ i3 hb h3, load4 _ _ i4 hb h4, load15]
  unfold dBuf dBlk
  rw [if_neg (by omega), show 256 + b - 256 = b by omega]

end Block

/-! ### Filling a buffer block by block -/

/-- The order in which the blocks are written: gate block, up block, and so on. -/
def key (b : ℕ) : ℕ := if b < 256 then 2 * b else 2 * (b - 256) + 1

theorem key_inj {a b : ℕ} (ha : a < 512) (hb : b < 512) (h : key a = key b) : a = b := by
  unfold key at h
  split at h <;> split at h <;> omega

/-- The first `n` blocks, in order of writing, hold `B`. -/
def OkB {v : View sig .tc .vmem S32x65536 .fp8e5m2} (B : ℕ → FVec F S32x128 .fp8e5m2) (n : ℕ) (f : v.ty.Contents (Elt F)) : Prop :=
  ∀ y : S32x65536.Idx, key ((y 1).val / 128) < n →
    v.read (Elt F) f y = B ((y 1).val / 128) (ix2 (m := 32) (n := 128) (y 0) ⟨(y 1).val % 128, Nat.mod_lt _ (by decide)⟩)

theorem OkB.zero {v : View sig .tc .vmem S32x65536 .fp8e5m2} (B : ℕ → FVec F S32x128 .fp8e5m2) (f : v.ty.Contents (Elt F)) : OkB B 0 f :=
  fun _ h => absurd h (Nat.not_lt_zero _)

theorem OkB.step {v : View sig .tc .vmem S32x65536 .fp8e5m2} {B : ℕ → FVec F S32x128 .fp8e5m2} {n : ℕ} {f : v.ty.Contents (Elt F)} {L : List (View.Piece (Elt F) S32x65536 .fp8e5m2)}
    {off : Fin 2 → ℕ} {inb} {w : (Rect.unit (s := S32x65536) off S32x128.size inb).shape.Idx → Elt F .fp8e5m2} (b : ℕ) (hb : b < 512) (hk : key b = n) (ho : off = ![0, 128 * b]) (hw : w = B b)
    (h : OkB B n (v.writes (Elt F) f L)) : OkB B (n + 1) (v.writes (Elt F) f (⟨Rect.unit (s := S32x65536) off S32x128.size inb, w⟩ :: L)) := by
  intro y hy
  have hy1 : (y 1).val < 65536 := (y 1).isLt
  by_cases hyb : (y 1).val / 128 = b
  · subst hw
    refine (View.read_writes_cons_unit_of_mem v f inb (B b) L y (ix2 (m := 32) (n := 128) (y 0) ⟨(y 1).val % 128, Nat.mod_lt _ (by decide)⟩) ho (Fin.forall_fin_two.mpr ⟨?_, ?_⟩)).trans ?_
    · show (y 0).val = 0 + (y 0).val
      omega
    · show (y 1).val = 128 * b + (y 1).val % 128
      omega
    · rw [hyb]
  · refine (View.read_writes_cons_unit_of_not_mem v f inb w L y ho 1 ?_).trans (h y ?_)
    · show (y 1).val < 128 * b ∨ 128 * b + 128 ≤ (y 1).val
      omega
    · have : key ((y 1).val / 128) ≠ key b := fun he => hyb (key_inj (by omega) hb he)
      omega

theorem OkB.pair {v : View sig .tc .vmem S32x65536 .fp8e5m2} {B : ℕ → FVec F S32x128 .fp8e5m2} {f : v.ty.Contents (Elt F)} {L : List (View.Piece (Elt F) S32x65536 .fp8e5m2)}
    {og ou : Fin 2 → ℕ} {ig iu} {wg : (Rect.unit (s := S32x65536) og S32x128.size ig).shape.Idx → Elt F .fp8e5m2} {wu : (Rect.unit (s := S32x65536) ou S32x128.size iu).shape.Idx → Elt F .fp8e5m2}
    (b : ℕ) (hb : b < 256) (hog : og = ![0, 128 * b]) (hou : ou = ![0, 128 * (256 + b)]) (hwg : wg = B b) (hwu : wu = B (256 + b)) (h : OkB B (2 * b) (v.writes (Elt F) f L)) :
    OkB B (2 * (b + 1)) (v.writes (Elt F) f (⟨Rect.unit (s := S32x65536) ou S32x128.size iu, wu⟩ :: ⟨Rect.unit (s := S32x65536) og S32x128.size ig, wg⟩ :: L)) := by
  refine OkB.step (256 + b) (by omega) ?_ hou hwu (OkB.step b (by omega) ?_ hog hwg h)
  · unfold key; rw [if_neg (by omega), show 256 + b - 256 = b by omega]; rfl
  · unfold key; rw [if_pos hb]; rfl

/-- The row maxima of the first `n` blocks, in order of writing, stand in their columns. -/
def OkM {v : View sig .tc .vmem S32x512 .f32} (D : ℕ → FVec F S32x128 .f32) (n : ℕ) (f : v.ty.Contents (Elt F)) : Prop :=
  ∀ y : S32x512.Idx, key (y 1).val < n → v.read (Elt F) f y = rowMax (D (y 1).val) (ix2 (m := 32) (n := 1) (y 0) 0)

theorem OkM.zero {v : View sig .tc .vmem S32x512 .f32} (D : ℕ → FVec F S32x128 .f32) (f : v.ty.Contents (Elt F)) : OkM D 0 f :=
  fun _ h => absurd h (Nat.not_lt_zero _)

/-- The lanes that hold a given number. -/
def laneMask (v12 : IVec S32x128 32) (w : BitVec 32) : IVec S32x128 1 :=
  shapeCast S32x128 (cmpi .eq v12 (broadcast S32x128 w)) shapeCasts_S32x128_S32x128

/-- The lane numbers. -/
def lanes : IVec S32x128 32 := iota .tc S32x128 32 [1] iota_S32x128_d1_w32

theorem lanes_apply (x : S32x128.Idx) : lanes x = BitVec.ofNat 32 (x 1).val := by
  show BitVec.ofNat 32 (0 * 128 + (x 1).val) = _
  rw [Nat.zero_mul, Nat.zero_add]

theorem laneMask_iff (b : ℕ) (x : S32x128.Idx) : x ∈ IVec.on (laneMask lanes (BitVec.ofNat 32 (b % 128))) ↔ (x 1).val = b % 128 := by
  have hx : (x 1).val < 128 := (x 1).isLt
  have hb : b % 128 < 128 := Nat.mod_lt _ (by decide)
  rw [IVec.mem_on_iff, laneMask, shapeCast_self]
  show BitVec.ofBool (lanes x == BitVec.ofNat 32 (b % 128)) = 1 ↔ _
  rw [lanes_apply]
  constructor
  · intro h
    have h' : BitVec.ofNat 32 (x 1).val = BitVec.ofNat 32 (b % 128) := by
      by_contra hne
      rw [beq_eq_false_iff_ne.mpr hne] at h
      exact absurd h (by decide)
    have := congrArg BitVec.toNat h'
    rw [BitVec.toNat_ofNat, BitVec.toNat_ofNat] at this
    omega
  · intro h
    rw [h]
    simp

theorem rowMaxB_apply (d : FVec F S32x128 .f32) (x : S32x128.Idx) : rowMaxB d x = rowMax d (ix2 (m := 32) (n := 1) (x 0) 0) := by
  rw [rowMaxB, shapeCast_self, shapeCast_self]
  refine congrArg (rowMax d) (ix2_ext (m := 32) (n := 1) rfl ?_)
  rfl

theorem OkM.step {v : View sig .tc .vmem S32x512 .f32} {D : ℕ → FVec F S32x128 .f32} {n : ℕ} {f : v.ty.Contents (Elt F)}
    {off : Fin 2 → ℕ} {inb} {w : (Rect.unit (s := S32x512) off S32x128.size inb).shape.Idx → Elt F .f32} {M : Finset (Rect.unit (s := S32x512) off S32x128.size inb).shape.Idx}
    (b : ℕ) (hb : b < 512) (hk : key b = n) (ho : off = ![0, 128 * (b / 128)]) (hw : w = rowMaxB (D b)) (hM : ∀ x : S32x128.Idx, x ∈ M ↔ (x 1).val = b % 128)
    (h : OkM D n f) : OkM D (n + 1) ((v.slice (Rect.unit (s := S32x512) off S32x128.size inb)).write (Elt F) f w M) := by
  intro y hy
  subst ho hw
  have hy1 : (y 1).val < 512 := (y 1).isLt
  by_cases hyb : (y 1).val = b
  · have he : (Rect.unit (s := S32x512) ![0, 128 * (b / 128)] S32x128.size inb).emb (ix2 (m := 32) (n := 128) (y 0) ⟨b % 128, Nat.mod_lt _ (by decide)⟩) = y := by
      refine ix2_ext (m := 32) (n := 512) ?_ ?_
      · show 0 + 1 * (y 0).val = (y 0).val
        omega
      · show 128 * (b / 128) + 1 * (b % 128) = (y 1).val
        omega
    conv_lhs => rw [← he]
    rw [View.read_slice_write_emb _ _ _ ((hM _).mpr rfl), rowMaxB_apply, hyb]
    rfl
  · refine (View.read_slice_write_of_not_mem _ _ _ _ ?_).trans (h y ?_)
    · intro hmem
      obtain ⟨x, hx, he⟩ := Finset.mem_map.mp hmem
      have hx' := (hM x).mp hx
      have : (y 1).val = 128 * (b / 128) + 1 * (x 1).val := by rw [← he]; rfl
      omega
    · have : key (y 1).val ≠ key b := fun he => hyb (key_inj hy1 hb he)
      omega

theorem OkM.pair {v : View sig .tc .vmem S32x512 .f32} {D : ℕ → FVec F S32x128 .f32} {f : v.ty.Contents (Elt F)} {og ou : Fin 2 → ℕ} {ig iu}
    {wg : (Rect.unit (s := S32x512) og S32x128.size ig).shape.Idx → Elt F .f32} {wu : (Rect.unit (s := S32x512) ou S32x128.size iu).shape.Idx → Elt F .f32}
    {mg mu : IVec S32x128 1} (b : ℕ) (hb : b < 256) (hog : og = ![0, 128 * (b / 128)]) (hou : ou = ![0, 128 * ((256 + b) / 128)])
    (hwg : wg = rowMaxB (D b)) (hwu : wu = rowMaxB (D (256 + b))) (hmg : mg = laneMask lanes (BitVec.ofNat 32 (b % 128))) (hmu : mu = laneMask lanes (BitVec.ofNat 32 ((256 + b) % 128)))
    (h : OkM D (2 * b) f) :
    OkM D (2 * (b + 1)) ((v.slice (Rect.unit (s := S32x512) ou S32x128.size iu)).write (Elt F) ((v.slice (Rect.unit (s := S32x512) og S32x128.size ig)).write (Elt F) f wg (IVec.on mg)) wu (IVec.on mu)) := by
  subst hmg hmu
  refine OkM.step (256 + b) (by omega) ?_ hou hwu (laneMask_iff _) (OkM.step b (by omega) ?_ hog hwg (laneMask_iff _) h)
  · unfold key; rw [if_neg (by omega), show 256 + b - 256 = b by omega]; rfl
  · unfold key; rw [if_pos hb]; rfl

/-- A lane mask whose word is the lane of block `b`'s column. -/
theorem mask_eq {m : IVec S32x128 1} {w : BitVec 32} {b : ℕ} (h : m = laneMask lanes w) (hw : w = BitVec.ofNat 32 (b % 128)) : m = laneMask lanes (BitVec.ofNat 32 (b % 128)) := by
  rw [h, hw]

theorem off18_eq : ∀ k : Fin k0_t3_loop.trips, k0_off18 k = ![k.val, 0, 0] := by decide +kernel
theorem off27_eq : ∀ k : Fin k0_t3_loop.trips, k0_off27 k = ![256 + k.val, 0, 0] := by decide +kernel
theorem off19_eq : ∀ k : Fin k0_t3_loop.trips, k0_off19 k = ![k.val, 1, 0] := by decide +kernel
theorem off28_eq : ∀ k : Fin k0_t3_loop.trips, k0_off28 k = ![256 + k.val, 1, 0] := by decide +kernel
theorem off20_eq : ∀ k : Fin k0_t3_loop.trips, k0_off20 k = ![k.val, 2, 0] := by decide +kernel
theorem off29_eq : ∀ k : Fin k0_t3_loop.trips, k0_off29 k = ![256 + k.val, 2, 0] := by decide +kernel
theorem off21_eq : ∀ k : Fin k0_t3_loop.trips, k0_off21 k = ![k.val, 3, 0] := by decide +kernel
theorem off30_eq : ∀ k : Fin k0_t3_loop.trips, k0_off30 k = ![256 + k.val, 3, 0] := by decide +kernel
theorem off22_eq : ∀ k : Fin k0_t3_loop.trips, k0_off22 k = ![k.val, 4, 0] := by decide +kernel
theorem off31_eq : ∀ k : Fin k0_t3_loop.trips, k0_off31 k = ![256 + k.val, 4, 0] := by decide +kernel
theorem off23_eq : ∀ k : Fin k0_t3_loop.trips, k0_off23 k = ![k.val, 5, 0] := by decide +kernel
theorem off32_eq : ∀ k : Fin k0_t3_loop.trips, k0_off32 k = ![256 + k.val, 5, 0] := by decide +kernel
theorem off24_eq : ∀ k : Fin k0_t3_loop.trips, k0_off24 k = ![k.val, 6, 0] := by decide +kernel
theorem off33_eq : ∀ k : Fin k0_t3_loop.trips, k0_off33 k = ![256 + k.val, 6, 0] := by decide +kernel
theorem off25_eq : ∀ k : Fin k0_t3_loop.trips, k0_off25 k = ![k.val, 7, 0] := by decide +kernel
theorem off34_eq : ∀ k : Fin k0_t3_loop.trips, k0_off34 k = ![256 + k.val, 7, 0] := by decide +kernel
theorem off13_eq : ∀ k : Fin k0_t3_loop.trips, k0_off13 k = ![0, 128 * k.val] := by decide +kernel
theorem off14_eq : ∀ k : Fin k0_t3_loop.trips, k0_off14 k = ![0, 128 * (256 + k.val)] := by decide +kernel
theorem off15_eq : ∀ k : Fin k0_t3_loop.trips, k0_off15 k = ![k.val, 0] := by decide +kernel
theorem off16_eq : ∀ k : Fin k0_t3_loop.trips, k0_off16 k = ![0, 128 * k.val] := by decide +kernel
theorem off17_eq : ∀ k : Fin k0_t3_loop.trips, k0_off17 k = ![0, 128 * (k.val / 128)] := by decide +kernel
theorem off26_eq : ∀ k : Fin k0_t3_loop.trips, k0_off26 k = ![0, 128 * ((256 + k.val) / 128)] := by decide +kernel

theorem off3_eq : ∀ (k : Fin k0_t2_loop.trips) (j : Fin 16), k0_off3 k (BitVec.ofNat 32 j.val) = ![0, 128 * (16 * k.val + j.val)] := by decide +kernel
theorem off4_eq : ∀ (k : Fin k0_t2_loop.trips) (j : Fin 16), k0_off4 k (BitVec.ofNat 32 j.val) = ![0, 128 * (256 + (16 * k.val + j.val))] := by decide +kernel
theorem off5_eq : ∀ (k : Fin k0_t2_loop.trips) (j : Fin 16), k0_off5 k (BitVec.ofNat 32 j.val) = ![16 * k.val + j.val, 0] := by decide +kernel
theorem off6_eq : ∀ (k : Fin k0_t2_loop.trips) (j : Fin 16), k0_off6 k (BitVec.ofNat 32 j.val) = ![0, 128 * (16 * k.val + j.val)] := by decide +kernel
theorem off7_eq : ∀ (k : Fin k0_t2_loop.trips) (j : Fin 16), k0_off7 k (BitVec.ofNat 32 j.val) = ![0, 128 * ((16 * k.val + j.val) / 128)] := by decide +kernel
theorem off10_eq : ∀ (k : Fin k0_t2_loop.trips) (j : Fin 16), k0_off10 k (BitVec.ofNat 32 j.val) = ![0, 128 * ((256 + (16 * k.val + j.val)) / 128)] := by decide +kernel

end Cert.Proof.KernelIdeal

end
-- ==== Proof.ExpoIdeal.lean ====
/- The power-of-two scale over the extended reals: the exponent field built from the integer part of a logarithm is the exponent itself, so the scale and its reciprocal are the two powers of two. -/
module

public import proofs.«01_k».proof.Proof.Canon

@[expose] public section

noncomputable section

namespace Cert.Proof.KernelIdeal

open Cert.KernelIdeal Cert.KernelIdeal.Gen
open Idealize.ShloMosaic

/-! ### Patterns of powers of two -/

theorem pattern_parts : ∀ n : Fin 255, ((BitVec.ofNat 32 (n.val * 8388608)).extractLsb' 31 1 == 1#1) = false ∧ ((BitVec.ofNat 32 (n.val * 8388608)).extractLsb' 23 8).toNat = n.val ∧ ((BitVec.ofNat 32 (n.val * 8388608)).extractLsb' 0 23).toNat = 0 := by
  decide +kernel

/-- A pattern with exponent field `n` and no fraction is the power of two `n - 127`. -/
theorem ofBits_pow {n : ℕ} (h0 : 1 ≤ n) (h1 : n ≤ 254) : Ideal.ofBits .f32 (BitVec.ofNat 32 (n * 8388608)) = (((2 : ℝ) ^ ((n : ℤ) - 127) : ℝ) : EReal) := by
  obtain ⟨hs, he, hf⟩ := pattern_parts ⟨n, by omega⟩
  dsimp only at hs he hf
  show Ideal.ieee 8 23 _ = _
  unfold Ideal.ieee
  dsimp only
  rw [hs, he, hf, if_neg (by omega), if_neg (by omega)]
  congr 1
  have : (((2 ^ 23 + 0 : ℕ) : ℝ)) = (2 : ℝ) ^ (23 : ℤ) := by norm_num
  rw [this]
  simp only [Bool.false_eq_true, if_false, one_mul]
  rw [← zpow_add₀ (by norm_num : (2 : ℝ) ≠ 0)]
  congr 1
  norm_num

/-! ### The exponent of a quotient -/

/-- A maximum times the reciprocal of the largest code. -/
def qE (a : EReal) : EReal := a * Ideal.ofBits .f32 0x37924925#32

/-- The quotient held between the smallest normal value and `2^125`. -/
def clE (a : EReal) : EReal := min (Ideal.ofBits .f32 0x7E000000#32) (max (Ideal.ofBits .f32 0x00800000#32) (qE a))

/-- The integer part of its base-two logarithm. -/
def flE (a : EReal) : EReal := Ideal.liftRound Int.floor (Ideal.log (clE a) * (((Real.log 2)⁻¹ : ℝ) : EReal))

theorem lo_eq : Ideal.ofBits .f32 0x00800000#32 = (((2 : ℝ) ^ (-126 : ℤ) : ℝ) : EReal) := ofBits_pow (n := 1) (by omega) (by omega)
theorem hi_eq : Ideal.ofBits .f32 0x7E000000#32 = (((2 : ℝ) ^ (125 : ℤ) : ℝ) : EReal) := ofBits_pow (n := 252) (by omega) (by omega)
theorem one_eq : Ideal.ofBits .f32 0x3F800000#32 = ((1 : ℝ) : EReal) := (ofBits_pow (n := 127) (by omega) (by omega)).trans (by norm_num)
theorem two_eq : Ideal.ofBits .f32 0x40000000#32 = ((2 : ℝ) : EReal) := (ofBits_pow (n := 128) (by omega) (by omega)).trans (by norm_num)

/-- The clipped quotient is a real number between the two bounds. -/
theorem clE_real (a : EReal) : ∃ r : ℝ, clE a = (r : EReal) ∧ (2 : ℝ) ^ (-126 : ℤ) ≤ r ∧ r ≤ (2 : ℝ) ^ (125 : ℤ) := by
  have hle : ((2 : ℝ) ^ (-126 : ℤ)) ≤ (2 : ℝ) ^ (125 : ℤ) := zpow_le_zpow_right₀ (by norm_num) (by norm_num)
  have hlo : (((2 : ℝ) ^ (-126 : ℤ) : ℝ) : EReal) ≤ clE a := by
    unfold clE
    rw [lo_eq, hi_eq]
    exact le_min (EReal.coe_le_coe_iff.mpr hle) (le_max_left _ _)
  have hhi : clE a ≤ (((2 : ℝ) ^ (125 : ℤ) : ℝ) : EReal) := by
    unfold clE
    rw [lo_eq, hi_eq]
    exact min_le_left _ _
  generalize clE a = c at hlo hhi
  induction c using EReal.rec with
  | bot => exact absurd hlo (not_le.mpr (EReal.bot_lt_coe _))
  | top => exact absurd hhi (not_le.mpr (EReal.coe_lt_top _))
  | coe r => exact ⟨r, rfl, EReal.coe_le_coe_iff.mp hlo, EReal.coe_le_coe_iff.mp hhi⟩

/-- The integer part is an integer within the normal exponents, and its power of two stands at or below the clipped quotient, twice it above. -/
theorem flE_facts (a : EReal) : ∃ k : ℤ, -126 ≤ k ∧ k ≤ 125 ∧ flE a = ((k : ℝ) : EReal) ∧ (((2 : ℝ) ^ k : ℝ) : EReal) ≤ clE a ∧ clE a < (((2 : ℝ) ^ (k + 1) : ℝ) : EReal) := by
  obtain ⟨r, hr, h0, h1⟩ := clE_real a
  have hp : (0 : ℝ) < r := lt_of_lt_of_le (zpow_pos (by norm_num) _) h0
  have hl2 : (0 : ℝ) < Real.log 2 := Real.log_pos (by norm_num)
  have hlz : ∀ n : ℤ, Real.log ((2 : ℝ) ^ n) = n * Real.log 2 := fun n => Real.log_zpow 2 n
  have key : ∀ n : ℤ, (n : ℝ) ≤ Real.log r * (Real.log 2)⁻¹ ↔ (2 : ℝ) ^ n ≤ r := by
    intro n
    rw [← div_eq_mul_inv, le_div_iff₀ hl2, ← hlz n]
    exact Real.log_le_log_iff (zpow_pos (by norm_num) _) hp
  have hfl : flE a = ((⌊Real.log r * (Real.log 2)⁻¹⌋ : ℝ) : EReal) := by
    unfold flE
    rw [hr, Ideal.log_coe, if_neg (not_le.mpr hp), ← EReal.coe_mul]
    rfl
  refine ⟨⌊Real.log r * (Real.log 2)⁻¹⌋, ?_, ?_, hfl, ?_, ?_⟩
  · exact Int.le_floor.mpr ((key (-126)).mpr h0)
  · have : ⌊Real.log r * (Real.log 2)⁻¹⌋ < 126 := Int.floor_lt.mpr (lt_of_not_ge fun h => absurd ((key 126).mp (by exact_mod_cast h)) (not_le.mpr (lt_of_le_of_lt h1 (zpow_lt_zpow_right₀ (by norm_num) (by norm_num)))))
    omega
  · rw [hr]
    exact EReal.coe_le_coe_iff.mpr ((key _).mp (Int.floor_le _))
  · rw [hr]
    refine EReal.coe_lt_coe_iff.mpr (lt_of_not_ge fun h => ?_)
    have := (key _).mpr h
    have h2 := Int.lt_floor_add_one (Real.log r * (Real.log 2)⁻¹)
    push_cast at this
    linarith

/-! ### The words -/

theorem field_word : ∀ n : Fin 253, (BitVec.ofInt 32 ((n.val : ℤ) - 127) + 127#32) <<< (23#32 : BitVec 32) = BitVec.ofNat 32 (n.val * 8388608) := by
  decide +kernel

theorem field_ne : ∀ n : Fin 253, 1 ≤ n.val → (BitVec.ofNat 32 (n.val * 8388608) == 0#32) = false := by
  decide +kernel

theorem field_up : ∀ n : Fin 253, BitVec.ofNat 32 (n.val * 8388608) + 8388608#32 = BitVec.ofNat 32 ((n.val + 1) * 8388608) := by
  decide +kernel

theorem field_inv : ∀ n : Fin 253, 2122317824#32 - BitVec.ofNat 32 (n.val * 8388608) = BitVec.ofNat 32 ((253 - n.val) * 8388608) := by
  decide +kernel

theorem fptosi_int {k : ℤ} (h0 : -126 ≤ k) (h1 : k ≤ 125) : Ideal.fptosi 32 ((k : ℝ) : EReal) = BitVec.ofInt 32 k := by
  show BitVec.ofInt 32 (max _ (min _ (if (0 : ℝ) ≤ (k : ℝ) then ⌊(k : ℝ)⌋ else ⌈(k : ℝ)⌉))) = _
  rw [Int.floor_intCast, Int.ceil_intCast, ite_self]
  congr 1
  norm_num
  omega

/-! ### The scale and its reciprocal -/

/-- The exponent of the scale: one more than the integer part of the logarithm, and zero where the quotient is not normal. -/
def eE (a : EReal) : EReal := if Ideal.cmp .olt (qE a) (Ideal.ofBits .f32 0x00800000#32) = 1#1 then Ideal.ofBits .f32 0x00000000#32 else flE a + Ideal.ofBits .f32 0x3F800000#32

/-- The field as the kernel corrects it, for one entry. -/
def fixE (c : EReal) (f : BitVec 32) : BitVec 32 :=
  if Ideal.cmp .oge c (Ideal.ofBits .f32 0x40000000#32 * Ideal.ofBits .f32 f) = 1#1 then
    (if Ideal.cmp .olt c (Ideal.ofBits .f32 f) = 1#1 then f - 8388608#32 else f) + 8388608#32
  else (if Ideal.cmp .olt c (Ideal.ofBits .f32 f) = 1#1 then f - 8388608#32 else f)

/-- The exponent field of one entry. -/
def expoE (a : EReal) : BitVec 32 :=
  if Ideal.cmp .olt (qE a) (Ideal.ofBits .f32 0x00800000#32) = 1#1 then 0#32
  else fixE (clE a) ((Ideal.fptosi 32 (flE a) + 127#32) <<< (23#32 : BitVec 32))

theorem expoV_apply {s : Shape} (a : FVec Ideal s .f32) (y : s.Idx) : expoV a y = expoE (a y) := rfl

/-- Away from the tiny quotients the field is that of the integer part, uncorrected. -/
theorem expoE_eq (a : EReal) (h : ¬ Ideal.cmp .olt (qE a) (Ideal.ofBits .f32 0x00800000#32) = 1#1) :
    ∃ n : ℕ, 1 ≤ n ∧ n ≤ 252 ∧ flE a = (((n : ℝ) - 127 : ℝ) : EReal) ∧ expoE a = BitVec.ofNat 32 (n * 8388608) := by
  obtain ⟨k, h0, h1, hk, hlo, hhi⟩ := flE_facts a
  refine ⟨(k + 127).toNat, by omega, by omega, ?_, ?_⟩
  · rw [hk]
    congr 1
    have : (((k + 127).toNat : ℤ) : ℝ) = ((k + 127 : ℤ) : ℝ) := by rw [Int.toNat_of_nonneg (by omega)]
    rw [Int.cast_natCast] at this
    rw [this]
    push_cast
    ring
  · unfold expoE
    rw [if_neg h, hk, fptosi_int h0 h1]
    have hw := field_word ⟨(k + 127).toNat, by omega⟩
    have hkz : (((k + 127).toNat : ℕ) : ℤ) - 127 = k := by omega
    dsimp only at hw
    rw [hkz] at hw
    rw [hw]
    have hp := ofBits_pow (n := (k + 127).toNat) (by omega) (by omega)
    rw [hkz] at hp
    unfold fixE
    rw [hp, two_eq, ← EReal.coe_mul]
    have e2 : (2 : ℝ) * 2 ^ k = 2 ^ (k + 1) := by
      rw [zpow_add₀ (by norm_num : (2 : ℝ) ≠ 0), zpow_one, mul_comm]
    rw [e2]
    have hge : ¬ Ideal.cmp .oge (clE a) (((2 : ℝ) ^ (k + 1) : ℝ) : EReal) = 1#1 := by
      unfold Ideal.cmp
      dsimp only
      rw [decide_eq_false (not_le.mpr hhi)]
      decide
    have hlt : ¬ Ideal.cmp .olt (clE a) (((2 : ℝ) ^ k : ℝ) : EReal) = 1#1 := by
      unfold Ideal.cmp
      dsimp only
      rw [decide_eq_false (not_lt.mpr hlo)]
      decide
    rw [if_neg hge, if_neg hlt]

/-- The scale of one entry. -/
def scE (a : EReal) : EReal := if BitVec.ofBool (expoE a == 0#32) = 1#1 then Ideal.ofBits .f32 0x3F800000#32 else Ideal.ofBits .f32 (expoE a + 8388608#32)

/-- The reciprocal of the scale of one entry. -/
def inE (a : EReal) : EReal := if BitVec.ofBool (expoE a == 0#32) = 1#1 then Ideal.ofBits .f32 0x3F800000#32 else Ideal.ofBits .f32 (2122317824#32 - expoE a)

theorem zero_eq : Ideal.ofBits .f32 0x00000000#32 = 0 := by
  show Ideal.ieee 8 23 (0x00000000#32) = 0
  simp [Ideal.ieee]

theorem scE_eq (a : EReal) : scE a = Ideal.exp2 (eE a) := by
  unfold scE eE
  by_cases h : Ideal.cmp .olt (qE a) (Ideal.ofBits .f32 0x00800000#32) = 1#1
  · have hz : expoE a = 0#32 := by unfold expoE; rw [if_pos h]
    rw [if_pos h, hz, if_pos (by decide : BitVec.ofBool (0#32 == 0#32) = 1#1), zero_eq, one_eq, ← EReal.coe_zero, Ideal.exp2_coe]
    norm_num
  · obtain ⟨n, h1, h2, hf, hn⟩ := expoE_eq a h
    have hne := field_ne ⟨n, by omega⟩ h1
    have hup := field_up ⟨n, by omega⟩
    dsimp only at hne hup
    rw [if_neg h, hn, hne, hup, if_neg (by decide), ofBits_pow (by omega) (by omega), hf, one_eq, ← EReal.coe_add, Ideal.exp2_coe]
    congr 1
    show _ = (2 : ℝ) ^ ((n : ℝ) - 127 + 1)
    rw [← Real.rpow_intCast]
    congr 1
    push_cast
    ring

theorem inE_eq (a : EReal) : inE a = Ideal.exp2 (Ideal.ofBits .f32 0x00000000#32 - eE a) := by
  unfold inE eE
  by_cases h : Ideal.cmp .olt (qE a) (Ideal.ofBits .f32 0x00800000#32) = 1#1
  · have hz : expoE a = 0#32 := by unfold expoE; rw [if_pos h]
    rw [if_pos h, hz, if_pos (by decide : BitVec.ofBool (0#32 == 0#32) = 1#1), zero_eq, one_eq, ← EReal.coe_zero, ← EReal.coe_sub, Ideal.exp2_coe]
    norm_num
  · obtain ⟨n, h1, h2, hf, hn⟩ := expoE_eq a h
    have hne := field_ne ⟨n, by omega⟩ h1
    have hup := field_inv ⟨n, by omega⟩
    dsimp only at hne hup
    rw [if_neg h, hn, hne, hup, if_neg (by decide), ofBits_pow (by omega) (by omega), hf, one_eq, zero_eq, ← EReal.coe_add, ← EReal.coe_zero, ← EReal.coe_sub, Ideal.exp2_coe]
    congr 1
    show _ = (2 : ℝ) ^ ((0 : ℝ) - ((n : ℝ) - 127 + 1))
    rw [← Real.rpow_intCast]
    congr 1
    rw [Nat.cast_sub (by omega)]
    push_cast
    ring

theorem scaleV_apply {s : Shape} (a : FVec Ideal s .f32) (y : s.Idx) : scaleV a y = Ideal.exp2 (eE (a y)) :=
  (show scaleV a y = scE (a y) from rfl).trans (scE_eq _)

theorem invV_apply {s : Shape} (a : FVec Ideal s .f32) (y : s.Idx) : invV a y = Ideal.exp2 (Ideal.ofBits .f32 0x00000000#32 - eE (a y)) :=
  (show invV a y = inE (a y) from rfl).trans (inE_eq _)

/-- A value held to the range of the codes. -/
def codeE (d : EReal) : EReal := min (Ideal.ofBits .f32 0x47600000#32) (max (Ideal.ofBits .f32 0xC7600000#32) d)

theorem codeV_apply {s : Shape} (d : FVec Ideal s .f32) (y : s.Idx) : codeV d y = codeE (d y) := rfl

end Cert.Proof.KernelIdeal
-- ==== Proof.Loop1Value.lean ====
/- The loop that fills the column scales and their reciprocals from the history, with the values it writes. -/
module

public import proofs.«01_k».proof.Proof.Gen.KernelIdeal.Launch
public import proofs.«01_k».proof.Proof.Gen.KernelIdeal.Loops
public import proofs.«01_k».proof.Proof.Canon
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (arg1 : Memref sig .tc .smem S9 .i32) (harg1 : arg1.IsWhole)
  (arg2 : Memref sig .tc .vmem S32x65536 .fp8e4m3) (harg2 : arg2.IsWhole)
  (arg3 : Memref sig .tc .vmem S32x512 .f32) (harg3 : arg3.IsWhole)
  (arg4 : Memref sig .tc .vmem S32x32768 .bf16) (harg4 : arg4.IsWhole)
  (arg5 : Memref sig .tc .vmem S8x65536 .f32) (harg5 : arg5.IsWhole)
  (arg6 : Memref sig .tc .vmem S32x65536 .fp8e5m2) (harg6 : arg6.IsWhole)
  (arg7 : Memref sig .tc .vmem S32x512 .f32) (harg7 : arg7.IsWhole)
  (arg8 : Memref sig .tc .vmem S32x65536 .fp8e5m2) (harg8 : arg8.IsWhole)
  (arg9 : Memref sig .tc .vmem S8x65536 .f32) (harg9 : arg9.IsWhole)
  (arg10 : Memref sig .tc .vmem S8x65536 .f32) (harg10 : arg10.IsWhole)
  (arg11 : Memref sig .tc .vmem S512x8x128 .f32) (harg11 : arg11.IsWhole)
  (arg12 : Memref sig .tc .vmem S512x8x128 .f32) (harg12 : arg12.IsWhole)
  (arg13 : Memref sig .tc .vmem S512x8x128 .f32) (harg13 : arg13.IsWhole)
  (arg14 : Memref sig .tc .vmem S256x128 .f32) (harg14 : arg14.IsWhole)
  (arg15 : Memref sig .tc .vmem S32x128 .i32) (harg15 : arg15.IsWhole)
  (arg16 : Memref sig .tc .vmem S32x512 .f32) (harg16 : arg16.IsWhole)

/-- Block `b` of 128 columns of the history. -/
def blk5 {E : Type} (A : S8x65536.Idx → E) (b : ℕ) : S8x128.Idx → E :=
  fun x => A (ix2 (m := 8) (n := 65536) (x 0) ⟨(128 * b + (x 1).val) % 65536, Nat.mod_lt _ (by decide)⟩)

theorem load5 (v : View sig .tc .vmem S8x65536 .f32) (X : v.ty.Contents (Elt F)) {off : Fin 2 → ℕ} (inb) {b : ℕ} (hb : b < 512) (ho : off = ![0, 128 * b]) :
    v.readAt (Elt F) (Rect.unit (s := S8x65536) off S8x128.size inb).toLoadRect X = blk5 (v.read (Elt F) X) b := by
  subst ho
  funext x
  have h1 : (x 1).val < 128 := (x 1).isLt
  show v.read (Elt F) X ((Rect.unit (s := S8x65536) _ S8x128.size inb).emb x) = _
  refine congrArg (v.read (Elt F) X) (ix2_ext ?_ ?_)
  · show 0 + 1 * (x 0).val = (x 0).val
    omega
  · show 128 * b + 1 * (x 1).val = (128 * b + (x 1).val) % 65536
    omega

/-- The column scales of the first `n` blocks stand in their columns. -/
def OkC {v : View sig .tc .vmem S8x65536 .f32} (A : S8x65536.Idx → Elt F .f32) (n : ℕ) (f : v.ty.Contents (Elt F)) : Prop :=
  ∀ y : S8x65536.Idx, (y 1).val / 128 < n →
    v.read (Elt F) f y = scaleV (blk5 A ((y 1).val / 128)) (ix2 (m := 8) (n := 128) (y 0) ⟨(y 1).val % 128, Nat.mod_lt _ (by decide)⟩)

/-- The reciprocal scales of the first `n` blocks stand in their slabs. -/
def OkI {v : View sig .tc .vmem S512x8x128 .f32} (A : S8x65536.Idx → Elt F .f32) (n : ℕ) (f : v.ty.Contents (Elt F)) : Prop :=
  ∀ y : S512x8x128.Idx, (y 0).val < n → v.read (Elt F) f y = invV (blk5 A (y 0).val) (ix2 (m := 8) (n := 128) (y 1) (y 2))

theorem OkC.zero {v : View sig .tc .vmem S8x65536 .f32} (A : S8x65536.Idx → Elt F .f32) (f : v.ty.Contents (Elt F)) : OkC A 0 f :=
  fun _ h => absurd h (Nat.not_lt_zero _)

theorem OkI.zero {v : View sig .tc .vmem S512x8x128 .f32} (A : S8x65536.Idx → Elt F .f32) (f : v.ty.Contents (Elt F)) : OkI A 0 f :=
  fun _ h => absurd h (Nat.not_lt_zero _)

theorem OkC.step {v : View sig .tc .vmem S8x65536 .f32} {A : S8x65536.Idx → Elt F .f32} {f : v.ty.Contents (Elt F)} {L : List (View.Piece (Elt F) S8x65536 .f32)}
    {off : Fin 2 → ℕ} {inb} {w : (Rect.unit (s := S8x65536) off S8x128.size inb).shape.Idx → Elt F .f32} (b : ℕ) (ho : off = ![0, 128 * b]) (hw : w = scaleV (blk5 A b))
    (h : OkC A b (v.writes (Elt F) f L)) : OkC A (b + 1) (v.writes (Elt F) f (⟨Rect.unit (s := S8x65536) off S8x128.size inb, w⟩ :: L)) := by
  intro y hy
  by_cases hyb : (y 1).val / 128 = b
  · subst hw
    refine (View.read_writes_cons_unit_of_mem v f inb (scaleV (blk5 A b)) L y (ix2 (m := 8) (n := 128) (y 0) ⟨(y 1).val % 128, Nat.mod_lt _ (by decide)⟩) ho (Fin.forall_fin_two.mpr ⟨?_, ?_⟩)).trans ?_
    · show (y 0).val = 0 + (y 0).val
      omega
    · show (y 1).val = 128 * b + (y 1).val % 128
      omega
    · rw [hyb]
  · refine (View.read_writes_cons_unit_of_not_mem v f inb w L y ho 1 ?_).trans (h y ?_)
    · show (y 1).val < 128 * b ∨ 128 * b + 128 ≤ (y 1).val
      omega
    · omega

/-- A slab of one block, from the block. -/
theorem slab_apply (a : FVec F S8x128 .f32) (h : S8x128.ShapeCasts S1x8x128) (p : Fin 8) (l : Fin 128) : shapeCast S1x8x128 a h (ix3 (m := 1) (n := 8) (p := 128) 0 p l) = a (ix2 p l) := by
  exact (shapeCast_addUnit_apply (d := ![8, 128]) a h (ix3 (m := 1) (n := 8) (p := 128) 0 p l)).trans (congrArg a (funext fun x => by match x with | ⟨0, _⟩ => rfl | ⟨1, _⟩ => rfl))

theorem OkI.step {v : View sig .tc .vmem S512x8x128 .f32} {A : S8x65536.Idx → Elt F .f32} {f : v.ty.Contents (Elt F)} {L : List (View.Piece (Elt F) S512x8x128 .f32)}
    {off : Fin 3 → ℕ} {inb} {w : (Rect.unit (s := S512x8x128) off S1x8x128.size inb).shape.Idx → Elt F .f32} (b : ℕ) (ho : off = ![b, 0, 0]) (hw : w = shapeCast S1x8x128 (invV (blk5 A b)) shapeCasts_S8x128_S1x8x128)
    (h : OkI A b (v.writes (Elt F) f L)) : OkI A (b + 1) (v.writes (Elt F) f (⟨Rect.unit (s := S512x8x128) off S1x8x128.size inb, w⟩ :: L)) := by
  intro y hy
  by_cases hyb : (y 0).val = b
  · subst hw
    refine (View.read_writes_cons_unit_of_mem v f inb _ L y (ix3 (m := 1) (n := 8) (p := 128) 0 (y 1) (y 2)) ho (Fin.forall_fin_succ.mpr ⟨?_, Fin.forall_fin_two.mpr ⟨?_, ?_⟩⟩)).trans ?_
    · show (y 0).val = b + 0
      omega
    · show (y 1).val = 0 + (y 1).val
      omega
    · show (y 2).val = 0 + (y 2).val
      omega
    · rw [hyb]
      exact slab_apply _ _ _ _
  · refine (View.read_writes_cons_unit_of_not_mem v f inb w L y ho 0 ?_).trans (h y ?_)
    · show (y 0).val < b ∨ b + 1 ≤ (y 0).val
      omega
    · omega

theorem off1_eq : ∀ (k : Fin k0_t1_loop.trips) (j : Fin 4), k0_off1 k (BitVec.ofNat 32 j.val) = ![0, 128 * (4 * k.val + j.val)] := by decide +kernel
theorem off2_eq : ∀ (k : Fin k0_t1_loop.trips) (j : Fin 4), k0_off2 k (BitVec.ofNat 32 j.val) = ![4 * k.val + j.val, 0, 0] := by decide +kernel

set_option maxHeartbeats 40000000 in
/-- The loop over the history: four blocks of column scales and of their reciprocals per trip. -/
@[sl_loop] def valueInv_k0_t1 (𝒱 : Variants) (c : Dev nD) (bd : Option 𝒱.V) (E : Set ℕ) (i : grid0.Coords) (k0_h1 : k0_cond1 i = 1#1) (X_arg5 : BufTy.Contents (Elt F) arg5.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 where
  inv k acc := iprop((arg5.view.loc (c : Thread nD τ) ↦[arg5.view.set]{fullShare} X_arg5) ∗ (∃ f_arg9 : BufTy.Contents (Elt F) arg9.view.ty, ⌜OkC (v := arg9.view) (arg5.view.read (Elt F) X_arg5) (4 * k) f_arg9⌝ ∗ (arg9.view.loc (c : Thread nD τ) ↦[arg9.view.set]{fullShare} f_arg9)) ∗ (∃ f_arg11 : BufTy.Contents (Elt F) arg11.view.ty, ⌜OkI (v := arg11.view) (arg5.view.read (Elt F) X_arg5) (4 * k) f_arg11⌝ ∗ (arg11.view.loc (c : Thread nD τ) ↦[arg11.view.set]{fullShare} f_arg11)) ∗ (∃ f_arg12 : BufTy.Contents (Elt F) arg12.view.ty, (arg12.view.loc (c : Thread nD τ) ↦[arg12.view.set]{fullShare} f_arg12)) ∗ (∃ f_arg13 : BufTy.Contents (Elt F) arg13.view.ty, (arg13.view.loc (c : Thread nD τ) ↦[arg13.view.set]{fullShare} f_arg13)))
  step k acc := by
    iintro ⟨HR_arg5, ⟨%f_arg9, %hf9, HW_arg9⟩, ⟨%f_arg11, %hf11, HW_arg11⟩, ⟨%f_arg12, HW_arg12⟩, ⟨%f_arg13, HW_arg13⟩⟩
    have hk : k.val < 128 := Nat.lt_of_lt_of_le k.isLt k0_t1_abs.2.1
    have ld : ∀ (j : Fin 4), arg5.view.readAt (Elt F) (Rect.unit (s := S8x65536) (k0_off1 k (BitVec.ofNat 32 j.val)) S8x128.size (k0_off1_inb i k k0_h1 j)).toLoadRect X_arg5 = blk5 (arg5.view.read (Elt F) X_arg5) (4 * k.val + j.val) :=
      fun j => load5 _ _ _ (by omega) (off1_eq k j)
    unfold k0_t1_body
    sl_exec
    sl_step
    isplitl [HR_arg5]; · iexact HR_arg5
    isplitl [HW_arg9]
    · iexists _
      isplitr
      swap
      · iexact HW_arg9
      ipureintro
      rw [show 4 * (k.val + 1) = 4 * k.val + 3 + 1 by omega]
      exact OkC.step (4 * k.val + 3) (off1_eq k 3) (congrArg scaleV (ld 3))
        (OkC.step (4 * k.val + 2) (off1_eq k 2) (congrArg scaleV (ld 2))
        (OkC.step (4 * k.val + 1) (off1_eq k 1) (congrArg scaleV (ld 1))
        (OkC.step (4 * k.val + 0) (off1_eq k 0) (congrArg scaleV (ld 0))
        (show OkC _ _ (arg9.view.writes (Elt F) f_arg9 []) from hf9))))
    isplitl [HW_arg11]
    · iexists _
      isplitr
      swap
      · iexact HW_arg11
      ipureintro
      rw [show 4 * (k.val + 1) = 4 * k.val + 3 + 1 by omega]
      exact OkI.step (4 * k.val + 3) (off2_eq k 3) (congrArg (fun a => shapeCast S1x8x128 (invV a) shapeCasts_S8x128_S1x8x128) (ld 3))
        (OkI.step (4 * k.val + 2) (off2_eq k 2) (congrArg (fun a => shapeCast S1x8x128 (invV a) shapeCasts_S8x128_S1x8x128) (ld 2))
        (OkI.step (4 * k.val + 1) (off2_eq k 1) (congrArg (fun a => shapeCast S1x8x128 (invV a) shapeCasts_S8x128_S1x8x128) (ld 1))
        (OkI.step (4 * k.val + 0) (off2_eq k 0) (congrArg (fun a => shapeCast S1x8x128 (invV a) shapeCasts_S8x128_S1x8x128) (ld 0))
        (show OkI _ _ (arg11.view.writes (Elt F) f_arg11 []) from hf11))))
    isplitl [HW_arg12]; · iexists _; iexact HW_arg12
    iexists _; iexact HW_arg13

end Cert.Proof.KernelIdeal

end
-- ==== Proof.Loop2Value.lean ====
/- The loop of a chunk whose rows all belong to one expert, with the values it writes: the row codes, the column codes and the row maxima of thirty-two blocks per trip. -/
module

public import proofs.«01_k».proof.Proof.Canon
public import proofs.«01_k».proof.Proof.Gen.KernelIdeal.Launch
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (arg1 : Memref sig .tc .smem S9 .i32) (harg1 : arg1.IsWhole)
  (arg2 : Memref sig .tc .vmem S32x65536 .fp8e4m3) (harg2 : arg2.IsWhole)
  (arg3 : Memref sig .tc .vmem S32x512 .f32) (harg3 : arg3.IsWhole)
  (arg4 : Memref sig .tc .vmem S32x32768 .bf16) (harg4 : arg4.IsWhole)
  (arg5 : Memref sig .tc .vmem S8x65536 .f32) (harg5 : arg5.IsWhole)
  (arg6 : Memref sig .tc .vmem S32x65536 .fp8e5m2) (harg6 : arg6.IsWhole)
  (arg7 : Memref sig .tc .vmem S32x512 .f32) (harg7 : arg7.IsWhole)
  (arg8 : Memref sig .tc .vmem S32x65536 .fp8e5m2) (harg8 : arg8.IsWhole)
  (arg9 : Memref sig .tc .vmem S8x65536 .f32) (harg9 : arg9.IsWhole)
  (arg10 : Memref sig .tc .vmem S8x65536 .f32) (harg10 : arg10.IsWhole)
  (arg11 : Memref sig .tc .vmem S512x8x128 .f32) (harg11 : arg11.IsWhole)
  (arg12 : Memref sig .tc .vmem S512x8x128 .f32) (harg12 : arg12.IsWhole)
  (arg13 : Memref sig .tc .vmem S512x8x128 .f32) (harg13 : arg13.IsWhole)
  (arg14 : Memref sig .tc .vmem S256x128 .f32) (harg14 : arg14.IsWhole)
  (arg15 : Memref sig .tc .vmem S32x128 .i32) (harg15 : arg15.IsWhole)
  (arg16 : Memref sig .tc .vmem S32x512 .f32) (harg16 : arg16.IsWhole)

/-- The expert of a chunk whose rows all belong to one: the number of inner offsets at or below its first row. -/
def eFirst (i : grid0.Coords) (v13 v17 v21 v25 v29 v33 v37 : BitVec 32) : ℕ := (k0_off8 i v13 v17 v21 v25 v29 v33 v37 ⟨0, by decide⟩ 0#32) 1

theorem upBlock_eq : ∀ (k : Fin k0_t2_loop.trips) (j : Fin 16), (Scalar.indexCast (Scalar.addi 256#32 (Scalar.addi (Scalar.muli (Scf.iv 0#32 1#32 k) 16#32) (BitVec.ofNat 32 j.val)))).toNat = 256 + (16 * k.val + j.val) := by decide +kernel

theorem off8_eq (i : grid0.Coords) (v13 v17 v21 v25 v29 v33 v37 : BitVec 32) (k : Fin k0_t2_loop.trips) (j : Fin 16) :
    k0_off8 i v13 v17 v21 v25 v29 v33 v37 k (BitVec.ofNat 32 j.val) = ![16 * k.val + j.val, eFirst i v13 v17 v21 v25 v29 v33 v37, 0] := by
  funext a
  revert a
  refine Fin.forall_fin_succ.mpr ⟨congrFun (off5_eq k j) 0, Fin.forall_fin_two.mpr ⟨rfl, rfl⟩⟩

theorem off11_eq (i : grid0.Coords) (v13 v17 v21 v25 v29 v33 v37 : BitVec 32) (k : Fin k0_t2_loop.trips) (j : Fin 16) :
    k0_off11 i v13 v17 v21 v25 v29 v33 v37 k (BitVec.ofNat 32 j.val) = ![256 + (16 * k.val + j.val), eFirst i v13 v17 v21 v25 v29 v33 v37, 0] := by
  funext a
  revert a
  refine Fin.forall_fin_succ.mpr ⟨upBlock_eq k j, Fin.forall_fin_two.mpr ⟨rfl, rfl⟩⟩

theorem eFirst_lt {i : grid0.Coords} {v13 v17 v21 v25 v29 v33 v37 v43 v47 v51 v55 v59 v63 v67 : BitVec 32} (k0_hw1 : k0_chk1 i v13 v17 v21 v25 v29 v33 v37 v43 v47 v51 v55 v59 v63 v67) (k0_h2 : k0_cond2 i v13 v17 v21 v25 v29 v33 v37 v43 v47 v51 v55 v59 v63 v67 = 1#1) : eFirst i v13 v17 v21 v25 v29 v33 v37 < 8 :=
  k0_off8_inb i v13 v17 v21 v25 v29 v33 v37 v43 v47 v51 v55 v59 v63 v67 k0_hw1 ⟨0, by decide⟩ k0_h2 0 1

/-- A mask of a trip's `j`-th block. -/
theorem mask_trip {m : IVec S32x128 1} {w : Fin k0_t2_loop.trips → BitVec 32} {g : Fin k0_t2_loop.trips → ℕ} {k : Fin k0_t2_loop.trips} (h : m = laneMask lanes (w k)) (hw : ∀ k, w k = BitVec.ofNat 32 (g k % 128)) : m = laneMask lanes (BitVec.ofNat 32 (g k % 128)) := by
  rw [h, hw]

set_option maxHeartbeats 40000000 in
/-- The loop of a chunk whose rows all belong to one expert: codes, dH, column scales, row scales and the diagonal mask are read; row codes, column codes, running maxima and row maxima are written. -/
@[sl_loop] def valueInv_k0_t2 (𝒱 : Variants) (c : Dev nD) (bd : Option 𝒱.V) (E : Set ℕ) (i : grid0.Coords)
    (arg0 : BitVec 32) (v0 : BitVec 32) (v12 : IVec S32x128 32) (v13 : Elt F .i32) (v17 : Elt F .i32) (v21 : Elt F .i32) (v25 : Elt F .i32) (v29 : Elt F .i32) (v33 : Elt F .i32) (v37 : Elt F .i32) (v40 : BitVec 32) (c32_i32_5 : BitVec 32)
    (v43 : Elt F .i32) (v47 : Elt F .i32) (v51 : Elt F .i32) (v55 : Elt F .i32) (v59 : Elt F .i32) (v63 : Elt F .i32) (v67 : Elt F .i32) (k0_hw1 : k0_chk1 i v13 v17 v21 v25 v29 v33 v37 v43 v47 v51 v55 v59 v63 v67) (k0_h2 : k0_cond2 i v13 v17 v21 v25 v29 v33 v37 v43 v47 v51 v55 v59 v63 v67 = 1#1)
    (X_arg2 : BufTy.Contents (Elt F) arg2.view.ty) (X_arg4 : BufTy.Contents (Elt F) arg4.view.ty) (X_arg11 : BufTy.Contents (Elt F) arg11.view.ty) (X_arg14 : BufTy.Contents (Elt F) arg14.view.ty) (X_arg15 : BufTy.Contents (Elt F) arg15.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v12 v13 v17 v21 v25 v29 v33 v37 v40 c32_i32_5 v43 v47 v51 v55 v59 v63 v67 k0_hw1 k0_h2 where
  inv k acc := iprop((arg2.view.loc (c : Thread nD τ) ↦[arg2.view.set]{fullShare} X_arg2) ∗ (arg4.view.loc (c : Thread nD τ) ↦[arg4.view.set]{fullShare} X_arg4) ∗ (arg11.view.loc (c : Thread nD τ) ↦[arg11.view.set]{fullShare} X_arg11) ∗ (arg14.view.loc (c : Thread nD τ) ↦[arg14.view.set]{fullShare} X_arg14) ∗ (arg15.view.loc (c : Thread nD τ) ↦[arg15.view.set]{fullShare} X_arg15) ∗ (∃ f_arg6 : BufTy.Contents (Elt F) arg6.view.ty, ⌜OkB (v := arg6.view) (fun b => rowCodes (dBuf arg2 arg4 arg14 arg15 X_arg2 X_arg4 X_arg14 X_arg15 b)) (32 * k) f_arg6⌝ ∗ (arg6.view.loc (c : Thread nD τ) ↦[arg6.view.set]{fullShare} f_arg6)) ∗ (∃ f_arg8 : BufTy.Contents (Elt F) arg8.view.ty, ⌜OkB (v := arg8.view) (fun b => colCodes (dBuf arg2 arg4 arg14 arg15 X_arg2 X_arg4 X_arg14 X_arg15 b) (rowB1 (row11 (arg11.view.read (Elt F) X_arg11) b (eFirst i v13 v17 v21 v25 v29 v33 v37)))) (32 * k) f_arg8⌝ ∗ (arg8.view.loc (c : Thread nD τ) ↦[arg8.view.set]{fullShare} f_arg8)) ∗ (∃ f_arg12 : BufTy.Contents (Elt F) arg12.view.ty, (arg12.view.loc (c : Thread nD τ) ↦[arg12.view.set]{fullShare} f_arg12)) ∗ (∃ f_arg16 : BufTy.Contents (Elt F) arg16.view.ty, ⌜v12 = lanes → OkM (v := arg16.view) (fun b => dBuf arg2 arg4 arg14 arg15 X_arg2 X_arg4 X_arg14 X_arg15 b) (32 * k) f_arg16⌝ ∗ (arg16.view.loc (c : Thread nD τ) ↦[arg16.view.set]{fullShare} f_arg16)))
  step k acc := by
    iintro ⟨HR_arg2, HR_arg4, HR_arg11, HR_arg14, HR_arg15, ⟨%f_arg6, %hf6, HW_arg6⟩, ⟨%f_arg8, %hf8, HW_arg8⟩, ⟨%f_arg12, HW_arg12⟩, ⟨%f_arg16, %hf16, HW_arg16⟩⟩
    have hk : k.val < k0_t2_loop.trips := k.isLt
    have hk' : k.val < 16 := hk
    have he : eFirst i v13 v17 v21 v25 v29 v33 v37 < 8 := eFirst_lt k0_hw1 k0_h2
    have gate : ∀ (j : Fin 16), dGate (arg2.view.readAt (Elt F) (Rect.unit (s := S32x65536) (k0_off3 k (BitVec.ofNat 32 j.val)) S32x128.size (k0_off3_inb k j)).toLoadRect X_arg2) (arg2.view.readAt (Elt F) (Rect.unit (s := S32x65536) (k0_off4 k (BitVec.ofNat 32 j.val)) S32x128.size (k0_off4_inb k j)).toLoadRect X_arg2)
        (arg14.view.readAt (Elt F) (Rect.unit (s := S256x128) (k0_off5 k (BitVec.ofNat 32 j.val)) S1x128.size (k0_off5_inb k j)).toLoadRect X_arg14) (arg15.view.readAt (Elt F) (Rect.unit (s := S32x128) ![0, 0] S32x128.size (by decide)).toLoadRect X_arg15)
        (arg4.view.readAt (Elt F) (Rect.unit (s := S32x32768) (k0_off6 k (BitVec.ofNat 32 j.val)) S32x128.size (k0_off6_inb k j)).toLoadRect X_arg4) = dBuf arg2 arg4 arg14 arg15 X_arg2 X_arg4 X_arg14 X_arg15 (16 * k.val + j.val) :=
      fun j => dGate_loads _ _ _ _ _ (show 16 * k.val + j.val < 256 by omega) (off3_eq k j) (off4_eq k j) (off5_eq k j) (off6_eq k j)
    have up : ∀ (j : Fin 16), dUp (arg2.view.readAt (Elt F) (Rect.unit (s := S32x65536) (k0_off3 k (BitVec.ofNat 32 j.val)) S32x128.size (k0_off3_inb k j)).toLoadRect X_arg2) (arg2.view.readAt (Elt F) (Rect.unit (s := S32x65536) (k0_off4 k (BitVec.ofNat 32 j.val)) S32x128.size (k0_off4_inb k j)).toLoadRect X_arg2)
        (arg14.view.readAt (Elt F) (Rect.unit (s := S256x128) (k0_off5 k (BitVec.ofNat 32 j.val)) S1x128.size (k0_off5_inb k j)).toLoadRect X_arg14) (arg15.view.readAt (Elt F) (Rect.unit (s := S32x128) ![0, 0] S32x128.size (by decide)).toLoadRect X_arg15)
        (arg4.view.readAt (Elt F) (Rect.unit (s := S32x32768) (k0_off6 k (BitVec.ofNat 32 j.val)) S32x128.size (k0_off6_inb k j)).toLoadRect X_arg4) = dBuf arg2 arg4 arg14 arg15 X_arg2 X_arg4 X_arg14 X_arg15 (256 + (16 * k.val + j.val)) :=
      fun j => dUp_loads _ _ _ _ _ (show 16 * k.val + j.val < 256 by omega) (off3_eq k j) (off4_eq k j) (off5_eq k j) (off6_eq k j)
    unfold k0_t2_body
    sl_exec
    sl_step
    isplitl [HR_arg2]; · iexact HR_arg2
    isplitl [HR_arg4]; · iexact HR_arg4
    isplitl [HR_arg11]; · iexact HR_arg11
    isplitl [HR_arg14]; · iexact HR_arg14
    isplitl [HR_arg15]; · iexact HR_arg15
    isplitl [HW_arg6]
    · iexists _
      isplitr
      swap
      · iexact HW_arg6
      ipureintro
      rw [show 32 * k.val = 2 * (16 * k.val + 0) by omega] at hf6
      rw [show 32 * (k.val + 1) = 2 * (16 * k.val + 15 + 1) by omega]
      exact OkB.pair (16 * k.val + 15) (show 16 * k.val + 15 < 256 by omega) (off3_eq k 15) (off4_eq k 15) (congrArg rowCodes (gate 15)) (congrArg rowCodes (up 15))
        (OkB.pair (16 * k.val + 14) (show 16 * k.val + 14 < 256 by omega) (off3_eq k 14) (off4_eq k 14) (congrArg rowCodes (gate 14)) (congrArg rowCodes (up 14))
        (OkB.pair (16 * k.val + 13) (show 16 * k.val + 13 < 256 by omega) (off3_eq k 13) (off4_eq k 13) (congrArg rowCodes (gate 13)) (congrArg rowCodes (up 13))
        (OkB.pair (16 * k.val + 12) (show 16 * k.val + 12 < 256 by omega) (off3_eq k 12) (off4_eq k 12) (congrArg rowCodes (gate 12)) (congrArg rowCodes (up 12))
        (OkB.pair (16 * k.val + 11) (show 16 * k.val + 11 < 256 by omega) (off3_eq k 11) (off4_eq k 11) (congrArg rowCodes (gate 11)) (congrArg rowCodes (up 11))
        (OkB.pair (16 * k.val + 10) (show 16 * k.val + 10 < 256 by omega) (off3_eq k 10) (off4_eq k 10) (congrArg rowCodes (gate 10)) (congrArg rowCodes (up 10))
        (OkB.pair (16 * k.val + 9) (show 16 * k.val + 9 < 256 by omega) (off3_eq k 9) (off4_eq k 9) (congrArg rowCodes (gate 9)) (congrArg rowCodes (up 9))
        (OkB.pair (16 * k.val + 8) (show 16 * k.val + 8 < 256 by omega) (off3_eq k 8) (off4_eq k 8) (congrArg rowCodes (gate 8)) (congrArg rowCodes (up 8))
        (OkB.pair (16 * k.val + 7) (show 16 * k.val + 7 < 256 by omega) (off3_eq k 7) (off4_eq k 7) (congrArg rowCodes (gate 7)) (congrArg rowCodes (up 7))
        (OkB.pair (16 * k.val + 6) (show 16 * k.val + 6 < 256 by omega) (off3_eq k 6) (off4_eq k 6) (congrArg rowCodes (gate 6)) (congrArg rowCodes (up 6))
        (OkB.pair (16 * k.val + 5) (show 16 * k.val + 5 < 256 by omega) (off3_eq k 5) (off4_eq k 5) (congrArg rowCodes (gate 5)) (congrArg rowCodes (up 5))
        (OkB.pair (16 * k.val + 4) (show 16 * k.val + 4 < 256 by omega) (off3_eq k 4) (off4_eq k 4) (congrArg rowCodes (gate 4)) (congrArg rowCodes (up 4))
        (OkB.pair (16 * k.val + 3) (show 16 * k.val + 3 < 256 by omega) (off3_eq k 3) (off4_eq k 3) (congrArg rowCodes (gate 3)) (congrArg rowCodes (up 3))
        (OkB.pair (16 * k.val + 2) (show 16 * k.val + 2 < 256 by omega) (off3_eq k 2) (off4_eq k 2) (congrArg rowCodes (gate 2)) (congrArg rowCodes (up 2))
        (OkB.pair (16 * k.val + 1) (show 16 * k.val + 1 < 256 by omega) (off3_eq k 1) (off4_eq k 1) (congrArg rowCodes (gate 1)) (congrArg rowCodes (up 1))
        (OkB.pair (16 * k.val + 0) (show 16 * k.val + 0 < 256 by omega) (off3_eq k 0) (off4_eq k 0) (congrArg rowCodes (gate 0)) (congrArg rowCodes (up 0))
        (show OkB _ _ (arg6.view.writes (Elt F) f_arg6 []) from hf6))))))))))))))))
    isplitl [HW_arg8]
    · iexists _
      isplitr
      swap
      · iexact HW_arg8
      ipureintro
      have inv : ∀ (j : Fin 16), rowB1 (arg11.view.readAt (Elt F) (Rect.unit (s := S512x8x128) (k0_off8 i v13 v17 v21 v25 v29 v33 v37 k (BitVec.ofNat 32 j.val)) S1x1x128.size (k0_off8_inb i v13 v17 v21 v25 v29 v33 v37 v43 v47 v51 v55 v59 v63 v67 k0_hw1 k k0_h2 j)).toLoadRect X_arg11) = rowB1 (row11 (arg11.view.read (Elt F) X_arg11) (16 * k.val + j.val) (eFirst i v13 v17 v21 v25 v29 v33 v37)) :=
        fun j => congrArg rowB1 (load11 _ _ _ (by omega) he (off8_eq i v13 v17 v21 v25 v29 v33 v37 k j))
      have invUp : ∀ (j : Fin 16), rowB1 (arg11.view.readAt (Elt F) (Rect.unit (s := S512x8x128) (k0_off11 i v13 v17 v21 v25 v29 v33 v37 k (BitVec.ofNat 32 j.val)) S1x1x128.size (k0_off11_inb i v13 v17 v21 v25 v29 v33 v37 v43 v47 v51 v55 v59 v63 v67 k0_hw1 k k0_h2 j)).toLoadRect X_arg11) = rowB1 (row11 (arg11.view.read (Elt F) X_arg11) (256 + (16 * k.val + j.val)) (eFirst i v13 v17 v21 v25 v29 v33 v37)) :=
        fun j => congrArg rowB1 (load11 _ _ _ (by omega) he (off11_eq i v13 v17 v21 v25 v29 v33 v37 k j))
      rw [show 32 * k.val = 2 * (16 * k.val + 0) by omega] at hf8
      rw [show 32 * (k.val + 1) = 2 * (16 * k.val + 15 + 1) by omega]
      exact OkB.pair (16 * k.val + 15) (show 16 * k.val + 15 < 256 by omega) (off3_eq k 15) (off4_eq k 15) (colCodes_congr (gate 15) (inv 15)) (colCodes_congr (up 15) (invUp 15))
        (OkB.pair (16 * k.val + 14) (show 16 * k.val + 14 < 256 by omega) (off3_eq k 14) (off4_eq k 14) (colCodes_congr (gate 14) (inv 14)) (colCodes_congr (up 14) (invUp 14))
        (OkB.pair (16 * k.val + 13) (show 16 * k.val + 13 < 256 by omega) (off3_eq k 13) (off4_eq k 13) (colCodes_congr (gate 13) (inv 13)) (colCodes_congr (up 13) (invUp 13))
        (OkB.pair (16 * k.val + 12) (show 16 * k.val + 12 < 256 by omega) (off3_eq k 12) (off4_eq k 12) (colCodes_congr (gate 12) (inv 12)) (colCodes_congr (up 12) (invUp 12))
        (OkB.pair (16 * k.val + 11) (show 16 * k.val + 11 < 256 by omega) (off3_eq k 11) (off4_eq k 11) (colCodes_congr (gate 11) (inv 11)) (colCodes_congr (up 11) (invUp 11))
        (OkB.pair (16 * k.val + 10) (show 16 * k.val + 10 < 256 by omega) (off3_eq k 10) (off4_eq k 10) (colCodes_congr (gate 10) (inv 10)) (colCodes_congr (up 10) (invUp 10))
        (OkB.pair (16 * k.val + 9) (show 16 * k.val + 9 < 256 by omega) (off3_eq k 9) (off4_eq k 9) (colCodes_congr (gate 9) (inv 9)) (colCodes_congr (up 9) (invUp 9))
        (OkB.pair (16 * k.val + 8) (show 16 * k.val + 8 < 256 by omega) (off3_eq k 8) (off4_eq k 8) (colCodes_congr (gate 8) (inv 8)) (colCodes_congr (up 8) (invUp 8))
        (OkB.pair (16 * k.val + 7) (show 16 * k.val + 7 < 256 by omega) (off3_eq k 7) (off4_eq k 7) (colCodes_congr (gate 7) (inv 7)) (colCodes_congr (up 7) (invUp 7))
        (OkB.pair (16 * k.val + 6) (show 16 * k.val + 6 < 256 by omega) (off3_eq k 6) (off4_eq k 6) (colCodes_congr (gate 6) (inv 6)) (colCodes_congr (up 6) (invUp 6))
        (OkB.pair (16 * k.val + 5) (show 16 * k.val + 5 < 256 by omega) (off3_eq k 5) (off4_eq k 5) (colCodes_congr (gate 5) (inv 5)) (colCodes_congr (up 5) (invUp 5))
        (OkB.pair (16 * k.val + 4) (show 16 * k.val + 4 < 256 by omega) (off3_eq k 4) (off4_eq k 4) (colCodes_congr (gate 4) (inv 4)) (colCodes_congr (up 4) (invUp 4))
        (OkB.pair (16 * k.val + 3) (show 16 * k.val + 3 < 256 by omega) (off3_eq k 3) (off4_eq k 3) (colCodes_congr (gate 3) (inv 3)) (colCodes_congr (up 3) (invUp 3))
        (OkB.pair (16 * k.val + 2) (show 16 * k.val + 2 < 256 by omega) (off3_eq k 2) (off4_eq k 2) (colCodes_congr (gate 2) (inv 2)) (colCodes_congr (up 2) (invUp 2))
        (OkB.pair (16 * k.val + 1) (show 16 * k.val + 1 < 256 by omega) (off3_eq k 1) (off4_eq k 1) (colCodes_congr (gate 1) (inv 1)) (colCodes_congr (up 1) (invUp 1))
        (OkB.pair (16 * k.val + 0) (show 16 * k.val + 0 < 256 by omega) (off3_eq k 0) (off4_eq k 0) (colCodes_congr (gate 0) (inv 0)) (colCodes_congr (up 0) (invUp 0))
        (show OkB _ _ (arg8.view.writes (Elt F) f_arg8 []) from hf8))))))))))))))))
    isplitl [HW_arg12]; · iexists _; iexact HW_arg12
    iexists _
    isplitr
    swap
    · iexact HW_arg16
    ipureintro
    intro hv
    subst hv
    have hm := hf16 rfl
    rw [show 32 * k.val = 2 * (16 * k.val + 0) by omega] at hm
    rw [show 32 * (k.val + 1) = 2 * (16 * k.val + 15 + 1) by omega]
    exact OkM.pair (16 * k.val + 15) (show 16 * k.val + 15 < 256 by omega) (off7_eq k 15) (off10_eq k 15) (congrArg rowMaxB (gate 15)) (congrArg rowMaxB (up 15)) (mask_eq rfl (by clear * -; revert k; decide +kernel)) (mask_eq rfl (by clear * -; revert k; decide +kernel))
        (OkM.pair (16 * k.val + 14) (show 16 * k.val + 14 < 256 by omega) (off7_eq k 14) (off10_eq k 14) (congrArg rowMaxB (gate 14)) (congrArg rowMaxB (up 14)) (mask_eq rfl (by clear * -; revert k; decide +kernel)) (mask_eq rfl (by clear * -; revert k; decide +kernel))
        (OkM.pair (16 * k.val + 13) (show 16 * k.val + 13 < 256 by omega) (off7_eq k 13) (off10_eq k 13) (congrArg rowMaxB (gate 13)) (congrArg rowMaxB (up 13)) (mask_eq rfl (by clear * -; revert k; decide +kernel)) (mask_eq rfl (by clear * -; revert k; decide +kernel))
        (OkM.pair (16 * k.val + 12) (show 16 * k.val + 12 < 256 by omega) (off7_eq k 12) (off10_eq k 12) (congrArg rowMaxB (gate 12)) (congrArg rowMaxB (up 12)) (mask_eq rfl (by clear * -; revert k; decide +kernel)) (mask_eq rfl (by clear * -; revert k; decide +kernel))
        (OkM.pair (16 * k.val + 11) (show 16 * k.val + 11 < 256 by omega) (off7_eq k 11) (off10_eq k 11) (congrArg rowMaxB (gate 11)) (congrArg rowMaxB (up 11)) (mask_eq rfl (by clear * -; revert k; decide +kernel)) (mask_eq rfl (by clear * -; revert k; decide +kernel))
        (OkM.pair (16 * k.val + 10) (show 16 * k.val + 10 < 256 by omega) (off7_eq k 10) (off10_eq k 10) (congrArg rowMaxB (gate 10)) (congrArg rowMaxB (up 10)) (mask_eq rfl (by clear * -; revert k; decide +kernel)) (mask_eq rfl (by clear * -; revert k; decide +kernel))
        (OkM.pair (16 * k.val + 9) (show 16 * k.val + 9 < 256 by omega) (off7_eq k 9) (off10_eq k 9) (congrArg rowMaxB (gate 9)) (congrArg rowMaxB (up 9)) (mask_eq rfl (by clear * -; revert k; decide +kernel)) (mask_eq rfl (by clear * -; revert k; decide +kernel))
        (OkM.pair (16 * k.val + 8) (show 16 * k.val + 8 < 256 by omega) (off7_eq k 8) (off10_eq k 8) (congrArg rowMaxB (gate 8)) (congrArg rowMaxB (up 8)) (mask_eq rfl (by clear * -; revert k; decide +kernel)) (mask_eq rfl (by clear * -; revert k; decide +kernel))
        (OkM.pair (16 * k.val + 7) (show 16 * k.val + 7 < 256 by omega) (off7_eq k 7) (off10_eq k 7) (congrArg rowMaxB (gate 7)) (congrArg rowMaxB (up 7)) (mask_eq rfl (by clear * -; revert k; decide +kernel)) (mask_eq rfl (by clear * -; revert k; decide +kernel))
        (OkM.pair (16 * k.val + 6) (show 16 * k.val + 6 < 256 by omega) (off7_eq k 6) (off10_eq k 6) (congrArg rowMaxB (gate 6)) (congrArg rowMaxB (up 6)) (mask_eq rfl (by clear * -; revert k; decide +kernel)) (mask_eq rfl (by clear * -; revert k; decide +kernel))
        (OkM.pair (16 * k.val + 5) (show 16 * k.val + 5 < 256 by omega) (off7_eq k 5) (off10_eq k 5) (congrArg rowMaxB (gate 5)) (congrArg rowMaxB (up 5)) (mask_eq rfl (by clear * -; revert k; decide +kernel)) (mask_eq rfl (by clear * -; revert k; decide +kernel))
        (OkM.pair (16 * k.val + 4) (show 16 * k.val + 4 < 256 by omega) (off7_eq k 4) (off10_eq k 4) (congrArg rowMaxB (gate 4)) (congrArg rowMaxB (up 4)) (mask_eq rfl (by clear * -; revert k; decide +kernel)) (mask_eq rfl (by clear * -; revert k; decide +kernel))
        (OkM.pair (16 * k.val + 3) (show 16 * k.val + 3 < 256 by omega) (off7_eq k 3) (off10_eq k 3) (congrArg rowMaxB (gate 3)) (congrArg rowMaxB (up 3)) (mask_eq rfl (by clear * -; revert k; decide +kernel)) (mask_eq rfl (by clear * -; revert k; decide +kernel))
        (OkM.pair (16 * k.val + 2) (show 16 * k.val + 2 < 256 by omega) (off7_eq k 2) (off10_eq k 2) (congrArg rowMaxB (gate 2)) (congrArg rowMaxB (up 2)) (mask_eq rfl (by clear * -; revert k; decide +kernel)) (mask_eq rfl (by clear * -; revert k; decide +kernel))
        (OkM.pair (16 * k.val + 1) (show 16 * k.val + 1 < 256 by omega) (off7_eq k 1) (off10_eq k 1) (congrArg rowMaxB (gate 1)) (congrArg rowMaxB (up 1)) (mask_eq rfl (by clear * -; revert k; decide +kernel)) (mask_eq rfl (by clear * -; revert k; decide +kernel))
        (OkM.pair (16 * k.val + 0) (show 16 * k.val + 0 < 256 by omega) (off7_eq k 0) (off10_eq k 0) (congrArg rowMaxB (gate 0)) (congrArg rowMaxB (up 0)) (mask_eq rfl (by clear * -; revert k; decide +kernel)) (mask_eq rfl (by clear * -; revert k; decide +kernel))
        (hm))))))))))))))))

end Cert.Proof.KernelIdeal

end
-- ==== Proof.Loop3Value.lean ====
/- The loop of a chunk whose rows belong to several experts, with the row codes and the row maxima it leaves. -/
module

public import proofs.«01_k».proof.Proof.Gen.KernelIdeal.Launch
public import proofs.«01_k».proof.Proof.Gen.KernelIdeal.Loops
public import proofs.«01_k».proof.Proof.Canon
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (arg1 : Memref sig .tc .smem S9 .i32) (harg1 : arg1.IsWhole)
  (arg2 : Memref sig .tc .vmem S32x65536 .fp8e4m3) (harg2 : arg2.IsWhole)
  (arg3 : Memref sig .tc .vmem S32x512 .f32) (harg3 : arg3.IsWhole)
  (arg4 : Memref sig .tc .vmem S32x32768 .bf16) (harg4 : arg4.IsWhole)
  (arg5 : Memref sig .tc .vmem S8x65536 .f32) (harg5 : arg5.IsWhole)
  (arg6 : Memref sig .tc .vmem S32x65536 .fp8e5m2) (harg6 : arg6.IsWhole)
  (arg7 : Memref sig .tc .vmem S32x512 .f32) (harg7 : arg7.IsWhole)
  (arg8 : Memref sig .tc .vmem S32x65536 .fp8e5m2) (harg8 : arg8.IsWhole)
  (arg9 : Memref sig .tc .vmem S8x65536 .f32) (harg9 : arg9.IsWhole)
  (arg10 : Memref sig .tc .vmem S8x65536 .f32) (harg10 : arg10.IsWhole)
  (arg11 : Memref sig .tc .vmem S512x8x128 .f32) (harg11 : arg11.IsWhole)
  (arg12 : Memref sig .tc .vmem S512x8x128 .f32) (harg12 : arg12.IsWhole)
  (arg13 : Memref sig .tc .vmem S512x8x128 .f32) (harg13 : arg13.IsWhole)
  (arg14 : Memref sig .tc .vmem S256x128 .f32) (harg14 : arg14.IsWhole)
  (arg15 : Memref sig .tc .vmem S32x128 .i32) (harg15 : arg15.IsWhole)
  (arg16 : Memref sig .tc .vmem S32x512 .f32) (harg16 : arg16.IsWhole)

set_option maxHeartbeats 40000000 in
/-- The loop of a chunk whose rows belong to several experts: beside the buffers of the other loop it reads the offsets, and it writes the finished maxima. -/
@[sl_loop] def valueInv_k0_t3 (𝒱 : Variants) (c : Dev nD) (bd : Option 𝒱.V) (E : Set ℕ) (i : grid0.Coords)
    (arg0 : BitVec 32) (v0 : BitVec 32) (v12 : IVec S32x128 32) (v13 : Elt F .i32) (v17 : Elt F .i32) (v21 : Elt F .i32) (v25 : Elt F .i32) (v29 : Elt F .i32) (v33 : Elt F .i32) (v37 : Elt F .i32) (v40 : BitVec 32) (c32_i32_5 : BitVec 32)
    (X_arg1 : BufTy.Contents (Elt F) arg1.view.ty) (X_arg2 : BufTy.Contents (Elt F) arg2.view.ty) (X_arg4 : BufTy.Contents (Elt F) arg4.view.ty) (X_arg11 : BufTy.Contents (Elt F) arg11.view.ty) (X_arg14 : BufTy.Contents (Elt F) arg14.view.ty) (X_arg15 : BufTy.Contents (Elt F) arg15.view.ty) :
    LoopInvTy_k0_t3 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v12 v13 v17 v21 v25 v29 v33 v37 v40 c32_i32_5 where
  inv k acc := iprop((arg1.view.loc (c : Thread nD τ) ↦{fullShare.right} X_arg1) ∗ (arg2.view.loc (c : Thread nD τ) ↦[arg2.view.set]{fullShare} X_arg2) ∗ (arg4.view.loc (c : Thread nD τ) ↦[arg4.view.set]{fullShare} X_arg4) ∗ (arg11.view.loc (c : Thread nD τ) ↦[arg11.view.set]{fullShare} X_arg11) ∗ (arg14.view.loc (c : Thread nD τ) ↦[arg14.view.set]{fullShare} X_arg14) ∗ (arg15.view.loc (c : Thread nD τ) ↦[arg15.view.set]{fullShare} X_arg15) ∗ (∃ f_arg6 : BufTy.Contents (Elt F) arg6.view.ty, ⌜OkB (v := arg6.view) (fun b => rowCodes (dBuf arg2 arg4 arg14 arg15 X_arg2 X_arg4 X_arg14 X_arg15 b)) (2 * k) f_arg6⌝ ∗ (arg6.view.loc (c : Thread nD τ) ↦[arg6.view.set]{fullShare} f_arg6)) ∗ (∃ f_arg8 : BufTy.Contents (Elt F) arg8.view.ty, ⌜OkB (v := arg8.view) (fun b => colCodes (dBuf arg2 arg4 arg14 arg15 X_arg2 X_arg4 X_arg14 X_arg15 b) (mixInv (k0_pay613 v0) (arg1.view.read (Elt F) X_arg1) (arg11.view.read (Elt F) X_arg11) b)) (2 * k) f_arg8⌝ ∗ (arg8.view.loc (c : Thread nD τ) ↦[arg8.view.set]{fullShare} f_arg8)) ∗ (∃ f_arg13 : BufTy.Contents (Elt F) arg13.view.ty, (arg13.view.loc (c : Thread nD τ) ↦[arg13.view.set]{fullShare} f_arg13)) ∗ (∃ f_arg16 : BufTy.Contents (Elt F) arg16.view.ty, ⌜v12 = lanes → OkM (v := arg16.view) (fun b => dBuf arg2 arg4 arg14 arg15 X_arg2 X_arg4 X_arg14 X_arg15 b) (2 * k) f_arg16⌝ ∗ (arg16.view.loc (c : Thread nD τ) ↦[arg16.view.set]{fullShare} f_arg16)))
  step k acc := by
    iintro ⟨HT, HR_arg2, HR_arg4, HR_arg11, HR_arg14, HR_arg15, ⟨%f_arg6, %hf6, HW_arg6⟩, ⟨%f_arg8, %hf8, HW_arg8⟩, ⟨%f_arg13, HW_arg13⟩, ⟨%f_arg16, %hf16, HW_arg16⟩⟩
    have hk : k.val < k0_t3_loop.trips := k.isLt
    have hk' : k.val < 256 := hk
    unfold k0_t3_body
    sl_exec
    sl_step
    isplitl [HT]; · iexact HT
    isplitl [HR_arg2]; · iexact HR_arg2
    isplitl [HR_arg4]; · iexact HR_arg4
    isplitl [HR_arg11]; · iexact HR_arg11
    isplitl [HR_arg14]; · iexact HR_arg14
    isplitl [HR_arg15]; · iexact HR_arg15
    isplitl [HW_arg6]
    · iexists _
      isplitr
      swap
      · iexact HW_arg6
      ipureintro
      exact OkB.pair (L := []) k.val hk (off13_eq k) (off14_eq k)
        (congrArg rowCodes (dGate_loads (k0_off13_inb k) (k0_off14_inb k) (k0_off15_inb k) (k0_off16_inb k) (by decide) (show k.val < 256 from hk) (off13_eq k) (off14_eq k) (off15_eq k) (off16_eq k)))
        (congrArg rowCodes (dUp_loads (k0_off13_inb k) (k0_off14_inb k) (k0_off15_inb k) (k0_off16_inb k) (by decide) (show k.val < 256 from hk) (off13_eq k) (off14_eq k) (off15_eq k) (off16_eq k))) hf6
    isplitl [HW_arg8]
    · iexists _
      isplitr
      swap
      · iexact HW_arg8
      ipureintro
      exact OkB.pair (L := []) k.val hk (off13_eq k) (off14_eq k)
        (colCodes_congr (dGate_loads (k0_off13_inb k) (k0_off14_inb k) (k0_off15_inb k) (k0_off16_inb k) (by decide) (show k.val < 256 from hk) (off13_eq k) (off14_eq k) (off15_eq k) (off16_eq k))
          (invMix_congr (load1 _ _ (by decide) (by decide) 0 rfl) (load1 _ _ (by decide) (by decide) 1 rfl) (load1 _ _ (by decide) (by decide) 2 rfl) (load1 _ _ (by decide) (by decide) 3 rfl) (load1 _ _ (by decide) (by decide) 4 rfl) (load1 _ _ (by decide) (by decide) 5 rfl) (load1 _ _ (by decide) (by decide) 6 rfl) (load1 _ _ (by decide) (by decide) 7 rfl) (load1 _ _ (by decide) (by decide) 8 rfl) (load11 _ _ (k0_off18_inb k) (show k.val < 512 by omega) (by decide) (off18_eq k)) (load11 _ _ (k0_off19_inb k) (show k.val < 512 by omega) (by decide) (off19_eq k)) (load11 _ _ (k0_off20_inb k) (show k.val < 512 by omega) (by decide) (off20_eq k)) (load11 _ _ (k0_off21_inb k) (show k.val < 512 by omega) (by decide) (off21_eq k)) (load11 _ _ (k0_off22_inb k) (show k.val < 512 by omega) (by decide) (off22_eq k)) (load11 _ _ (k0_off23_inb k) (show k.val < 512 by omega) (by decide) (off23_eq k)) (load11 _ _ (k0_off24_inb k) (show k.val < 512 by omega) (by decide) (off24_eq k)) (load11 _ _ (k0_off25_inb k) (show k.val < 512 by omega) (by decide) (off25_eq k))))
        (colCodes_congr (dUp_loads (k0_off13_inb k) (k0_off14_inb k) (k0_off15_inb k) (k0_off16_inb k) (by decide) (show k.val < 256 from hk) (off13_eq k) (off14_eq k) (off15_eq k) (off16_eq k))
          (invMix_congr (load1 _ _ (by decide) (by decide) 0 rfl) (load1 _ _ (by decide) (by decide) 1 rfl) (load1 _ _ (by decide) (by decide) 2 rfl) (load1 _ _ (by decide) (by decide) 3 rfl) (load1 _ _ (by decide) (by decide) 4 rfl) (load1 _ _ (by decide) (by decide) 5 rfl) (load1 _ _ (by decide) (by decide) 6 rfl) (load1 _ _ (by decide) (by decide) 7 rfl) (load1 _ _ (by decide) (by decide) 8 rfl) (load11 _ _ (k0_off27_inb k) (show 256 + k.val < 512 by omega) (by decide) (off27_eq k)) (load11 _ _ (k0_off28_inb k) (show 256 + k.val < 512 by omega) (by decide) (off28_eq k)) (load11 _ _ (k0_off29_inb k) (show 256 + k.val < 512 by omega) (by decide) (off29_eq k)) (load11 _ _ (k0_off30_inb k) (show 256 + k.val < 512 by omega) (by decide) (off30_eq k)) (load11 _ _ (k0_off31_inb k) (show 256 + k.val < 512 by omega) (by decide) (off31_eq k)) (load11 _ _ (k0_off32_inb k) (show 256 + k.val < 512 by omega) (by decide) (off32_eq k)) (load11 _ _ (k0_off33_inb k) (show 256 + k.val < 512 by omega) (by decide) (off33_eq k)) (load11 _ _ (k0_off34_inb k) (show 256 + k.val < 512 by omega) (by decide) (off34_eq k)))) hf8
    isplitl [HW_arg13]; · iexists _; iexact HW_arg13
    iexists _
    isplitr
    swap
    · iexact HW_arg16
    ipureintro
    intro hv
    subst hv
    exact OkM.pair k.val hk (off17_eq k) (off26_eq k)
      (congrArg rowMaxB (dGate_loads (k0_off13_inb k) (k0_off14_inb k) (k0_off15_inb k) (k0_off16_inb k) (by decide) (show k.val < 256 from hk) (off13_eq k) (off14_eq k) (off15_eq k) (off16_eq k)))
      (congrArg rowMaxB (dUp_loads (k0_off13_inb k) (k0_off14_inb k) (k0_off15_inb k) (k0_off16_inb k) (by decide) (show k.val < 256 from hk) (off13_eq k) (off14_eq k) (off15_eq k) (off16_eq k)))
      (mask_eq rfl (by clear hf16 hf8 hf6 hk hk'; revert k; decide +kernel))
      (mask_eq rfl (by clear hf16 hf8 hf6 hk hk'; revert k; decide +kernel)) (hf16 rfl)

end Cert.Proof.KernelIdeal

end
-- ==== Proof.RunRes.lean ====
/- The buffers of the body and their contents, between its parts. -/
module

public import proofs.«01_k».proof.Proof.KitKernelIdeal
public import proofs.«01_k».proof.Proof.Canon
public import proofs.«01_k».proof.Proof.ChecksKernelIdeal

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (arg1 : Memref sig .tc .smem S9 .i32) (harg1 : arg1.IsWhole)
  (arg2 : Memref sig .tc .vmem S32x65536 .fp8e4m3) (harg2 : arg2.IsWhole)
  (arg3 : Memref sig .tc .vmem S32x512 .f32) (harg3 : arg3.IsWhole)
  (arg4 : Memref sig .tc .vmem S32x32768 .bf16) (harg4 : arg4.IsWhole)
  (arg5 : Memref sig .tc .vmem S8x65536 .f32) (harg5 : arg5.IsWhole)
  (arg6 : Memref sig .tc .vmem S32x65536 .fp8e5m2) (harg6 : arg6.IsWhole)
  (arg7 : Memref sig .tc .vmem S32x512 .f32) (harg7 : arg7.IsWhole)
  (arg8 : Memref sig .tc .vmem S32x65536 .fp8e5m2) (harg8 : arg8.IsWhole)
  (arg9 : Memref sig .tc .vmem S8x65536 .f32) (harg9 : arg9.IsWhole)
  (arg10 : Memref sig .tc .vmem S8x65536 .f32) (harg10 : arg10.IsWhole)
  (arg11 : Memref sig .tc .vmem S512x8x128 .f32) (harg11 : arg11.IsWhole)
  (arg12 : Memref sig .tc .vmem S512x8x128 .f32) (harg12 : arg12.IsWhole)
  (arg13 : Memref sig .tc .vmem S512x8x128 .f32) (harg13 : arg13.IsWhole)
  (arg14 : Memref sig .tc .vmem S256x128 .f32) (harg14 : arg14.IsWhole)
  (arg15 : Memref sig .tc .vmem S32x128 .i32) (harg15 : arg15.IsWhole)
  (arg16 : Memref sig .tc .vmem S32x512 .f32) (harg16 : arg16.IsWhole)

/-- What the body holds between its parts, with the contents of the buffers the results pass through. -/
def ResV (c : Dev nD) (x0 : Vec F S32x65536 .fp8e4m3) (x1 : Vec F S32x512 .f32) (x2 : Vec F S32x32768 .bf16) (x3 : Vec F S8x65536 .f32) (xt : TbBuf (F := F) c arg1) (f6 : BufTy.Contents (Elt F) arg6.view.ty) (f8 : BufTy.Contents (Elt F) arg8.view.ty) (f9 : BufTy.Contents (Elt F) arg9.view.ty) (f11 : BufTy.Contents (Elt F) arg11.view.ty) (f14 : BufTy.Contents (Elt F) arg14.view.ty) (f15 : BufTy.Contents (Elt F) arg15.view.ty) (f16 : BufTy.Contents (Elt F) arg16.view.ty) : sProp 𝕄 :=
  iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} f6) ∗ (∃ f, (arg7.view.loc (c : Thread nD τ) ↦[arg7.view.set]{fullShare} f)) ∗ (arg8.view.loc (c : Thread nD τ) ↦[arg8.view.set]{fullShare} f8) ∗ (arg9.view.loc (c : Thread nD τ) ↦[arg9.view.set]{fullShare} f9) ∗ (∃ f, (arg10.view.loc (c : Thread nD τ) ↦[arg10.view.set]{fullShare} f)) ∗ (arg11.view.loc (c : Thread nD τ) ↦[arg11.view.set]{fullShare} f11) ∗ (∃ f, (arg12.view.loc (c : Thread nD τ) ↦[arg12.view.set]{fullShare} f)) ∗ (∃ f, (arg13.view.loc (c : Thread nD τ) ↦[arg13.view.set]{fullShare} f)) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ tbPt c arg1 xt)

end Cert.Proof.KernelIdeal

end
-- ==== Proof.RunValue2.lean ====
/- The second part of the body: the loop over the blocks of the chunk, with the codes and the row maxima it leaves. -/
module

public import proofs.«01_k».proof.Proof.RunRes
public import proofs.«01_k».proof.Proof.Loop2Value
public import proofs.«01_k».proof.Proof.Loop3Value

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (arg1 : Memref sig .tc .smem S9 .i32) (harg1 : arg1.IsWhole)
  (arg2 : Memref sig .tc .vmem S32x65536 .fp8e4m3) (harg2 : arg2.IsWhole)
  (arg3 : Memref sig .tc .vmem S32x512 .f32) (harg3 : arg3.IsWhole)
  (arg4 : Memref sig .tc .vmem S32x32768 .bf16) (harg4 : arg4.IsWhole)
  (arg5 : Memref sig .tc .vmem S8x65536 .f32) (harg5 : arg5.IsWhole)
  (arg6 : Memref sig .tc .vmem S32x65536 .fp8e5m2) (harg6 : arg6.IsWhole)
  (arg7 : Memref sig .tc .vmem S32x512 .f32) (harg7 : arg7.IsWhole)
  (arg8 : Memref sig .tc .vmem S32x65536 .fp8e5m2) (harg8 : arg8.IsWhole)
  (arg9 : Memref sig .tc .vmem S8x65536 .f32) (harg9 : arg9.IsWhole)
  (arg10 : Memref sig .tc .vmem S8x65536 .f32) (harg10 : arg10.IsWhole)
  (arg11 : Memref sig .tc .vmem S512x8x128 .f32) (harg11 : arg11.IsWhole)
  (arg12 : Memref sig .tc .vmem S512x8x128 .f32) (harg12 : arg12.IsWhole)
  (arg13 : Memref sig .tc .vmem S512x8x128 .f32) (harg13 : arg13.IsWhole)
  (arg14 : Memref sig .tc .vmem S256x128 .f32) (harg14 : arg14.IsWhole)
  (arg15 : Memref sig .tc .vmem S32x128 .i32) (harg15 : arg15.IsWhole)
  (arg16 : Memref sig .tc .vmem S32x512 .f32) (harg16 : arg16.IsWhole)

/-- The column codes of a block of a chunk: from one expert's reciprocal scales where the whole chunk is that expert's, and
from the mixed ones otherwise. -/
def colB (i : grid0.Coords) (T : S9.Idx → BitVec 32) (d : FVec F S32x128 .f32) (A : S512x8x128.Idx → Elt F .f32) (b : ℕ) : FVec F S32x128 .fp8e5m2 :=
  if k0_cond2 i (tw T 1) (tw T 2) (tw T 3) (tw T 4) (tw T 5) (tw T 6) (tw T 7) (tw T 1) (tw T 2) (tw T 3) (tw T 4) (tw T 5) (tw T 6) (tw T 7) = 1#1 then colCodes d (rowB1 (row11 A b (eFirst i (tw T 1) (tw T 2) (tw T 3) (tw T 4) (tw T 5) (tw T 6) (tw T 7))))
  else colCodes d (mixInv (k0_pay613 (Scalar.muli (BitVec.ofNat 32 (i 0).val) 32#32)) T A b)

/-- A chunk belongs to one expert or to several. -/
theorem cond3_of_not_cond2 (i : grid0.Coords) (v13 v17 v21 v25 v29 v33 v37 v43 v47 v51 v55 v59 v63 v67 : BitVec 32)
    (h : ¬ k0_cond2 i v13 v17 v21 v25 v29 v33 v37 v43 v47 v51 v55 v59 v63 v67 = 1#1) : k0_cond3 i v13 v17 v21 v25 v29 v33 v37 v43 v47 v51 v55 v59 v63 v67 = 1#1 := by
  have key : ∀ a b : BitVec 32, ¬ Scalar.cmpi .ne (Scalar.extui (Scalar.cmpi .eq a b) : BitVec 32) 0#32 = 1#1 → Scalar.cmpi .ne (Scalar.extui (Scalar.cmpi .ne a b) : BitVec 32) 0#32 = 1#1 := by
    intro a b h
    by_cases hab : a = b
    · exact absurd (by subst hab; simp [Scalar.cmpi, Scalar.extui, IntOp.cmpi]) h
    · have hb : (a != b) = true := by simp [hab]
      show BitVec.ofBool (BitVec.setWidth 32 (BitVec.ofBool (a != b)) != 0#32) = 1#1
      rw [hb]; rfl
  exact key _ _ h

theorem not_cond3_of_cond2 (i : grid0.Coords) (v13 v17 v21 v25 v29 v33 v37 v43 v47 v51 v55 v59 v63 v67 : BitVec 32)
    (h : k0_cond2 i v13 v17 v21 v25 v29 v33 v37 v43 v47 v51 v55 v59 v63 v67 = 1#1) : ¬ k0_cond3 i v13 v17 v21 v25 v29 v33 v37 v43 v47 v51 v55 v59 v63 v67 = 1#1 := by
  have key : ∀ a b : BitVec 32, Scalar.cmpi .ne (Scalar.extui (Scalar.cmpi .eq a b) : BitVec 32) 0#32 = 1#1 → ¬ Scalar.cmpi .ne (Scalar.extui (Scalar.cmpi .ne a b) : BitVec 32) 0#32 = 1#1 := by
    intro a b h
    by_cases hab : a = b
    · subst hab; simp [Scalar.cmpi, Scalar.extui, IntOp.cmpi]
    · have hb : (a == b) = false := by simp [hab]
      change BitVec.ofBool (BitVec.setWidth 32 (BitVec.ofBool (a == b)) != 0#32) = 1#1 at h
      rw [hb] at h
      exact absurd h (by decide)
  exact key _ _ h

set_option maxHeartbeats 40000000 in
theorem part136_value (c : Dev nD) (i : grid0.Coords) (x0 : Vec F S32x65536 .fp8e4m3) (x1 : Vec F S32x512 .f32) (x2 : Vec F S32x32768 .bf16) (x3 : Vec F S8x65536 .f32) (xt : TbBuf (F := F) c arg1) (f6 : BufTy.Contents (Elt F) arg6.view.ty) (f8 : BufTy.Contents (Elt F) arg8.view.ty) (f9 : BufTy.Contents (Elt F) arg9.view.ty) (f11 : BufTy.Contents (Elt F) arg11.view.ty) (f14 : BufTy.Contents (Elt F) arg14.view.ty) (f15 : BufTy.Contents (Elt F) arg15.view.ty) (f16 : BufTy.Contents (Elt F) arg16.view.ty) (arg0 v40 c32 : BitVec 32) (E : Set ℕ) (K : _ → sProp 𝕄) :
    iprop(ResV arg1 arg2 harg2 arg3 harg3 arg4 harg4 arg5 harg5 arg6 arg7 arg8 arg9 arg10 arg11 arg12 arg13 arg14 arg15 arg16 c x0 x1 x2 x3 xt f6 f8 f9 f11 f14 f15 f16 ∗ (∀ r, (∃ f6' f8' f16', ⌜OkB (v := arg6.view) (fun b => rowCodes (dBuf arg2 arg4 arg14 arg15 (harg2.unread x0) (harg4.unread x2) f14 f15 b)) 512 f6' ∧ OkB (v := arg8.view) (fun b => colB i (arg1.view.read (Elt F) xt) (dBuf arg2 arg4 arg14 arg15 (harg2.unread x0) (harg4.unread x2) f14 f15 b) (arg11.view.read (Elt F) f11) b) 512 f8' ∧ OkM (v := arg16.view) (fun b => dBuf arg2 arg4 arg14 arg15 (harg2.unread x0) (harg4.unread x2) f14 f15 b) 512 f16'⌝ ∗ ResV arg1 arg2 harg2 arg3 harg3 arg4 harg4 arg5 harg5 arg6 arg7 arg8 arg9 arg10 arg11 arg12 arg13 arg14 arg15 arg16 c x0 x1 x2 x3 xt f6' f8' f9 f11 f14 f15 f16') -∗ K r))
      ⊢ wp frame (wpE (defs₀ (F := F)) Variants.none c none) E (k0_part136 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 (Scalar.muli (BitVec.ofNat 32 (i 0).val) 32#32) lanes (tw (arg1.view.read (Elt F) xt) 1) (tw (arg1.view.read (Elt F) xt) 2) (tw (arg1.view.read (Elt F) xt) 3) (tw (arg1.view.read (Elt F) xt) 4) (tw (arg1.view.read (Elt F) xt) 5) (tw (arg1.view.read (Elt F) xt) 6) (tw (arg1.view.read (Elt F) xt) 7) v40 c32) K := by
  rw [k0_part136_eq_skeleton]; unfold k0_part136_skel ResV
  iintro ⟨⟨H0, H1, H2, H3, H4, ⟨%f7, H5⟩, H6, H7, ⟨%f10, H8⟩, HS0, ⟨%f12, HS1⟩, ⟨%f13, HS2⟩, HS3, HS4, HS5, HT⟩, Hk⟩
  have hz6_32 : OkB (v := arg6.view) (fun b => rowCodes (dBuf arg2 arg4 arg14 arg15 (harg2.unread x0) (harg4.unread x2) f14 f15 b)) (32 * 0) f6 := OkB.zero _ _
  have hz8_32 : OkB (v := arg8.view) (fun b => colCodes (dBuf arg2 arg4 arg14 arg15 (harg2.unread x0) (harg4.unread x2) f14 f15 b) (rowB1 (row11 (arg11.view.read (Elt F) f11) b (eFirst i (tw (arg1.view.read (Elt F) xt) 1) (tw (arg1.view.read (Elt F) xt) 2) (tw (arg1.view.read (Elt F) xt) 3) (tw (arg1.view.read (Elt F) xt) 4) (tw (arg1.view.read (Elt F) xt) 5) (tw (arg1.view.read (Elt F) xt) 6) (tw (arg1.view.read (Elt F) xt) 7))))) (32 * 0) f8 := OkB.zero _ _
  have hz16_32 : (lanes : IVec S32x128 32) = lanes → OkM (v := arg16.view) (fun b => dBuf arg2 arg4 arg14 arg15 (harg2.unread x0) (harg4.unread x2) f14 f15 b) (32 * 0) f16 := fun _ => OkM.zero _ _
  have hz6_2 : OkB (v := arg6.view) (fun b => rowCodes (dBuf arg2 arg4 arg14 arg15 (harg2.unread x0) (harg4.unread x2) f14 f15 b)) (2 * 0) f6 := OkB.zero _ _
  have hz8_2 : OkB (v := arg8.view) (fun b => colCodes (dBuf arg2 arg4 arg14 arg15 (harg2.unread x0) (harg4.unread x2) f14 f15 b) (mixInv (k0_pay613 (Scalar.muli (BitVec.ofNat 32 (i 0).val) 32#32)) (arg1.view.read (Elt F) xt) (arg11.view.read (Elt F) f11) b)) (2 * 0) f8 := OkB.zero _ _
  have hz16_2 : (lanes : IVec S32x128 32) = lanes → OkM (v := arg16.view) (fun b => dBuf arg2 arg4 arg14 arg15 (harg2.unread x0) (harg4.unread x2) f14 f15 b) (2 * 0) f16 := fun _ => OkM.zero _ _
  sl_exec (disch := exact chk1_all ..)
  split
  · rename_i hc2
    have hc3 := not_cond3_of_cond2 _ _ _ _ _ _ _ _ _ _ _ _ _ _ _ hc2
    sl_exec
    sl_step
    iapply Hk
    iexists _, _, _
    isplitr
    swap
    · isplitl [H0]
      · iexact H0
      isplitl [H1]
      · iexact H1
      isplitl [H2]
      · iexact H2
      isplitl [H3]
      · iexact H3
      isplitl [H4]
      · iexact H4
      isplitl [H5]
      · iexists _; iexact H5
      isplitl [H6]
      · iexact H6
      isplitl [H7]
      · iexact H7
      isplitl [H8]
      · iexists _; iexact H8
      isplitl [HS0]
      · iexact HS0
      isplitl [HS1]
      · iexists _; iexact HS1
      isplitl [HS2]
      · iexists _; iexact HS2
      isplitl [HS3]
      · iexact HS3
      isplitl [HS4]
      · iexact HS4
      isplitl [HS5]
      · iexact HS5
      iexact HT
    ipureintro
    have hw1 : part136_value.sl.r arg1 c xt = tw (arg1.view.read (Elt F) xt) 1 := load1 _ _ _ _ 1 rfl
    have hw2 : part136_value.sl.r_1 arg1 c xt = tw (arg1.view.read (Elt F) xt) 2 := load1 _ _ _ _ 2 rfl
    have hw3 : part136_value.sl.r_2 arg1 c xt = tw (arg1.view.read (Elt F) xt) 3 := load1 _ _ _ _ 3 rfl
    have hw4 : part136_value.sl.r_3 arg1 c xt = tw (arg1.view.read (Elt F) xt) 4 := load1 _ _ _ _ 4 rfl
    have hw5 : part136_value.sl.r_4 arg1 c xt = tw (arg1.view.read (Elt F) xt) 5 := load1 _ _ _ _ 5 rfl
    have hw6 : part136_value.sl.r_5 arg1 c xt = tw (arg1.view.read (Elt F) xt) 6 := load1 _ _ _ _ 6 rfl
    have hw7 : part136_value.sl.r_6 arg1 c xt = tw (arg1.view.read (Elt F) xt) 7 := load1 _ _ _ _ 7 rfl
    rw [hw1, hw2, hw3, hw4, hw5, hw6, hw7] at hc2
    have ht : 32 * Scf.trips k0_t2_loop.lb k0_t2_loop.ub k0_t2_loop.st = 512 := by decide +kernel
    refine ⟨?_, fun y hy => ?_, ?_⟩
    · rw [← ht]; exact hL5
    · rw [← ht] at hy
      exact (hL7 y hy).trans (congrFun (if_pos hc2).symm _)
    · rw [← ht]; exact hL10 rfl

  · rename_i hc2
    have hc3 := cond3_of_not_cond2 _ _ _ _ _ _ _ _ _ _ _ _ _ _ _ hc2
    sl_exec
    sl_step
    iapply Hk
    iexists _, _, _
    isplitr
    swap
    · isplitl [H0]
      · iexact H0
      isplitl [H1]
      · iexact H1
      isplitl [H2]
      · iexact H2
      isplitl [H3]
      · iexact H3
      isplitl [H4]
      · iexact H4
      isplitl [H5]
      · iexists _; iexact H5
      isplitl [H6]
      · iexact H6
      isplitl [H7]
      · iexact H7
      isplitl [H8]
      · iexists _; iexact H8
      isplitl [HS0]
      · iexact HS0
      isplitl [HS1]
      · iexists _; iexact HS1
      isplitl [HS2]
      · iexists _; iexact HS2
      isplitl [HS3]
      · iexact HS3
      isplitl [HS4]
      · iexact HS4
      isplitl [HS5]
      · iexact HS5
      iexact HT
    ipureintro
    have hw1 : part136_value.sl.r arg1 c xt = tw (arg1.view.read (Elt F) xt) 1 := load1 _ _ _ _ 1 rfl
    have hw2 : part136_value.sl.r_1 arg1 c xt = tw (arg1.view.read (Elt F) xt) 2 := load1 _ _ _ _ 2 rfl
    have hw3 : part136_value.sl.r_2 arg1 c xt = tw (arg1.view.read (Elt F) xt) 3 := load1 _ _ _ _ 3 rfl
    have hw4 : part136_value.sl.r_3 arg1 c xt = tw (arg1.view.read (Elt F) xt) 4 := load1 _ _ _ _ 4 rfl
    have hw5 : part136_value.sl.r_4 arg1 c xt = tw (arg1.view.read (Elt F) xt) 5 := load1 _ _ _ _ 5 rfl
    have hw6 : part136_value.sl.r_5 arg1 c xt = tw (arg1.view.read (Elt F) xt) 6 := load1 _ _ _ _ 6 rfl
    have hw7 : part136_value.sl.r_6 arg1 c xt = tw (arg1.view.read (Elt F) xt) 7 := load1 _ _ _ _ 7 rfl
    rw [hw1, hw2, hw3, hw4, hw5, hw6, hw7] at hc2
    have ht : 2 * Scf.trips k0_t3_loop.lb k0_t3_loop.ub k0_t3_loop.st = 512 := by decide +kernel
    refine ⟨?_, fun y hy => ?_, ?_⟩
    · rw [← ht]; exact hL6
    · rw [← ht] at hy
      exact (hL8 y hy).trans (congrFun (if_neg hc2).symm _)
    · rw [← ht]; exact hL11 rfl

end Cert.Proof.KernelIdeal

end
-- ==== Proof.Spec.lean ====
/- What the body leaves in its outputs and its scratch, as functions of the blocks it reads. -/
module

public import proofs.«01_k».proof.Proof.Loop1Value
public import proofs.«01_k».proof.Proof.Loop2Value
public import proofs.«01_k».proof.Proof.Loop3Value
public import proofs.«01_k».proof.Proof.RunValue2

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The transposed scales, as the body keeps them: column `l` of row `b` is row `l` of the scales of gate block `b`, or, from
column 32 on, of up block `b`. -/
def stOf (x1 : Vec F S32x512 .f32) : S256x128.Idx → Elt F .f32 :=
  fun y => k0_pay611 x1 (ix2 (m := 256) (n := 64) (y 0) ⟨(y 1).val % 64, Nat.mod_lt _ (by decide)⟩)

/-- Only the first 64 lanes of a row of scales are read. -/
theorem pay503_congr (cg cu : Vec F S32x128 .fp8e4m3) {st st' : Vec F S1x128 .f32} (mk : Vec F S32x128 .i32)
    (h : ∀ l : Fin 128, l.val < 64 → st (ix2 (m := 1) (n := 128) 0 l) = st' (ix2 (m := 1) (n := 128) 0 l)) : k0_pay503 cg cu st mk = k0_pay503 cg cu st' mk := by
  have hb : ∀ (s : Vec F S1x128 .f32) (k : S32x128.Idx), broadcastTo S32x128 (shapeCast S1x128 s shapeCasts_S1x128_S1x128) broadcasts_S1x128_S32x128 k = s (ix2 (m := 1) (n := 128) 0 (k 1)) := by
    intro s k
    rw [shapeCast_self]
    exact broadcastTo_apply s _ k (ix2 (m := 1) (n := 128) 0 (k 1)) (Fin.forall_fin_two.mpr ⟨rfl, rfl⟩)
  unfold k0_pay503
  refine congrArg (fun v => matmul dot_S32x64_S64x256_S32x256_1_0_0_1_n_n none v _ _) ?_
  funext j
  have hk : ∀ a : Fin 2, ((ix2 (m := 32) (n := 128) (j 0) ⟨(j 1).val, Nat.lt_of_lt_of_le (j 1).isLt (by decide)⟩ : S32x128.Idx) a).val = (![0, 0] : Fin 2 → ℕ) a + (j a).val :=
    Fin.forall_fin_two.mpr ⟨(Nat.zero_add _).symm, (Nat.zero_add _).symm⟩
  rw [extractStridedSlice_apply _ _ _ j _ hk, extractStridedSlice_apply _ _ _ j _ hk]
  have hz : ∀ (P : S32x128.Idx) (z z' : S32x128.Idx → F .f32), z P = z' P →
      (truncf .bf16 (select (cmpi .ne mk (broadcast S32x128 0#32)) z (broadcast S32x128 (Scalar.ofBits .f32 0x00000000#32 : F .f32))) bitsLt_bf16_f32 : FVec F S32x128 .bf16) P
      = truncf .bf16 (select (cmpi .ne mk (broadcast S32x128 0#32)) z' (broadcast S32x128 (Scalar.ofBits .f32 0x00000000#32 : F .f32))) bitsLt_bf16_f32 P := by
    intro P z z' he
    unfold truncf select
    rw [he]
  refine hz _ _ _ ?_
  rw [hb, hb]
  exact h _ (j 1).isLt

theorem dBlk_congr (A2 : S32x65536.Idx → Elt F .fp8e4m3) (A4 : S32x32768.Idx → Elt F .bf16) {A14 A14' : S256x128.Idx → Elt F .f32} (A15 : S32x128.Idx → Elt F .i32)
    (h : ∀ (a : Fin 256) (l : Fin 128), l.val < 64 → A14 (ix2 a l) = A14' (ix2 a l)) (b : ℕ) : dBlk A2 A4 A14 A15 b = dBlk A2 A4 A14' A15 b := by
  have hp : ∀ c cg cu, k0_pay503 cg cu (row14 A14 c) A15 = k0_pay503 cg cu (row14 A14' c) A15 := fun c cg cu => pay503_congr cg cu A15 fun l hl => h _ l hl
  unfold dBlk dGate dUp k0_pay508 k0_pay507 k0_pay506 k0_pay505 k0_pay504
  simp only [hp]

/-- Block `b` of the gradient of a chunk. -/
def dOf (x0 : Vec F S32x65536 .fp8e4m3) (x1 : Vec F S32x512 .f32) (x2 : Vec F S32x32768 .bf16) (b : ℕ) : FVec F S32x128 .f32 :=
  dBlk x0 x2 (stOf x1) k0_pay610 b

/-- The row codes of a chunk, -/
def rcOf (x0 : Vec F S32x65536 .fp8e4m3) (x1 : Vec F S32x512 .f32) (x2 : Vec F S32x32768 .bf16) : Vec F S32x65536 .fp8e5m2 :=
  fun y => rowCodes (dOf x0 x1 x2 ((y 1).val / 128)) (ix2 (m := 32) (n := 128) (y 0) ⟨(y 1).val % 128, Nat.mod_lt _ (by decide)⟩)

/-- its row maxima, -/
def rmOf (x0 : Vec F S32x65536 .fp8e4m3) (x1 : Vec F S32x512 .f32) (x2 : Vec F S32x32768 .bf16) : Vec F S32x512 .f32 :=
  fun y => rowMax (dOf x0 x1 x2 (y 1).val) (ix2 (m := 32) (n := 1) (y 0) 0)

/-- its row scales, -/
def rsOf (x0 : Vec F S32x65536 .fp8e4m3) (x1 : Vec F S32x512 .f32) (x2 : Vec F S32x32768 .bf16) : Vec F S32x512 .f32 :=
  scaleV (s := S32x512) (rmOf x0 x1 x2)

/-- the column scales, -/
def csOf (x3 : Vec F S8x65536 .f32) : Vec F S8x65536 .f32 :=
  fun y => scaleV (blk5 x3 ((y 1).val / 128)) (ix2 (m := 8) (n := 128) (y 0) ⟨(y 1).val % 128, Nat.mod_lt _ (by decide)⟩)

/-- their reciprocals, block by block, -/
def icOf (x3 : Vec F S8x65536 .f32) : Vec F S512x8x128 .f32 :=
  fun y => invV (blk5 x3 (y 0).val) (ix2 (m := 8) (n := 128) (y 1) (y 2))

/-- and the column codes of a chunk. -/
def ccOf (i : grid0.Coords) (T : S9.Idx → BitVec 32) (x0 : Vec F S32x65536 .fp8e4m3) (x1 : Vec F S32x512 .f32) (x2 : Vec F S32x32768 .bf16) (x3 : Vec F S8x65536 .f32) : Vec F S32x65536 .fp8e5m2 :=
  fun y => colB i T (dOf x0 x1 x2 ((y 1).val / 128)) (icOf x3) ((y 1).val / 128) (ix2 (m := 32) (n := 128) (y 0) ⟨(y 1).val % 128, Nat.mod_lt _ (by decide)⟩)

theorem OkB.all {v : View sig .tc .vmem S32x65536 .fp8e5m2} {B : ℕ → FVec F S32x128 .fp8e5m2} {f : v.ty.Contents (Elt F)} (h : OkB B 512 f) :
    v.read (Elt F) f = fun y => B ((y 1).val / 128) (ix2 (m := 32) (n := 128) (y 0) ⟨(y 1).val % 128, Nat.mod_lt _ (by decide)⟩) := by
  funext y
  refine h y ?_
  have hy1 : (y 1).val < 65536 := (y 1).isLt
  unfold key
  split <;> omega

theorem OkM.all {v : View sig .tc .vmem S32x512 .f32} {D : ℕ → FVec F S32x128 .f32} {f : v.ty.Contents (Elt F)} (h : OkM D 512 f) :
    v.read (Elt F) f = fun y => rowMax (D (y 1).val) (ix2 (m := 32) (n := 1) (y 0) 0) := by
  funext y
  refine h y ?_
  have hy1 : (y 1).val < 512 := (y 1).isLt
  unfold key
  split <;> omega

theorem OkC.all {v : View sig .tc .vmem S8x65536 .f32} {A : Vec F S8x65536 .f32} {f : v.ty.Contents (Elt F)} (h : OkC A 512 f) : v.read (Elt F) f = csOf A := by
  funext y
  refine h y ?_
  have hy1 : (y 1).val < 65536 := (y 1).isLt
  omega

theorem OkI.all {v : View sig .tc .vmem S512x8x128 .f32} {A : Vec F S8x65536 .f32} {f : v.ty.Contents (Elt F)} (h : OkI A 512 f) : v.read (Elt F) f = icOf A := by
  funext y
  exact h y (y 0).isLt

/-- The row scales the body stores are the scales of the row maxima. -/
theorem pay1_eq (X : Vec F S32x512 .f32) : k0_pay1 (k0_pay618 X) (k0_pay619 X) (k0_pay620 X) 127#32 = scaleV (s := S32x512) X := rfl

end Cert.Proof.KernelIdeal

end
-- ==== Proof.GradIdeal.lean ====
/- The gradient of a chunk over the extended reals: the product with the diagonal of scales is the product entry by entry, the sigmoid through the power of two is the logistic function, so each entry is the derivative written out. -/
module

public import proofs.«01_k».proof.Proof.ExpoIdeal
public import proofs.«01_k».proof.Proof.Spec
public import Idealize.ShloMosaic.Lib.Pointwise.Contract
public import Idealize.ShloMosaic.PureOps.Ideal.Laws

@[expose] public section

set_option maxRecDepth 16384

noncomputable section

namespace Cert.Proof.KernelIdeal

open Cert.KernelIdeal Cert.KernelIdeal.Gen
open Idealize.ShloMosaic

/-! ### The derivative -/

/-- The derivative with respect to the gate. -/
def dgE (dh g u : EReal) : EReal := ((dh * u) * Ideal.logistic g) * ((Ideal.ofBits .f32 0x3F800000#32 + g) - g * Ideal.logistic g)

/-- The derivative with respect to the up half. -/
def duE (dh g : EReal) : EReal := (dh * g) * Ideal.logistic g

/-- Column `j` of a row of the gradient: `C`, `S` and `H` are the row's codes, scales and incoming gradient. -/
def gradE (C S H : ℕ → EReal) (j : ℕ) : EReal :=
  if j < 32768 then dgE (H j) (C j * S (j / 128)) (C (32768 + j) * S ((32768 + j) / 128))
  else duE (H (j - 32768)) (C (j - 32768) * S ((j - 32768) / 128))

/-- The largest magnitude of 128 values. -/
def mxE (f : ℕ → EReal) : EReal := (Finset.univ : Finset (Fin 128)).fold max (Ideal.ofBits .f32 0xFF800000#32) (fun c => max (f c.val) (-(f c.val)))

/-! ### The sigmoid -/

theorem exp2_neg (g : EReal) : Ideal.exp2 (g * ((-((Real.log 2)⁻¹) : ℝ) : EReal)) = Ideal.exp (-g) := by
  have hl2 : (0 : ℝ) < Real.log 2 := Real.log_pos (by norm_num)
  have hn : (-((Real.log 2)⁻¹) : ℝ) < 0 := neg_lt_zero.mpr (inv_pos.mpr hl2)
  induction g using EReal.rec with
  | bot => rw [EReal.bot_mul_coe_of_neg hn, EReal.neg_bot]; rfl
  | top => rw [EReal.top_mul_coe_of_neg hn, EReal.neg_top]; rfl
  | coe r =>
    rw [← EReal.coe_mul, Ideal.exp2_coe, ← EReal.coe_neg]
    show ((Real.rpow 2 _ : ℝ) : EReal) = ((Real.exp (-r) : ℝ) : EReal)
    congr 1
    show (2 : ℝ) ^ (r * -(Real.log 2)⁻¹) = Real.exp (-r)
    rw [Real.rpow_def_of_pos (by norm_num)]
    congr 1
    field_simp

theorem sigmoid_eq (g : EReal) :
    Ideal.div (Ideal.ofBits .f32 0x3F800000#32) (Ideal.ofBits .f32 0x3F800000#32 + Ideal.exp2 (g * ((-((Real.log 2)⁻¹) : ℝ) : EReal))) = Ideal.logistic g := by
  rw [exp2_neg, one_eq, EReal.coe_one]
  rfl

/-! ### The mask and the product with the diagonal -/

theorem diag_mask : ∀ (r : Fin 32) (l : Fin 128), k0_pay610 (ix2 (m := 32) (n := 128) r l) = if l.val % 32 = r.val then 1#32 else 0#32 := by
  unfold k0_pay610
  dsimp only
  rw [shapeCast_self]
  decide +kernel

variable (cg cu : Vec Ideal S32x128 .fp8e4m3) (st : Vec Ideal S1x128 .f32)

/-- The masked scales of a block: the diagonal. -/
def diagV : FVec Ideal S32x64 .bf16 :=
  extractStridedSlice S32x64 ![0, 0] (truncf .bf16 (select (cmpi .ne k0_pay610 (broadcast S32x128 0#32)) (broadcastTo S32x128 (shapeCast S1x128 st shapeCasts_S1x128_S1x128) broadcasts_S1x128_S32x128)
    (broadcast S32x128 (Scalar.ofBits .f32 0x00000000#32 : Ideal .f32))) bitsLt_bf16_f32 : FVec Ideal S32x128 .bf16) slices_S32x128_o0_0_S32x64

theorem diagV_apply (r : Fin 32) (l : Fin 64) :
    diagV st (ix2 r l) = if l.val % 32 = r.val then st (ix2 (m := 1) (n := 128) 0 ⟨l.val, by omega⟩) else 0 := by
  unfold diagV
  rw [extractStridedSlice_apply _ _ _ (ix2 r l) (ix2 (m := 32) (n := 128) r ⟨l.val, by omega⟩) (Fin.forall_fin_two.mpr ⟨(Nat.zero_add _).symm, (Nat.zero_add _).symm⟩)]
  rw [shapeCast_self]
  show Scalar.select (IntOp.cmpi .ne (k0_pay610 _) 0#32) (broadcastTo S32x128 st broadcasts_S1x128_S32x128 _) (Ideal.ofBits .f32 0x00000000#32) = _
  rw [diag_mask, broadcastTo_apply st _ _ (ix2 (m := 1) (n := 128) 0 ⟨l.val, by omega⟩) (Fin.forall_fin_two.mpr ⟨rfl, rfl⟩), zero_eq]
  by_cases h : l.val % 32 = r.val
  · simp only [if_pos h]
    rfl
  · simp only [if_neg h]
    rfl

/-- The codes of a gate block and of an up block, one above the other and side by side. -/
def quadV : FVec Ideal S64x256 .fp8e4m3 :=
  concatenate S64x256 0 [⟨S32x256, concatenate S32x256 1 [⟨S32x128, cg⟩, ⟨S32x128, broadcast S32x128 (Scalar.ofBits .fp8e4m3 0x00#8 : Ideal .fp8e4m3)⟩] concatenates_S32x128_S32x128_S32x256_d1⟩,
    ⟨S32x256, concatenate S32x256 1 [⟨S32x128, broadcast S32x128 (Scalar.ofBits .fp8e4m3 0x00#8 : Ideal .fp8e4m3)⟩, ⟨S32x128, cu⟩] concatenates_S32x128_S32x128_S32x256_d1⟩] concatenates_S32x256_S32x256_S64x256_d0

theorem quadV_gate (l : Fin 32) (c : Fin 128) : quadV cg cu (ix2 (m := 64) (n := 256) ⟨l.val, by omega⟩ ⟨c.val, by omega⟩) = cg (ix2 l c) := by
  unfold quadV
  rw [concatenate_pair_apply_left (s₁ := S32x256) (s₂ := S32x256) (t := S64x256) 0 _ _ _ _ rfl (ix2 (m := 32) (n := 256) l ⟨c.val, by omega⟩) (Fin.forall_fin_two.mpr ⟨rfl, rfl⟩)]
  exact concatenate_pair_apply_left (s₁ := S32x128) (s₂ := S32x128) (t := S32x256) 1 _ _ _ _ rfl (ix2 (m := 32) (n := 128) l c) (Fin.forall_fin_two.mpr ⟨rfl, rfl⟩)

theorem quadV_up (l : Fin 32) (c : Fin 128) : quadV cg cu (ix2 (m := 64) (n := 256) ⟨32 + l.val, by omega⟩ ⟨128 + c.val, by omega⟩) = cu (ix2 l c) := by
  unfold quadV
  rw [concatenate_pair_apply_right (s₁ := S32x256) (s₂ := S32x256) (t := S64x256) 0 _ _ _ _ rfl rfl (ix2 (m := 32) (n := 256) l ⟨128 + c.val, by omega⟩)
    (Fin.forall_fin_two.mpr ⟨fun h => absurd rfl h, fun _ => rfl⟩) (Nat.add_comm _ _)]
  exact concatenate_pair_apply_right (s₁ := S32x128) (s₂ := S32x128) (t := S32x256) 1 _ _ _ _ rfl rfl (ix2 (m := 32) (n := 128) l c)
    (Fin.forall_fin_two.mpr ⟨fun _ => rfl, fun h => absurd rfl h⟩) (Nat.add_comm _ _)

theorem code_zero : Ideal.ofBits .fp8e4m3 0x00#8 = 0 := by
  show Ideal.e4m3fn (0x00#8) = 0
  simp [Ideal.e4m3fn]

theorem quadV_right (l : Fin 32) (c : Fin 128) : quadV cg cu (ix2 (m := 64) (n := 256) ⟨l.val, by omega⟩ ⟨128 + c.val, by omega⟩) = 0 := by
  unfold quadV
  rw [concatenate_pair_apply_left (s₁ := S32x256) (s₂ := S32x256) (t := S64x256) 0 _ _ _ _ rfl (ix2 (m := 32) (n := 256) l ⟨128 + c.val, by omega⟩) (Fin.forall_fin_two.mpr ⟨rfl, rfl⟩)]
  exact (concatenate_pair_apply_right (s₁ := S32x128) (s₂ := S32x128) (t := S32x256) 1 _ _ _ _ rfl rfl (ix2 (m := 32) (n := 128) l c)
    (Fin.forall_fin_two.mpr ⟨fun _ => rfl, fun h => absurd rfl h⟩) (Nat.add_comm _ _)).trans code_zero

theorem quadV_left (l : Fin 32) (c : Fin 128) : quadV cg cu (ix2 (m := 64) (n := 256) ⟨32 + l.val, by omega⟩ ⟨c.val, by omega⟩) = 0 := by
  unfold quadV
  rw [concatenate_pair_apply_right (s₁ := S32x256) (s₂ := S32x256) (t := S64x256) 0 _ _ _ _ rfl rfl (ix2 (m := 32) (n := 256) l ⟨c.val, by omega⟩)
    (Fin.forall_fin_two.mpr ⟨fun h => absurd rfl h, fun _ => rfl⟩) (Nat.add_comm _ _)]
  exact (concatenate_pair_apply_left (s₁ := S32x128) (s₂ := S32x128) (t := S32x256) 1 _ _ _ _ rfl (ix2 (m := 32) (n := 128) l c) (Fin.forall_fin_two.mpr ⟨rfl, rfl⟩)).trans code_zero

theorem pay503_apply (r : Fin 32) (c : Fin 256) :
    k0_pay503 cg cu st k0_pay610 (ix2 r c) = ∑ k : Fin 64, diagV st (ix2 r k) * quadV cg cu (ix2 k c) := by
  show Ideal.matmul dot_S32x64_S64x256_S32x256_1_0_0_1_n_n (diagV st) (quadV cg cu) (constant (F := Ideal) S32x256 .f32 0x00000000#32) (ix2 r c) = _
  rw [Ideal.matmul_apply₁_of _ (a := 1) rfl (K := 64) rfl _ _ _ _ (fun k => ix2 r k) (fun k => ix2 k c) (fun k => ?_) (fun k => ?_)]
  · show Ideal.ofBits .f32 0x00000000#32 + _ = _
    rw [zero_eq, zero_add]
  · exact ix2_ext rfl rfl
  · exact ix2_ext rfl rfl

/-- The gate of a block is each code times its row's scale, -/
theorem pay504_apply (r : Fin 32) (c : Fin 128) :
    k0_pay504 cg cu st k0_pay610 (ix2 r c) = st (ix2 (m := 1) (n := 128) 0 ⟨r.val, by omega⟩) * cg (ix2 r c) := by
  unfold k0_pay504
  rw [extractStridedSlice_apply _ _ _ (ix2 r c) (ix2 (m := 32) (n := 256) r ⟨c.val, by omega⟩) (Fin.forall_fin_two.mpr ⟨(Nat.zero_add _).symm, (Nat.zero_add _).symm⟩)]
  rw [pay503_apply, Finset.sum_eq_single (⟨r.val, by omega⟩ : Fin 64)]
  · rw [diagV_apply, if_pos (Nat.mod_eq_of_lt r.isLt), quadV_gate]
  · intro k _ hk
    rw [diagV_apply]
    by_cases h : k.val % 32 = r.val
    · have hk32 : 32 ≤ k.val := by
        by_contra hlt
        exact hk (Fin.ext (by simpa [Nat.mod_eq_of_lt (by omega : k.val < 32)] using h))
      have hq := quadV_left cg cu ⟨k.val - 32, by omega⟩ c
      have he : (⟨32 + (k.val - 32), by omega⟩ : Fin 64) = k := Fin.ext (by show 32 + (k.val - 32) = k.val; omega)
      dsimp only at hq
      rw [he] at hq
      rw [hq, mul_zero]
    · rw [if_neg h, zero_mul]
  · intro h
    exact absurd (Finset.mem_univ _) h

/-- and so is the up half, by the scales of the up block. -/
theorem pay505_apply (r : Fin 32) (c : Fin 128) :
    k0_pay505 cg cu st k0_pay610 (ix2 r c) = st (ix2 (m := 1) (n := 128) 0 ⟨32 + r.val, by omega⟩) * cu (ix2 r c) := by
  unfold k0_pay505
  rw [extractStridedSlice_apply _ _ _ (ix2 r c) (ix2 (m := 32) (n := 256) r ⟨128 + c.val, by omega⟩) (Fin.forall_fin_two.mpr ⟨(Nat.zero_add _).symm, rfl⟩)]
  rw [pay503_apply, Finset.sum_eq_single (⟨32 + r.val, by omega⟩ : Fin 64)]
  · rw [diagV_apply, if_pos (by show (32 + r.val) % 32 = r.val; omega), quadV_up]
  · intro k _ hk
    rw [diagV_apply]
    by_cases h : k.val % 32 = r.val
    · have hk32 : k.val < 32 := by
        by_contra hlt
        exact hk (Fin.ext (by show k.val = 32 + r.val; omega))
      have hq := quadV_right cg cu ⟨k.val, hk32⟩ c
      dsimp only at hq
      rw [hq, mul_zero]
    · rw [if_neg h, zero_mul]
  · intro h
    exact absurd (Finset.mem_univ _) h

theorem pay506_apply (mk : Vec Ideal S32x128 .i32) (j : S32x128.Idx) : k0_pay506 cg cu st mk j = Ideal.logistic (k0_pay504 cg cu st mk j) :=
  sigmoid_eq _

/-! ### The scales, transposed -/

theorem stOf_gate (x1 : Vec Ideal S32x512 .f32) (b : Fin 256) (r : Fin 32) : stOf x1 (ix2 (m := 256) (n := 128) b ⟨r.val, by omega⟩) = x1 (ix2 (m := 32) (n := 512) r ⟨b.val, by omega⟩) := by
  unfold stOf k0_pay611
  dsimp only
  rw [shapeCast_self]
  refine (transpose_apply (s := S64x256) (t := S256x64) [1, 0] _ _ _ (ix2 (m := 64) (n := 256) ⟨r.val, by omega⟩ b) ?_).trans ?_
  · exact Fin.forall_fin_two.mpr ⟨rfl, (Nat.mod_eq_of_lt (by omega : r.val < 64)).symm⟩
  rw [concatenate_pair_apply_left (s₁ := S32x256) (s₂ := S32x256) (t := S64x256) 0 _ _ _ _ rfl (ix2 (m := 32) (n := 256) r b) (Fin.forall_fin_two.mpr ⟨rfl, rfl⟩)]
  exact extractStridedSlice_apply _ _ _ _ _ (Fin.forall_fin_two.mpr ⟨(Nat.zero_add _).symm, (Nat.zero_add _).symm⟩)

theorem stOf_up (x1 : Vec Ideal S32x512 .f32) (b : Fin 256) (r : Fin 32) : stOf x1 (ix2 (m := 256) (n := 128) b ⟨32 + r.val, by omega⟩) = x1 (ix2 (m := 32) (n := 512) r ⟨256 + b.val, by omega⟩) := by
  unfold stOf k0_pay611
  dsimp only
  rw [shapeCast_self]
  refine (transpose_apply (s := S64x256) (t := S256x64) [1, 0] _ _ _ (ix2 (m := 64) (n := 256) ⟨32 + r.val, by omega⟩ b) ?_).trans ?_
  · exact Fin.forall_fin_two.mpr ⟨rfl, (Nat.mod_eq_of_lt (by omega : 32 + r.val < 64)).symm⟩
  rw [concatenate_pair_apply_right (s₁ := S32x256) (s₂ := S32x256) (t := S64x256) 0 _ _ _ _ rfl rfl (ix2 (m := 32) (n := 256) r b) (Fin.forall_fin_two.mpr ⟨fun h => absurd rfl h, fun _ => rfl⟩) (Nat.add_comm _ _)]
  exact extractStridedSlice_apply _ _ _ _ _ (Fin.forall_fin_two.mpr ⟨(Nat.zero_add _).symm, rfl⟩)

/-! ### A chunk -/

/-- The index of a rank-one shape with the given coordinate. -/
def ix1 {m : ℕ} (a : Fin m) : (⟨1, ![m]⟩ : Shape).Idx := fun i => Fin.cases (motive := fun i => Fin (![m] i)) a (fun z => z.elim0) i

/-- A row of an array, at every natural number. -/
def rowN {m n : ℕ} (hn : 0 < n) (A : (⟨2, ![m, n]⟩ : Shape).Idx → EReal) (r : Fin m) (j : ℕ) : EReal := A (ix2 r ⟨j % n, Nat.mod_lt _ hn⟩)

theorem dOf_apply (x0 : Vec Ideal S32x65536 .fp8e4m3) (x1 : Vec Ideal S32x512 .f32) (x2 : Vec Ideal S32x32768 .bf16) (b : ℕ) (hb : b < 512) (r : Fin 32) (c : Fin 128) :
    dOf x0 x1 x2 b (ix2 r c) = gradE (rowN (by decide) x0 r) (rowN (by decide) x1 r) (rowN (by decide) x2 r) (128 * b + c.val) := by
  have hG : ∀ (b' : ℕ) (hb' : b' < 256), k0_pay504 (blk2 x0 b') (blk2 x0 (256 + b')) (row14 (stOf x1) b') k0_pay610 (ix2 r c)
      = rowN (by decide) x0 r (128 * b' + c.val) * rowN (by decide) x1 r ((128 * b' + c.val) / 128) := by
    intro b' hb'
    rw [pay504_apply, mul_comm]
    have hs : row14 (stOf x1) b' (ix2 (m := 1) (n := 128) 0 ⟨r.val, by omega⟩) = x1 (ix2 (m := 32) (n := 512) r ⟨b', by omega⟩) := by
      rw [← stOf_gate x1 ⟨b', hb'⟩ r]
      exact congrArg (stOf x1) (ix2_ext (Nat.mod_eq_of_lt hb') rfl)
    rw [hs]
    refine congrArg₂ (· * ·) rfl (congrArg x1 (ix2_ext rfl ?_))
    show b' = (128 * b' + c.val) / 128 % 512
    omega
  have hU : ∀ (b' : ℕ) (hb' : b' < 256), k0_pay505 (blk2 x0 b') (blk2 x0 (256 + b')) (row14 (stOf x1) b') k0_pay610 (ix2 r c)
      = rowN (by decide) x0 r (32768 + (128 * b' + c.val)) * rowN (by decide) x1 r ((32768 + (128 * b' + c.val)) / 128) := by
    intro b' hb'
    rw [pay505_apply, mul_comm]
    have hs : row14 (stOf x1) b' (ix2 (m := 1) (n := 128) 0 ⟨32 + r.val, by omega⟩) = x1 (ix2 (m := 32) (n := 512) r ⟨256 + b', by omega⟩) := by
      rw [← stOf_up x1 ⟨b', hb'⟩ r]
      exact congrArg (stOf x1) (ix2_ext (Nat.mod_eq_of_lt hb') rfl)
    rw [hs]
    refine congrArg₂ (· * ·) (congrArg x0 (ix2_ext rfl ?_)) (congrArg x1 (ix2_ext rfl ?_))
    · show (128 * (256 + b') + c.val) % 65536 = (32768 + (128 * b' + c.val)) % 65536
      omega
    · show 256 + b' = (32768 + (128 * b' + c.val)) / 128 % 512
      omega
  unfold dOf dBlk gradE
  by_cases h : b < 256
  · rw [if_pos h, if_pos (by omega), ← hG b h, ← hU b h]
    show (((blk4 x2 b (ix2 r c) * k0_pay506 (blk2 x0 b) (blk2 x0 (256 + b)) (row14 (stOf x1) b) k0_pay610 (ix2 r c)) * k0_pay505 (blk2 x0 b) (blk2 x0 (256 + b)) (row14 (stOf x1) b) k0_pay610 (ix2 r c))
      * ((Ideal.ofBits .f32 0x3F800000#32 + k0_pay504 (blk2 x0 b) (blk2 x0 (256 + b)) (row14 (stOf x1) b) k0_pay610 (ix2 r c)) - k0_pay504 (blk2 x0 b) (blk2 x0 (256 + b)) (row14 (stOf x1) b) k0_pay610 (ix2 r c) * k0_pay506 (blk2 x0 b) (blk2 x0 (256 + b)) (row14 (stOf x1) b) k0_pay610 (ix2 r c)) : EReal) = _
    rw [pay506_apply]
    unfold dgE
    rw [mul_right_comm (blk4 x2 b (ix2 r c))]
    rfl
  · rw [if_neg h, if_neg (by omega), show 128 * b + c.val - 32768 = 128 * (b - 256) + c.val by omega, ← hG (b - 256) (by omega), show 256 + (b - 256) = b by omega]
    show ((blk4 x2 (b - 256) (ix2 r c) * k0_pay506 (blk2 x0 (b - 256)) (blk2 x0 b) (row14 (stOf x1) (b - 256)) k0_pay610 (ix2 r c)) * k0_pay504 (blk2 x0 (b - 256)) (blk2 x0 b) (row14 (stOf x1) (b - 256)) k0_pay610 (ix2 r c) : EReal) = _
    rw [pay506_apply]
    unfold duE
    rw [mul_right_comm (blk4 x2 (b - 256) (ix2 r c))]
    rfl

theorem rowMax_apply (d : FVec Ideal S32x128 .f32) (r : Fin 32) (f : ℕ → EReal) (hf : ∀ c : Fin 128, d (ix2 r c) = f c.val) : rowMax d (ix2 (m := 32) (n := 1) r 0) = mxE f := by
  unfold rowMax
  refine (shapeCast_apply _ _ _ (ix1 r : S32.Idx) ?_).trans ?_
  · show (Shape.rowMajorPi _ _).val = (Shape.rowMajorPi _ _).val
    simp only [Shape.rowMajorPi_succ_val]
    rfl
  refine (Ideal.multiReduction_maximumf_single (a := 1) (absf d) _ reduces_S32x128_S32 _ _ (ix1 r : S32.Idx)).trans ?_
  unfold mxE
  refine Finset.fold_congr fun c _ => ?_
  rw [← hf c]
  exact congrArg (fun z => max (d z) (-(d z))) (ix2_ext rfl rfl : reduces_S32x128_S32.lift (ix1 r : S32.Idx) c = ix2 r c)

/-- The row scale of a chunk, -/
theorem rsOf_apply (x0 : Vec Ideal S32x65536 .fp8e4m3) (x1 : Vec Ideal S32x512 .f32) (x2 : Vec Ideal S32x32768 .bf16) (r : Fin 32) (b : Fin 512) :
    rsOf x0 x1 x2 (ix2 r b) = Ideal.exp2 (eE (mxE fun c => gradE (rowN (by decide) x0 r) (rowN (by decide) x1 r) (rowN (by decide) x2 r) (128 * b.val + c))) := by
  unfold rsOf
  rw [scaleV_apply]
  exact congrArg (fun z => Ideal.exp2 (eE z)) (rowMax_apply _ _ (fun c => gradE (rowN (by decide) x0 r) (rowN (by decide) x1 r) (rowN (by decide) x2 r) (128 * b.val + c)) fun c => dOf_apply x0 x1 x2 b.val b.isLt r c)

/-- its row codes, -/
theorem rcOf_apply (x0 : Vec Ideal S32x65536 .fp8e4m3) (x1 : Vec Ideal S32x512 .f32) (x2 : Vec Ideal S32x32768 .bf16) (r : Fin 32) (j : Fin 65536) :
    rcOf x0 x1 x2 (ix2 r j) = codeE (gradE (rowN (by decide) x0 r) (rowN (by decide) x1 r) (rowN (by decide) x2 r) j.val
      * Ideal.exp2 (Ideal.ofBits .f32 0x00000000#32 - eE (mxE fun c => gradE (rowN (by decide) x0 r) (rowN (by decide) x1 r) (rowN (by decide) x2 r) (128 * (j.val / 128) + c)))) := by
  have hb : j.val / 128 < 512 := by omega
  show codeV (mulf (dOf x0 x1 x2 (j.val / 128)) (broadcastTo S32x128 (invV (rowMax (dOf x0 x1 x2 (j.val / 128)))) broadcasts_S32x1_S32x128)) (ix2 r ⟨j.val % 128, _⟩) = _
  rw [codeV_apply]
  refine congrArg codeE ?_
  show (dOf x0 x1 x2 (j.val / 128) (ix2 r ⟨j.val % 128, _⟩) * broadcastTo S32x128 _ _ (ix2 r ⟨j.val % 128, _⟩) : EReal) = _
  rw [dOf_apply x0 x1 x2 _ hb, broadcastTo_apply _ _ _ (ix2 (m := 32) (n := 1) r 0) (Fin.forall_fin_two.mpr ⟨rfl, rfl⟩), invV_apply,
    rowMax_apply _ r (fun c => gradE (rowN (by decide) x0 r) (rowN (by decide) x1 r) (rowN (by decide) x2 r) (128 * (j.val / 128) + c)) fun c => dOf_apply x0 x1 x2 _ hb r c]
  rw [show 128 * (j.val / 128) + j.val % 128 = j.val by omega]

/-- and the column scales. -/
theorem csOf_apply (x3 : Vec Ideal S8x65536 .f32) (y : S8x65536.Idx) : csOf x3 y = Ideal.exp2 (eE (x3 y)) := by
  unfold csOf
  rw [scaleV_apply]
  refine congrArg (fun z => Ideal.exp2 (eE (x3 z))) (ix2_ext rfl ?_)
  have hy1 : (y 1).val < 65536 := (y 1).isLt
  show (128 * ((y 1).val / 128) + (y 1).val % 128) % 65536 = (y 1).val
  omega

/-- The reciprocal of a column scale, as the blocks keep it. -/
theorem icOf_apply (x3 : Vec Ideal S8x65536 .f32) (y : S512x8x128.Idx) :
    icOf x3 y = Ideal.exp2 (Ideal.ofBits .f32 0x00000000#32 - eE (x3 (ix2 (m := 8) (n := 65536) (y 1) ⟨(128 * (y 0).val + (y 2).val) % 65536, Nat.mod_lt _ (by decide)⟩))) := by
  unfold icOf
  rw [invV_apply]
  rfl

end Cert.Proof.KernelIdeal
-- ==== Proof.RefIdeal.lean ====
/- The reference's results over the extended reals, entry by entry. -/
module

public import proofs.«01_k».proof.Proof.RefArr
public import proofs.«01_k».proof.Proof.GradIdeal

@[expose] public section

set_option maxRecDepth 16384

noncomputable section

namespace Cert.Proof.Ref

open Cert.ReferenceIdeal Cert.ReferenceIdeal.Gen
open Idealize.ShloMosaic hiding ix1 ix2 ix3
open Cert.Proof.KernelIdeal (ix1 ix2 ix3 ix2_ext gradE dgE duE mxE eE codeE rowN)

/-! ### Places in memory order -/

theorem rm2 {m n : ℕ} (j : (⟨2, ![m, n]⟩ : Shape).Idx) : (Shape.rowMajor (⟨2, ![m, n]⟩ : Shape) j).val = (j 0).val * n + (j 1).val := by
  show (Shape.rowMajorPi _ _).val = _
  rw [Shape.rowMajorPi_succ_val, Shape.rowMajorPi_succ_val]
  simp
  rfl

theorem rm3 {m n p : ℕ} (j : (⟨3, ![m, n, p]⟩ : Shape).Idx) : (Shape.rowMajor (⟨3, ![m, n, p]⟩ : Shape) j).val = (j 0).val * (n * p) + ((j 1).val * p + (j 2).val) := by
  show (Shape.rowMajorPi _ _).val = _
  rw [Shape.rowMajorPi_succ_val, Shape.rowMajorPi_succ_val, Shape.rowMajorPi_succ_val]
  simp [Fin.prod_univ_two]
  rfl

theorem rowN_of {m n : ℕ} (hn : 0 < n) (A : (⟨2, ![m, n]⟩ : Shape).Idx → EReal) (r : Fin m) (j : ℕ) (h : j < n) : rowN hn A r j = A (ix2 r ⟨j, h⟩) :=
  congrArg A (ix2_ext rfl (Nat.mod_eq_of_lt h))

variable (x0 : Vec Ideal S1280x65536 .fp8e4m3) (x1 : Vec Ideal S1280x512 .f32) (x2 : Vec Ideal S1280x32768 .bf16) (x3 : Vec Ideal S9 .i32) (x4 : Vec Ideal S8x65536 .f32)

/-- Column `j` of row `R` of the gradient, from the argument arrays. -/
def gradR (R : Fin 1280) (j : ℕ) : EReal := gradE (rowN (by decide) x0 R) (rowN (by decide) x1 R) (rowN (by decide) x2 R) j

/-- The largest magnitude of a block of a row of the gradient. -/
def maxR (R : Fin 1280) (b : ℕ) : EReal := mxE fun c => gradR x0 x1 x2 R (128 * b + c)

/-! ### Reshapes between a row of columns and a row of blocks of columns -/

theorem cast3 {α : Type} (y : S1280x65536.Idx → α) (R : Fin 1280) (b : Fin 512) (c : Fin 128) :
    shapeCast S1280x512x128 y shapeCasts_S1280x65536_S1280x512x128 (ix3 R b c) = y (ix2 R ⟨128 * b.val + c.val, by omega⟩) := by
  refine shapeCast_apply _ _ _ _ ?_
  rw [rm2, rm3]
  show R.val * 65536 + (128 * b.val + c.val) = R.val * (512 * 128) + (b.val * 128 + c.val)
  omega

theorem cast2 {α : Type} (y : S1280x512x128.Idx → α) (R : Fin 1280) (j : Fin 65536) :
    shapeCast S1280x65536 y shapeCasts_S1280x512x128_S1280x65536 (ix2 R j) = y (ix3 R ⟨j.val / 128, by omega⟩ ⟨j.val % 128, by omega⟩) := by
  refine shapeCast_apply _ _ _ _ ?_
  rw [rm2, rm3]
  show R.val * (512 * 128) + (j.val / 128 * 128 + j.val % 128) = R.val * 65536 + j.val
  omega

/-- One value per block, along the block. -/
theorem along {α : Type} (y : S1280x512.Idx → α) (R : Fin 1280) (b : Fin 512) (c : Fin 128) :
    broadcastTo S1280x512x128 (shapeCast S1280x512x1 (shapeCast S1280x512x1 y shapeCasts_S1280x512_S1280x512x1) shapeCasts_S1280x512x1_S1280x512x1) broadcasts_S1280x512x1_S1280x512x128 (ix3 R b c)
      = y (ix2 R b) := by
  rw [broadcastTo_apply _ _ _ (ix3 (m := 1280) (n := 512) (p := 1) R b 0) (Fin.forall_fin_succ.mpr ⟨rfl, Fin.forall_fin_two.mpr ⟨rfl, rfl⟩⟩), shapeCast_self]
  refine shapeCast_apply _ _ _ _ ?_
  rw [rm2, rm3]
  show R.val * 512 + b.val = R.val * (512 * 1) + (b.val * 1 + 0)
  omega

/-! ### The gradient -/

/-- The activations: each code times the scale of its block. -/
def act : FVec Ideal S1280x65536 .f32 :=
  shapeCast S1280x65536 (mulf (shapeCast S1280x512x128 (extf .f32 x0 bitsLt_fp8e4m3_f32) shapeCasts_S1280x65536_S1280x512x128)
    (broadcastTo S1280x512x128 (shapeCast S1280x512x1 (shapeCast S1280x512x1 x1 shapeCasts_S1280x512_S1280x512x1) shapeCasts_S1280x512x1_S1280x512x1) broadcasts_S1280x512x1_S1280x512x128))
    shapeCasts_S1280x512x128_S1280x65536

theorem act_apply (R : Fin 1280) (j : ℕ) (hj : j < 65536) :
    act x0 x1 (ix2 R ⟨j, hj⟩) = rowN (by decide) x0 R j * rowN (by decide) x1 R (j / 128) := by
  unfold act
  rw [cast2]
  show (shapeCast S1280x512x128 (extf .f32 x0 bitsLt_fp8e4m3_f32 : FVec Ideal S1280x65536 .f32) _ _ * broadcastTo _ _ _ _ : EReal) = _
  rw [cast3, along]
  refine congrArg₂ (· * ·) (congrArg x0 (ix2_ext rfl ?_)) (congrArg x1 (ix2_ext rfl ?_))
  · show 128 * (j / 128) + j % 128 = j % 65536
    omega
  · show j / 128 = j / 128 % 512
    omega

/-- The gate's half and the up half of the activations. -/
def gateH : FVec Ideal S1280x32768 .f32 := extractStridedSlice S1280x32768 ![0, 0] (act x0 x1) slices_S1280x65536_o0_0_S1280x32768
def upH : FVec Ideal S1280x32768 .f32 := extractStridedSlice S1280x32768 ![0, 32768] (act x0 x1) slices_S1280x65536_o0_32768_S1280x32768

theorem gateH_apply (R : Fin 1280) (j : ℕ) (hj : j < 32768) :
    gateH x0 x1 (ix2 R ⟨j, hj⟩) = rowN (by decide) x0 R j * rowN (by decide) x1 R (j / 128) := by
  unfold gateH
  rw [extractStridedSlice_apply _ _ _ _ (ix2 (m := 1280) (n := 65536) R ⟨j, by omega⟩) (Fin.forall_fin_two.mpr ⟨(Nat.zero_add _).symm, (Nat.zero_add _).symm⟩)]
  exact act_apply x0 x1 R j _

theorem upH_apply (R : Fin 1280) (j : ℕ) (hj : j < 32768) :
    upH x0 x1 (ix2 R ⟨j, hj⟩) = rowN (by decide) x0 R (32768 + j) * rowN (by decide) x1 R ((32768 + j) / 128) := by
  unfold upH
  rw [extractStridedSlice_apply _ _ _ _ (ix2 (m := 1280) (n := 65536) R ⟨32768 + j, by omega⟩) (Fin.forall_fin_two.mpr ⟨(Nat.zero_add _).symm, rfl⟩)]
  exact act_apply x0 x1 R (32768 + j) _

/-- The derivative by the gate and by the up half. -/
def dGate : FVec Ideal S1280x32768 .f32 := fun y => dgE (x2 y) (gateH x0 x1 y) (upH x0 x1 y)
def dUp : FVec Ideal S1280x32768 .f32 := fun y => duE (x2 y) (gateH x0 x1 y)

theorem pay3_eq : k0_pay3 x1 x0 x2 = concatenate S1280x65536 1 [⟨S1280x32768, dGate x0 x1 x2⟩, ⟨S1280x32768, dUp x0 x1 x2⟩] concatenates_S1280x32768_S1280x32768_S1280x65536_d1 := rfl

/-- The gradient, entry by entry. -/
theorem grad_apply (R : Fin 1280) (j : Fin 65536) : k0_pay3 x1 x0 x2 (ix2 R j) = gradR x0 x1 x2 R j.val := by
  rw [pay3_eq]
  unfold gradR gradE
  by_cases h : j.val < 32768
  · rw [if_pos h, concatenate_pair_apply_left (s₁ := S1280x32768) (s₂ := S1280x32768) (t := S1280x65536) 1 _ _ _ _ rfl (ix2 (m := 1280) (n := 32768) R ⟨j.val, h⟩) (Fin.forall_fin_two.mpr ⟨rfl, rfl⟩)]
    show dgE _ _ _ = _
    rw [gateH_apply, upH_apply]
    rw [rowN_of (by decide) x2 R _ h]
  · have h' : j.val - 32768 < 32768 := by omega
    rw [if_neg h, concatenate_pair_apply_right (s₁ := S1280x32768) (s₂ := S1280x32768) (t := S1280x65536) 1 _ _ _ _ rfl rfl (ix2 (m := 1280) (n := 32768) R ⟨j.val - 32768, h'⟩)
      (Fin.forall_fin_two.mpr ⟨fun _ => rfl, fun h => absurd rfl h⟩) (by show j.val - 32768 + 32768 = j.val; omega)]
    show duE _ _ = _
    rw [gateH_apply]
    rw [rowN_of (by decide) x2 R _ h']

/-- The same, block by block. -/
theorem grad3_apply (R : Fin 1280) (b : Fin 512) (c : Fin 128) : k0_pay4 x1 x0 x2 (ix3 R b c) = gradR x0 x1 x2 R (128 * b.val + c.val) := by
  unfold k0_pay4
  exact (cast3 _ R b c).trans (grad_apply x0 x1 x2 R _)

/-! ### The row results -/

theorem max_apply (R : Fin 1280) (b : Fin 512) :
    multiReduction .maximumf [2] S1280x512 (absf (k0_pay4 x1 x0 x2)) 0xFF800000#32 reduces_S1280x512x128_S1280x512 (.inl rfl) rfl (ix2 R b) = maxR x0 x1 x2 R b.val := by
  refine (Ideal.multiReduction_maximumf_single (a := 2) (absf (k0_pay4 x1 x0 x2)) _ reduces_S1280x512x128_S1280x512 _ _ (ix2 R b : S1280x512.Idx)).trans ?_
  unfold maxR mxE
  refine Finset.fold_congr fun c _ => ?_
  have hl : reduces_S1280x512x128_S1280x512.lift (ix2 R b : S1280x512.Idx) c = ix3 R b c := by
    funext a
    apply Fin.ext
    revert a
    exact Fin.forall_fin_succ.mpr ⟨rfl, Fin.forall_fin_two.mpr ⟨rfl, rfl⟩⟩
  have hg : k0_pay4 x1 x0 x2 (reduces_S1280x512x128_S1280x512.lift (ix2 R b : S1280x512.Idx) c) = gradR x0 x1 x2 R (128 * b.val + c.val) :=
    (congrArg (k0_pay4 x1 x0 x2) hl).trans (grad3_apply x0 x1 x2 R b c)
  exact congrArg (fun z : EReal => max z (-z)) hg

/-- The exponent of a magnitude, as operations on arrays, -/
def expoOps {s : Shape} (M : FVec Ideal s .f32) : FVec Ideal s .f32 :=
  select (cmpf .olt (mulf M (broadcast s (Scalar.ofBits .f32 0x37924925#32))) (broadcast s (Scalar.ofBits .f32 0x00800000#32))) (broadcast s (Scalar.ofBits .f32 0x00000000#32))
    (addf (floor (mulf (log (minimumf (broadcast s (Scalar.ofBits .f32 0x7E000000#32)) (maximumf (broadcast s (Scalar.ofBits .f32 0x00800000#32)) (mulf M (broadcast s (Scalar.ofBits .f32 0x37924925#32))))))
      (broadcast s (Named.named κ "log2_e" 0x3FB8AA3B#32)))) (broadcast s (Scalar.ofBits .f32 0x3F800000#32)))

/-- and entry by entry. -/
theorem expoOps_apply {s : Shape} (M : FVec Ideal s .f32) (y : s.Idx) : expoOps M y = eE (M y) := rfl

theorem pay5_eq : k0_pay5 x1 x0 x2 = expoOps (multiReduction .maximumf [2] S1280x512 (absf (k0_pay4 x1 x0 x2)) 0xFF800000#32 reduces_S1280x512x128_S1280x512 (.inl rfl) rfl) := rfl

theorem G6_eq : G6 x0 x1 x2 = fun y => Ideal.exp2 (k0_pay5 x1 x0 x2 y) := by
  unfold G6 k0_pay6
  generalize k0_pay5 x1 x0 x2 = M
  rfl

theorem truncf_ideal {s : Shape} {φ ψ : FTy} (v : FVec Ideal s φ) (h : ψ.bits < φ.bits) (y : s.Idx) : (truncf ψ v h : FVec Ideal s ψ) y = v y := rfl

/-- Clipped values, as operations on arrays, -/
def clipOps {s : Shape} (v : FVec Ideal s .f32) : FVec Ideal s .f32 :=
  minimumf (broadcast s (Scalar.ofBits .f32 0x47600000#32)) (maximumf (broadcast s (Scalar.ofBits .f32 0xC7600000#32)) v)

/-- and entry by entry. -/
theorem clipOps_apply {s : Shape} (v : FVec Ideal s .f32) (y : s.Idx) : clipOps v y = codeE (v y) := rfl

/-- The reciprocal scales of exponents, -/
def recOps {s : Shape} (v : FVec Ideal s .f32) : FVec Ideal s .f32 := exp2 (subf (broadcast s (Scalar.ofBits .f32 0x00000000#32)) v)

theorem recOps_apply {s : Shape} (v : FVec Ideal s .f32) (y : s.Idx) : recOps v y = Ideal.exp2 (Ideal.ofBits .f32 0x00000000#32 - v y) := rfl

theorem mulf_ideal {s : Shape} (v w : FVec Ideal s .f32) (y : s.Idx) : mulf v w y = (v y * w y : EReal) := rfl

theorem G5_eq : G5 x0 x1 x2 = truncf .fp8e5m2 (shapeCast S1280x65536 (clipOps (mulf (k0_pay4 x1 x0 x2)
    (broadcastTo S1280x512x128 (shapeCast S1280x512x1 (shapeCast S1280x512x1 (recOps (k0_pay5 x1 x0 x2)) shapeCasts_S1280x512_S1280x512x1) shapeCasts_S1280x512x1_S1280x512x1) broadcasts_S1280x512x1_S1280x512x128)))
    shapeCasts_S1280x512x128_S1280x65536) bitsLt_fp8e5m2_f32 := rfl

theorem expo_apply (R : Fin 1280) (b : Fin 512) : k0_pay5 x1 x0 x2 (ix2 R b) = eE (maxR x0 x1 x2 R b.val) :=
  (congrFun (pay5_eq x0 x1 x2) _).trans ((expoOps_apply _ _).trans (congrArg eE (max_apply x0 x1 x2 R b)))

/-- The row scales, -/
theorem G6_apply (R : Fin 1280) (b : Fin 512) : G6 x0 x1 x2 (ix2 R b) = Ideal.exp2 (eE (maxR x0 x1 x2 R b.val)) :=
  (congrFun (G6_eq x0 x1 x2) _).trans (congrArg Ideal.exp2 (expo_apply x0 x1 x2 R b))

/-- the row codes, -/
theorem G5_apply (R : Fin 1280) (j : Fin 65536) :
    G5 x0 x1 x2 (ix2 R j) = codeE (gradR x0 x1 x2 R j.val * Ideal.exp2 (Ideal.ofBits .f32 0x00000000#32 - eE (maxR x0 x1 x2 R (j.val / 128)))) := by
  rw [G5_eq, truncf_ideal, cast2, clipOps_apply, mulf_ideal, along, recOps_apply, expo_apply, grad3_apply]
  refine congrArg (fun z => codeE (gradR x0 x1 x2 R z * _)) ?_
  show 128 * (j.val / 128) + j.val % 128 = j.val
  omega

/-- and the column scales. -/
theorem G8_apply (y : S8x65536.Idx) : G8 x4 y = Ideal.exp2 (eE (x4 y)) := rfl

end Cert.Proof.Ref

end
-- ==== Proof.RunValue1.lean ====
/- The first part of the body: the column scales and the mask at the first step, the transposed scales at every step. -/
module

public import proofs.«01_k».proof.Proof.RunRes
public import proofs.«01_k».proof.Proof.Loop1Value

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (arg1 : Memref sig .tc .smem S9 .i32) (harg1 : arg1.IsWhole)
  (arg2 : Memref sig .tc .vmem S32x65536 .fp8e4m3) (harg2 : arg2.IsWhole)
  (arg3 : Memref sig .tc .vmem S32x512 .f32) (harg3 : arg3.IsWhole)
  (arg4 : Memref sig .tc .vmem S32x32768 .bf16) (harg4 : arg4.IsWhole)
  (arg5 : Memref sig .tc .vmem S8x65536 .f32) (harg5 : arg5.IsWhole)
  (arg6 : Memref sig .tc .vmem S32x65536 .fp8e5m2) (harg6 : arg6.IsWhole)
  (arg7 : Memref sig .tc .vmem S32x512 .f32) (harg7 : arg7.IsWhole)
  (arg8 : Memref sig .tc .vmem S32x65536 .fp8e5m2) (harg8 : arg8.IsWhole)
  (arg9 : Memref sig .tc .vmem S8x65536 .f32) (harg9 : arg9.IsWhole)
  (arg10 : Memref sig .tc .vmem S8x65536 .f32) (harg10 : arg10.IsWhole)
  (arg11 : Memref sig .tc .vmem S512x8x128 .f32) (harg11 : arg11.IsWhole)
  (arg12 : Memref sig .tc .vmem S512x8x128 .f32) (harg12 : arg12.IsWhole)
  (arg13 : Memref sig .tc .vmem S512x8x128 .f32) (harg13 : arg13.IsWhole)
  (arg14 : Memref sig .tc .vmem S256x128 .f32) (harg14 : arg14.IsWhole)
  (arg15 : Memref sig .tc .vmem S32x128 .i32) (harg15 : arg15.IsWhole)
  (arg16 : Memref sig .tc .vmem S32x512 .f32) (harg16 : arg16.IsWhole)

/-- A load of a whole buffer of scales is its contents. -/
theorem load3 (v : View sig .tc .vmem S32x512 .f32) (X : v.ty.Contents (Elt F)) (inb) :
    v.readAt (Elt F) (Rect.unit (s := S32x512) ![0, 0] S32x512.size inb).toLoadRect X = v.read (Elt F) X := by
  funext x
  show v.read (Elt F) X ((Rect.unit (s := S32x512) _ S32x512.size inb).emb x) = _
  refine congrArg (v.read (Elt F) X) (ix2_ext ?_ ?_)
  · show 0 + 1 * (x 0).val = (x 0).val
    omega
  · show 0 + 1 * (x 1).val = (x 1).val
    omega

set_option maxHeartbeats 40000000 in
theorem part135_value (c : Dev nD) (i : grid0.Coords) (x0 : Vec F S32x65536 .fp8e4m3) (x1 : Vec F S32x512 .f32) (x2 : Vec F S32x32768 .bf16) (x3 : Vec F S8x65536 .f32) (xt : TbBuf (F := F) c arg1) (f6 : BufTy.Contents (Elt F) arg6.view.ty) (f8 : BufTy.Contents (Elt F) arg8.view.ty) (f9 : BufTy.Contents (Elt F) arg9.view.ty) (f11 : BufTy.Contents (Elt F) arg11.view.ty) (f14 : BufTy.Contents (Elt F) arg14.view.ty) (f15 : BufTy.Contents (Elt F) arg15.view.ty) (f16 : BufTy.Contents (Elt F) arg16.view.ty) (E : Set ℕ) (K : _ → sProp 𝕄) :
    iprop(ResV arg1 arg2 harg2 arg3 harg3 arg4 harg4 arg5 harg5 arg6 arg7 arg8 arg9 arg10 arg11 arg12 arg13 arg14 arg15 arg16 c x0 x1 x2 x3 xt f6 f8 f9 f11 f14 f15 f16 ∗ (∀ r, (∃ f9' f11' f14' f15', ⌜(k0_cond1 i = 1#1 → OkC (v := arg9.view) x3 512 f9' ∧ OkI (v := arg11.view) x3 512 f11' ∧ arg15.view.read (Elt F) f15' = k0_pay610) ∧ (¬ k0_cond1 i = 1#1 → f9' = f9 ∧ f11' = f11 ∧ f15' = f15) ∧ (∀ (a : Fin 256) (l : Fin 128) (hl : l.val < 64), arg14.view.read (Elt F) f14' (ix2 a l) = k0_pay611 x1 (ix2 (m := 256) (n := 64) a ⟨l.val, hl⟩)) ∧ r.2.1 = Scalar.muli (BitVec.ofNat 32 (i 0).val) 32#32 ∧ r.2.2.1 = lanes ∧ r.2.2.2.1 = tw (arg1.view.read (Elt F) xt) 1 ∧ r.2.2.2.2.1 = tw (arg1.view.read (Elt F) xt) 2 ∧ r.2.2.2.2.2.1 = tw (arg1.view.read (Elt F) xt) 3 ∧ r.2.2.2.2.2.2.1 = tw (arg1.view.read (Elt F) xt) 4 ∧ r.2.2.2.2.2.2.2.1 = tw (arg1.view.read (Elt F) xt) 5 ∧ r.2.2.2.2.2.2.2.2.1 = tw (arg1.view.read (Elt F) xt) 6 ∧ r.2.2.2.2.2.2.2.2.2.1 = tw (arg1.view.read (Elt F) xt) 7⌝ ∗ ResV arg1 arg2 harg2 arg3 harg3 arg4 harg4 arg5 harg5 arg6 arg7 arg8 arg9 arg10 arg11 arg12 arg13 arg14 arg15 arg16 c x0 x1 x2 x3 xt f6 f8 f9' f11' f14' f15' f16) -∗ K r))
      ⊢ wp frame (wpE (defs₀ (F := F)) Variants.none c none) E (k0_part135 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  rw [k0_part135_eq_skeleton]; unfold k0_part135_skel ResV
  iintro ⟨⟨H0, H1, H2, H3, H4, ⟨%f7, H5⟩, H6, H7, ⟨%f10, H8⟩, HS0, ⟨%f12, HS1⟩, ⟨%f13, HS2⟩, HS3, HS4, HS5, HT⟩, Hk⟩
  have hz9 : OkC (v := arg9.view) (arg5.view.read (Elt F) (harg5.unread x3)) (4 * 0) f9 := OkC.zero _ _
  have hz11 : OkI (v := arg11.view) (arg5.view.read (Elt F) (harg5.unread x3)) (4 * 0) f11 := OkI.zero _ _
  sl_exec
  split
  · rename_i hc1
    sl_exec
    sl_step
    iapply Hk
    iexists _, _, _, _
    isplitr
    swap
    · isplitl [H0]
      · iexact H0
      isplitl [H1]
      · iexact H1
      isplitl [H2]
      · iexact H2
      isplitl [H3]
      · iexact H3
      isplitl [H4]
      · iexact H4
      isplitl [H5]
      · iexists _; iexact H5
      isplitl [H6]
      · iexact H6
      isplitl [H7]
      · iexact H7
      isplitl [H8]
      · iexists _; iexact H8
      isplitl [HS0]
      · iexact HS0
      isplitl [HS1]
      · iexists _; iexact HS1
      isplitl [HS2]
      · iexists _; iexact HS2
      isplitl [HS3]
      · iexact HS3
      isplitl [HS4]
      · iexact HS4
      isplitl [HS5]
      · iexact HS5
      iexact HT
    ipureintro
    have ht : 4 * Scf.trips k0_t1_loop.lb k0_t1_loop.ub k0_t1_loop.st = 512 := by decide +kernel
    rw [harg5.read_unread, ht] at hL1 hL3
    refine ⟨fun _ => ⟨hL1, hL3, ?_⟩, fun h => absurd hc1 h, ?_, rfl, rfl, ?_, ?_, ?_, ?_, ?_, ?_, ?_⟩
    · funext y
      refine View.read_writes_cons_unit_of_mem _ _ _ _ [] y y rfl (Fin.forall_fin_two.mpr ⟨?_, ?_⟩)
      · show (y 0).val = 0 + (y 0).val
        omega
      · show (y 1).val = 0 + (y 1).val
        omega
    · intro a l hl
      refine (View.read_writes_cons_unit_of_mem _ _ _ _ [] _ (ix2 (m := 256) (n := 64) a ⟨l.val, hl⟩) rfl (Fin.forall_fin_two.mpr ⟨?_, ?_⟩)).trans ?_
      · show a.val = 0 + a.val
        omega
      · show l.val = 0 + l.val
        omega
      · rw [load3, harg3.read_unread]
    · exact load1 _ _ _ _ 1 rfl
    · exact load1 _ _ _ _ 2 rfl
    · exact load1 _ _ _ _ 3 rfl
    · exact load1 _ _ _ _ 4 rfl
    · exact load1 _ _ _ _ 5 rfl
    · exact load1 _ _ _ _ 6 rfl
    · exact load1 _ _ _ _ 7 rfl

  · rename_i hc1
    sl_exec
    sl_step
    iapply Hk
    iexists _, _, _, _
    isplitr
    swap
    · isplitl [H0]
      · iexact H0
      isplitl [H1]
      · iexact H1
      isplitl [H2]
      · iexact H2
      isplitl [H3]
      · iexact H3
      isplitl [H4]
      · iexact H4
      isplitl [H5]
      · iexists _; iexact H5
      isplitl [H6]
      · iexact H6
      isplitl [H7]
      · iexact H7
      isplitl [H8]
      · iexists _; iexact H8
      isplitl [HS0]
      · iexact HS0
      isplitl [HS1]
      · iexists _; iexact HS1
      isplitl [HS2]
      · iexists _; iexact HS2
      isplitl [HS3]
      · iexact HS3
      isplitl [HS4]
      · iexact HS4
      isplitl [HS5]
      · iexact HS5
      iexact HT
    ipureintro
    refine ⟨fun h => absurd h hc1, fun _ => ⟨rfl, rfl, rfl⟩, ?_, rfl, rfl, ?_, ?_, ?_, ?_, ?_, ?_, ?_⟩
    · intro a l hl
      refine (View.read_writes_cons_unit_of_mem _ _ _ _ [] _ (ix2 (m := 256) (n := 64) a ⟨l.val, hl⟩) rfl (Fin.forall_fin_two.mpr ⟨?_, ?_⟩)).trans ?_
      · show a.val = 0 + a.val
        omega
      · show l.val = 0 + l.val
        omega
      · rw [load3, harg3.read_unread]
    · exact load1 _ _ _ _ 1 rfl
    · exact load1 _ _ _ _ 2 rfl
    · exact load1 _ _ _ _ 3 rfl
    · exact load1 _ _ _ _ 4 rfl
    · exact load1 _ _ _ _ 5 rfl
    · exact load1 _ _ _ _ 6 rfl
    · exact load1 _ _ _ _ 7 rfl

end Cert.Proof.KernelIdeal

end
-- ==== Proof.RunValue3.lean ====
/- The third part of the body: the column maxima where an expert's chunks end, and the row scales. -/
module

public import proofs.«01_k».proof.Proof.RunRes
public import proofs.«01_k».proof.Proof.RunValue1

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (arg1 : Memref sig .tc .smem S9 .i32) (harg1 : arg1.IsWhole)
  (arg2 : Memref sig .tc .vmem S32x65536 .fp8e4m3) (harg2 : arg2.IsWhole)
  (arg3 : Memref sig .tc .vmem S32x512 .f32) (harg3 : arg3.IsWhole)
  (arg4 : Memref sig .tc .vmem S32x32768 .bf16) (harg4 : arg4.IsWhole)
  (arg5 : Memref sig .tc .vmem S8x65536 .f32) (harg5 : arg5.IsWhole)
  (arg6 : Memref sig .tc .vmem S32x65536 .fp8e5m2) (harg6 : arg6.IsWhole)
  (arg7 : Memref sig .tc .vmem S32x512 .f32) (harg7 : arg7.IsWhole)
  (arg8 : Memref sig .tc .vmem S32x65536 .fp8e5m2) (harg8 : arg8.IsWhole)
  (arg9 : Memref sig .tc .vmem S8x65536 .f32) (harg9 : arg9.IsWhole)
  (arg10 : Memref sig .tc .vmem S8x65536 .f32) (harg10 : arg10.IsWhole)
  (arg11 : Memref sig .tc .vmem S512x8x128 .f32) (harg11 : arg11.IsWhole)
  (arg12 : Memref sig .tc .vmem S512x8x128 .f32) (harg12 : arg12.IsWhole)
  (arg13 : Memref sig .tc .vmem S512x8x128 .f32) (harg13 : arg13.IsWhole)
  (arg14 : Memref sig .tc .vmem S256x128 .f32) (harg14 : arg14.IsWhole)
  (arg15 : Memref sig .tc .vmem S32x128 .i32) (harg15 : arg15.IsWhole)
  (arg16 : Memref sig .tc .vmem S32x512 .f32) (harg16 : arg16.IsWhole)

set_option maxHeartbeats 40000000 in
theorem part137_value (c : Dev nD) (i : grid0.Coords) (x0 : Vec F S32x65536 .fp8e4m3) (x1 : Vec F S32x512 .f32) (x2 : Vec F S32x32768 .bf16) (x3 : Vec F S8x65536 .f32) (xt : TbBuf (F := F) c arg1) (f6 : BufTy.Contents (Elt F) arg6.view.ty) (f8 : BufTy.Contents (Elt F) arg8.view.ty) (f9 : BufTy.Contents (Elt F) arg9.view.ty) (f11 : BufTy.Contents (Elt F) arg11.view.ty) (f14 : BufTy.Contents (Elt F) arg14.view.ty) (f15 : BufTy.Contents (Elt F) arg15.view.ty) (f16 : BufTy.Contents (Elt F) arg16.view.ty) (v13 v17 v21 v25 v29 v33 v37 : Elt F .i32) (v40 : BitVec 32) (v43 v47 v51 v55 v59 v63 v67 : Elt F .i32) (v77 v78 : BitVec 1) (v80 : BitVec 32) (v81 : Elt F .i32) (v82 : BitVec 1) (E : Set ℕ) (K : _ → sProp 𝕄) :
    iprop(ResV arg1 arg2 harg2 arg3 harg3 arg4 harg4 arg5 harg5 arg6 arg7 arg8 arg9 arg10 arg11 arg12 arg13 arg14 arg15 arg16 c x0 x1 x2 x3 xt f6 f8 f9 f11 f14 f15 f16 ∗ (∀ r, (⌜r.1 = k0_pay618 (arg16.view.read (Elt F) f16) ∧ r.2.1 = k0_pay619 (arg16.view.read (Elt F) f16) ∧ r.2.2.1 = k0_pay620 (arg16.view.read (Elt F) f16) ∧ r.2.2.2 = 127#32⌝ ∗ ResV arg1 arg2 harg2 arg3 harg3 arg4 harg4 arg5 harg5 arg6 arg7 arg8 arg9 arg10 arg11 arg12 arg13 arg14 arg15 arg16 c x0 x1 x2 x3 xt f6 f8 f9 f11 f14 f15 f16) -∗ K r))
      ⊢ wp frame (wpE (defs₀ (F := F)) Variants.none c none) E (k0_part137 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v13 v17 v21 v25 v29 v33 v37 v40 v43 v47 v51 v55 v59 v63 v67 v77 v78 v80 v81 v82) K := by
  rw [k0_part137_eq_skeleton]; unfold k0_part137_skel ResV
  iintro ⟨⟨H0, H1, H2, H3, H4, ⟨%f7, H5⟩, H6, H7, ⟨%f10, H8⟩, HS0, ⟨%f12, HS1⟩, ⟨%f13, HS2⟩, HS3, HS4, HS5, HT⟩, Hk⟩
  sl_exec (disch := exact chk2_all ..)
  split
  all_goals
    sl_exec
    sl_step
    iapply Hk
    isplitr
    swap
    · isplitl [H0]
      · iexact H0
      isplitl [H1]
      · iexact H1
      isplitl [H2]
      · iexact H2
      isplitl [H3]
      · iexact H3
      isplitl [H4]
      · iexact H4
      isplitl [H5]
      · iexists _; iexact H5
      isplitl [H6]
      · iexact H6
      isplitl [H7]
      · iexact H7
      isplitl [H8]
      · iexists _; iexact H8
      isplitl [HS0]
      · iexact HS0
      isplitl [HS1]
      · iexists _; iexact HS1
      isplitl [HS2]
      · iexists _; iexact HS2
      isplitl [HS3]
      · iexact HS3
      isplitl [HS4]
      · iexact HS4
      isplitl [HS5]
      · iexact HS5
      iexact HT
    ipureintro
    exact ⟨congrArg k0_pay618 (load3 _ _ _), congrArg k0_pay619 (load3 _ _ _), congrArg k0_pay620 (load3 _ _ _), rfl⟩

end Cert.Proof.KernelIdeal

end
-- ==== Proof.RunValue.lean ====
/- One run of the body: what it leaves in its outputs and its scratch. -/
module

public import proofs.«01_k».proof.Proof.Spec
public import proofs.«01_k».proof.Proof.RunValue1
public import proofs.«01_k».proof.Proof.RunValue2
public import proofs.«01_k».proof.Proof.RunValue3

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (arg1 : Memref sig .tc .smem S9 .i32) (harg1 : arg1.IsWhole)
  (arg2 : Memref sig .tc .vmem S32x65536 .fp8e4m3) (harg2 : arg2.IsWhole)
  (arg3 : Memref sig .tc .vmem S32x512 .f32) (harg3 : arg3.IsWhole)
  (arg4 : Memref sig .tc .vmem S32x32768 .bf16) (harg4 : arg4.IsWhole)
  (arg5 : Memref sig .tc .vmem S8x65536 .f32) (harg5 : arg5.IsWhole)
  (arg6 : Memref sig .tc .vmem S32x65536 .fp8e5m2) (harg6 : arg6.IsWhole)
  (arg7 : Memref sig .tc .vmem S32x512 .f32) (harg7 : arg7.IsWhole)
  (arg8 : Memref sig .tc .vmem S32x65536 .fp8e5m2) (harg8 : arg8.IsWhole)
  (arg9 : Memref sig .tc .vmem S8x65536 .f32) (harg9 : arg9.IsWhole)
  (arg10 : Memref sig .tc .vmem S8x65536 .f32) (harg10 : arg10.IsWhole)
  (arg11 : Memref sig .tc .vmem S512x8x128 .f32) (harg11 : arg11.IsWhole)
  (arg12 : Memref sig .tc .vmem S512x8x128 .f32) (harg12 : arg12.IsWhole)
  (arg13 : Memref sig .tc .vmem S512x8x128 .f32) (harg13 : arg13.IsWhole)
  (arg14 : Memref sig .tc .vmem S256x128 .f32) (harg14 : arg14.IsWhole)
  (arg15 : Memref sig .tc .vmem S32x128 .i32) (harg15 : arg15.IsWhole)
  (arg16 : Memref sig .tc .vmem S32x512 .f32) (harg16 : arg16.IsWhole)

/-- A store over a whole buffer of scales leaves what it stores. -/
theorem store7 (v : View sig .tc .vmem S32x512 .f32) (f : v.ty.Contents (Elt F)) (inb) (w : S32x512.Idx → Elt F .f32) :
    v.read (Elt F) (v.writes (Elt F) f [⟨Rect.unit (s := S32x512) ![0, 0] S32x512.size inb, w⟩]) = w := by
  funext y
  refine View.read_writes_cons_unit_of_mem _ _ _ _ [] y y rfl (Fin.forall_fin_two.mpr ⟨?_, ?_⟩)
  · show (y 0).val = 0 + (y 0).val
    omega
  · show (y 1).val = 0 + (y 1).val
    omega

set_option maxHeartbeats 40000000 in
theorem kernelValue (c : Dev nD) (i : grid0.Coords) (x0 : Vec F S32x65536 .fp8e4m3) (x1 : Vec F S32x512 .f32) (x2 : Vec F S32x32768 .bf16) (x3 : Vec F S8x65536 .f32) (xt : TbBuf (F := F) c arg1) (d9 : Vec F S8x65536 .f32) (d11 : Vec F S512x8x128 .f32) (d15 : Vec F S32x128 .i32)
    (hpre : ¬ k0_cond1 i = 1#1 → d9 = csOf x3 ∧ d11 = icOf x3 ∧ d15 = k0_pay610) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare d9 ∗ (∃ d, owns (c : Thread nD τ) arg10 fullShare d) ∗ owns (c : Thread nD τ) arg11 fullShare d11 ∗ (∃ d, owns (c : Thread nD τ) arg12 fullShare d) ∗ (∃ d, owns (c : Thread nD τ) arg13 fullShare d) ∗ (∃ d, owns (c : Thread nD τ) arg14 fullShare d) ∗ owns (c : Thread nD τ) arg15 fullShare d15 ∗ (∃ d, owns (c : Thread nD τ) arg16 fullShare d) ∗ tbPt c arg1 xt
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (rcOf x0 x1 x2) ∗ owns (c : Thread nD τ) arg7 fullShare (rsOf x0 x1 x2) ∗ owns (c : Thread nD τ) arg8 fullShare (ccOf i (arg1.view.read (Elt F) xt) x0 x1 x2 x3) ∗ owns (c : Thread nD τ) arg9 fullShare (csOf x3) ∗ (∃ d, owns (c : Thread nD τ) arg10 fullShare d) ∗ owns (c : Thread nD τ) arg11 fullShare (icOf x3) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare k0_pay610 ∗ (∃ d, owns (c : Thread nD τ) arg16 fullShare d) ∗ tbPt c arg1 xt) -∗ K ⟨⟩))
          ⊢ wp frame (wpE (defs₀ (F := F)) Variants.none c none) E (cc0_swiglu_bwd_quant (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  intro E K
  simp only [cc0_swiglu_bwd_quant_eq_skeleton]; unfold cc0_swiglu_bwd_quant_skel
  unfold owns
  iintro ⟨⟨%f0, %hf0, H0⟩, ⟨%f1, %hf1, H1⟩, ⟨%f2, %hf2, H2⟩, ⟨%f3, %hf3, H3⟩, ⟨%d6, %f6, -, H4⟩, ⟨%d7, %f7, -, H5⟩, ⟨%d8, %f8, -, H6⟩, ⟨%f9, %hf9, H7⟩, ⟨%d10, %f10, -, H8⟩, ⟨%f11, %hf11, HS0⟩, ⟨%d12, %f12, -, HS1⟩, ⟨%d13, %f13, -, HS2⟩, ⟨%d14, %f14, -, HS3⟩, ⟨%f15, %hf15, HS4⟩, ⟨%d16, %f16, -, HS5⟩, HT, Hk⟩
  obtain rfl := harg2.eq_unread hf0; obtain rfl := harg3.eq_unread hf1; obtain rfl := harg4.eq_unread hf2; obtain rfl := harg5.eq_unread hf3
  rw [wp_bind]
  iapply (part135_value arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c i x0 x1 x2 x3 xt f6 f8 f9 f11 f14 f15 f16)
  isplitr [Hk]
  · unfold ResV
    isplitl [H0]
    · iexact H0
    isplitl [H1]
    · iexact H1
    isplitl [H2]
    · iexact H2
    isplitl [H3]
    · iexact H3
    isplitl [H4]
    · iexact H4
    isplitl [H5]
    · iexists _; iexact H5
    isplitl [H6]
    · iexact H6
    isplitl [H7]
    · iexact H7
    isplitl [H8]
    · iexists _; iexact H8
    isplitl [HS0]
    · iexact HS0
    isplitl [HS1]
    · iexists _; iexact HS1
    isplitl [HS2]
    · iexists _; iexact HS2
    isplitl [HS3]
    · iexact HS3
    isplitl [HS4]
    · iexact HS4
    isplitl [HS5]
    · iexact HS5
    iexact HT
  iintro %r ⟨%f9', %f11', %f14', %f15', %hfacts, Hr⟩
  obtain ⟨arg0, v0, v12, v13, v17, v21, v25, v29, v33, v37, v40, c32⟩ := r
  obtain ⟨hfa, hfb, hst, h1, h2, h3, h4, h5, h6, h7, h8, h9⟩ := hfacts
  dsimp only at h1 h2 h3 h4 h5 h6 h7 h8 h9 ⊢
  subst h1 h2 h3 h4 h5 h6 h7 h8 h9
  have hrs : arg9.view.read (Elt F) f9' = csOf x3 ∧ arg11.view.read (Elt F) f11' = icOf x3 ∧ arg15.view.read (Elt F) f15' = k0_pay610 := by
    by_cases hc : k0_cond1 i = 1#1
    · exact ⟨(hfa hc).1.all, (hfa hc).2.1.all, (hfa hc).2.2⟩
    · obtain ⟨e1, e2, e3⟩ := hfb hc
      obtain ⟨p1, p2, p3⟩ := hpre hc
      rw [e1, e2, e3, hf9, hf11, hf15]
      exact ⟨p1, p2, p3⟩
  obtain ⟨hr9, hr11, hr15⟩ := hrs
  have hD : ∀ b, dBuf arg2 arg4 arg14 arg15 (harg2.unread x0) (harg4.unread x2) f14' f15' b = dOf x0 x1 x2 b := by
    intro b
    unfold dBuf dOf
    rw [harg2.read_unread, harg4.read_unread, hr15]
    refine dBlk_congr _ _ _ (fun a l hl => (hst a l hl).trans ?_) b
    show _ = k0_pay611 x1 _
    exact congrArg (k0_pay611 x1) (ix2_ext rfl (Nat.mod_eq_of_lt hl).symm)
  rw [wp_bind]
  iapply (part136_value arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c i x0 x1 x2 x3 xt f6 f8 f9' f11' f14' f15' f16)
  isplitl [Hr]
  · iexact Hr
  iintro %r ⟨%f6', %f8', %f16', %hfacts, Hr⟩
  obtain ⟨v43, v47, v51, v55, v59, v63, v67, v77, v78, v80, v81, v82⟩ := r
  obtain ⟨hq6, hq8, hq16⟩ := hfacts
  dsimp only
  simp only [hD, hr11] at hq6 hq8 hq16
  have hr6 : arg6.view.read (Elt F) f6' = rcOf x0 x1 x2 := hq6.all
  have hr8 : arg8.view.read (Elt F) f8' = ccOf i (arg1.view.read (Elt F) xt) x0 x1 x2 x3 := hq8.all
  have hr16 : arg16.view.read (Elt F) f16' = rmOf x0 x1 x2 := hq16.all
  rw [wp_bind]
  iapply (part137_value arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c i x0 x1 x2 x3 xt f6' f8' f9' f11' f14' f15' f16')
  isplitl [Hr]
  · iexact Hr
  iintro %r ⟨%hfacts, Hr⟩
  obtain ⟨v116, v120, v125, c127⟩ := r
  obtain ⟨h1, h2, h3, h4⟩ := hfacts
  dsimp only at h1 h2 h3 h4 ⊢
  subst h1 h2 h3 h4
  have hr7 : k0_pay1 (k0_pay618 (arg16.view.read (Elt F) f16')) (k0_pay619 (arg16.view.read (Elt F) f16')) (k0_pay620 (arg16.view.read (Elt F) f16')) 127#32 = rsOf x0 x1 x2 := by
    rw [pay1_eq, hr16]; rfl
  unfold ResV
  icases Hr with ⟨H0, H1, H2, H3, H4, ⟨%f7, H5⟩, H6, H7, ⟨%f10, H8⟩, HS0, ⟨%f12, HS1⟩, ⟨%f13, HS2⟩, HS3, HS4, HS5, HT⟩
  sl_exec
  split
  all_goals
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro; exact hr6
    isplitl [H5]
    · iexists _; isplitr; swap; · iexact H5
      ipureintro; exact (show arg7.view.read (Elt F) (arg7.view.writes (Elt F) _ [⟨Rect.unit (s := S32x512) ![0, 0] S32x512.size inb_S32x512_S32x512_0_0, _⟩]) = _ from store7 _ _ _ _).trans hr7
    isplitl [H6]
    · iexists _; isplitr; swap; · iexact H6
      ipureintro; exact hr8
    isplitl [H7]
    · iexists _; isplitr; swap; · iexact H7
      ipureintro; exact hr9
    isplitl [H8]
    · iexists _, _; isplitr; swap; · iexact H8
      ipureintro; rfl
    isplitl [HS0]
    · iexists _; isplitr; swap; · iexact HS0
      ipureintro; exact hr11
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _; isplitr; swap; · iexact HS4
      ipureintro; exact hr15
    isplitl [HS5]
    · iexists _, _; isplitr; swap; · iexact HS5
      ipureintro; rfl
    iexact HT

end Cert.Proof.KernelIdeal

end
-- ==== Proof.FrameValue.lean ====
/- The launch with the outputs named: what each grid step leaves in its windows and in the scratch kept from step to step. -/
module

public import proofs.«01_k».proof.Proof.KitKernelIdeal
public import proofs.«01_k».proof.Proof.RunValue

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The one window of which nothing is stated here: the column maxima. -/
def forgetsV : Fin 9 → Bool := fun w => w.val == 8

/-- The history of scales, the same at every step. -/
def hist (c : Dev nD) : Vec F S8x65536 .f32 := iblk m c 3 (⟨0, by show 0 < grid0.N; decide⟩ : Fin (cfgM m).N)

/-- The table of offsets. -/
def offs : S9.Idx → BitVec 32 := (Memref.whole main_arg3 : Memref sig .tc .smem S9 .i32).view.read (Elt F) (tbl m 0)

/-- The scratch kept from step to step: after the first one, the reciprocals of the column scales and the mask. -/
def scr (c : Dev nD) (n : ℕ) : sProp 𝕄 :=
  iprop((∃ d, ⌜n ≠ 0 → d = icOf (hist m c)⌝ ∗ owns (c : Thread nD τ) scM_0 fullShare d) ∗ (∃ d, owns (c : Thread nD τ) scM_1 fullShare d)
    ∗ (∃ d, owns (c : Thread nD τ) scM_2 fullShare d) ∗ (∃ d, owns (c : Thread nD τ) scM_3 fullShare d)
    ∗ (∃ d, ⌜n ≠ 0 → d = k0_pay610⌝ ∗ owns (c : Thread nD τ) scM_4 fullShare d) ∗ (∃ d, owns (c : Thread nD τ) scM_5 fullShare d))

/-- The proof data: each input's buffer at its block, each output at what the body leaves. -/
def datsV (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => rcOf (iblk m c 0 t) (iblk m c 1 t) (iblk m c 2 t)
    | ⟨5, _⟩ => rsOf (iblk m c 0 t) (iblk m c 1 t) (iblk m c 2 t)
    | ⟨6, _⟩ => ccOf (grid0.coords t) (offs m) (iblk m c 0 t) (iblk m c 1 t) (iblk m c 2 t) (hist m c)
    | ⟨7, _⟩ => csOf (hist m c)
    | ⟨8, h⟩ => Pipeline.Dat.unnamed (cfg := (cfgM m)) ⟨8, h⟩ t
  Φ t := iprop((scr m c t.val ∗ ∃ r, prngReg c r) ∗ Pipeline.ΦT pre0 (tbl m) c)
  q _ := fullShare
  owed _ := 0

theorem A_eqV (c : Dev nD) (w : Fin (cfgM m).W) : (datsV m 0 c).A w = V m c (Pipeline.arrRef spec0 w) := by
  dsimp only [datsV]

theorem afterV_0 (c : Dev nD) (t : Fin (cfgM m).N) : (datsV m 0 c).after 0 t = iblk m c 0 t := by dsimp only [datsV]; try rfl
theorem afterV_1 (c : Dev nD) (t : Fin (cfgM m).N) : (datsV m 0 c).after 1 t = iblk m c 1 t := by dsimp only [datsV]; try rfl
theorem afterV_2 (c : Dev nD) (t : Fin (cfgM m).N) : (datsV m 0 c).after 2 t = iblk m c 2 t := by dsimp only [datsV]; try rfl
theorem afterV_3 (c : Dev nD) (t : Fin (cfgM m).N) : (datsV m 0 c).after 3 t = iblk m c 3 t := by dsimp only [datsV]; try rfl
theorem afterV_4 (c : Dev nD) (t : Fin (cfgM m).N) : (datsV m 0 c).after 4 t = rcOf (iblk m c 0 t) (iblk m c 1 t) (iblk m c 2 t) := by dsimp only [datsV]; try rfl
theorem afterV_5 (c : Dev nD) (t : Fin (cfgM m).N) : (datsV m 0 c).after 5 t = rsOf (iblk m c 0 t) (iblk m c 1 t) (iblk m c 2 t) := by dsimp only [datsV]; try rfl
theorem afterV_6 (c : Dev nD) (t : Fin (cfgM m).N) : (datsV m 0 c).after 6 t = ccOf (grid0.coords t) (offs m) (iblk m c 0 t) (iblk m c 1 t) (iblk m c 2 t) (hist m c) := by dsimp only [datsV]; try rfl
theorem afterV_7 (c : Dev nD) (t : Fin (cfgM m).N) : (datsV m 0 c).after 7 t = csOf (hist m c) := by dsimp only [datsV]; try rfl
theorem beforeV_0 (c : Dev nD) (t : Fin (cfgM m).N) (d) : (datsV m 0 c).before 0 t d = iblk m c 0 t :=
  before_0_of m (datsV m 0 c) (A_eqV m c 0) (afterV_0 m c) t d
theorem beforeV_1 (c : Dev nD) (t : Fin (cfgM m).N) (d) : (datsV m 0 c).before 1 t d = iblk m c 1 t :=
  before_1_of m (datsV m 0 c) (A_eqV m c 1) (afterV_1 m c) t d
theorem beforeV_2 (c : Dev nD) (t : Fin (cfgM m).N) (d) : (datsV m 0 c).before 2 t d = iblk m c 2 t :=
  before_2_of m (datsV m 0 c) (A_eqV m c 2) (afterV_2 m c) t d
theorem beforeV_3 (c : Dev nD) (t : Fin (cfgM m).N) (d) : (datsV m 0 c).before 3 t d = iblk m c 3 t :=
  before_3_of m (datsV m 0 c) (A_eqV m c 3) (afterV_3 m c) t d

theorem hist_eq (c : Dev nD) (t : Fin (cfgM m).N) : iblk m c 3 t = hist m c := rfl

/-- The column scales are written back after the last step only. -/
theorem flush_7 : ∀ t : Fin 40, t.val + 1 < 40 → Window.flushOf grid0 true (Window.indexMap ((cfg0 (adm m)).win 7)) t = false := by
  intro t ht
  unfold Window.flushOf
  have h1 : ¬ (t.val + 1 = grid0.N) := by have : grid0.N = 40 := by decide
                                          omega
  simp only [h1, decide_false, Bool.false_or, Bool.true_and, decide_eq_false_iff_not, not_exists]
  exact fun _ h => h rfl

theorem cond_live (i : grid0.Coords) (v13 v17 v21 v25 v29 v33 v37 v43 v47 v51 v55 v59 v63 v67 : BitVec 32) :
    (!(k0_cond2 i v13 v17 v21 v25 v29 v33 v37 v43 v47 v51 v55 v59 v63 v67 == 1#1) && !(k0_cond3 i v13 v17 v21 v25 v29 v33 v37 v43 v47 v51 v55 v59 v63 v67 == 1#1)) = false := by
  by_cases h : k0_cond2 i v13 v17 v21 v25 v29 v33 v37 v43 v47 v51 v55 v59 v63 v67 = 1#1
  · rw [h]; rfl
  · rw [cond3_of_not_cond2 _ _ _ _ _ _ _ _ _ _ _ _ _ _ _ h, Bool.and_eq_false_iff]; exact .inr rfl

theorem liveAt_4 (t : Fin (cfgM m).N) : (cfgM m).idle 4 (grid0.coords t) = false := cond_live _ _ _ _ _ _ _ _ _ _ _ _ _ _ _
theorem liveAt_5 (t : Fin (cfgM m).N) : (cfgM m).idle 5 (grid0.coords t) = false := rfl
theorem liveAt_6 (t : Fin (cfgM m).N) : (cfgM m).idle 6 (grid0.coords t) = false := cond_live _ _ _ _ _ _ _ _ _ _ _ _ _ _ _

theorem cond1_zero (t : Fin grid0.N) (h : t.val = 0) : k0_cond1 (grid0.coords t) = 1#1 :=
  (by decide +kernel : ∀ t : Fin grid0.N, t.val = 0 → k0_cond1 (grid0.coords t) = 1#1) t h

/-- After the first step the buffer of the column scales holds them. -/
theorem beforeV_7 (c : Dev nD) (d) : ∀ (n : ℕ) (h : n < (cfgM m).N), n ≠ 0 → (datsV m 0 c).before 7 ⟨n, h⟩ d = csOf (hist m c) := by
  have hN : (cfgM (F := F) m).N = 40 := by show grid0.N = 40; decide
  intro n
  induction n with
  | zero => exact fun _ h => absurd rfl h
  | succ k ih =>
    intro h _
    have hk : k < (cfgM m).N := by omega
    rw [(datsV m 0 c).before_of_pos 7 ⟨k + 1, h⟩ (Nat.succ_ne_zero k) (((cfgM m).win 7).fetch_out rfl _)]
    rw [if_neg (by rw [show ((cfgM m).win 7).flush ⟨k + 1 - 1, _⟩ = false from flush_7 m ⟨k, by omega⟩ (by show k + 1 < 40; omega)]; exact Bool.false_ne_true)]
    show (datsV m 0 c).left 7 ⟨k, hk⟩ d = _
    unfold Dat.left
    by_cases h0 : k = 0
    · have hl : (cfgM m).idle 7 ((cfgM m).grid.coords ⟨k, hk⟩) = false := by
        show (!(k0_cond1 (grid0.coords ⟨k, hk⟩) == 1#1)) = false
        rw [cond1_zero ⟨k, hk⟩ h0]; rfl
      rw [hl]
      show (datsV m 0 c).kept 7 ⟨k, hk⟩ d = _
      unfold Dat.kept
      rw [Pipeline.fill_of_clip_none (cfg := cfgM m) 7 _ (fun _ => rfl) d ((datsV m 0 c).after 7 ⟨k, hk⟩), Window.fill_cut]
      exact afterV_7 m c _
    · cases hi : (cfgM m).idle 7 ((cfgM m).grid.coords ⟨k, hk⟩)
      · show (datsV m 0 c).kept 7 ⟨k, hk⟩ d = _
        unfold Dat.kept
        rw [Pipeline.fill_of_clip_none (cfg := cfgM m) 7 _ (fun _ => rfl) d ((datsV m 0 c).after 7 ⟨k, hk⟩), Window.fill_cut]
        exact afterV_7 m c _
      · exact ih hk h0

/-- A window left at `X` both where the body stores into it and where it does not. -/
theorem leaves_of {cfg : Cfg sig Λ₀} {c : Dev nD} (dat : Dat τ (Elt F) Unit ℕ (UR sig nD τ) ℕ cfg c) (w : Fin cfg.W) (t : Fin cfg.N) (X : (cfg.win w).block.Idx → Elt F (cfg.win w).elt)
    (ha : dat.after w t = X) (hb : cfg.idle w (cfg.grid.coords t) = true → ∀ d, dat.before w t d = X) :
    owns (c : Thread nD τ) ((cfg.win w).stage (cfg.slots t w)) fullShare X ⊢ (dat.leavesExact w t : sProp 𝕄) := by
  subst ha
  unfold Dat.leavesExact
  cases hi : cfg.idle w (cfg.grid.coords t)
  · exact .rfl
  · cases (cfg.win w).flush t
    · dsimp only
      iintro H
      iexists (dat.after w t)
      rw [hb hi]
      iexact H
    · exact .rfl

theorem leaves_7 (c : Dev nD) (t : Fin (cfgM m).N) : owns (c : Thread nD τ) (ms_7 m t) fullShare (csOf (hist m c)) ⊢ ((datsV m 0 c).leavesExact 7 t : sProp 𝕄) := by
  refine leaves_of (datsV m 0 c) 7 t (csOf (hist m c)) (afterV_7 m c t) fun hi d => beforeV_7 m c d t.val t.isLt fun h0 => ?_
  have hl : (cfgM m).idle 7 ((cfgM m).grid.coords t) = false := by
    show (!(k0_cond1 (grid0.coords t) == 1#1)) = false
    rw [cond1_zero t h0]; rfl
  exact Bool.false_ne_true (hl.symm.trans hi)

theorem cond1_pos : ∀ t : Fin grid0.N, ¬ k0_cond1 (grid0.coords t) = 1#1 → t.val ≠ 0 := by decide +kernel

/-- What the body is called with at point `t`, window by window, -/
def bodyPreV (c : Dev nD) (t : Fin (cfgM m).N) : sProp 𝕄 :=
  iprop((datsV m 0 c).Φ t.castSucc ∗ (datsV m 0 c).owesAt () t.castSucc
    ∗ (∃ d, owns (c : Thread nD τ) (ms_0 m t) fullShare ((datsV m 0 c).before 0 t d))
    ∗ (∃ d, owns (c : Thread nD τ) (ms_1 m t) fullShare ((datsV m 0 c).before 1 t d))
    ∗ (∃ d, owns (c : Thread nD τ) (ms_2 m t) fullShare ((datsV m 0 c).before 2 t d))
    ∗ (∃ d, owns (c : Thread nD τ) (ms_3 m t) fullShare ((datsV m 0 c).before 3 t d))
    ∗ (∃ d, owns (c : Thread nD τ) (ms_4 m t) fullShare ((datsV m 0 c).before 4 t d))
    ∗ (∃ d, owns (c : Thread nD τ) (ms_5 m t) fullShare ((datsV m 0 c).before 5 t d))
    ∗ (∃ d, owns (c : Thread nD τ) (ms_6 m t) fullShare ((datsV m 0 c).before 6 t d))
    ∗ (∃ d, owns (c : Thread nD τ) (ms_7 m t) fullShare ((datsV m 0 c).before 7 t d))
    ∗ (∃ d, owns (c : Thread nD τ) (ms_8 m t) fullShare d))

/-- and what it returns. -/
def bodyPostV (c : Dev nD) (t : Fin (cfgM m).N) : sProp 𝕄 :=
  iprop((datsV m 0 c).Φ t.succ ∗ (datsV m 0 c).owesAt () t.succ
    ∗ (datsV m 0 c).leavesExact 0 t
    ∗ (datsV m 0 c).leavesExact 1 t
    ∗ (datsV m 0 c).leavesExact 2 t
    ∗ (datsV m 0 c).leavesExact 3 t
    ∗ (datsV m 0 c).leavesExact 4 t
    ∗ (datsV m 0 c).leavesExact 5 t
    ∗ (datsV m 0 c).leavesExact 6 t
    ∗ (datsV m 0 c).leavesExact 7 t
    ∗ (∃ d, owns (c : Thread nD τ) (ms_8 m t) fullShare d))

set_option maxHeartbeats 4000000 in
theorem sound_bodyV (c : Dev nD) (t : Fin (cfgM m).N) :
    bodyPreV m c t ⊢ wp frame (wpE (defs₀ (F := F)) Variants.none c none) Set.univ (bodyAt (adm m) t) (fun _ => bodyPostV m c t) := by
  unfold bodyPreV bodyPostV bodyAt
  simp only [beforeV_0, beforeV_1, beforeV_2, beforeV_3]
  rw [show (datsV m 0 c).owesAt () t.succ = (datsV m 0 c).owesAt () t.castSucc from rfl]
  rw [show (datsV m 0 c).Φ t.castSucc = iprop((scr m c t.val ∗ ∃ r, prngReg c r) ∗ Pipeline.ΦT pre0 (tbl m) c) from rfl,
    show (datsV m 0 c).Φ t.succ = iprop((scr m c (t.val + 1) ∗ ∃ r, prngReg c r) ∗ Pipeline.ΦT pre0 (tbl m) c) from rfl, PhiT_eq]
  unfold scr
  rw [show (datsV m 0 c).leavesExact 0 t = owns (c : Thread nD τ) (ms_0 m t) fullShare ((datsV m 0 c).after 0 t) from by
      unfold Dat.leavesExact; rw [liveAt_0 m t]; try rfl, afterV_0]
  rw [show (datsV m 0 c).leavesExact 1 t = owns (c : Thread nD τ) (ms_1 m t) fullShare ((datsV m 0 c).after 1 t) from by
      unfold Dat.leavesExact; rw [liveAt_1 m t]; try rfl, afterV_1]
  rw [show (datsV m 0 c).leavesExact 2 t = owns (c : Thread nD τ) (ms_2 m t) fullShare ((datsV m 0 c).after 2 t) from by
      unfold Dat.leavesExact; rw [liveAt_2 m t]; try rfl, afterV_2]
  rw [show (datsV m 0 c).leavesExact 3 t = owns (c : Thread nD τ) (ms_3 m t) fullShare ((datsV m 0 c).after 3 t) from by
      unfold Dat.leavesExact; rw [liveAt_3 m t]; try rfl, afterV_3]
  rw [show (datsV m 0 c).leavesExact 4 t = owns (c : Thread nD τ) (ms_4 m t) fullShare ((datsV m 0 c).after 4 t) from by
      unfold Dat.leavesExact; rw [liveAt_4 m t]; try rfl, afterV_4]
  rw [show (datsV m 0 c).leavesExact 5 t = owns (c : Thread nD τ) (ms_5 m t) fullShare ((datsV m 0 c).after 5 t) from by
      unfold Dat.leavesExact; rw [liveAt_5 m t]; try rfl, afterV_5]
  rw [show (datsV m 0 c).leavesExact 6 t = owns (c : Thread nD τ) (ms_6 m t) fullShare ((datsV m 0 c).after 6 t) from by
      unfold Dat.leavesExact; rw [liveAt_6 m t]; try rfl, afterV_6]
  iintro ⟨⟨⟨⟨⟨%s0, %hs0, HS0⟩, HS1, HS2, HS3, ⟨%s4, %hs4, HS4⟩, HS5⟩, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (kernelValue _ _ _ _ _ _ _ _ _ _ _ _ _ _ _ _ _ _ _ _ _ _ _ _ _ _ _ _ _ _ _ _ c (grid0.coords t) (iblk m c 0 t) (iblk m c 1 t) (iblk m c 2 t) (hist m c) (tbl m 0) ((datsV m 0 c).before 7 t d7) s0 s4
    (fun h => ⟨beforeV_7 m c d7 t.val t.isLt (cond1_pos t h), hs0 (cond1_pos t h), hs4 (cond1_pos t h)⟩) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexact H7
  isplitl [H8]; · iexists _; iexact H8
  isplitl [HS0]; · iexact HS0
  isplitl [HS1]; · iexact HS1
  isplitl [HS2]; · iexact HS2
  isplitl [HS3]; · iexact HS3
  isplitl [HS4]; · iexact HS4
  isplitl [HS5]; · iexact HS5
  isplitl [HT]; · iexact HT
  iintro ⟨H0, H1, H2, H3, H4, H5, H6, H7, H8, HS0, HS1, HS2, HS3, HS4, HS5, HT⟩
  isplitl [HS0 HS1 HS2 HS3 HS4 HS5 Hg HT]
  · isplitl [HS0 HS1 HS2 HS3 HS4 HS5 Hg]
    · isplitl [HS0 HS1 HS2 HS3 HS4 HS5]
      · skip
        isplitl [HS0]
        · iexists _; isplitr; swap; · iexact HS0
          ipureintro; exact fun _ => rfl
        isplitl [HS1]; · iexact HS1
        isplitl [HS2]; · iexact HS2
        isplitl [HS3]; · iexact HS3
        isplitl [HS4]
        · iexists _; isplitr; swap; · iexact HS4
          ipureintro; exact fun _ => rfl
        iexact HS5
      iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iapply (leaves_7 m c t); iexact H7
  iexact H8

theorem body_obligationV (c : Dev nD) : BodyObligation (datsV (F := F) m 0 c) (defs₀ (F := F)) Variants.none () Set.univ forgetsV := fun t => by
  rw [bigSep_W0, bigSep_W0, defs₀_row m]
  exact triple_restated (sound_bodyV m c t) rfl .rfl fun _ => .rfl

theorem scr_in (c : Dev nD) : iprop(Pipeline.ΦA spec0 c ∗ Pipeline.ΦT pre0 (tbl m) c) ⊢ ((datsV m 0 c).Φ 0 : sProp 𝕄) := by
  rw [show (datsV m 0 c).Φ 0 = iprop((scr m c 0 ∗ ∃ r, prngReg c r) ∗ Pipeline.ΦT pre0 (tbl m) c) from rfl, PhiA_eq]
  unfold scr
  iintro ⟨⟨⟨⟨%s0, HS0⟩, HS1, HS2, HS3, ⟨%s4, HS4⟩, HS5⟩, Hg⟩, HT⟩
  isplitl [HS0 HS1 HS2 HS3 HS4 HS5 Hg]
  · isplitl [HS0 HS1 HS2 HS3 HS4 HS5]
    · isplitl [HS0]
      · iexists _; isplitr; swap; · iexact HS0
        ipureintro; exact fun h => absurd rfl h
      isplitl [HS1]; · iexact HS1
      isplitl [HS2]; · iexact HS2
      isplitl [HS3]; · iexact HS3
      isplitl [HS4]
      · iexists _; isplitr; swap; · iexact HS4
        ipureintro; exact fun h => absurd rfl h
      iexact HS5
    iexact Hg
  iexact HT

theorem scr_out (c : Dev nD) : ((datsV m 0 c).Φ (Fin.last (cfgM m).N) : sProp 𝕄) ⊢ Pipeline.ΦA spec0 c := by
  rw [show (datsV m 0 c).Φ (Fin.last (cfgM m).N) = iprop((scr m c (Fin.last (cfgM m).N).val ∗ ∃ r, prngReg c r) ∗ Pipeline.ΦT pre0 (tbl m) c) from rfl, PhiA_eq]
  unfold scr
  iintro ⟨⟨⟨⟨%s0, %h0, HS0⟩, HS1, HS2, HS3, ⟨%s4, %h4, HS4⟩, HS5⟩, Hg⟩, HT⟩
  isplitl [HS0 HS1 HS2 HS3 HS4 HS5]
  · isplitl [HS0]; · iexists _; iexact HS0
    isplitl [HS1]; · iexact HS1
    isplitl [HS2]; · iexact HS2
    isplitl [HS3]; · iexact HS3
    isplitl [HS4]; · iexists _; iexact HS4
    iexact HS5
  iexact Hg

set_option backward.isDefEq.respectTransparency.types false in
/-- The launch, its outputs named. -/
theorem run_mainV : θ_run defs (onTc (τ := τ) (main (F := F))) (s₀ m ρ) (Pipeline.RDat.FramePost ((Pipeline.pin pcfgs fun _ => adm m) 0) (fun c => (datsV m 0 c).toRForget forgetsV) (V m)) :=
  Pipeline.θ_run_frameP_track_forget pcfgs (fun _ => adm m) (datsV m) (0 : Fin 1) launch0 defs₀ Variants.none forgetsV m ρ main
    (hbody := fun c => (body_obligationV m c).loose) (hshare := fun c => (datsV m 0 c).share_full fun _ => rfl)
    (howed := fun _ _ => rfl) (V := V m) (hmain := hmain m Variants.none) (hA := A_eqV m) (hpf := V_pre m) (hin := scr_in m) (hout := scr_out m)

end Cert.Proof.KernelIdeal

end
-- ==== Proof.KArr.lean ====
/- The kernel's result arrays as functions of its argument arrays, at any float values: row `R` of a result is row `R % 32` of
   what the kernel leaves at step `R / 32`. -/
module

public import proofs.«01_k».proof.Proof.FrameValue

@[expose] public section

set_option maxRecDepth 16384

noncomputable section

namespace Cert.Proof.KernelIdeal

open Cert.KernelIdeal Cert.KernelIdeal.Gen
open Idealize.ShloMosaic Idealize.ShloMosaic.TcCoe
open Idealize.SL.Sem
open Idealize.ShloMosaic.Pipeline (Dat Cfg Window)

variable {F : FTy → Type} [FloatOps F] [Named F]

/-- Rows `32 t` and after of an array. -/
def rows32 {n : ℕ} {E : Type} (A : (⟨2, ![1280, n]⟩ : Shape).Idx → E) (t : ℕ) : (⟨2, ![32, n]⟩ : Shape).Idx → E :=
  fun y => A (ix2 ⟨(32 * t + (y 0).val) % 1280, Nat.mod_lt _ (by decide)⟩ (y 1))

/-- An array by chunks of 32 rows. -/
def at32 {n : ℕ} {E : Type} (f : ℕ → (⟨2, ![32, n]⟩ : Shape).Idx → E) : (⟨2, ![1280, n]⟩ : Shape).Idx → E :=
  fun i => f ((i 0).val / 32) (ix2 ⟨(i 0).val % 32, Nat.mod_lt _ (by decide)⟩ (i 1))

theorem at32_eq {n : ℕ} {E : Type} (f : ℕ → (⟨2, ![32, n]⟩ : Shape).Idx → E) (i : (⟨2, ![1280, n]⟩ : Shape).Idx) (t : ℕ) (j : (⟨2, ![32, n]⟩ : Shape).Idx)
    (h0 : (i 0).val = t * 32 + 1 * (j 0).val) (h1 : (i 1).val = (j 1).val) : at32 f i = f t j := by
  have hj : (j 0).val < 32 := (j 0).isLt
  unfold at32
  rw [show (i 0).val / 32 = t by omega]
  exact congrArg (f t) (ix2_ext (by show (i 0).val % 32 = (j 0).val; omega) h1)

/-- Step `k` of the grid. -/
def pt (k : ℕ) : Fin grid0.N := ⟨k % 40, Nat.lt_of_lt_of_eq (Nat.mod_lt _ (by decide)) (by decide : 40 = grid0.N)⟩

theorem pt_val (t : Fin grid0.N) : pt t.val = t := by
  have h : t.val < 40 := Nat.lt_of_lt_of_eq t.isLt (by decide : grid0.N = 40)
  exact Fin.ext (Nat.mod_eq_of_lt h)

/-- The row codes, -/
def RC (x0 : Vec F S1280x65536 .fp8e4m3) (x1 : Vec F S1280x512 .f32) (x2 : Vec F S1280x32768 .bf16) : Vec F S1280x65536 .fp8e5m2 :=
  at32 fun t => rcOf (rows32 x0 t) (rows32 x1 t) (rows32 x2 t)

/-- the row scales, -/
def RS (x0 : Vec F S1280x65536 .fp8e4m3) (x1 : Vec F S1280x512 .f32) (x2 : Vec F S1280x32768 .bf16) : Vec F S1280x512 .f32 :=
  at32 fun t => rsOf (rows32 x0 t) (rows32 x1 t) (rows32 x2 t)

/-- and the column codes. -/
def CC (x0 : Vec F S1280x65536 .fp8e4m3) (x1 : Vec F S1280x512 .f32) (x2 : Vec F S1280x32768 .bf16) (x3 : S9.Idx → BitVec 32) (x4 : Vec F S8x65536 .f32) : Vec F S1280x65536 .fp8e5m2 :=
  at32 fun t => ccOf (grid0.coords (pt t)) x3 (rows32 x0 t) (rows32 x1 t) (rows32 x2 t) x4

theorem RC_at (x0 : Vec F S1280x65536 .fp8e4m3) (x1 : Vec F S1280x512 .f32) (x2 : Vec F S1280x32768 .bf16) (i : S1280x65536.Idx) (t : ℕ) (j : S32x65536.Idx)
    (h : (i 0).val = t * 32 + 1 * (j 0).val ∧ (i 1).val = (j 1).val) : RC x0 x1 x2 i = rcOf (rows32 x0 t) (rows32 x1 t) (rows32 x2 t) j :=
  at32_eq (fun t => rcOf (rows32 x0 t) (rows32 x1 t) (rows32 x2 t)) i t j h.1 h.2

theorem RS_at (x0 : Vec F S1280x65536 .fp8e4m3) (x1 : Vec F S1280x512 .f32) (x2 : Vec F S1280x32768 .bf16) (i : S1280x512.Idx) (t : ℕ) (j : S32x512.Idx)
    (h : (i 0).val = t * 32 + 1 * (j 0).val ∧ (i 1).val = (j 1).val) : RS x0 x1 x2 i = rsOf (rows32 x0 t) (rows32 x1 t) (rows32 x2 t) j :=
  at32_eq (fun t => rsOf (rows32 x0 t) (rows32 x1 t) (rows32 x2 t)) i t j h.1 h.2

theorem CC_at (x0 : Vec F S1280x65536 .fp8e4m3) (x1 : Vec F S1280x512 .f32) (x2 : Vec F S1280x32768 .bf16) (x3 : S9.Idx → BitVec 32) (x4 : Vec F S8x65536 .f32) (i : S1280x65536.Idx) (t : ℕ) (j : S32x65536.Idx)
    (h : (i 0).val = t * 32 + 1 * (j 0).val ∧ (i 1).val = (j 1).val) : CC x0 x1 x2 x3 x4 i = ccOf (grid0.coords (pt t)) x3 (rows32 x0 t) (rows32 x1 t) (rows32 x2 t) x4 j :=
  at32_eq (fun t => ccOf (grid0.coords (pt t)) x3 (rows32 x0 t) (rows32 x1 t) (rows32 x2 t) x4) i t j h.1 h.2

variable (m : (ℓ : Loc nD τ sig) → Buf (Elt F) ℓ) (ρ : Dev nD → PrngReg)

/-! ### The windows' places -/

/-- The block index of a window of row chunks is the step; of the others, zero. -/
theorem idx_rows : ∀ t : Fin grid0.N, (cc0_transform_0 (grid0.coords t) 0 = t.val ∧ cc0_transform_0 (grid0.coords t) 1 = 0) ∧ (cc0_transform_1 (grid0.coords t) 0 = t.val ∧ cc0_transform_1 (grid0.coords t) 1 = 0)
    ∧ (cc0_transform_2 (grid0.coords t) 0 = t.val ∧ cc0_transform_2 (grid0.coords t) 1 = 0) ∧ (cc0_transform_4 (grid0.coords t) 0 = t.val ∧ cc0_transform_4 (grid0.coords t) 1 = 0)
    ∧ (cc0_transform_5 (grid0.coords t) 0 = t.val ∧ cc0_transform_5 (grid0.coords t) 1 = 0) ∧ (cc0_transform_6 (grid0.coords t) 0 = t.val ∧ cc0_transform_6 (grid0.coords t) 1 = 0)
    ∧ (cc0_transform_3 (grid0.coords t) 0 = 0 ∧ cc0_transform_3 (grid0.coords t) 1 = 0) ∧ (cc0_transform_7 (grid0.coords t) 0 = 0 ∧ cc0_transform_7 (grid0.coords t) 1 = 0) := by
  decide +kernel

/-- An index of a block of rows, in its array. -/
theorem emb_rows {n : ℕ} (t : Fin grid0.N) (x : (⟨2, ![1280, n]⟩ : Shape).Idx) (j : (⟨2, ![32, n]⟩ : Shape).Idx) {p q : ℕ} (hp : p = t.val) (hq : q = 0)
    (h0 : (x 0).val = p * 32 + 1 * (j 0).val) (h1 : (x 1).val = q * n + 1 * (j 1).val) : (x 0).val = t.val * 32 + 1 * (j 0).val ∧ (x 1).val = (j 1).val := by
  subst hp hq
  exact ⟨h0, h1.trans (by rw [Nat.zero_mul, Nat.zero_add, Nat.one_mul])⟩

variable (t : Fin (cfgM (F := F) m).N)

theorem emb_0 (j : S32x65536.Idx) : let x : S1280x65536.Idx := (((cfgM m).win 0).blk t).view.emb j; (x 0).val = t.val * 32 + 1 * (j 0).val ∧ (x 1).val = (j 1).val :=
  emb_rows (n := 65536) t _ j (idx_rows t).1.1 (idx_rows t).1.2 rfl rfl
theorem emb_1 (j : S32x512.Idx) : let x : S1280x512.Idx := (((cfgM m).win 1).blk t).view.emb j; (x 0).val = t.val * 32 + 1 * (j 0).val ∧ (x 1).val = (j 1).val :=
  emb_rows (n := 512) t _ j (idx_rows t).2.1.1 (idx_rows t).2.1.2 rfl rfl
theorem emb_2 (j : S32x32768.Idx) : let x : S1280x32768.Idx := (((cfgM m).win 2).blk t).view.emb j; (x 0).val = t.val * 32 + 1 * (j 0).val ∧ (x 1).val = (j 1).val :=
  emb_rows (n := 32768) t _ j (idx_rows t).2.2.1.1 (idx_rows t).2.2.1.2 rfl rfl
theorem emb_4 (j : S32x65536.Idx) : let x : S1280x65536.Idx := (((cfgM m).win 4).blk t).view.emb j; (x 0).val = t.val * 32 + 1 * (j 0).val ∧ (x 1).val = (j 1).val :=
  emb_rows (n := 65536) t _ j (idx_rows t).2.2.2.1.1 (idx_rows t).2.2.2.1.2 rfl rfl
theorem emb_5 (j : S32x512.Idx) : let x : S1280x512.Idx := (((cfgM m).win 5).blk t).view.emb j; (x 0).val = t.val * 32 + 1 * (j 0).val ∧ (x 1).val = (j 1).val :=
  emb_rows (n := 512) t _ j (idx_rows t).2.2.2.2.1.1 (idx_rows t).2.2.2.2.1.2 rfl rfl
theorem emb_6 (j : S32x65536.Idx) : let x : S1280x65536.Idx := (((cfgM m).win 6).blk t).view.emb j; (x 0).val = t.val * 32 + 1 * (j 0).val ∧ (x 1).val = (j 1).val :=
  emb_rows (n := 65536) t _ j (idx_rows t).2.2.2.2.2.1.1 (idx_rows t).2.2.2.2.2.1.2 rfl rfl

/-- An index of a block that is the whole array. -/
theorem emb_whole {a b : ℕ} (x j : (⟨2, ![a, b]⟩ : Shape).Idx) {p q : ℕ} (hp : p = 0) (hq : q = 0)
    (h0 : (x 0).val = p * a + 1 * (j 0).val) (h1 : (x 1).val = q * b + 1 * (j 1).val) : x = j := by
  subst hp hq
  exact ix2_ext (h0.trans (by rw [Nat.zero_mul, Nat.zero_add, Nat.one_mul])) (h1.trans (by rw [Nat.zero_mul, Nat.zero_add, Nat.one_mul]))

theorem emb_3 (j : S8x65536.Idx) : (((cfgM m).win 3).blk t).view.emb j = j :=
  emb_whole (a := 8) (b := 65536) _ j (idx_rows t).2.2.2.2.2.2.1.1 (idx_rows t).2.2.2.2.2.2.1.2 rfl rfl
theorem emb_7 (j : S8x65536.Idx) : (((cfgM m).win 7).blk t).view.emb j = j :=
  emb_whole (a := 8) (b := 65536) _ j (idx_rows t).2.2.2.2.2.2.2.1 (idx_rows t).2.2.2.2.2.2.2.2 rfl rfl

/-! ### The inputs' blocks -/

theorem rows_of {n : ℕ} {E : Type} (A : (⟨2, ![1280, n]⟩ : Shape).Idx → E) (x : (⟨2, ![1280, n]⟩ : Shape).Idx) (j : (⟨2, ![32, n]⟩ : Shape).Idx)
    (h : (x 0).val = t.val * 32 + 1 * (j 0).val ∧ (x 1).val = (j 1).val) : A x = rows32 A t.val j := by
  have hx : (x 0).val < 1280 := (x 0).isLt
  exact congrArg A (ix2_ext (by show (x 0).val = (32 * t.val + (j 0).val) % 1280; omega) h.2)

theorem iblk_0 (c : Dev nD) : iblk m c 0 t = rows32 (n := 65536) (m ((c : Thread nD τ).loc main_arg0)) t.val := funext fun j => rows_of (n := 65536) m t _ _ j (emb_0 m t j)
theorem iblk_1 (c : Dev nD) : iblk m c 1 t = rows32 (n := 512) (m ((c : Thread nD τ).loc main_arg1)) t.val := funext fun j => rows_of (n := 512) m t _ _ j (emb_1 m t j)
theorem iblk_2 (c : Dev nD) : iblk m c 2 t = rows32 (n := 32768) (m ((c : Thread nD τ).loc main_arg2)) t.val := funext fun j => rows_of (n := 32768) m t _ _ j (emb_2 m t j)
theorem hist_arr (c : Dev nD) : hist m c = m ((c : Thread nD τ).loc main_arg4) := funext fun j => congrArg (V m c main_arg4) (emb_3 m _ j)
theorem offs_arr (c : Dev nD) : offs m = m ((c : Thread nD τ).loc main_arg3) := by
  have hc : c = 0 := Subsingleton.elim _ _
  subst hc
  rfl

/-! ### The arrays after the run -/

theorem flush_rows : ∀ t : Fin grid0.N, Window.flushOf grid0 true cc0_transform_4 t = true ∧ Window.flushOf grid0 true cc0_transform_5 t = true ∧ Window.flushOf grid0 true cc0_transform_6 t = true := by
  decide +kernel

theorem flush_last : ∀ t : Fin grid0.N, t.val = 39 → Window.flushOf grid0 true cc0_transform_7 t = true := by
  decide +kernel

theorem flushed_4 (c : Dev nD) : (datsV m 0 c).flushed 4 t = (((cfgM m).win 4).blk t).view.read (Elt F)
    (RC (m ((c : Thread nD τ).loc main_arg0)) (m ((c : Thread nD τ).loc main_arg1)) (m ((c : Thread nD τ).loc main_arg2))) := by
  refine funext fun j => ?_
  show (datsV m 0 c).after 4 t j = _
  rw [afterV_4, iblk_0, iblk_1, iblk_2]
  exact (RC_at _ _ _ _ t.val j (emb_4 m t j)).symm

theorem flushed_5 (c : Dev nD) : (datsV m 0 c).flushed 5 t = (((cfgM m).win 5).blk t).view.read (Elt F)
    (RS (m ((c : Thread nD τ).loc main_arg0)) (m ((c : Thread nD τ).loc main_arg1)) (m ((c : Thread nD τ).loc main_arg2))) := by
  refine funext fun j => ?_
  show (datsV m 0 c).after 5 t j = _
  rw [afterV_5, iblk_0, iblk_1, iblk_2]
  exact (RS_at _ _ _ _ t.val j (emb_5 m t j)).symm

theorem flushed_6 (c : Dev nD) : (datsV m 0 c).flushed 6 t = (((cfgM m).win 6).blk t).view.read (Elt F)
    (CC (m ((c : Thread nD τ).loc main_arg0)) (m ((c : Thread nD τ).loc main_arg1)) (m ((c : Thread nD τ).loc main_arg2)) (m ((c : Thread nD τ).loc main_arg3)) (m ((c : Thread nD τ).loc main_arg4))) := by
  refine funext fun j => ?_
  show (datsV m 0 c).after 6 t j = _
  rw [afterV_6, iblk_0, iblk_1, iblk_2, hist_arr, offs_arr m c]
  refine Eq.trans ?_ (CC_at _ _ _ _ _ _ t.val j (emb_6 m t j)).symm
  rw [pt_val]

theorem flushed_7 (c : Dev nD) : (datsV m 0 c).flushed 7 t = (((cfgM m).win 7).blk t).view.read (Elt F) (csOf (m ((c : Thread nD τ).loc main_arg4))) := by
  refine funext fun j => ?_
  show (datsV m 0 c).after 7 t j = _
  rw [afterV_7, hist_arr]
  exact congrArg (csOf (m ((c : Thread nD τ).loc main_arg4))) (emb_7 m t j).symm

/-- The step that writes row `i 0`. -/
theorem cover_rows {n : ℕ} (i : (⟨2, ![1280, n]⟩ : Shape).Idx) (x : (⟨2, ![1280, n]⟩ : Shape).Idx)
    (h : (x 0).val = (i 0).val / 32 * 32 + 1 * ((i 0).val % 32) ∧ (x 1).val = (i 1).val) : x = i :=
  ix2_ext (by omega) h.2

/-- Step `k`, of this pipeline. -/
def step (k : ℕ) : Fin (cfgM (F := F) m).N := pt k

theorem step_row (i : S1280x65536.Idx) : (step (F := F) m ((i 0).val / 32)).val = (i 0).val / 32 := by
  have h : (i 0).val < 1280 := (i 0).isLt
  show (i 0).val / 32 % 40 = (i 0).val / 32
  omega

theorem step_row' (i : S1280x512.Idx) : (step (F := F) m ((i 0).val / 32)).val = (i 0).val / 32 := by
  have h : (i 0).val < 1280 := (i 0).isLt
  show (i 0).val / 32 % 40 = (i 0).val / 32
  omega

theorem flush_4 (t : Fin (cfgM (F := F) m).N) : ((cfgM m).win 4).flush t = true := (flush_rows t).1
theorem flush_5 (t : Fin (cfgM (F := F) m).N) : ((cfgM m).win 5).flush t = true := (flush_rows t).2.1
theorem flush_6 (t : Fin (cfgM (F := F) m).N) : ((cfgM m).win 6).flush t = true := (flush_rows t).2.2
theorem flush_7_last : ((cfgM (F := F) m).win 7).flush (step m 39) = true := flush_last (pt 39) rfl

theorem cover_4 (i : S1280x65536.Idx) : ∃ t : Fin (cfgM (F := F) m).N, ((cfgM m).win 4).flush t = true ∧ i ∈ (((cfgM m).win 4).blk t).view.set := by
  refine ⟨step m ((i 0).val / 32), flush_4 m _, ?_⟩
  have he := emb_4 m (step m ((i 0).val / 32)) (ix2 ⟨(i 0).val % 32, Nat.mod_lt _ (by decide)⟩ (i 1))
  rw [step_row] at he
  have hx := (((cfgM m).win 4).blk (step m ((i 0).val / 32))).view.emb_mem_set (ix2 ⟨(i 0).val % 32, Nat.mod_lt _ (by decide)⟩ (i 1))
  rwa [cover_rows i _ he] at hx

theorem cover_5 (i : S1280x512.Idx) : ∃ t : Fin (cfgM (F := F) m).N, ((cfgM m).win 5).flush t = true ∧ i ∈ (((cfgM m).win 5).blk t).view.set := by
  refine ⟨step m ((i 0).val / 32), flush_5 m _, ?_⟩
  have he := emb_5 m (step m ((i 0).val / 32)) (ix2 ⟨(i 0).val % 32, Nat.mod_lt _ (by decide)⟩ (i 1))
  rw [step_row'] at he
  have hx := (((cfgM m).win 5).blk (step m ((i 0).val / 32))).view.emb_mem_set (ix2 ⟨(i 0).val % 32, Nat.mod_lt _ (by decide)⟩ (i 1))
  rwa [cover_rows i _ he] at hx

theorem cover_6 (i : S1280x65536.Idx) : ∃ t : Fin (cfgM (F := F) m).N, ((cfgM m).win 6).flush t = true ∧ i ∈ (((cfgM m).win 6).blk t).view.set := by
  refine ⟨step m ((i 0).val / 32), flush_6 m _, ?_⟩
  have he := emb_6 m (step m ((i 0).val / 32)) (ix2 ⟨(i 0).val % 32, Nat.mod_lt _ (by decide)⟩ (i 1))
  rw [step_row] at he
  have hx := (((cfgM m).win 6).blk (step m ((i 0).val / 32))).view.emb_mem_set (ix2 ⟨(i 0).val % 32, Nat.mod_lt _ (by decide)⟩ (i 1))
  rwa [cover_rows i _ he] at hx

theorem cover_7 (i : S8x65536.Idx) : ∃ t : Fin (cfgM (F := F) m).N, ((cfgM m).win 7).flush t = true ∧ i ∈ (((cfgM m).win 7).blk t).view.set := by
  refine ⟨step m 39, flush_7_last m, ?_⟩
  have h := (((cfgM m).win 7).blk (step m 39)).view.emb_mem_set i
  rwa [emb_7] at h

theorem forgets_no : ∀ w : Fin 9, w.val < 8 → forgetsV w = false := by decide

theorem fin_4 (c : Dev nD) : (datsV m 0 c).arrAt 4 (cfgM m).N = RC (m ((c : Thread nD τ).loc main_arg0)) (m ((c : Thread nD τ).loc main_arg1)) (m ((c : Thread nD τ).loc main_arg2)) :=
  (datsV m 0 c).arrAt_eq_of_cover 4 _ (fun t _ => flushed_4 m t c) (cover_4 m)
theorem fin_5 (c : Dev nD) : (datsV m 0 c).arrAt 5 (cfgM m).N = RS (m ((c : Thread nD τ).loc main_arg0)) (m ((c : Thread nD τ).loc main_arg1)) (m ((c : Thread nD τ).loc main_arg2)) :=
  (datsV m 0 c).arrAt_eq_of_cover 5 _ (fun t _ => flushed_5 m t c) (cover_5 m)
theorem fin_6 (c : Dev nD) : (datsV m 0 c).arrAt 6 (cfgM m).N
    = CC (m ((c : Thread nD τ).loc main_arg0)) (m ((c : Thread nD τ).loc main_arg1)) (m ((c : Thread nD τ).loc main_arg2)) (m ((c : Thread nD τ).loc main_arg3)) (m ((c : Thread nD τ).loc main_arg4)) :=
  (datsV m 0 c).arrAt_eq_of_cover 6 _ (fun t _ => flushed_6 m t c) (cover_6 m)
theorem fin_7 (c : Dev nD) : (datsV m 0 c).arrAt 7 (cfgM m).N = csOf (m ((c : Thread nD τ).loc main_arg4)) :=
  (datsV m 0 c).arrAt_eq_of_cover 7 _ (fun t _ => flushed_7 m t c) (cover_7 m)

/-- The run of the kernel with its first four result arrays at their functions of the arguments, the arguments unchanged. -/
theorem run_arrays : θ_run defs (onTc (τ := τ) (main (F := F))) ⟨m, fun _ => 0, ρ⟩ fun r => ∀ c : Dev nD,
      r.2.mem ((c : Thread nD τ).loc main_v0_0) = RC (m ((c : Thread nD τ).loc main_arg0)) (m ((c : Thread nD τ).loc main_arg1)) (m ((c : Thread nD τ).loc main_arg2))
      ∧ r.2.mem ((c : Thread nD τ).loc main_v0_1) = RS (m ((c : Thread nD τ).loc main_arg0)) (m ((c : Thread nD τ).loc main_arg1)) (m ((c : Thread nD τ).loc main_arg2))
      ∧ r.2.mem ((c : Thread nD τ).loc main_v0_2) = CC (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_3) = csOf (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => by
    refine ⟨?_, ?_, ?_, ?_, ?_, ?_, ?_, ?_, ?_⟩
    · exact (((datsV m 0 c).toRForget_arrAt_iff (w := 4) (forgets_no 4 (by decide)) _ _).mp ((h c).1 4)).trans (fin_4 m c)
    · exact (((datsV m 0 c).toRForget_arrAt_iff (w := 5) (forgets_no 5 (by decide)) _ _).mp ((h c).1 5)).trans (fin_5 m c)
    · exact (((datsV m 0 c).toRForget_arrAt_iff (w := 6) (forgets_no 6 (by decide)) _ _).mp ((h c).1 6)).trans (fin_6 m c)
    · exact (((datsV m 0 c).toRForget_arrAt_iff (w := 7) (forgets_no 7 (by decide)) _ _).mp ((h c).1 7)).trans (fin_7 m c)
    · exact (Pipeline.RDat.FramePost.arr_in h c 0 rfl).trans (A_eqV m c 0)
    · exact (Pipeline.RDat.FramePost.arr_in h c 1 rfl).trans (A_eqV m c 1)
    · exact (Pipeline.RDat.FramePost.arr_in h c 2 rfl).trans (A_eqV m c 2)
    · exact (h c).2 main_arg3 (by decide : main_arg3 ∈ Pipeline.restRefs sig spec0)
    · exact (Pipeline.RDat.FramePost.arr_in h c 3 rfl).trans (A_eqV m c 3)) (run_mainV m ρ)

end Cert.Proof.KernelIdeal

end
-- ==== Proof.Groups.lean ====
/- Which expert a row belongs to: counting the offsets at or below the row, or looking for the pair of offsets around it. -/
module

public import Idealize.ShloMosaic.PureOps

@[expose] public section

set_option maxRecDepth 16384

noncomputable section

namespace Cert.Proof.Groups

open Idealize.ShloMosaic

variable {α : Type}

/-- A choice by a truth value. -/
def sel (b : Bool) (x y : α) : α := Scalar.select (BitVec.ofBool b) x y

theorem sel_map {β : Type} (f : α → β) (b : Bool) (x y : α) : sel b (f x) (f y) = f (sel b x y) := by cases b <;> rfl

/-- One of eight values by a number: the first for any number that is not 1 to 7. -/
def pick (g : BitVec 32) (v : Fin 8 → α) : α :=
  sel (g == 7#32) (v 7) (sel (g == 6#32) (v 6) (sel (g == 5#32) (v 5) (sel (g == 4#32) (v 4) (sel (g == 3#32) (v 3) (sel (g == 2#32) (v 2) (sel (g == 1#32) (v 1) (v 0)))))))

theorem pick_map (g : BitVec 32) (v : Fin 8 → α) : pick g v = v (pick g id) := by
  unfold pick
  simp only [sel_map, id]

/-- The count of the nine truths, less one. -/
def grpB (c0 c1 c2 c3 c4 c5 c6 c7 c8 : Bool) : BitVec 32 :=
  4294967295#32 + sel c0 1#32 0#32 + sel c1 1#32 0#32 + sel c2 1#32 0#32 + sel c3 1#32 0#32 + sel c4 1#32 0#32 + sel c5 1#32 0#32 + sel c6 1#32 0#32 + sel c7 1#32 0#32 + sel c8 1#32 0#32

/-- One of eight values by pairs of neighbours, the former true and the latter false. -/
def mixB (c0 c1 c2 c3 c4 c5 c6 c7 c8 : Bool) (v : Fin 8 → α) : α :=
  sel (c7 && !c8) (v 7) (sel (c6 && !c7) (v 6) (sel (c5 && !c6) (v 5) (sel (c4 && !c5) (v 4) (sel (c3 && !c4) (v 3) (sel (c2 && !c3) (v 2) (sel (c1 && !c2) (v 1) (sel (c0 && !c1) (v 0) (v 0))))))))

theorem mixB_map (c0 c1 c2 c3 c4 c5 c6 c7 c8 : Bool) (v : Fin 8 → α) : mixB c0 c1 c2 c3 c4 c5 c6 c7 c8 v = v (mixB c0 c1 c2 c3 c4 c5 c6 c7 c8 id) := by
  unfold mixB
  simp only [sel_map, id]

/-- The count of seven truths. -/
def cntB (c1 c2 c3 c4 c5 c6 c7 : Bool) : BitVec 32 :=
  0#32 + (BitVec.ofBool c1).setWidth 32 + (BitVec.ofBool c2).setWidth 32 + (BitVec.ofBool c3).setWidth 32 + (BitVec.ofBool c4).setWidth 32 + (BitVec.ofBool c5).setWidth 32 + (BitVec.ofBool c6).setWidth 32 + (BitVec.ofBool c7).setWidth 32

theorem cntB_val : ∀ c1 c2 c3 c4 c5 c6 c7 : Bool, (cntB c1 c2 c3 c4 c5 c6 c7).toNat = c1.toNat + c2.toNat + c3.toNat + c4.toNat + c5.toNat + c6.toNat + c7.toNat := by decide +kernel

/-- Of a descending run of truths both ways find the last, -/
theorem mix_pick : ∀ c0 c1 c2 c3 c4 c5 c6 c7 : Bool, (c1 → c0) → (c2 → c1) → (c3 → c2) → (c4 → c3) → (c5 → c4) → (c6 → c5) → (c7 → c6) →
    mixB c0 c1 c2 c3 c4 c5 c6 c7 false (id : Fin 8 → Fin 8) = pick (grpB c0 c1 c2 c3 c4 c5 c6 c7 false) id := by decide +kernel

/-- and its number is the count of those after the first. -/
theorem cnt_pick : ∀ c0 c1 c2 c3 c4 c5 c6 c7 : Bool, (c1 → c0) → (c2 → c1) → (c3 → c2) → (c4 → c3) → (c5 → c4) → (c6 → c5) → (c7 → c6) →
    (⟨(cntB c1 c2 c3 c4 c5 c6 c7).toNat % 8, Nat.mod_lt _ (by decide)⟩ : Fin 8) = pick (grpB c0 c1 c2 c3 c4 c5 c6 c7 false) id := by decide +kernel

/-! ### With the offsets -/

variable (T : Fin 9 → BitVec 32)

/-- The number of the group of row `w`. -/
def grpW (w : BitVec 32) : BitVec 32 :=
  grpB ((T 0).sle w) ((T 1).sle w) ((T 2).sle w) ((T 3).sle w) ((T 4).sle w) ((T 5).sle w) ((T 6).sle w) ((T 7).sle w) ((T 8).sle w)

/-- How many of the inner offsets are at or below row `w`. -/
def cntW (w : BitVec 32) : BitVec 32 := cntB ((T 1).sle w) ((T 2).sle w) ((T 3).sle w) ((T 4).sle w) ((T 5).sle w) ((T 6).sle w) ((T 7).sle w)

/-- Whether row `w` is between two offsets. -/
def ownW (lo hi w : BitVec 32) : BitVec 1 := IntOp.andi (BitVec.ofBool (lo.sle w)) (BitVec.ofBool (w.slt hi))

/-- One of eight values by the pair of offsets around row `w`. -/
def mixW (w : BitVec 32) (v : Fin 8 → α) : α :=
  Scalar.select (ownW (T 7) (T 8) w) (v 7) (Scalar.select (ownW (T 6) (T 7) w) (v 6) (Scalar.select (ownW (T 5) (T 6) w) (v 5) (Scalar.select (ownW (T 4) (T 5) w) (v 4) (Scalar.select (ownW (T 3) (T 4) w) (v 3)
    (Scalar.select (ownW (T 2) (T 3) w) (v 2) (Scalar.select (ownW (T 1) (T 2) w) (v 1) (Scalar.select (ownW (T 0) (T 1) w) (v 0) (v 0))))))))

theorem ownW_eq (lo hi w : BitVec 32) : ownW lo hi w = BitVec.ofBool (lo.sle w && !(hi.sle w)) := by
  unfold ownW
  rw [BitVec.sle_eq_not_slt (x := hi) (y := w), Bool.not_not]
  cases lo.sle w <;> cases w.slt hi <;> rfl

theorem sle_trans {a b c : BitVec 32} (h : a.sle b = true) (h' : b.sle c = true) : a.sle c = true := by
  rw [BitVec.sle_iff_toInt_le] at *
  exact le_trans h h'

variable {T} {w : BitVec 32} (hasc : ∀ k : Fin 8, (T k.castSucc).sle (T k.succ) = true) (h8 : (T 8).sle w = false)

include hasc h8

theorem mixW_eq (v : Fin 8 → α) : mixW T w v = pick (grpW T w) v := by
  have hs : ∀ k : Fin 8, (T k.succ).sle w = true → (T k.castSucc).sle w = true := fun k h => sle_trans (hasc k) h
  unfold mixW grpW
  simp only [ownW_eq]
  rw [pick_map, h8]
  refine (mixB_map _ _ _ _ _ _ _ _ false v).trans (congrArg v ?_)
  exact mix_pick _ _ _ _ _ _ _ _ (hs 0) (hs 1) (hs 2) (hs 3) (hs 4) (hs 5) (hs 6)

/-- Where the counts at two rows agree, they are the count at every row between. -/
theorem cntW_eq (v : Fin 8 → α) {a b : BitVec 32} (hab : cntW T a = cntW T b) (ha : a.sle w = true) (hb : w.sle b = true) :
    v ⟨(cntW T a).toNat % 8, Nat.mod_lt _ (by decide)⟩ = pick (grpW T w) v := by
  have hs : ∀ k : Fin 8, (T k.succ).sle w = true → (T k.castSucc).sle w = true := fun k h => sle_trans (hasc k) h
  have hle : ∀ {x y : Bool}, (x = true → y = true) → x.toNat ≤ y.toNat := by
    intro x y h
    cases x
    · exact Nat.zero_le _
    · rw [h rfl]
  have lo : ∀ k : Fin 9, ((T k).sle a).toNat ≤ ((T k).sle w).toNat := fun k => hle fun h => sle_trans h ha
  have hi : ∀ k : Fin 9, ((T k).sle w).toNat ≤ ((T k).sle b).toNat := fun k => hle fun h => sle_trans h hb
  have hn : (cntW T a).toNat = (cntW T w).toNat := by
    have h := congrArg BitVec.toNat hab
    unfold cntW at h ⊢
    rw [cntB_val, cntB_val] at h ⊢
    have l1 := lo 1; have l2 := lo 2; have l3 := lo 3; have l4 := lo 4; have l5 := lo 5; have l6 := lo 6; have l7 := lo 7
    have u1 := hi 1; have u2 := hi 2; have u3 := hi 3; have u4 := hi 4; have u5 := hi 5; have u6 := hi 6; have u7 := hi 7
    omega
  rw [pick_map]
  refine congrArg v ?_
  simp only [hn]
  unfold grpW cntW
  rw [h8]
  exact cnt_pick _ _ _ _ _ _ _ _ (hs 0) (hs 1) (hs 2) (hs 3) (hs 4) (hs 5) (hs 6)

end Cert.Proof.Groups

end
-- ==== Proof.ColIdeal.lean ====
/- The kernel's column codes over the extended reals, entry by entry: whichever way a chunk finds its rows' experts, a row is
   scaled by the scales of its own expert. -/
module

public import proofs.«01_k».proof.Proof.RefIdeal
public import proofs.«01_k».proof.Proof.KArr
public import proofs.«01_k».proof.Proof.Groups

@[expose] public section

set_option maxRecDepth 16384

noncomputable section

namespace Cert.Proof.KernelIdeal

open Cert.KernelIdeal Cert.KernelIdeal.Gen
open Idealize.ShloMosaic hiding ix1 ix2 ix3
open Cert.Proof.Groups (sel pick grpW cntW mixW ownW)

/-! ### Row numbers -/

theorem coords_val : ∀ t : Fin grid0.N, (grid0.coords t 0).val = t.val := by decide +kernel

theorem row_words : ∀ (t : Fin 40) (r : Fin 32), (BitVec.ofNat 32 t.val * 32#32 + BitVec.ofNat 32 r.val = BitVec.ofNat 32 (32 * t.val + r.val))
    ∧ (BitVec.ofNat 32 t.val * 32#32).sle (BitVec.ofNat 32 (32 * t.val + r.val)) = true
    ∧ (BitVec.ofNat 32 (32 * t.val + r.val)).sle (BitVec.ofNat 32 t.val * 32#32 + 32#32 - 1#32) = true := by decide +kernel

/-! ### Rows of reciprocal scales -/

/-- The reciprocal of the scale of column `j` for expert `e`. -/
def invC (x4 : Vec Ideal S8x65536 .f32) (e : Fin 8) (j : Fin 65536) : EReal := Ideal.exp2 (Ideal.ofBits .f32 0x00000000#32 - eE (x4 (ix2 (m := 8) (n := 65536) e j)))

theorem rowB1_apply (v : Vec Ideal S1x1x128 .f32) (r : Fin 32) (c : Fin 128) : rowB1 v (ix2 r c) = v (ix3 (m := 1) (n := 1) (p := 128) 0 0 c) := by
  unfold rowB1
  rw [broadcastTo_apply _ _ _ (ix2 (m := 1) (n := 128) 0 c) (Fin.forall_fin_two.mpr ⟨rfl, rfl⟩)]
  refine shapeCast_apply _ _ _ _ ?_
  rw [Ref.rm2, Ref.rm3]
  show 0 * (1 * 128) + (0 * 128 + c.val) = 0 * 128 + c.val
  omega

theorem rowB_apply (v : Vec Ideal S1x1x128 .f32) (r : Fin 32) (c : Fin 128) : rowB v (ix2 r c) = v (ix3 (m := 1) (n := 1) (p := 128) 0 0 c) := by
  unfold rowB
  rw [shapeCast_self]
  exact rowB1_apply v r c

theorem inv_at (x4 : Vec Ideal S8x65536 .f32) (e : ℕ) (j : Fin 65536) :
    row11 (icOf x4) (j.val / 128) e (ix3 (m := 1) (n := 1) (p := 128) 0 0 ⟨j.val % 128, Nat.mod_lt _ (by decide)⟩) = invC x4 ⟨e % 8, Nat.mod_lt _ (by decide)⟩ j := by
  unfold row11 invC
  rw [icOf_apply]
  refine congrArg (fun z => Ideal.exp2 (Ideal.ofBits .f32 0x00000000#32 - eE (x4 z))) (ix2_ext rfl ?_)
  show (128 * (j.val / 128 % 512) + j.val % 128) % 65536 = j.val
  omega

theorem mixInv_apply (v158 : IVec S32x128 32) (T : S9.Idx → BitVec 32) (A : S512x8x128.Idx → Elt Ideal .f32) (b : ℕ) (y : S32x128.Idx) :
    mixInv v158 T A b y = mixW (tw T) (v158 y) (fun e : Fin 8 => rowB (row11 A b e.val) y) := rfl

theorem rows_at (w : BitVec 32) (r : Fin 32) (c : Fin 128) : k0_pay613 w (ix2 r c) = w + BitVec.ofNat 32 r.val := by
  show w + BitVec.ofNat 32 (0 * 32 + r.val) = _
  rw [Nat.zero_mul, Nat.zero_add]

/-! ### The counts -/

theorem eFirst_cnt (i : grid0.Coords) (T : S9.Idx → BitVec 32) :
    eFirst i (tw T 1) (tw T 2) (tw T 3) (tw T 4) (tw T 5) (tw T 6) (tw T 7) = (cntW (tw T) (BitVec.ofNat 32 (i 0).val * 32#32)).toNat := rfl

theorem cond2_cnt (i : grid0.Coords) (T : S9.Idx → BitVec 32)
    (h : k0_cond2 i (tw T 1) (tw T 2) (tw T 3) (tw T 4) (tw T 5) (tw T 6) (tw T 7) (tw T 1) (tw T 2) (tw T 3) (tw T 4) (tw T 5) (tw T 6) (tw T 7) = 1#1) :
    cntW (tw T) (BitVec.ofNat 32 (i 0).val * 32#32) = cntW (tw T) (BitVec.ofNat 32 (i 0).val * 32#32 + 32#32 - 1#32) := by
  have key : ∀ a b : BitVec 32, Scalar.cmpi .ne (Scalar.extui (Scalar.cmpi .eq a b) : BitVec 32) 0#32 = 1#1 → a = b := by
    intro a b h
    by_contra hab
    have hb : Scalar.cmpi .eq a b = 0#1 := by
      show BitVec.ofBool (a == b) = 0#1
      rw [beq_eq_false_iff_ne.mpr hab]; rfl
    rw [hb] at h
    exact absurd h (by decide)
  exact key _ _ h

/-! ### The codes -/

theorem ccOf_apply (t : Fin 40) (T : S9.Idx → BitVec 32) (hasc : ∀ k : Fin 8, (tw T k.castSucc).sle (tw T k.succ) = true) (r : Fin 32) (h8 : (tw T 8).sle (BitVec.ofNat 32 (32 * t.val + r.val)) = false)
    (x0 : Vec Ideal S32x65536 .fp8e4m3) (x1 : Vec Ideal S32x512 .f32) (x2 : Vec Ideal S32x32768 .bf16) (x4 : Vec Ideal S8x65536 .f32) (j : Fin 65536) :
    ccOf (grid0.coords (pt t.val)) T x0 x1 x2 x4 (ix2 (m := 32) (n := 65536) r j) = codeE (gradE (rowN (by decide) x0 r) (rowN (by decide) x1 r) (rowN (by decide) x2 r) j.val
      * pick (grpW (tw T) (BitVec.ofNat 32 (32 * t.val + r.val))) (fun e => invC x4 e j)) := by
  have hi : (grid0.coords (pt t.val) 0).val = t.val := (coords_val _).trans (Nat.mod_eq_of_lt t.isLt)
  have hb : j.val / 128 < 512 := by omega
  have hd : dOf x0 x1 x2 (j.val / 128) (ix2 (m := 32) (n := 128) r ⟨j.val % 128, Nat.mod_lt _ (by decide)⟩) = gradE (rowN (by decide) x0 r) (rowN (by decide) x1 r) (rowN (by decide) x2 r) j.val :=
    (dOf_apply x0 x1 x2 (j.val / 128) hb r _).trans (congrArg (gradE _ _ _) (by show 128 * (j.val / 128) + j.val % 128 = j.val; omega))
  obtain ⟨hw, hlo, hhi⟩ := row_words t r
  show colB (grid0.coords (pt t.val)) T (dOf x0 x1 x2 (j.val / 128)) (icOf x4) (j.val / 128) (ix2 (m := 32) (n := 128) r ⟨j.val % 128, Nat.mod_lt _ (by decide)⟩) = _
  unfold colB
  split
  case isTrue h =>
    have hc := cond2_cnt _ T h
    rw [hi] at hc
    refine (codeV_apply _ _).trans (congrArg codeE (congrArg₂ (· * ·) hd ?_))
    rw [rowB1_apply, inv_at]
    refine Eq.trans ?_ (Groups.cntW_eq hasc h8 (fun e => invC x4 e j) hc hlo hhi)
    refine congrArg (fun e => invC x4 e j) (Fin.ext ?_)
    show eFirst _ _ _ _ _ _ _ _ % 8 = _
    rw [eFirst_cnt, hi]
  case isFalse h =>
    refine (codeV_apply _ _).trans (congrArg codeE (congrArg₂ (· * ·) hd ?_))
    rw [mixInv_apply, rows_at]
    simp only [rowB_apply, inv_at]
    rw [show Scalar.muli (BitVec.ofNat 32 (grid0.coords (pt t.val) 0).val) 32#32 + BitVec.ofNat 32 r.val = BitVec.ofNat 32 (32 * t.val + r.val) from by rw [hi]; exact hw]
    refine (Groups.mixW_eq hasc h8 _).trans ?_
    refine congrArg (pick _) (funext fun e => (inv_at x4 e.val j).trans (congrArg (fun e => invC x4 e j) (Fin.ext (Nat.mod_eq_of_lt e.isLt))))

end Cert.Proof.KernelIdeal

end
-- ==== Proof.RefCol.lean ====
/- The reference's column codes over the extended reals, entry by entry. -/
module

public import proofs.«01_k».proof.Proof.RefIdeal
public import proofs.«01_k».proof.Proof.Groups

@[expose] public section

set_option maxRecDepth 16384

noncomputable section

namespace Cert.Proof.Ref

open Cert.ReferenceIdeal Cert.ReferenceIdeal.Gen
open Idealize.ShloMosaic hiding ix1 ix2 ix3
open Cert.Proof.KernelIdeal (ix1 ix2 ix3 ix2_ext eE codeE)
open Cert.Proof.Groups (sel pick grpW)

/-- The row numbers' groups, as operations on arrays, -/
def grpOps {s : Shape} (io : IVec s 32) (w : Fin 9 → BitVec 32) : IVec s 32 :=
  let one (k : Fin 9) : IVec s 32 := select (cmpi .sle (broadcast s (w k)) io) (broadcast s 1#32) (broadcast s 0#32)
  addi (addi (addi (addi (addi (addi (addi (addi (addi (broadcast s 4294967295#32) (one 0)) (one 1)) (one 2)) (one 3)) (one 4)) (one 5)) (one 6)) (one 7)) (one 8)

/-- and entry by entry. -/
theorem grpOps_apply {s : Shape} (io : IVec s 32) (w : Fin 9 → BitVec 32) (y : s.Idx) : grpOps io w y = grpW w (io y) := rfl

/-- The codes of `D` scaled by the group's scales, as operations on arrays, -/
def pickOps {s : Shape} (g : IVec s 32) (D : FVec Ideal s .f32) (r : Fin 8 → FVec Ideal s .f32) : FVec Ideal s .f32 :=
  clipOps (mulf D (select (cmpi .eq g (broadcast s 7#32)) (r 7) (select (cmpi .eq g (broadcast s 6#32)) (r 6) (select (cmpi .eq g (broadcast s 5#32)) (r 5) (select (cmpi .eq g (broadcast s 4#32)) (r 4)
    (select (cmpi .eq g (broadcast s 3#32)) (r 3) (select (cmpi .eq g (broadcast s 2#32)) (r 2) (select (cmpi .eq g (broadcast s 1#32)) (r 1) (r 0)))))))))

/-- and entry by entry. -/
theorem pickOps_apply {s : Shape} (g : IVec s 32) (D : FVec Ideal s .f32) (r : Fin 8 → FVec Ideal s .f32) (y : s.Idx) :
    pickOps g D r y = codeE (D y * pick (g y) (fun e => r e y)) := rfl

variable (x0 : Vec Ideal S1280x65536 .fp8e4m3) (x1 : Vec Ideal S1280x512 .f32) (x2 : Vec Ideal S1280x32768 .bf16) (x3 : Vec Ideal S9 .i32) (x4 : Vec Ideal S8x65536 .f32)

theorem slicesK : ∀ k : Fin 8, S8x65536.Slices ![k.val, 0] S1x65536
  | 0 => slices_S8x65536_o0_0_S1x65536
  | 1 => slices_S8x65536_o1_0_S1x65536
  | 2 => slices_S8x65536_o2_0_S1x65536
  | 3 => slices_S8x65536_o3_0_S1x65536
  | 4 => slices_S8x65536_o4_0_S1x65536
  | 5 => slices_S8x65536_o5_0_S1x65536
  | 6 => slices_S8x65536_o6_0_S1x65536
  | 7 => slices_S8x65536_o7_0_S1x65536

/-- Row `k` of an array of eight, along every row. -/
def rowK (V : FVec Ideal S8x65536 .f32) (k : Fin 8) : FVec Ideal S1280x65536 .f32 :=
  broadcastTo S1280x65536 (shapeCast S1x65536 (extractStridedSlice S1x65536 ![k.val, 0] V (slicesK k)) shapeCasts_S1x65536_S1x65536) broadcasts_S1x65536_S1280x65536

theorem rowK_apply (V : FVec Ideal S8x65536 .f32) (k : Fin 8) (R : Fin 1280) (j : Fin 65536) : rowK V k (ix2 R j) = V (ix2 k j) := by
  unfold rowK
  rw [broadcastTo_apply _ _ _ (ix2 (m := 1) (n := 65536) 0 j) (Fin.forall_fin_two.mpr ⟨rfl, rfl⟩), shapeCast_self]
  exact extractStridedSlice_apply _ _ _ _ (ix2 (m := 8) (n := 65536) k j) (Fin.forall_fin_two.mpr ⟨rfl, (Nat.zero_add _).symm⟩)

theorem grp_eq : grp x3 = grpOps (iota .tc S1280x65536 32 [0] iota_S1280x65536_d0_w32) (fun k => x3 (word k)) := rfl

theorem rows_apply (R : Fin 1280) (j : Fin 65536) : iota .tc S1280x65536 32 [0] iota_S1280x65536_d0_w32 (ix2 R j) = BitVec.ofNat 32 R.val := by
  show BitVec.ofNat 32 (0 * 1280 + R.val) = _
  rw [Nat.zero_mul, Nat.zero_add]

theorem pay13_eq : k0_pay13 x4 cst = recOps (expoOps x4) := rfl

theorem G7_eq : G7 x0 x1 x2 x3 x4 = truncf .fp8e5m2 (pickOps (grp x3) (k0_pay3 x1 x0 x2) (rowK (k0_pay13 x4 cst))) bitsLt_fp8e5m2_f32 := rfl

theorem G7_apply (R : Fin 1280) (j : Fin 65536) :
    G7 x0 x1 x2 x3 x4 (ix2 R j) = codeE (gradR x0 x1 x2 R j.val * pick (grpW (fun k => x3 (word k)) (BitVec.ofNat 32 R.val)) (fun e => Ideal.exp2 (Ideal.ofBits .f32 0x00000000#32 - eE (x4 (ix2 e j))))) := by
  rw [G7_eq, truncf_ideal, pickOps_apply, grp_eq, grpOps_apply, rows_apply, grad_apply]
  simp only [rowK_apply, pay13_eq, recOps_apply, expoOps_apply]

end Cert.Proof.Ref

end
-- ==== Proof.Value.lean ====
/- The kernel's and the reference's result arrays are the same arrays over the extended reals. -/
module

public import proofs.«01_k».proof.Proof.ColIdeal
public import proofs.«01_k».proof.Proof.RefCol

@[expose] public section

set_option maxRecDepth 16384

noncomputable section

namespace Cert.Proof.Value

open Idealize.ShloMosaic hiding ix1 ix2 ix3
open Cert.Proof.KernelIdeal
open Cert.KernelIdeal (S1280x65536 S1280x512 S1280x32768 S8x65536 S9 S32x65536 S32x512 S32x32768)
open Cert.Proof.Groups (pick grpW)

theorem ix2_eta {m n : ℕ} (i : (⟨2, ![m, n]⟩ : Shape).Idx) : i = ix2 (i 0) (i 1) := ix2_ext rfl rfl

/-- A row of a chunk is the row of the array. -/
theorem rowN_rows32 {n : ℕ} (hn : 0 < n) (A : (⟨2, ![1280, n]⟩ : Shape).Idx → EReal) (t : ℕ) (r : Fin 32) (R : Fin 1280) (h : R.val = 32 * t + r.val) :
    rowN hn (rows32 A t) r = rowN hn A R :=
  funext fun j => congrArg A (ix2_ext (by show (32 * t + r.val) % 1280 = R.val; omega) rfl)

variable (x0 : Vec Ideal S1280x65536 .fp8e4m3) (x1 : Vec Ideal S1280x512 .f32) (x2 : Vec Ideal S1280x32768 .bf16) (x3 : S9.Idx → BitVec 32) (x4 : Vec Ideal S8x65536 .f32)

/-- The chunk of a row, and the row in the chunk. -/
theorem chunk (R : Fin 1280) : R.val = 32 * (R.val / 32) + (⟨R.val % 32, Nat.mod_lt _ (by decide)⟩ : Fin 32).val := by
  show R.val = 32 * (R.val / 32) + R.val % 32
  omega

theorem grad_chunk (R : Fin 1280) :
    gradE (rowN (n := 65536) (by decide) (rows32 x0 (R.val / 32)) (⟨R.val % 32, Nat.mod_lt _ (by decide)⟩ : Fin 32)) (rowN (n := 512) (by decide) (rows32 x1 (R.val / 32)) ⟨R.val % 32, Nat.mod_lt _ (by decide)⟩)
      (rowN (n := 32768) (by decide) (rows32 x2 (R.val / 32)) ⟨R.val % 32, Nat.mod_lt _ (by decide)⟩) = Ref.gradR x0 x1 x2 R := by
  rw [rowN_rows32 (n := 65536) _ x0 _ _ R (chunk R), rowN_rows32 (n := 512) _ x1 _ _ R (chunk R), rowN_rows32 (n := 32768) _ x2 _ _ R (chunk R)]
  rfl

/-- The row codes. -/
theorem RC_eq : RC x0 x1 x2 = Ref.G5 x0 x1 x2 := by
  funext i
  rw [ix2_eta (m := 1280) (n := 65536) i]
  refine (rcOf_apply (rows32 x0 _) (rows32 x1 _) (rows32 x2 _) ⟨(i 0).val % 32, Nat.mod_lt _ (by decide)⟩ (i 1)).trans ?_
  refine Eq.trans ?_ (Ref.G5_apply x0 x1 x2 (i 0) (i 1)).symm
  unfold Ref.maxR
  rw [← grad_chunk x0 x1 x2 (i 0)]
  rfl

/-- The row scales. -/
theorem RS_eq : RS x0 x1 x2 = Ref.G6 x0 x1 x2 := by
  funext i
  rw [ix2_eta (m := 1280) (n := 512) i]
  refine (rsOf_apply (rows32 x0 _) (rows32 x1 _) (rows32 x2 _) ⟨(i 0).val % 32, Nat.mod_lt _ (by decide)⟩ (i 1)).trans ?_
  refine Eq.trans ?_ (Ref.G6_apply x0 x1 x2 (i 0) (i 1)).symm
  unfold Ref.maxR
  rw [← grad_chunk x0 x1 x2 (i 0)]
  rfl

/-- The column scales. -/
theorem CS_eq : csOf x4 = Ref.G8 x4 := funext fun y => csOf_apply x4 y

theorem tw_word : tw x3 = fun k => x3 (Ref.word k) := funext fun k => congrArg x3 (funext fun a => by match a with | ⟨0, _⟩ => rfl)

theorem toInt_row : ∀ n : Fin 1280, (BitVec.ofNat 32 n.val).slt 1280#32 = true := by decide +kernel

/-- The column codes, where the offsets ascend to the number of rows or more. -/
theorem CC_eq (hasc : ∀ k : Fin 8, (tw x3 k.castSucc).sle (tw x3 k.succ) = true) (hlast : (1280#32).sle (tw x3 8) = true) : CC x0 x1 x2 x3 x4 = Ref.G7 x0 x1 x2 x3 x4 := by
  funext i
  rw [ix2_eta (m := 1280) (n := 65536) i]
  have hR : (i 0).val < 1280 := (i 0).isLt
  have ht : (i 0).val / 32 < 40 := by omega
  have hrow : 32 * ((i 0).val / 32) + (i 0).val % 32 = (i 0).val := by omega
  have h8 : (tw x3 8).sle (BitVec.ofNat 32 (32 * ((i 0).val / 32) + (i 0).val % 32)) = false := by
    rw [hrow, BitVec.sle_eq_not_slt]
    have h := toInt_row ⟨(i 0).val, hR⟩
    rw [BitVec.slt_iff_toInt_lt] at h
    rw [BitVec.sle_iff_toInt_le] at hlast
    rw [Bool.not_eq_false', BitVec.slt_iff_toInt_lt]
    exact lt_of_lt_of_le h hlast
  refine (ccOf_apply ⟨(i 0).val / 32, ht⟩ x3 hasc ⟨(i 0).val % 32, Nat.mod_lt _ (by decide)⟩ h8 (rows32 x0 _) (rows32 x1 _) (rows32 x2 _) x4 (i 1)).trans ?_
  refine Eq.trans ?_ (Ref.G7_apply x0 x1 x2 x3 x4 (i 0) (i 1)).symm
  rw [← grad_chunk x0 x1 x2 (i 0), ← tw_word]
  show codeE (_ * pick (grpW (tw x3) (BitVec.ofNat 32 (32 * ((i 0).val / 32) + (i 0).val % 32))) _) = _
  rw [hrow]
  rfl

end Cert.Proof.Value

end
-- ==== Proof.PreMask.lean ====
/- What the precondition says of the offsets, and which results the mask names. -/
module

public import proofs.«01_k».proof.Defs
public import Idealize.ShloMosaic.Lib.ReduceAll
public import Idealize.ShloMosaic.Lib.Affine
public import proofs.«01_k».proof.Proof.Canon

@[expose] public section

noncomputable section

namespace Cert.Proof.PreMask

open Idealize.ShloMosaic hiding ix1 ix2 ix3
open Cert.Proof.KernelIdeal (tw)

theorem facts_pre : Cert.Pre_ascending.Facts where
  slices_S9_S8_0 := by decide
  slices_S9_S8_1 := by decide
  reducesTo_S8_S_d0 := by decide
  h_S_ := by decide
  slices_S9_S1_8 := by decide
  shapeCasts_S1_S_ := by decide

theorem facts_on : Cert.On_quantised.Facts where
  bcast_S_S1280x65536 := by decide
  bcast_S_S1280x512 := by decide
  bcast_S_S8x65536 := by decide

instance : Subsingleton Cert.Pre_ascending.S_.Idx := ⟨fun a b => funext fun i => i.elim0⟩

variable [Cert.Pre_ascending.Facts] (a0 : FVec Ideal Cert.Pre_ascending.S1280x65536 .fp8e4m3) (a1 : FVec Ideal Cert.Pre_ascending.S1280x512 .f32) (a2 : FVec Ideal Cert.Pre_ascending.S1280x32768 .bf16)
  (x3 : IVec Cert.Pre_ascending.S9 32) (a4 : FVec Ideal Cert.Pre_ascending.S8x65536 .f32)

/-- The offsets ascend and the last is the number of rows or more. -/
theorem ascending (j : Cert.Pre_ascending.S_.Idx) (h : Cert.Pre_ascending.fn (F := Ideal) a0 a1 a2 x3 a4 j = 1#1) :
    (∀ k : Fin 8, (tw x3 k.castSucc).sle (tw x3 k.succ) = true) ∧ (1280#32).sle (tw x3 8) = true := by
  dsimp only [Cert.Pre_ascending.fn] at h
  obtain ⟨h1, h2⟩ := IntOp.andi_eq_one.mp h
  have of : ∀ b : Bool, BitVec.ofBool b = 1#1 → b = true := by decide
  constructor
  · intro k
    have hk := Host.reduce_andi_all _ _ _ _ j h1 (fun a => Fin.cases (motive := fun a => Fin (![8] a)) k (fun z => z.elim0) a)
    have hk' := of _ hk
    refine Eq.trans (congrArg₂ BitVec.sle ?_ ?_) hk'
    · exact (extractStridedSlice_apply _ _ _ _ _ (fun a => by match a with | ⟨0, _⟩ => exact (Nat.zero_add _).symm)).symm
    · exact (extractStridedSlice_apply _ _ _ _ _ (fun a => by match a with | ⟨0, _⟩ => exact Nat.add_comm _ _)).symm
  · have h2' := of _ h2
    refine Eq.trans (congrArg (BitVec.sle 1280#32) ?_) h2'
    refine (shapeCast_apply _ _ _ (fun a => Fin.cases (motive := fun a => Fin (![1] a)) (0 : Fin 1) (fun z => z.elim0) a) ?_).trans (extractStridedSlice_apply _ _ _ _ _ (fun a => by match a with | ⟨0, _⟩ => rfl)) |>.symm
    rfl

end Cert.Proof.PreMask

end
-- ==== Proof.lean ====
module

public import proofs.«01_k».proof.Defs
public import proofs.«01_k».proof.Proof.FrameKernel
public import proofs.«01_k».proof.Proof.FrameKernelIdeal
public import proofs.«01_k».proof.Proof.Gen.ReferenceIdeal.Frame
public import proofs.«01_k».proof.Proof.Gen.ReferenceIdeal.Value
public import proofs.«01_k».proof.Proof.Value
public import proofs.«01_k».proof.Proof.PreMask
public import Idealize.ShloMosaic.Adequacy
public import Idealize.ShloMosaic.Init

@[expose] public section

noncomputable section

namespace Cert.Proof

open Idealize.ShloMosaic

/-- The named constants `log2_e` and `neg_log2_e` of the ideal program are within their words' rounding. -/
theorem preserves : Cert.preserves_Kernel_KernelIdeal :=
  ⟨IdealRules.named_const.statement _ _ _ _ _ rfl, IdealRules.named_const.statement _ _ _ _ _ rfl⟩

/-- The ideal program leaves the reference's first four results wherever the offsets ascend to the number of rows or more. -/
theorem algebraic [hPre : Cert.Pre_ascending.Facts] [hOn : Cert.On_quantised.Facts] : Cert.algebraic_KernelIdeal_ReferenceIdeal_on_quantised_pre_ascending := by
  intro m g m' g' hpre hargs
  refine ⟨fun c => Cert.Proof.KernelIdeal.RC (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.Proof.KernelIdeal.RS (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.Proof.KernelIdeal.CC (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.Proof.KernelIdeal.csOf (m ((c.tc : Thread Cert.KernelIdeal.nD Cert.KernelIdeal.τ).loc Cert.KernelIdeal.main_arg4)),
    fun c => m ((c.tc : Thread Cert.KernelIdeal.nD Cert.KernelIdeal.τ).loc Cert.KernelIdeal.main_v0_4), ?_, ?_⟩
  · refine (θ_run _ _ _).mono (fun r h c => ?_) (Cert.Proof.KernelIdeal.run_arrays m g)
    obtain ⟨h0, h1, h2, h3, ha⟩ := h c
    exact ⟨fun i _ => congrFun h0 i, fun i _ => congrFun h1 i, fun i _ => congrFun h2 i, fun i _ => congrFun h3 i, fun i hi => absurd (show (0#1 : BitVec 1) = 1#1 from hi) (by decide), ha⟩
  · refine (θ_run _ _ _).mono (fun r h c => ?_) (Cert.Proof.Ref.run m' g')
    obtain ⟨h0, h1, h2, h3, ha⟩ := h c
    obtain ⟨e0, e1, e2, e3, e4⟩ := hargs c
    rw [e0, e1, e2] at h0 h1
    rw [e0, e1, e2, e3, e4] at h2
    rw [e4] at h3
    obtain ⟨hasc, hlast⟩ := PreMask.ascending _ _ _ _ _ (fun a => a.elim0) (congrFun (hpre c) (fun a => a.elim0))
    exact ⟨fun i _ => congrFun (h0.trans (Value.RC_eq _ _ _).symm) i, fun i _ => congrFun (h1.trans (Value.RS_eq _ _ _).symm) i, fun i _ => congrFun (h2.trans (Value.CC_eq _ _ _ _ _ hasc hlast).symm) i,
      fun i _ => congrFun (h3.trans (Value.CS_eq _).symm) i, fun i hi => absurd (show (0#1 : BitVec 1) = 1#1 from hi) (by decide), ha⟩

theorem claim : Cert.Claim :=
  ⟨Cert.Kernel.Gen.facts, Cert.KernelIdeal.Gen.facts, Cert.ReferenceIdeal.Gen.facts, PreMask.facts_pre, PreMask.facts_on,
    fun m ρ _ => Cert.Proof.Kernel.frame m ρ, fun m ρ _ => Cert.Proof.KernelIdeal.frame m ρ, fun m ρ _ => Cert.Proof.KernelIdeal.frame m ρ,
    fun m ρ _ => Cert.ReferenceIdeal.Gen.frame m ρ, fun m ρ _ => Cert.ReferenceIdeal.Gen.frame m ρ, preserves,
    @algebraic PreMask.facts_pre PreMask.facts_on⟩

end Cert.Proof

end
